-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_finite_inputs [hPre_finite_inputs : Cert.Pre_finite_inputs.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite_inputs.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))).1 = (fun _ => 1#1)
    ∧ (Cert.Pre_finite_inputs.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))).2 = (fun _ => 1#1)

def Pre_ForwardReferenceIdeal (m : (ℓ : Loc Cert.ForwardReferenceIdeal.nD Cert.ForwardReferenceIdeal.τ Cert.ForwardReferenceIdeal.sig) → Buf (Elt Ideal) ℓ) : Prop :=
  True

def Pre_ForwardReferenceIdeal_finite_inputs [hPre_finite_inputs : Cert.Pre_finite_inputs.Facts] (m : (ℓ : Loc Cert.ForwardReferenceIdeal.nD Cert.ForwardReferenceIdeal.τ Cert.ForwardReferenceIdeal.sig) → Buf (Elt Ideal) ℓ) : Prop :=
  ∀ c : Dev Cert.ForwardReferenceIdeal.nD,
    (Cert.Pre_finite_inputs.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))).1 = (fun _ => 1#1)
    ∧ (Cert.Pre_finite_inputs.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))).2 = (fun _ => 1#1)

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradReferenceIdeal (m : (ℓ : Loc Cert.GateGradReferenceIdeal.nD Cert.GateGradReferenceIdeal.τ Cert.GateGradReferenceIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradReferenceIdeal (m : (ℓ : Loc Cert.UpGradReferenceIdeal.nD Cert.UpGradReferenceIdeal.τ Cert.UpGradReferenceIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_Feed (m : (ℓ : Loc Cert.Feed.nD Cert.Feed.τ Cert.Feed.sig) → Buf (Elt Bits) ℓ) : Prop :=
  True

def Pre_FeedIdeal (m : (ℓ : Loc Cert.FeedIdeal.nD Cert.FeedIdeal.τ Cert.FeedIdeal.sig) → Buf (Elt Ideal) ℓ) : Prop :=
  True

def Pre_FeedReferenceIdeal (m : (ℓ : Loc Cert.FeedReferenceIdeal.nD Cert.FeedReferenceIdeal.τ Cert.FeedReferenceIdeal.sig) → Buf (Elt Ideal) ℓ) : Prop :=
  True

def Pre_FeedGrad (m : (ℓ : Loc Cert.FeedGrad.nD Cert.FeedGrad.τ Cert.FeedGrad.sig) → Buf (Elt Bits) ℓ) : Prop :=
  True

def Pre_FeedGradIdeal (m : (ℓ : Loc Cert.FeedGradIdeal.nD Cert.FeedGradIdeal.τ Cert.FeedGradIdeal.sig) → Buf (Elt Ideal) ℓ) : Prop :=
  True

def Pre_FeedGradIdeal_finite_layer [hPre_finite_layer : Cert.Pre_finite_layer.Facts] (m : (ℓ : Loc Cert.FeedGradIdeal.nD Cert.FeedGradIdeal.τ Cert.FeedGradIdeal.sig) → Buf (Elt Ideal) ℓ) : Prop :=
  ∀ c : Dev Cert.FeedGradIdeal.nD,
    (Cert.Pre_finite_layer.fn (F := Ideal) (m ((c.tc : Thread Cert.FeedGradIdeal.nD Cert.FeedGradIdeal.τ).loc Cert.FeedGradIdeal.main_arg0)) (m ((c.tc : Thread Cert.FeedGradIdeal.nD Cert.FeedGradIdeal.τ).loc Cert.FeedGradIdeal.main_arg1)) (m ((c.tc : Thread Cert.FeedGradIdeal.nD Cert.FeedGradIdeal.τ).loc Cert.FeedGradIdeal.main_arg2)) (m ((c.tc : Thread Cert.FeedGradIdeal.nD Cert.FeedGradIdeal.τ).loc Cert.FeedGradIdeal.main_arg3)) (m ((c.tc : Thread Cert.FeedGradIdeal.nD Cert.FeedGradIdeal.τ).loc Cert.FeedGradIdeal.main_arg4))).1 = (fun _ => 1#1)
    ∧ (Cert.Pre_finite_layer.fn (F := Ideal) (m ((c.tc : Thread Cert.FeedGradIdeal.nD Cert.FeedGradIdeal.τ).loc Cert.FeedGradIdeal.main_arg0)) (m ((c.tc : Thread Cert.FeedGradIdeal.nD Cert.FeedGradIdeal.τ).loc Cert.FeedGradIdeal.main_arg1)) (m ((c.tc : Thread Cert.FeedGradIdeal.nD Cert.FeedGradIdeal.τ).loc Cert.FeedGradIdeal.main_arg2)) (m ((c.tc : Thread Cert.FeedGradIdeal.nD Cert.FeedGradIdeal.τ).loc Cert.FeedGradIdeal.main_arg3)) (m ((c.tc : Thread Cert.FeedGradIdeal.nD Cert.FeedGradIdeal.τ).loc Cert.FeedGradIdeal.main_arg4))).2.1 = (fun _ => 1#1)
    ∧ (Cert.Pre_finite_layer.fn (F := Ideal) (m ((c.tc : Thread Cert.FeedGradIdeal.nD Cert.FeedGradIdeal.τ).loc Cert.FeedGradIdeal.main_arg0)) (m ((c.tc : Thread Cert.FeedGradIdeal.nD Cert.FeedGradIdeal.τ).loc Cert.FeedGradIdeal.main_arg1)) (m ((c.tc : Thread Cert.FeedGradIdeal.nD Cert.FeedGradIdeal.τ).loc Cert.FeedGradIdeal.main_arg2)) (m ((c.tc : Thread Cert.FeedGradIdeal.nD Cert.FeedGradIdeal.τ).loc Cert.FeedGradIdeal.main_arg3)) (m ((c.tc : Thread Cert.FeedGradIdeal.nD Cert.FeedGradIdeal.τ).loc Cert.FeedGradIdeal.main_arg4))).2.2.1 = (fun _ => 1#1)
    ∧ (Cert.Pre_finite_layer.fn (F := Ideal) (m ((c.tc : Thread Cert.FeedGradIdeal.nD Cert.FeedGradIdeal.τ).loc Cert.FeedGradIdeal.main_arg0)) (m ((c.tc : Thread Cert.FeedGradIdeal.nD Cert.FeedGradIdeal.τ).loc Cert.FeedGradIdeal.main_arg1)) (m ((c.tc : Thread Cert.FeedGradIdeal.nD Cert.FeedGradIdeal.τ).loc Cert.FeedGradIdeal.main_arg2)) (m ((c.tc : Thread Cert.FeedGradIdeal.nD Cert.FeedGradIdeal.τ).loc Cert.FeedGradIdeal.main_arg3)) (m ((c.tc : Thread Cert.FeedGradIdeal.nD Cert.FeedGradIdeal.τ).loc Cert.FeedGradIdeal.main_arg4))).2.2.2 = (fun _ => 1#1)

def Pre_FeedGradReferenceIdeal (m : (ℓ : Loc Cert.FeedGradReferenceIdeal.nD Cert.FeedGradReferenceIdeal.τ Cert.FeedGradReferenceIdeal.sig) → Buf (Elt Ideal) ℓ) : Prop :=
  True

def Pre_FeedGradReferenceIdeal_finite_layer [hPre_finite_layer : Cert.Pre_finite_layer.Facts] (m : (ℓ : Loc Cert.FeedGradReferenceIdeal.nD Cert.FeedGradReferenceIdeal.τ Cert.FeedGradReferenceIdeal.sig) → Buf (Elt Ideal) ℓ) : Prop :=
  ∀ c : Dev Cert.FeedGradReferenceIdeal.nD,
    (Cert.Pre_finite_layer.fn (F := Ideal) (m ((c.tc : Thread Cert.FeedGradReferenceIdeal.nD Cert.FeedGradReferenceIdeal.τ).loc Cert.FeedGradReferenceIdeal.main_arg0)) (m ((c.tc : Thread Cert.FeedGradReferenceIdeal.nD Cert.FeedGradReferenceIdeal.τ).loc Cert.FeedGradReferenceIdeal.main_arg1)) (m ((c.tc : Thread Cert.FeedGradReferenceIdeal.nD Cert.FeedGradReferenceIdeal.τ).loc Cert.FeedGradReferenceIdeal.main_arg2)) (m ((c.tc : Thread Cert.FeedGradReferenceIdeal.nD Cert.FeedGradReferenceIdeal.τ).loc Cert.FeedGradReferenceIdeal.main_arg3)) (m ((c.tc : Thread Cert.FeedGradReferenceIdeal.nD Cert.FeedGradReferenceIdeal.τ).loc Cert.FeedGradReferenceIdeal.main_arg4))).1 = (fun _ => 1#1)
    ∧ (Cert.Pre_finite_layer.fn (F := Ideal) (m ((c.tc : Thread Cert.FeedGradReferenceIdeal.nD Cert.FeedGradReferenceIdeal.τ).loc Cert.FeedGradReferenceIdeal.main_arg0)) (m ((c.tc : Thread Cert.FeedGradReferenceIdeal.nD Cert.FeedGradReferenceIdeal.τ).loc Cert.FeedGradReferenceIdeal.main_arg1)) (m ((c.tc : Thread Cert.FeedGradReferenceIdeal.nD Cert.FeedGradReferenceIdeal.τ).loc Cert.FeedGradReferenceIdeal.main_arg2)) (m ((c.tc : Thread Cert.FeedGradReferenceIdeal.nD Cert.FeedGradReferenceIdeal.τ).loc Cert.FeedGradReferenceIdeal.main_arg3)) (m ((c.tc : Thread Cert.FeedGradReferenceIdeal.nD Cert.FeedGradReferenceIdeal.τ).loc Cert.FeedGradReferenceIdeal.main_arg4))).2.1 = (fun _ => 1#1)
    ∧ (Cert.Pre_finite_layer.fn (F := Ideal) (m ((c.tc : Thread Cert.FeedGradReferenceIdeal.nD Cert.FeedGradReferenceIdeal.τ).loc Cert.FeedGradReferenceIdeal.main_arg0)) (m ((c.tc : Thread Cert.FeedGradReferenceIdeal.nD Cert.FeedGradReferenceIdeal.τ).loc Cert.FeedGradReferenceIdeal.main_arg1)) (m ((c.tc : Thread Cert.FeedGradReferenceIdeal.nD Cert.FeedGradReferenceIdeal.τ).loc Cert.FeedGradReferenceIdeal.main_arg2)) (m ((c.tc : Thread Cert.FeedGradReferenceIdeal.nD Cert.FeedGradReferenceIdeal.τ).loc Cert.FeedGradReferenceIdeal.main_arg3)) (m ((c.tc : Thread Cert.FeedGradReferenceIdeal.nD Cert.FeedGradReferenceIdeal.τ).loc Cert.FeedGradReferenceIdeal.main_arg4))).2.2.1 = (fun _ => 1#1)
    ∧ (Cert.Pre_finite_layer.fn (F := Ideal) (m ((c.tc : Thread Cert.FeedGradReferenceIdeal.nD Cert.FeedGradReferenceIdeal.τ).loc Cert.FeedGradReferenceIdeal.main_arg0)) (m ((c.tc : Thread Cert.FeedGradReferenceIdeal.nD Cert.FeedGradReferenceIdeal.τ).loc Cert.FeedGradReferenceIdeal.main_arg1)) (m ((c.tc : Thread Cert.FeedGradReferenceIdeal.nD Cert.FeedGradReferenceIdeal.τ).loc Cert.FeedGradReferenceIdeal.main_arg2)) (m ((c.tc : Thread Cert.FeedGradReferenceIdeal.nD Cert.FeedGradReferenceIdeal.τ).loc Cert.FeedGradReferenceIdeal.main_arg3)) (m ((c.tc : Thread Cert.FeedGradReferenceIdeal.nD Cert.FeedGradReferenceIdeal.τ).loc Cert.FeedGradReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardIdeal_pre_finite_inputs [hForwardIdeal : Cert.ForwardIdeal.Facts] [hPre_finite_inputs : Cert.Pre_finite_inputs.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_finite_inputs m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_ForwardReferenceIdeal_pre_finite_inputs [hForwardReferenceIdeal : Cert.ForwardReferenceIdeal.Facts] [hPre_finite_inputs : Cert.Pre_finite_inputs.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal_finite_inputs m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1)
      ∧ r.2.mem ((c.tc : Thread Cert.GateGrad.nD Cert.GateGrad.τ).loc Cert.GateGrad.main_arg2) = m ((c.tc : Thread Cert.GateGrad.nD Cert.GateGrad.τ).loc Cert.GateGrad.main_arg2))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2))
      ∧ r.2.sem = fun _ => 0)

def quiescent_GateGradReferenceIdeal [hGateGradReferenceIdeal : Cert.GateGradReferenceIdeal.Facts] : Prop :=
  ∀ (m : (ℓ : Loc Cert.GateGradReferenceIdeal.nD Cert.GateGradReferenceIdeal.τ Cert.GateGradReferenceIdeal.sig) → Buf (Elt Ideal) ℓ) (g : Dev Cert.GateGradReferenceIdeal.nD → PrngReg), Pre_GateGradReferenceIdeal m →
    θ_run (Cert.GateGradReferenceIdeal.defs (F := Ideal)) (onTc (τ := Cert.GateGradReferenceIdeal.τ) (Cert.GateGradReferenceIdeal.main (F := Ideal))) ⟨m, fun _ => 0, g⟩ (fun r => (∀ c : Dev Cert.GateGradReferenceIdeal.nD,
      r.2.mem ((c.tc : Thread Cert.GateGradReferenceIdeal.nD Cert.GateGradReferenceIdeal.τ).loc Cert.GateGradReferenceIdeal.main_arg0) = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1) = m ((c.tc : Thread Cert.GateGradReferenceIdeal.nD Cert.GateGradReferenceIdeal.τ).loc Cert.GateGradReferenceIdeal.main_arg1)
      ∧ r.2.mem ((c.tc : Thread Cert.GateGradReferenceIdeal.nD Cert.GateGradReferenceIdeal.τ).loc Cert.GateGradReferenceIdeal.main_arg2) = m ((c.tc : Thread Cert.GateGradReferenceIdeal.nD Cert.GateGradReferenceIdeal.τ).loc Cert.GateGradReferenceIdeal.main_arg2))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1)
      ∧ r.2.mem ((c.tc : Thread Cert.UpGrad.nD Cert.UpGrad.τ).loc Cert.UpGrad.main_arg2) = m ((c.tc : Thread Cert.UpGrad.nD Cert.UpGrad.τ).loc Cert.UpGrad.main_arg2))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
      ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2))
      ∧ r.2.sem = fun _ => 0)

def quiescent_UpGradReferenceIdeal [hUpGradReferenceIdeal : Cert.UpGradReferenceIdeal.Facts] : Prop :=
  ∀ (m : (ℓ : Loc Cert.UpGradReferenceIdeal.nD Cert.UpGradReferenceIdeal.τ Cert.UpGradReferenceIdeal.sig) → Buf (Elt Ideal) ℓ) (g : Dev Cert.UpGradReferenceIdeal.nD → PrngReg), Pre_UpGradReferenceIdeal m →
    θ_run (Cert.UpGradReferenceIdeal.defs (F := Ideal)) (onTc (τ := Cert.UpGradReferenceIdeal.τ) (Cert.UpGradReferenceIdeal.main (F := Ideal))) ⟨m, fun _ => 0, g⟩ (fun r => (∀ c : Dev Cert.UpGradReferenceIdeal.nD,
      r.2.mem ((c.tc : Thread Cert.UpGradReferenceIdeal.nD Cert.UpGradReferenceIdeal.τ).loc Cert.UpGradReferenceIdeal.main_arg0) = m ((c.tc : Thread Cert.UpGradReferenceIdeal.nD Cert.UpGradReferenceIdeal.τ).loc Cert.UpGradReferenceIdeal.main_arg0)
      ∧ r.2.mem ((c.tc : Thread Cert.UpGradReferenceIdeal.nD Cert.UpGradReferenceIdeal.τ).loc Cert.UpGradReferenceIdeal.main_arg1) = m ((c.tc : Thread Cert.UpGradReferenceIdeal.nD Cert.UpGradReferenceIdeal.τ).loc Cert.UpGradReferenceIdeal.main_arg1)
      ∧ r.2.mem ((c.tc : Thread Cert.UpGradReferenceIdeal.nD Cert.UpGradReferenceIdeal.τ).loc Cert.UpGradReferenceIdeal.main_arg2) = m ((c.tc : Thread Cert.UpGradReferenceIdeal.nD Cert.UpGradReferenceIdeal.τ).loc Cert.UpGradReferenceIdeal.main_arg2))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1)
      ∧ r.2.mem ((c.tc : Thread Cert.DownGrad.nD Cert.DownGrad.τ).loc Cert.DownGrad.main_arg2) = m ((c.tc : Thread Cert.DownGrad.nD Cert.DownGrad.τ).loc Cert.DownGrad.main_arg2))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1)
      ∧ r.2.mem ((c.tc : Thread Cert.DownGradIdeal.nD Cert.DownGradIdeal.τ).loc Cert.DownGradIdeal.main_arg2) = m ((c.tc : Thread Cert.DownGradIdeal.nD Cert.DownGradIdeal.τ).loc Cert.DownGradIdeal.main_arg2))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1)
      ∧ r.2.mem ((c.tc : Thread Cert.DownGradReferenceIdeal.nD Cert.DownGradReferenceIdeal.τ).loc Cert.DownGradReferenceIdeal.main_arg2) = m ((c.tc : Thread Cert.DownGradReferenceIdeal.nD Cert.DownGradReferenceIdeal.τ).loc Cert.DownGradReferenceIdeal.main_arg2))
      ∧ r.2.sem = fun _ => 0)

def quiescent_Feed [hFeed : Cert.Feed.Facts] : Prop :=
  ∀ (m : (ℓ : Loc Cert.Feed.nD Cert.Feed.τ Cert.Feed.sig) → Buf (Elt Bits) ℓ) (g : Dev Cert.Feed.nD → PrngReg), Pre_Feed m →
    θ_run (Cert.Feed.defs (F := Bits)) (onTc (τ := Cert.Feed.τ) (Cert.Feed.main (F := Bits))) ⟨m, fun _ => 0, g⟩ (fun r => (∀ c : Dev Cert.Feed.nD,
      r.2.mem ((c.tc : Thread Cert.Feed.nD Cert.Feed.τ).loc Cert.Feed.main_arg0) = m ((c.tc : Thread Cert.Feed.nD Cert.Feed.τ).loc Cert.Feed.main_arg0)
      ∧ r.2.mem ((c.tc : Thread Cert.Feed.nD Cert.Feed.τ).loc Cert.Feed.main_arg1) = m ((c.tc : Thread Cert.Feed.nD Cert.Feed.τ).loc Cert.Feed.main_arg1)
      ∧ r.2.mem ((c.tc : Thread Cert.Feed.nD Cert.Feed.τ).loc Cert.Feed.main_arg2) = m ((c.tc : Thread Cert.Feed.nD Cert.Feed.τ).loc Cert.Feed.main_arg2)
      ∧ r.2.mem ((c.tc : Thread Cert.Feed.nD Cert.Feed.τ).loc Cert.Feed.main_arg3) = m ((c.tc : Thread Cert.Feed.nD Cert.Feed.τ).loc Cert.Feed.main_arg3))
      ∧ r.2.sem = fun _ => 0)

def quiescent_FeedIdeal [hFeedIdeal : Cert.FeedIdeal.Facts] : Prop :=
  ∀ (m : (ℓ : Loc Cert.FeedIdeal.nD Cert.FeedIdeal.τ Cert.FeedIdeal.sig) → Buf (Elt Ideal) ℓ) (g : Dev Cert.FeedIdeal.nD → PrngReg), Pre_FeedIdeal m →
    θ_run (Cert.FeedIdeal.defs (F := Ideal)) (onTc (τ := Cert.FeedIdeal.τ) (Cert.FeedIdeal.main (F := Ideal))) ⟨m, fun _ => 0, g⟩ (fun r => (∀ c : Dev Cert.FeedIdeal.nD,
      r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
      ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
      ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
      ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3))
      ∧ r.2.sem = fun _ => 0)

def quiescent_FeedReferenceIdeal [hFeedReferenceIdeal : Cert.FeedReferenceIdeal.Facts] : Prop :=
  ∀ (m : (ℓ : Loc Cert.FeedReferenceIdeal.nD Cert.FeedReferenceIdeal.τ Cert.FeedReferenceIdeal.sig) → Buf (Elt Ideal) ℓ) (g : Dev Cert.FeedReferenceIdeal.nD → PrngReg), Pre_FeedReferenceIdeal m →
    θ_run (Cert.FeedReferenceIdeal.defs (F := Ideal)) (onTc (τ := Cert.FeedReferenceIdeal.τ) (Cert.FeedReferenceIdeal.main (F := Ideal))) ⟨m, fun _ => 0, g⟩ (fun r => (∀ c : Dev Cert.FeedReferenceIdeal.nD,
      r.2.mem ((c.tc : Thread Cert.FeedReferenceIdeal.nD Cert.FeedReferenceIdeal.τ).loc Cert.FeedReferenceIdeal.main_arg0) = m ((c.tc : Thread Cert.FeedReferenceIdeal.nD Cert.FeedReferenceIdeal.τ).loc Cert.FeedReferenceIdeal.main_arg0)
      ∧ r.2.mem ((c.tc : Thread Cert.FeedReferenceIdeal.nD Cert.FeedReferenceIdeal.τ).loc Cert.FeedReferenceIdeal.main_arg1) = m ((c.tc : Thread Cert.FeedReferenceIdeal.nD Cert.FeedReferenceIdeal.τ).loc Cert.FeedReferenceIdeal.main_arg1)
      ∧ r.2.mem ((c.tc : Thread Cert.FeedReferenceIdeal.nD Cert.FeedReferenceIdeal.τ).loc Cert.FeedReferenceIdeal.main_arg2) = m ((c.tc : Thread Cert.FeedReferenceIdeal.nD Cert.FeedReferenceIdeal.τ).loc Cert.FeedReferenceIdeal.main_arg2)
      ∧ r.2.mem ((c.tc : Thread Cert.FeedReferenceIdeal.nD Cert.FeedReferenceIdeal.τ).loc Cert.FeedReferenceIdeal.main_arg3) = m ((c.tc : Thread Cert.FeedReferenceIdeal.nD Cert.FeedReferenceIdeal.τ).loc Cert.FeedReferenceIdeal.main_arg3))
      ∧ r.2.sem = fun _ => 0)

def quiescent_FeedGrad [hFeedGrad : Cert.FeedGrad.Facts] : Prop :=
  ∀ (m : (ℓ : Loc Cert.FeedGrad.nD Cert.FeedGrad.τ Cert.FeedGrad.sig) → Buf (Elt Bits) ℓ) (g : Dev Cert.FeedGrad.nD → PrngReg), Pre_FeedGrad m →
    θ_run (Cert.FeedGrad.defs (F := Bits)) (onTc (τ := Cert.FeedGrad.τ) (Cert.FeedGrad.main (F := Bits))) ⟨m, fun _ => 0, g⟩ (fun r => (∀ c : Dev Cert.FeedGrad.nD,
      r.2.mem ((c.tc : Thread Cert.FeedGrad.nD Cert.FeedGrad.τ).loc Cert.FeedGrad.main_arg0) = m ((c.tc : Thread Cert.FeedGrad.nD Cert.FeedGrad.τ).loc Cert.FeedGrad.main_arg0)
      ∧ r.2.mem ((c.tc : Thread Cert.FeedGrad.nD Cert.FeedGrad.τ).loc Cert.FeedGrad.main_arg1) = m ((c.tc : Thread Cert.FeedGrad.nD Cert.FeedGrad.τ).loc Cert.FeedGrad.main_arg1)
      ∧ r.2.mem ((c.tc : Thread Cert.FeedGrad.nD Cert.FeedGrad.τ).loc Cert.FeedGrad.main_arg2) = m ((c.tc : Thread Cert.FeedGrad.nD Cert.FeedGrad.τ).loc Cert.FeedGrad.main_arg2)
      ∧ r.2.mem ((c.tc : Thread Cert.FeedGrad.nD Cert.FeedGrad.τ).loc Cert.FeedGrad.main_arg3) = m ((c.tc : Thread Cert.FeedGrad.nD Cert.FeedGrad.τ).loc Cert.FeedGrad.main_arg3)
      ∧ r.2.mem ((c.tc : Thread Cert.FeedGrad.nD Cert.FeedGrad.τ).loc Cert.FeedGrad.main_arg4) = m ((c.tc : Thread Cert.FeedGrad.nD Cert.FeedGrad.τ).loc Cert.FeedGrad.main_arg4))
      ∧ r.2.sem = fun _ => 0)

def quiescent_FeedGradIdeal [hFeedGradIdeal : Cert.FeedGradIdeal.Facts] : Prop :=
  ∀ (m : (ℓ : Loc Cert.FeedGradIdeal.nD Cert.FeedGradIdeal.τ Cert.FeedGradIdeal.sig) → Buf (Elt Ideal) ℓ) (g : Dev Cert.FeedGradIdeal.nD → PrngReg), Pre_FeedGradIdeal m →
    θ_run (Cert.FeedGradIdeal.defs (F := Ideal)) (onTc (τ := Cert.FeedGradIdeal.τ) (Cert.FeedGradIdeal.main (F := Ideal))) ⟨m, fun _ => 0, g⟩ (fun r => (∀ c : Dev Cert.FeedGradIdeal.nD,
      r.2.mem ((c.tc : Thread Cert.FeedGradIdeal.nD Cert.FeedGradIdeal.τ).loc Cert.FeedGradIdeal.main_arg0) = m ((c.tc : Thread Cert.FeedGradIdeal.nD Cert.FeedGradIdeal.τ).loc Cert.FeedGradIdeal.main_arg0)
      ∧ r.2.mem ((c.tc : Thread Cert.FeedGradIdeal.nD Cert.FeedGradIdeal.τ).loc Cert.FeedGradIdeal.main_arg1) = m ((c.tc : Thread Cert.FeedGradIdeal.nD Cert.FeedGradIdeal.τ).loc Cert.FeedGradIdeal.main_arg1)
      ∧ r.2.mem ((c.tc : Thread Cert.FeedGradIdeal.nD Cert.FeedGradIdeal.τ).loc Cert.FeedGradIdeal.main_arg2) = m ((c.tc : Thread Cert.FeedGradIdeal.nD Cert.FeedGradIdeal.τ).loc Cert.FeedGradIdeal.main_arg2)
      ∧ r.2.mem ((c.tc : Thread Cert.FeedGradIdeal.nD Cert.FeedGradIdeal.τ).loc Cert.FeedGradIdeal.main_arg3) = m ((c.tc : Thread Cert.FeedGradIdeal.nD Cert.FeedGradIdeal.τ).loc Cert.FeedGradIdeal.main_arg3)
      ∧ r.2.mem ((c.tc : Thread Cert.FeedGradIdeal.nD Cert.FeedGradIdeal.τ).loc Cert.FeedGradIdeal.main_arg4) = m ((c.tc : Thread Cert.FeedGradIdeal.nD Cert.FeedGradIdeal.τ).loc Cert.FeedGradIdeal.main_arg4))
      ∧ r.2.sem = fun _ => 0)

def quiescent_FeedGradIdeal_pre_finite_layer [hFeedGradIdeal : Cert.FeedGradIdeal.Facts] [hPre_finite_layer : Cert.Pre_finite_layer.Facts] : Prop :=
  ∀ (m : (ℓ : Loc Cert.FeedGradIdeal.nD Cert.FeedGradIdeal.τ Cert.FeedGradIdeal.sig) → Buf (Elt Ideal) ℓ) (g : Dev Cert.FeedGradIdeal.nD → PrngReg), Pre_FeedGradIdeal_finite_layer m →
    θ_run (Cert.FeedGradIdeal.defs (F := Ideal)) (onTc (τ := Cert.FeedGradIdeal.τ) (Cert.FeedGradIdeal.main (F := Ideal))) ⟨m, fun _ => 0, g⟩ (fun r => (∀ c : Dev Cert.FeedGradIdeal.nD,
      r.2.mem ((c.tc : Thread Cert.FeedGradIdeal.nD Cert.FeedGradIdeal.τ).loc Cert.FeedGradIdeal.main_arg0) = m ((c.tc : Thread Cert.FeedGradIdeal.nD Cert.FeedGradIdeal.τ).loc Cert.FeedGradIdeal.main_arg0)
      ∧ r.2.mem ((c.tc : Thread Cert.FeedGradIdeal.nD Cert.FeedGradIdeal.τ).loc Cert.FeedGradIdeal.main_arg1) = m ((c.tc : Thread Cert.FeedGradIdeal.nD Cert.FeedGradIdeal.τ).loc Cert.FeedGradIdeal.main_arg1)
      ∧ r.2.mem ((c.tc : Thread Cert.FeedGradIdeal.nD Cert.FeedGradIdeal.τ).loc Cert.FeedGradIdeal.main_arg2) = m ((c.tc : Thread Cert.FeedGradIdeal.nD Cert.FeedGradIdeal.τ).loc Cert.FeedGradIdeal.main_arg2)
      ∧ r.2.mem ((c.tc : Thread Cert.FeedGradIdeal.nD Cert.FeedGradIdeal.τ).loc Cert.FeedGradIdeal.main_arg3) = m ((c.tc : Thread Cert.FeedGradIdeal.nD Cert.FeedGradIdeal.τ).loc Cert.FeedGradIdeal.main_arg3)
      ∧ r.2.mem ((c.tc : Thread Cert.FeedGradIdeal.nD Cert.FeedGradIdeal.τ).loc Cert.FeedGradIdeal.main_arg4) = m ((c.tc : Thread Cert.FeedGradIdeal.nD Cert.FeedGradIdeal.τ).loc Cert.FeedGradIdeal.main_arg4))
      ∧ r.2.sem = fun _ => 0)

def quiescent_FeedGradReferenceIdeal [hFeedGradReferenceIdeal : Cert.FeedGradReferenceIdeal.Facts] : Prop :=
  ∀ (m : (ℓ : Loc Cert.FeedGradReferenceIdeal.nD Cert.FeedGradReferenceIdeal.τ Cert.FeedGradReferenceIdeal.sig) → Buf (Elt Ideal) ℓ) (g : Dev Cert.FeedGradReferenceIdeal.nD → PrngReg), Pre_FeedGradReferenceIdeal m →
    θ_run (Cert.FeedGradReferenceIdeal.defs (F := Ideal)) (onTc (τ := Cert.FeedGradReferenceIdeal.τ) (Cert.FeedGradReferenceIdeal.main (F := Ideal))) ⟨m, fun _ => 0, g⟩ (fun r => (∀ c : Dev Cert.FeedGradReferenceIdeal.nD,
      r.2.mem ((c.tc : Thread Cert.FeedGradReferenceIdeal.nD Cert.FeedGradReferenceIdeal.τ).loc Cert.FeedGradReferenceIdeal.main_arg0) = m ((c.tc : Thread Cert.FeedGradReferenceIdeal.nD Cert.FeedGradReferenceIdeal.τ).loc Cert.FeedGradReferenceIdeal.main_arg0)
      ∧ r.2.mem ((c.tc : Thread Cert.FeedGradReferenceIdeal.nD Cert.FeedGradReferenceIdeal.τ).loc Cert.FeedGradReferenceIdeal.main_arg1) = m ((c.tc : Thread Cert.FeedGradReferenceIdeal.nD Cert.FeedGradReferenceIdeal.τ).loc Cert.FeedGradReferenceIdeal.main_arg1)
      ∧ r.2.mem ((c.tc : Thread Cert.FeedGradReferenceIdeal.nD Cert.FeedGradReferenceIdeal.τ).loc Cert.FeedGradReferenceIdeal.main_arg2) = m ((c.tc : Thread Cert.FeedGradReferenceIdeal.nD Cert.FeedGradReferenceIdeal.τ).loc Cert.FeedGradReferenceIdeal.main_arg2)
      ∧ r.2.mem ((c.tc : Thread Cert.FeedGradReferenceIdeal.nD Cert.FeedGradReferenceIdeal.τ).loc Cert.FeedGradReferenceIdeal.main_arg3) = m ((c.tc : Thread Cert.FeedGradReferenceIdeal.nD Cert.FeedGradReferenceIdeal.τ).loc Cert.FeedGradReferenceIdeal.main_arg3)
      ∧ r.2.mem ((c.tc : Thread Cert.FeedGradReferenceIdeal.nD Cert.FeedGradReferenceIdeal.τ).loc Cert.FeedGradReferenceIdeal.main_arg4) = m ((c.tc : Thread Cert.FeedGradReferenceIdeal.nD Cert.FeedGradReferenceIdeal.τ).loc Cert.FeedGradReferenceIdeal.main_arg4))
      ∧ r.2.sem = fun _ => 0)

def quiescent_FeedGradReferenceIdeal_pre_finite_layer [hFeedGradReferenceIdeal : Cert.FeedGradReferenceIdeal.Facts] [hPre_finite_layer : Cert.Pre_finite_layer.Facts] : Prop :=
  ∀ (m : (ℓ : Loc Cert.FeedGradReferenceIdeal.nD Cert.FeedGradReferenceIdeal.τ Cert.FeedGradReferenceIdeal.sig) → Buf (Elt Ideal) ℓ) (g : Dev Cert.FeedGradReferenceIdeal.nD → PrngReg), Pre_FeedGradReferenceIdeal_finite_layer m →
    θ_run (Cert.FeedGradReferenceIdeal.defs (F := Ideal)) (onTc (τ := Cert.FeedGradReferenceIdeal.τ) (Cert.FeedGradReferenceIdeal.main (F := Ideal))) ⟨m, fun _ => 0, g⟩ (fun r => (∀ c : Dev Cert.FeedGradReferenceIdeal.nD,
      r.2.mem ((c.tc : Thread Cert.FeedGradReferenceIdeal.nD Cert.FeedGradReferenceIdeal.τ).loc Cert.FeedGradReferenceIdeal.main_arg0) = m ((c.tc : Thread Cert.FeedGradReferenceIdeal.nD Cert.FeedGradReferenceIdeal.τ).loc Cert.FeedGradReferenceIdeal.main_arg0)
      ∧ r.2.mem ((c.tc : Thread Cert.FeedGradReferenceIdeal.nD Cert.FeedGradReferenceIdeal.τ).loc Cert.FeedGradReferenceIdeal.main_arg1) = m ((c.tc : Thread Cert.FeedGradReferenceIdeal.nD Cert.FeedGradReferenceIdeal.τ).loc Cert.FeedGradReferenceIdeal.main_arg1)
      ∧ r.2.mem ((c.tc : Thread Cert.FeedGradReferenceIdeal.nD Cert.FeedGradReferenceIdeal.τ).loc Cert.FeedGradReferenceIdeal.main_arg2) = m ((c.tc : Thread Cert.FeedGradReferenceIdeal.nD Cert.FeedGradReferenceIdeal.τ).loc Cert.FeedGradReferenceIdeal.main_arg2)
      ∧ r.2.mem ((c.tc : Thread Cert.FeedGradReferenceIdeal.nD Cert.FeedGradReferenceIdeal.τ).loc Cert.FeedGradReferenceIdeal.main_arg3) = m ((c.tc : Thread Cert.FeedGradReferenceIdeal.nD Cert.FeedGradReferenceIdeal.τ).loc Cert.FeedGradReferenceIdeal.main_arg3)
      ∧ r.2.mem ((c.tc : Thread Cert.FeedGradReferenceIdeal.nD Cert.FeedGradReferenceIdeal.τ).loc Cert.FeedGradReferenceIdeal.main_arg4) = m ((c.tc : Thread Cert.FeedGradReferenceIdeal.nD Cert.FeedGradReferenceIdeal.τ).loc Cert.FeedGradReferenceIdeal.main_arg4))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Forward_ForwardIdeal : Prop :=
  IdealRules.named_const.Statement Cert.ForwardIdeal.κ "log2e" .f32 0x3FB8AA3B#32 (((Real.log 2)⁻¹ : ℝ) : EReal)

def algebraic_ForwardIdeal_ForwardReferenceIdeal_pre_finite_inputs [hForwardIdeal : Cert.ForwardIdeal.Facts] [hForwardReferenceIdeal : Cert.ForwardReferenceIdeal.Facts] [hPre_finite_inputs : Cert.Pre_finite_inputs.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal_finite_inputs m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)) →
    ∃ (v0 : (c : Dev Cert.ForwardIdeal.nD) → Buf (Elt Ideal) ((c.tc : Thread Cert.ForwardIdeal.nD Cert.ForwardIdeal.τ).loc Cert.ForwardIdeal.main_v15_0)) (v1 : (c : Dev Cert.ForwardIdeal.nD) → Buf (Elt Ideal) ((c.tc : Thread Cert.ForwardIdeal.nD Cert.ForwardIdeal.τ).loc Cert.ForwardIdeal.main_v15_1)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v15_0) = v0 c
          ∧ r.2.mem ((c.tc : Thread Cert.ForwardIdeal.nD Cert.ForwardIdeal.τ).loc Cert.ForwardIdeal.main_v15_1) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v27) = v0 c
          ∧ r.2.mem ((c.tc : Thread Cert.ForwardReferenceIdeal.nD Cert.ForwardReferenceIdeal.τ).loc Cert.ForwardReferenceIdeal.main_v28) = v1 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2))

def preserves_GateGrad_GateGradIdeal : Prop :=
  True

def algebraic_GateGradIdeal_GateGradReferenceIdeal [hGateGradIdeal : Cert.GateGradIdeal.Facts] [hGateGradReferenceIdeal : Cert.GateGradReferenceIdeal.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradReferenceIdeal.nD Cert.GateGradReferenceIdeal.τ Cert.GateGradReferenceIdeal.sig) → Buf (Elt Ideal) ℓ) (g' : Dev Cert.GateGradReferenceIdeal.nD → PrngReg), Pre_GateGradIdeal m →
    (∀ c : Dev Cert.GateGradIdeal.nD,
      m' ((c.tc : Thread Cert.GateGradReferenceIdeal.nD Cert.GateGradReferenceIdeal.τ).loc Cert.GateGradReferenceIdeal.main_arg0) = m ((c.tc : Thread Cert.GateGradIdeal.nD Cert.GateGradIdeal.τ).loc Cert.GateGradIdeal.main_arg0)
      ∧ m' ((c.tc : Thread Cert.GateGradReferenceIdeal.nD Cert.GateGradReferenceIdeal.τ).loc Cert.GateGradReferenceIdeal.main_arg1) = m ((c.tc : Thread Cert.GateGradIdeal.nD Cert.GateGradIdeal.τ).loc Cert.GateGradIdeal.main_arg1)
      ∧ m' ((c.tc : Thread Cert.GateGradReferenceIdeal.nD Cert.GateGradReferenceIdeal.τ).loc Cert.GateGradReferenceIdeal.main_arg2) = m ((c.tc : Thread Cert.GateGradIdeal.nD Cert.GateGradIdeal.τ).loc Cert.GateGradIdeal.main_arg2)) →
    ∃ (v0 : (c : Dev Cert.GateGradIdeal.nD) → Buf (Elt Ideal) ((c.tc : Thread Cert.GateGradIdeal.nD Cert.GateGradIdeal.τ).loc Cert.GateGradIdeal.main_v0)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v0) = v0 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2))
      ∧ θ_run (Cert.GateGradReferenceIdeal.defs (F := Ideal)) (onTc (τ := Cert.GateGradReferenceIdeal.τ) (Cert.GateGradReferenceIdeal.main (F := Ideal))) ⟨m', fun _ => 0, g'⟩ (fun r => ∀ c : Dev Cert.GateGradReferenceIdeal.nD,
          r.2.mem ((c.tc : Thread Cert.GateGradReferenceIdeal.nD Cert.GateGradReferenceIdeal.τ).loc Cert.GateGradReferenceIdeal.main_v9) = v0 c
          ∧ r.2.mem ((c.tc : Thread Cert.GateGradReferenceIdeal.nD Cert.GateGradReferenceIdeal.τ).loc Cert.GateGradReferenceIdeal.main_arg0) = m' ((c.tc : Thread Cert.GateGradReferenceIdeal.nD Cert.GateGradReferenceIdeal.τ).loc Cert.GateGradReferenceIdeal.main_arg0)
          ∧ r.2.mem ((c.tc : Thread Cert.GateGradReferenceIdeal.nD Cert.GateGradReferenceIdeal.τ).loc Cert.GateGradReferenceIdeal.main_arg1) = m' ((c.tc : Thread Cert.GateGradReferenceIdeal.nD Cert.GateGradReferenceIdeal.τ).loc Cert.GateGradReferenceIdeal.main_arg1)
          ∧ r.2.mem ((c.tc : Thread Cert.GateGradReferenceIdeal.nD Cert.GateGradReferenceIdeal.τ).loc Cert.GateGradReferenceIdeal.main_arg2) = m' ((c.tc : Thread Cert.GateGradReferenceIdeal.nD Cert.GateGradReferenceIdeal.τ).loc Cert.GateGradReferenceIdeal.main_arg2))

def preserves_UpGrad_UpGradIdeal : Prop :=
  True

def algebraic_UpGradIdeal_UpGradReferenceIdeal [hUpGradIdeal : Cert.UpGradIdeal.Facts] [hUpGradReferenceIdeal : Cert.UpGradReferenceIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradReferenceIdeal.nD Cert.UpGradReferenceIdeal.τ Cert.UpGradReferenceIdeal.sig) → Buf (Elt Ideal) ℓ) (g' : Dev Cert.UpGradReferenceIdeal.nD → PrngReg), Pre_UpGradIdeal m →
    (∀ c : Dev Cert.UpGradIdeal.nD,
      m' ((c.tc : Thread Cert.UpGradReferenceIdeal.nD Cert.UpGradReferenceIdeal.τ).loc Cert.UpGradReferenceIdeal.main_arg0) = m ((c.tc : Thread Cert.UpGradIdeal.nD Cert.UpGradIdeal.τ).loc Cert.UpGradIdeal.main_arg0)
      ∧ m' ((c.tc : Thread Cert.UpGradReferenceIdeal.nD Cert.UpGradReferenceIdeal.τ).loc Cert.UpGradReferenceIdeal.main_arg1) = m ((c.tc : Thread Cert.UpGradIdeal.nD Cert.UpGradIdeal.τ).loc Cert.UpGradIdeal.main_arg1)
      ∧ m' ((c.tc : Thread Cert.UpGradReferenceIdeal.nD Cert.UpGradReferenceIdeal.τ).loc Cert.UpGradReferenceIdeal.main_arg2) = m ((c.tc : Thread Cert.UpGradIdeal.nD Cert.UpGradIdeal.τ).loc Cert.UpGradIdeal.main_arg2)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
          ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2))
      ∧ θ_run (Cert.UpGradReferenceIdeal.defs (F := Ideal)) (onTc (τ := Cert.UpGradReferenceIdeal.τ) (Cert.UpGradReferenceIdeal.main (F := Ideal))) ⟨m', fun _ => 0, g'⟩ (fun r => ∀ c : Dev Cert.UpGradReferenceIdeal.nD,
          r.2.mem ((c.tc : Thread Cert.UpGradReferenceIdeal.nD Cert.UpGradReferenceIdeal.τ).loc Cert.UpGradReferenceIdeal.main_v9) = v0 c
          ∧ r.2.mem ((c.tc : Thread Cert.UpGradReferenceIdeal.nD Cert.UpGradReferenceIdeal.τ).loc Cert.UpGradReferenceIdeal.main_arg0) = m' ((c.tc : Thread Cert.UpGradReferenceIdeal.nD Cert.UpGradReferenceIdeal.τ).loc Cert.UpGradReferenceIdeal.main_arg0)
          ∧ r.2.mem ((c.tc : Thread Cert.UpGradReferenceIdeal.nD Cert.UpGradReferenceIdeal.τ).loc Cert.UpGradReferenceIdeal.main_arg1) = m' ((c.tc : Thread Cert.UpGradReferenceIdeal.nD Cert.UpGradReferenceIdeal.τ).loc Cert.UpGradReferenceIdeal.main_arg1)
          ∧ r.2.mem ((c.tc : Thread Cert.UpGradReferenceIdeal.nD Cert.UpGradReferenceIdeal.τ).loc Cert.UpGradReferenceIdeal.main_arg2) = m' ((c.tc : Thread Cert.UpGradReferenceIdeal.nD Cert.UpGradReferenceIdeal.τ).loc Cert.UpGradReferenceIdeal.main_arg2))

def preserves_DownGrad_DownGradIdeal : Prop :=
  True

def algebraic_DownGradIdeal_DownGradReferenceIdeal [hDownGradIdeal : Cert.DownGradIdeal.Facts] [hDownGradReferenceIdeal : Cert.DownGradReferenceIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradIdeal m →
    (∀ c : Dev Cert.DownGradIdeal.nD,
      m' ((c.tc : Thread Cert.DownGradReferenceIdeal.nD Cert.DownGradReferenceIdeal.τ).loc Cert.DownGradReferenceIdeal.main_arg0) = m ((c.tc : Thread Cert.DownGradIdeal.nD Cert.DownGradIdeal.τ).loc Cert.DownGradIdeal.main_arg0)
      ∧ m' ((c.tc : Thread Cert.DownGradReferenceIdeal.nD Cert.DownGradReferenceIdeal.τ).loc Cert.DownGradReferenceIdeal.main_arg1) = m ((c.tc : Thread Cert.DownGradIdeal.nD Cert.DownGradIdeal.τ).loc Cert.DownGradIdeal.main_arg1)
      ∧ m' ((c.tc : Thread Cert.DownGradReferenceIdeal.nD Cert.DownGradReferenceIdeal.τ).loc Cert.DownGradReferenceIdeal.main_arg2) = m ((c.tc : Thread Cert.DownGradIdeal.nD Cert.DownGradIdeal.τ).loc Cert.DownGradIdeal.main_arg2)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1)
          ∧ r.2.mem ((c.tc : Thread Cert.DownGradIdeal.nD Cert.DownGradIdeal.τ).loc Cert.DownGradIdeal.main_arg2) = m ((c.tc : Thread Cert.DownGradIdeal.nD Cert.DownGradIdeal.τ).loc Cert.DownGradIdeal.main_arg2))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v7) = v0 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1)
          ∧ r.2.mem ((c.tc : Thread Cert.DownGradReferenceIdeal.nD Cert.DownGradReferenceIdeal.τ).loc Cert.DownGradReferenceIdeal.main_arg2) = m' ((c.tc : Thread Cert.DownGradReferenceIdeal.nD Cert.DownGradReferenceIdeal.τ).loc Cert.DownGradReferenceIdeal.main_arg2))

def preserves_Feed_FeedIdeal : Prop :=
  True

def algebraic_FeedIdeal_FeedReferenceIdeal [hFeedIdeal : Cert.FeedIdeal.Facts] [hFeedReferenceIdeal : Cert.FeedReferenceIdeal.Facts] : Prop :=
  ∀ (m : (ℓ : Loc Cert.FeedIdeal.nD Cert.FeedIdeal.τ Cert.FeedIdeal.sig) → Buf (Elt Ideal) ℓ) (g : Dev Cert.FeedIdeal.nD → PrngReg)
    (m' : (ℓ : Loc Cert.FeedReferenceIdeal.nD Cert.FeedReferenceIdeal.τ Cert.FeedReferenceIdeal.sig) → Buf (Elt Ideal) ℓ) (g' : Dev Cert.FeedReferenceIdeal.nD → PrngReg), Pre_FeedIdeal m →
    (∀ c : Dev Cert.FeedIdeal.nD,
      m' ((c.tc : Thread Cert.FeedReferenceIdeal.nD Cert.FeedReferenceIdeal.τ).loc Cert.FeedReferenceIdeal.main_arg0) = m ((c.tc : Thread Cert.FeedIdeal.nD Cert.FeedIdeal.τ).loc Cert.FeedIdeal.main_arg0)
      ∧ m' ((c.tc : Thread Cert.FeedReferenceIdeal.nD Cert.FeedReferenceIdeal.τ).loc Cert.FeedReferenceIdeal.main_arg1) = m ((c.tc : Thread Cert.FeedIdeal.nD Cert.FeedIdeal.τ).loc Cert.FeedIdeal.main_arg1)
      ∧ m' ((c.tc : Thread Cert.FeedReferenceIdeal.nD Cert.FeedReferenceIdeal.τ).loc Cert.FeedReferenceIdeal.main_arg2) = m ((c.tc : Thread Cert.FeedIdeal.nD Cert.FeedIdeal.τ).loc Cert.FeedIdeal.main_arg2)
      ∧ m' ((c.tc : Thread Cert.FeedReferenceIdeal.nD Cert.FeedReferenceIdeal.τ).loc Cert.FeedReferenceIdeal.main_arg3) = m ((c.tc : Thread Cert.FeedIdeal.nD Cert.FeedIdeal.τ).loc Cert.FeedIdeal.main_arg3)) →
    ∃ (v0 : (c : Dev Cert.FeedIdeal.nD) → Buf (Elt Ideal) ((c.tc : Thread Cert.FeedIdeal.nD Cert.FeedIdeal.τ).loc Cert.FeedIdeal.main_v5_0)) (v1 : (c : Dev Cert.FeedIdeal.nD) → Buf (Elt Ideal) ((c.tc : Thread Cert.FeedIdeal.nD Cert.FeedIdeal.τ).loc Cert.FeedIdeal.main_v5_1)) (v2 : (c : Dev Cert.FeedIdeal.nD) → Buf (Elt Ideal) ((c.tc : Thread Cert.FeedIdeal.nD Cert.FeedIdeal.τ).loc Cert.FeedIdeal.main_v5_2)),
      θ_run (Cert.FeedIdeal.defs (F := Ideal)) (onTc (τ := Cert.FeedIdeal.τ) (Cert.FeedIdeal.main (F := Ideal))) ⟨m, fun _ => 0, g⟩ (fun r => ∀ c : Dev Cert.FeedIdeal.nD,
          r.2.mem ((c.tc : Thread Cert.FeedIdeal.nD Cert.FeedIdeal.τ).loc Cert.FeedIdeal.main_v5_0) = v0 c
          ∧ r.2.mem ((c.tc : Thread Cert.FeedIdeal.nD Cert.FeedIdeal.τ).loc Cert.FeedIdeal.main_v5_1) = v1 c
          ∧ r.2.mem ((c.tc : Thread Cert.FeedIdeal.nD Cert.FeedIdeal.τ).loc Cert.FeedIdeal.main_v5_2) = v2 c
          ∧ r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
          ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
          ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
          ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3))
      ∧ θ_run (Cert.FeedReferenceIdeal.defs (F := Ideal)) (onTc (τ := Cert.FeedReferenceIdeal.τ) (Cert.FeedReferenceIdeal.main (F := Ideal))) ⟨m', fun _ => 0, g'⟩ (fun r => ∀ c : Dev Cert.FeedReferenceIdeal.nD,
          r.2.mem ((c.tc : Thread Cert.FeedReferenceIdeal.nD Cert.FeedReferenceIdeal.τ).loc Cert.FeedReferenceIdeal.main_v25) = v0 c
          ∧ r.2.mem ((c.tc : Thread Cert.FeedReferenceIdeal.nD Cert.FeedReferenceIdeal.τ).loc Cert.FeedReferenceIdeal.main_v26) = v1 c
          ∧ r.2.mem ((c.tc : Thread Cert.FeedReferenceIdeal.nD Cert.FeedReferenceIdeal.τ).loc Cert.FeedReferenceIdeal.main_v27) = v2 c
          ∧ r.2.mem ((c.tc : Thread Cert.FeedReferenceIdeal.nD Cert.FeedReferenceIdeal.τ).loc Cert.FeedReferenceIdeal.main_arg0) = m' ((c.tc : Thread Cert.FeedReferenceIdeal.nD Cert.FeedReferenceIdeal.τ).loc Cert.FeedReferenceIdeal.main_arg0)
          ∧ r.2.mem ((c.tc : Thread Cert.FeedReferenceIdeal.nD Cert.FeedReferenceIdeal.τ).loc Cert.FeedReferenceIdeal.main_arg1) = m' ((c.tc : Thread Cert.FeedReferenceIdeal.nD Cert.FeedReferenceIdeal.τ).loc Cert.FeedReferenceIdeal.main_arg1)
          ∧ r.2.mem ((c.tc : Thread Cert.FeedReferenceIdeal.nD Cert.FeedReferenceIdeal.τ).loc Cert.FeedReferenceIdeal.main_arg2) = m' ((c.tc : Thread Cert.FeedReferenceIdeal.nD Cert.FeedReferenceIdeal.τ).loc Cert.FeedReferenceIdeal.main_arg2)
          ∧ r.2.mem ((c.tc : Thread Cert.FeedReferenceIdeal.nD Cert.FeedReferenceIdeal.τ).loc Cert.FeedReferenceIdeal.main_arg3) = m' ((c.tc : Thread Cert.FeedReferenceIdeal.nD Cert.FeedReferenceIdeal.τ).loc Cert.FeedReferenceIdeal.main_arg3))

def preserves_FeedGrad_FeedGradIdeal : Prop :=
  True

def algebraic_FeedGradIdeal_FeedGradReferenceIdeal_pre_finite_layer [hFeedGradIdeal : Cert.FeedGradIdeal.Facts] [hFeedGradReferenceIdeal : Cert.FeedGradReferenceIdeal.Facts] [hPre_finite_layer : Cert.Pre_finite_layer.Facts] : Prop :=
  ∀ (m : (ℓ : Loc Cert.FeedGradIdeal.nD Cert.FeedGradIdeal.τ Cert.FeedGradIdeal.sig) → Buf (Elt Ideal) ℓ) (g : Dev Cert.FeedGradIdeal.nD → PrngReg)
    (m' : (ℓ : Loc Cert.FeedGradReferenceIdeal.nD Cert.FeedGradReferenceIdeal.τ Cert.FeedGradReferenceIdeal.sig) → Buf (Elt Ideal) ℓ) (g' : Dev Cert.FeedGradReferenceIdeal.nD → PrngReg), Pre_FeedGradIdeal_finite_layer m →
    (∀ c : Dev Cert.FeedGradIdeal.nD,
      m' ((c.tc : Thread Cert.FeedGradReferenceIdeal.nD Cert.FeedGradReferenceIdeal.τ).loc Cert.FeedGradReferenceIdeal.main_arg0) = m ((c.tc : Thread Cert.FeedGradIdeal.nD Cert.FeedGradIdeal.τ).loc Cert.FeedGradIdeal.main_arg0)
      ∧ m' ((c.tc : Thread Cert.FeedGradReferenceIdeal.nD Cert.FeedGradReferenceIdeal.τ).loc Cert.FeedGradReferenceIdeal.main_arg1) = m ((c.tc : Thread Cert.FeedGradIdeal.nD Cert.FeedGradIdeal.τ).loc Cert.FeedGradIdeal.main_arg1)
      ∧ m' ((c.tc : Thread Cert.FeedGradReferenceIdeal.nD Cert.FeedGradReferenceIdeal.τ).loc Cert.FeedGradReferenceIdeal.main_arg2) = m ((c.tc : Thread Cert.FeedGradIdeal.nD Cert.FeedGradIdeal.τ).loc Cert.FeedGradIdeal.main_arg2)
      ∧ m' ((c.tc : Thread Cert.FeedGradReferenceIdeal.nD Cert.FeedGradReferenceIdeal.τ).loc Cert.FeedGradReferenceIdeal.main_arg3) = m ((c.tc : Thread Cert.FeedGradIdeal.nD Cert.FeedGradIdeal.τ).loc Cert.FeedGradIdeal.main_arg3)
      ∧ m' ((c.tc : Thread Cert.FeedGradReferenceIdeal.nD Cert.FeedGradReferenceIdeal.τ).loc Cert.FeedGradReferenceIdeal.main_arg4) = m ((c.tc : Thread Cert.FeedGradIdeal.nD Cert.FeedGradIdeal.τ).loc Cert.FeedGradIdeal.main_arg4)) →
    ∃ (v0 : (c : Dev Cert.FeedGradIdeal.nD) → Buf (Elt Ideal) ((c.tc : Thread Cert.FeedGradIdeal.nD Cert.FeedGradIdeal.τ).loc Cert.FeedGradIdeal.main_v25_0)),
      θ_run (Cert.FeedGradIdeal.defs (F := Ideal)) (onTc (τ := Cert.FeedGradIdeal.τ) (Cert.FeedGradIdeal.main (F := Ideal))) ⟨m, fun _ => 0, g⟩ (fun r => ∀ c : Dev Cert.FeedGradIdeal.nD,
          r.2.mem ((c.tc : Thread Cert.FeedGradIdeal.nD Cert.FeedGradIdeal.τ).loc Cert.FeedGradIdeal.main_v25_0) = v0 c
          ∧ r.2.mem ((c.tc : Thread Cert.FeedGradIdeal.nD Cert.FeedGradIdeal.τ).loc Cert.FeedGradIdeal.main_arg0) = m ((c.tc : Thread Cert.FeedGradIdeal.nD Cert.FeedGradIdeal.τ).loc Cert.FeedGradIdeal.main_arg0)
          ∧ r.2.mem ((c.tc : Thread Cert.FeedGradIdeal.nD Cert.FeedGradIdeal.τ).loc Cert.FeedGradIdeal.main_arg1) = m ((c.tc : Thread Cert.FeedGradIdeal.nD Cert.FeedGradIdeal.τ).loc Cert.FeedGradIdeal.main_arg1)
          ∧ r.2.mem ((c.tc : Thread Cert.FeedGradIdeal.nD Cert.FeedGradIdeal.τ).loc Cert.FeedGradIdeal.main_arg2) = m ((c.tc : Thread Cert.FeedGradIdeal.nD Cert.FeedGradIdeal.τ).loc Cert.FeedGradIdeal.main_arg2)
          ∧ r.2.mem ((c.tc : Thread Cert.FeedGradIdeal.nD Cert.FeedGradIdeal.τ).loc Cert.FeedGradIdeal.main_arg3) = m ((c.tc : Thread Cert.FeedGradIdeal.nD Cert.FeedGradIdeal.τ).loc Cert.FeedGradIdeal.main_arg3)
          ∧ r.2.mem ((c.tc : Thread Cert.FeedGradIdeal.nD Cert.FeedGradIdeal.τ).loc Cert.FeedGradIdeal.main_arg4) = m ((c.tc : Thread Cert.FeedGradIdeal.nD Cert.FeedGradIdeal.τ).loc Cert.FeedGradIdeal.main_arg4))
      ∧ θ_run (Cert.FeedGradReferenceIdeal.defs (F := Ideal)) (onTc (τ := Cert.FeedGradReferenceIdeal.τ) (Cert.FeedGradReferenceIdeal.main (F := Ideal))) ⟨m', fun _ => 0, g'⟩ (fun r => ∀ c : Dev Cert.FeedGradReferenceIdeal.nD,
          r.2.mem ((c.tc : Thread Cert.FeedGradReferenceIdeal.nD Cert.FeedGradReferenceIdeal.τ).loc Cert.FeedGradReferenceIdeal.main_v56) = v0 c
          ∧ r.2.mem ((c.tc : Thread Cert.FeedGradReferenceIdeal.nD Cert.FeedGradReferenceIdeal.τ).loc Cert.FeedGradReferenceIdeal.main_arg0) = m' ((c.tc : Thread Cert.FeedGradReferenceIdeal.nD Cert.FeedGradReferenceIdeal.τ).loc Cert.FeedGradReferenceIdeal.main_arg0)
          ∧ r.2.mem ((c.tc : Thread Cert.FeedGradReferenceIdeal.nD Cert.FeedGradReferenceIdeal.τ).loc Cert.FeedGradReferenceIdeal.main_arg1) = m' ((c.tc : Thread Cert.FeedGradReferenceIdeal.nD Cert.FeedGradReferenceIdeal.τ).loc Cert.FeedGradReferenceIdeal.main_arg1)
          ∧ r.2.mem ((c.tc : Thread Cert.FeedGradReferenceIdeal.nD Cert.FeedGradReferenceIdeal.τ).loc Cert.FeedGradReferenceIdeal.main_arg2) = m' ((c.tc : Thread Cert.FeedGradReferenceIdeal.nD Cert.FeedGradReferenceIdeal.τ).loc Cert.FeedGradReferenceIdeal.main_arg2)
          ∧ r.2.mem ((c.tc : Thread Cert.FeedGradReferenceIdeal.nD Cert.FeedGradReferenceIdeal.τ).loc Cert.FeedGradReferenceIdeal.main_arg3) = m' ((c.tc : Thread Cert.FeedGradReferenceIdeal.nD Cert.FeedGradReferenceIdeal.τ).loc Cert.FeedGradReferenceIdeal.main_arg3)
          ∧ r.2.mem ((c.tc : Thread Cert.FeedGradReferenceIdeal.nD Cert.FeedGradReferenceIdeal.τ).loc Cert.FeedGradReferenceIdeal.main_arg4) = m' ((c.tc : Thread Cert.FeedGradReferenceIdeal.nD Cert.FeedGradReferenceIdeal.τ).loc Cert.FeedGradReferenceIdeal.main_arg4))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardReferenceIdeal : Cert.ForwardReferenceIdeal.Facts) (hGateGrad : Cert.GateGrad.Facts) (hGateGradIdeal : Cert.GateGradIdeal.Facts) (hGateGradReferenceIdeal : Cert.GateGradReferenceIdeal.Facts) (hUpGrad : Cert.UpGrad.Facts) (hUpGradIdeal : Cert.UpGradIdeal.Facts) (hUpGradReferenceIdeal : Cert.UpGradReferenceIdeal.Facts) (hDownGrad : Cert.DownGrad.Facts) (hDownGradIdeal : Cert.DownGradIdeal.Facts) (hDownGradReferenceIdeal : Cert.DownGradReferenceIdeal.Facts) (hFeed : Cert.Feed.Facts) (hFeedIdeal : Cert.FeedIdeal.Facts) (hFeedReferenceIdeal : Cert.FeedReferenceIdeal.Facts) (hFeedGrad : Cert.FeedGrad.Facts) (hFeedGradIdeal : Cert.FeedGradIdeal.Facts) (hFeedGradReferenceIdeal : Cert.FeedGradReferenceIdeal.Facts) (hPre_finite : Cert.Pre_finite.Facts) (hPre_finite_inputs : Cert.Pre_finite_inputs.Facts) (hPre_finite_layer : Cert.Pre_finite_layer.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_ForwardIdeal_pre_finite_inputs (hForwardIdeal := hForwardIdeal) (hPre_finite_inputs := hPre_finite_inputs)
    ∧ quiescent_ForwardReferenceIdeal (hForwardReferenceIdeal := hForwardReferenceIdeal)
    ∧ quiescent_ForwardReferenceIdeal_pre_finite_inputs (hForwardReferenceIdeal := hForwardReferenceIdeal) (hPre_finite_inputs := hPre_finite_inputs)
    ∧ quiescent_GateGrad (hGateGrad := hGateGrad)
    ∧ quiescent_GateGradIdeal (hGateGradIdeal := hGateGradIdeal)
    ∧ quiescent_GateGradReferenceIdeal (hGateGradReferenceIdeal := hGateGradReferenceIdeal)
    ∧ quiescent_UpGrad (hUpGrad := hUpGrad)
    ∧ quiescent_UpGradIdeal (hUpGradIdeal := hUpGradIdeal)
    ∧ quiescent_UpGradReferenceIdeal (hUpGradReferenceIdeal := hUpGradReferenceIdeal)
    ∧ quiescent_DownGrad (hDownGrad := hDownGrad)
    ∧ quiescent_DownGradIdeal (hDownGradIdeal := hDownGradIdeal)
    ∧ quiescent_DownGradReferenceIdeal (hDownGradReferenceIdeal := hDownGradReferenceIdeal)
    ∧ quiescent_Feed (hFeed := hFeed)
    ∧ quiescent_FeedIdeal (hFeedIdeal := hFeedIdeal)
    ∧ quiescent_FeedReferenceIdeal (hFeedReferenceIdeal := hFeedReferenceIdeal)
    ∧ quiescent_FeedGrad (hFeedGrad := hFeedGrad)
    ∧ quiescent_FeedGradIdeal (hFeedGradIdeal := hFeedGradIdeal)
    ∧ quiescent_FeedGradIdeal_pre_finite_layer (hFeedGradIdeal := hFeedGradIdeal) (hPre_finite_layer := hPre_finite_layer)
    ∧ quiescent_FeedGradReferenceIdeal (hFeedGradReferenceIdeal := hFeedGradReferenceIdeal)
    ∧ quiescent_FeedGradReferenceIdeal_pre_finite_layer (hFeedGradReferenceIdeal := hFeedGradReferenceIdeal) (hPre_finite_layer := hPre_finite_layer)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_ForwardReferenceIdeal_pre_finite_inputs (hForwardIdeal := hForwardIdeal) (hForwardReferenceIdeal := hForwardReferenceIdeal) (hPre_finite_inputs := hPre_finite_inputs)
    ∧ preserves_GateGrad_GateGradIdeal
    ∧ algebraic_GateGradIdeal_GateGradReferenceIdeal (hGateGradIdeal := hGateGradIdeal) (hGateGradReferenceIdeal := hGateGradReferenceIdeal)
    ∧ preserves_UpGrad_UpGradIdeal
    ∧ algebraic_UpGradIdeal_UpGradReferenceIdeal (hUpGradIdeal := hUpGradIdeal) (hUpGradReferenceIdeal := hUpGradReferenceIdeal)
    ∧ preserves_DownGrad_DownGradIdeal
    ∧ algebraic_DownGradIdeal_DownGradReferenceIdeal (hDownGradIdeal := hDownGradIdeal) (hDownGradReferenceIdeal := hDownGradReferenceIdeal)
    ∧ preserves_Feed_FeedIdeal
    ∧ algebraic_FeedIdeal_FeedReferenceIdeal (hFeedIdeal := hFeedIdeal) (hFeedReferenceIdeal := hFeedReferenceIdeal)
    ∧ preserves_FeedGrad_FeedGradIdeal
    ∧ algebraic_FeedGradIdeal_FeedGradReferenceIdeal_pre_finite_layer (hFeedGradIdeal := hFeedGradIdeal) (hFeedGradReferenceIdeal := hFeedGradReferenceIdeal) (hPre_finite_layer := hPre_finite_layer)
-- ==== Pre_finite.lean ====
abbrev S16384x8x96 : Shape := ⟨3, ![16384, 8, 96]⟩
abbrev S16384x8x64 : Shape := ⟨3, ![16384, 8, 64]⟩
abbrev S_ : Shape := ⟨0, ![]⟩

class Facts : Prop where
  bcast_S_S16384x8x96 : S_.BroadcastsInDim S16384x8x96 (![] : Fin 0 → Fin S16384x8x96.rank)
  bcast_S_S16384x8x64 : S_.BroadcastsInDim S16384x8x64 (![] : Fin 0 → Fin S16384x8x64.rank)

variable [Facts]

def fn {F : FTy → Type} [FloatOps F] (main_arg0 : FVec F S16384x8x96 .f32) (main_arg1 : FVec F S16384x8x96 .f32) (main_arg2 : FVec F S16384x8x64 .f32) (main_arg3 : FVec F S16384x8x64 .f32) : IVec S16384x8x96 1 × IVec S16384x8x96 1 × IVec S16384x8x64 1 × IVec S16384x8x64 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_v3 : FVec F S16384x8x96 .f32 := Host.absf main_arg1
  let main_cst_0 : FVec F S_ .f32 := constant S_ .f32 0x7F800000#32
  let main_v4 : FVec F S16384x8x96 .f32 := broadcastInDim S16384x8x96 ![] bcast_S_S16384x8x96 main_cst_0
  let main_v5 : IVec S16384x8x96 1 := cmpf .olt main_v3 main_v4
  let main_v6 : FVec F S16384x8x64 .f32 := Host.absf main_arg2
  let main_cst_1 : FVec F S_ .f32 := constant S_ .f32 0x7F800000#32
  let main_v7 : FVec F S16384x8x64 .f32 := broadcastInDim S16384x8x64 ![] bcast_S_S16384x8x64 main_cst_1
  let main_v8 : IVec S16384x8x64 1 := cmpf .olt main_v6 main_v7
  let main_v9 : FVec F S16384x8x64 .f32 := Host.absf main_arg3
  let main_cst_2 : FVec F S_ .f32 := constant S_ .f32 0x7F800000#32
  let main_v10 : FVec F S16384x8x64 .f32 := broadcastInDim S16384x8x64 ![] bcast_S_S16384x8x64 main_cst_2
  let main_v11 : IVec S16384x8x64 1 := cmpf .olt main_v9 main_v10
  (main_v2, main_v5, main_v8, main_v11)
-- ==== Pre_finite_inputs.lean ====
abbrev S16384x8x96 : Shape := ⟨3, ![16384, 8, 96]⟩
abbrev S16384x8x64 : Shape := ⟨3, ![16384, 8, 64]⟩
abbrev S_ : Shape := ⟨0, ![]⟩

class Facts : Prop where
  bcast_S_S16384x8x96 : S_.BroadcastsInDim S16384x8x96 (![] : Fin 0 → Fin S16384x8x96.rank)

variable [Facts]

def fn {F : FTy → Type} [FloatOps F] (main_arg0 : FVec F S16384x8x96 .f32) (main_arg1 : FVec F S16384x8x96 .f32) (main_arg2 : FVec F S16384x8x64 .f32) : IVec S16384x8x96 1 × IVec S16384x8x96 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_v3 : FVec F S16384x8x96 .f32 := Host.absf main_arg1
  let main_cst_0 : FVec F S_ .f32 := constant S_ .f32 0x7F800000#32
  let main_v4 : FVec F S16384x8x96 .f32 := broadcastInDim S16384x8x96 ![] bcast_S_S16384x8x96 main_cst_0
  let main_v5 : IVec S16384x8x96 1 := cmpf .olt main_v3 main_v4
  (main_v2, main_v5)
-- ==== Pre_finite_layer.lean ====
abbrev S16384x1024 : Shape := ⟨2, ![16384, 1024]⟩
abbrev S1024 : Shape := ⟨1, ![1024]⟩
abbrev S4x1024x5632 : Shape := ⟨3, ![4, 1024, 5632]⟩
abbrev S4x2816x1024 : Shape := ⟨3, ![4, 2816, 1024]⟩
abbrev S_ : Shape := ⟨0, ![]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩

class Facts : Prop where
  bcast_S_S1024 : S_.BroadcastsInDim S1024 (![] : Fin 0 → Fin S1024.rank)
  slices_S4x1024x5632_S1x1024x5632_0_0_0 : S4x1024x5632.Slices ![0, 0, 0] S1x1024x5632
  shapeCasts_S1x1024x5632_S1024x5632 : S1x1024x5632.ShapeCasts S1024x5632
  bcast_S_S1024x5632 : S_.BroadcastsInDim S1024x5632 (![] : Fin 0 → Fin S1024x5632.rank)
  slices_S4x2816x1024_S1x2816x1024_0_0_0 : S4x2816x1024.Slices ![0, 0, 0] S1x2816x1024
  shapeCasts_S1x2816x1024_S2816x1024 : S1x2816x1024.ShapeCasts S2816x1024
  bcast_S_S2816x1024 : S_.BroadcastsInDim S2816x1024 (![] : Fin 0 → Fin S2816x1024.rank)
  bcast_S_S16384x1024 : S_.BroadcastsInDim S16384x1024 (![] : Fin 0 → Fin S16384x1024.rank)

variable [Facts]

def fn {F : FTy → Type} [FloatOps F] (main_arg0 : FVec F S16384x1024 .f32) (main_arg1 : FVec F S1024 .f32) (main_arg2 : FVec F S4x1024x5632 .f32) (main_arg3 : FVec F S4x2816x1024 .f32) (main_arg4 : FVec F S16384x1024 .f32) : IVec S1024 1 × IVec S1024x5632 1 × IVec S2816x1024 1 × IVec S16384x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1x1024x5632 .f32 := (extractStridedSlice S1x1024x5632 ![0, 0, 0] · slices_S4x1024x5632_S1x1024x5632_0_0_0) main_arg2
  let main_v4 : FVec F S1024x5632 .f32 := shapeCast S1024x5632 main_v3 shapeCasts_S1x1024x5632_S1024x5632
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_v8 : FVec F S1x2816x1024 .f32 := (extractStridedSlice S1x2816x1024 ![0, 0, 0] · slices_S4x2816x1024_S1x2816x1024_0_0_0) main_arg3
  let main_v9 : FVec F S2816x1024 .f32 := shapeCast S2816x1024 main_v8 shapeCasts_S1x2816x1024_S2816x1024
  let main_v10 : FVec F S2816x1024 .f32 := Host.absf main_v9
  let main_cst_1 : FVec F S_ .f32 := constant S_ .f32 0x7F800000#32
  let main_v11 : FVec F S2816x1024 .f32 := broadcastInDim S2816x1024 ![] bcast_S_S2816x1024 main_cst_1
  let main_v12 : IVec S2816x1024 1 := cmpf .olt main_v10 main_v11
  let main_v13 : FVec F S16384x1024 .f32 := Host.absf main_arg4
  let main_cst_2 : FVec F S_ .f32 := constant S_ .f32 0x7F800000#32
  let main_v14 : FVec F S16384x1024 .f32 := broadcastInDim S16384x1024 ![] bcast_S_S16384x1024 main_cst_2
  let main_v15 : IVec S16384x1024 1 := cmpf .olt main_v13 main_v14
  (main_v2, main_v7, main_v12, main_v15)
-- ==== Kernel.lean ====
abbrev S16384x8x96 : Shape := ⟨3, ![16384, 8, 96]⟩
abbrev S16384x8x64 : Shape := ⟨3, ![16384, 8, 64]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x1x16384 : Shape := ⟨3, ![8, 1, 16384]⟩
abbrev S16384x8 : Shape := ⟨2, ![16384, 8]⟩
abbrev S16384x8x128 : Shape := ⟨3, ![16384, 8, 128]⟩
abbrev S16384x1024 : Shape := ⟨2, ![16384, 1024]⟩
abbrev S1024x16384 : Shape := ⟨2, ![1024, 16384]⟩
abbrev S16384x128 : Shape := ⟨2, ![16384, 128]⟩
abbrev S1024x128 : Shape := ⟨2, ![1024, 128]⟩
abbrev S1x1x16384 : Shape := ⟨3, ![1, 1, 16384]⟩
abbrev S128x16384 : Shape := ⟨2, ![128, 16384]⟩
abbrev S128x1024 : Shape := ⟨2, ![128, 1024]⟩
abbrev S512x128 : Shape := ⟨2, ![512, 128]⟩
abbrev S1024x512 : Shape := ⟨2, ![1024, 512]⟩
abbrev S1x1x512 : Shape := ⟨3, ![1, 1, 512]⟩
abbrev S1x512 : Shape := ⟨2, ![1, 512]⟩
abbrev S128x512 : Shape := ⟨2, ![128, 512]⟩

abbrev nBuf : Space → Nat
  | .hbm => 63
  | .vmem => 21
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S_, .f32⟩
  | .hbm, ⟨5, _⟩ => ⟨S16384x8x96, .f32⟩
  | .hbm, ⟨6, _⟩ => ⟨S16384x8x96, .f32⟩
  | .hbm, ⟨7, _⟩ => ⟨S8x16384x16384, .f32⟩
  | .hbm, ⟨8, _⟩ => ⟨S_, .f32⟩
  | .hbm, ⟨9, _⟩ => ⟨S8x16384, .f32⟩
  | .hbm, ⟨10, _⟩ => ⟨S8x16384x1, .f32⟩
  | .hbm, ⟨11, _⟩ => ⟨S8x16384x16384, .f32⟩
  | .hbm, ⟨12, _⟩ => ⟨S8x16384x16384, .f32⟩
  | .hbm, ⟨13, _⟩ => ⟨S8x16384x16384, .f32⟩
  | .hbm, ⟨14, _⟩ => ⟨S_, .f32⟩
  | .hbm, ⟨15, _⟩ => ⟨S8x16384, .f32⟩
  | .hbm, ⟨16, _⟩ => ⟨S8x16384x1, .f32⟩
  | .hbm, ⟨17, _⟩ => ⟨S8x16384x16384, .f32⟩
  | .hbm, ⟨18, _⟩ => ⟨S8x16384x16384, .f32⟩
  | .hbm, ⟨19, _⟩ => ⟨S8x16384x16384, .f32⟩
  | .hbm, ⟨20, _⟩ => ⟨S8x16384x16384, .f32⟩
  | .hbm, ⟨21, _⟩ => ⟨S8x16384x16384, .f32⟩
  | .hbm, ⟨22, _⟩ => ⟨S8x64x16384, .f32⟩
  | .hbm, ⟨23, _⟩ => ⟨S16384x8x64, .f32⟩
  | .hbm, ⟨24, _⟩ => ⟨S8x16384x1, .f32⟩
  | .hbm, ⟨25, _⟩ => ⟨S8x16384x1, .f32⟩
  | .hbm, ⟨26, _⟩ => ⟨S_, .f32⟩
  | .hbm, ⟨27, _⟩ => ⟨S_, .f32⟩
  | .hbm, ⟨28, _⟩ => ⟨S8x16384x1, .f32⟩
  | .hbm, ⟨29, _⟩ => ⟨S8x16384x1, .f32⟩
  | .hbm, ⟨30, _⟩ => ⟨S8x1x16384, .f32⟩
  | .hbm, ⟨31, _⟩ => ⟨S16384x8x64, .f32⟩
  | .hbm, ⟨32, _⟩ => ⟨S_, .f32⟩
  | .hbm, ⟨33, _⟩ => ⟨S16384x8, .f32⟩
  | .hbm, ⟨34, _⟩ => ⟨S8x16384, .f32⟩
  | .hbm, ⟨35, _⟩ => ⟨S8x1x16384, .f32⟩
  | .hbm, ⟨36, _⟩ => ⟨S_, .f32⟩
  | .hbm, ⟨37, _⟩ => ⟨S_, .f32⟩
  | .hbm, ⟨38, _⟩ => ⟨S16384x8x96, .f32⟩
  | .hbm, ⟨39, _⟩ => ⟨S16384x8x96, .f32⟩
  | .hbm, ⟨40, _⟩ => ⟨S_, .i32⟩
  | .hbm, ⟨41, _⟩ => ⟨S_, .f32⟩
  | .hbm, ⟨42, _⟩ => ⟨S16384x8x128, .f32⟩
  | .hbm, ⟨43, _⟩ => ⟨S16384x1024, .f32⟩
  | .hbm, ⟨44, _⟩ => ⟨S16384x1024, .bf16⟩
  | .hbm, ⟨45, _⟩ => ⟨S_, .i32⟩
  | .hbm, ⟨46, _⟩ => ⟨S_, .f32⟩
  | .hbm, ⟨47, _⟩ => ⟨S16384x8x128, .f32⟩
  | .hbm, ⟨48, _⟩ => ⟨S16384x1024, .f32⟩
  | .hbm, ⟨49, _⟩ => ⟨S16384x1024, .bf16⟩
  | .hbm, ⟨50, _⟩ => ⟨S_, .i32⟩
  | .hbm, ⟨51, _⟩ => ⟨S_, .f32⟩
  | .hbm, ⟨52, _⟩ => ⟨S16384x8x128, .f32⟩
  | .hbm, ⟨53, _⟩ => ⟨S16384x1024, .f32⟩
  | .hbm, ⟨54, _⟩ => ⟨S16384x1024, .bf16⟩
  | .hbm, ⟨55, _⟩ => ⟨S_, .i32⟩
  | .hbm, ⟨56, _⟩ => ⟨S_, .f32⟩
  | .hbm, ⟨57, _⟩ => ⟨S16384x8x128, .f32⟩
  | .hbm, ⟨58, _⟩ => ⟨S16384x1024, .f32⟩
  | .hbm, ⟨59, _⟩ => ⟨S16384x1024, .bf16⟩
  | .hbm, ⟨60, _⟩ => ⟨S1024x16384, .f32⟩
  | .hbm, ⟨61, _⟩ => ⟨S16384x1024, .f32⟩
  | .hbm, ⟨62, _⟩ => ⟨S16384x1024, .f32⟩
  | .local _ .vmem, ⟨0, _⟩ => ⟨S16384x128, .bf16⟩
  | .local _ .vmem, ⟨1, _⟩ => ⟨S16384x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S16384x128, .bf16⟩
  | .local _ .vmem, ⟨7, _⟩ => ⟨S16384x128, .bf16⟩
  | .local _ .vmem, ⟨8, _⟩ => ⟨S1x1x16384, .f32⟩
  | .local _ .vmem, ⟨9, _⟩ => ⟨S1x1x16384, .f32⟩
  | .local _ .vmem, ⟨10, _⟩ => ⟨S1x1x16384, .f32⟩
  | .local _ .vmem, ⟨11, _⟩ => ⟨S1x1x16384, .f32⟩
  | .local _ .vmem, ⟨12, _⟩ => ⟨S128x16384, .f32⟩
  | .local _ .vmem, ⟨13, _⟩ => ⟨S128x16384, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S128x1024, .bf16⟩
  | .local _ .vmem, ⟨19, _⟩ => ⟨S1024x128, .f32⟩
  | .local _ .vmem, ⟨20, _⟩ => ⟨S1024x128, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_call1_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_call2_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_call3_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42_0 : Ref sig .tc := ⟨.hbm, 60, rfl⟩
abbrev main_v42_1 : Ref sig .tc := ⟨.hbm, 61, rfl⟩
abbrev main_v42_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 16, 1], ![false, false, false]⟩

def k0_mult1 (i : grid0.Coords) : BitVec 32 :=
  let arg2 : BitVec 32 := BitVec.ofNat 32 (i 2).val
  let c16384_i32 : BitVec 32 := 16384#32
  let v912 : BitVec 32 := Scalar.muli arg2 c16384_i32
  v912
def k0_cond2 (i : grid0.Coords) : BitVec 1 :=
  let arg1 : BitVec 32 := BitVec.ofNat 32 (i 1).val
  let c0_i32_652 : BitVec 32 := 0#32
  let v914 : BitVec 1 := Scalar.cmpi .eq arg1 c0_i32_652
  let v915 : BitVec 32 := Scalar.extui v914
  let c0_i32_653 : BitVec 32 := 0#32
  let v916 : BitVec 1 := Scalar.cmpi .ne v915 c0_i32_653
  v916

def k0_off1 (i : grid0.Coords) : Fin 2 → Nat :=
  let c0_658 : Index := 0#32
  let arg2 : BitVec 32 := BitVec.ofNat 32 (i 2).val
  let c16384_i32 : BitVec 32 := 16384#32
  let v912 : BitVec 32 := Scalar.muli arg2 c16384_i32
  let v913 : BitVec 32 := v912
  let v923 : Index := Scalar.indexCast v913
  ![0, v923.toNat]
def k0_cond3 (i : grid0.Coords) : BitVec 1 :=
  let arg1 : BitVec 32 := BitVec.ofNat 32 (i 1).val
  let c0_i32_654 : BitVec 32 := 0#32
  let v917 : BitVec 1 := Scalar.cmpi .sgt arg1 c0_i32_654
  let v918 : BitVec 32 := Scalar.extui v917
  let c0_i32_655 : BitVec 32 := 0#32
  let v919 : BitVec 1 := Scalar.cmpi .ne v918 c0_i32_655
  v919

def k0_off2 (i : grid0.Coords) : Fin 2 → Nat :=
  let c0_658 : Index := 0#32
  let arg2 : BitVec 32 := BitVec.ofNat 32 (i 2).val
  let c16384_i32 : BitVec 32 := 16384#32
  let v912 : BitVec 32 := Scalar.muli arg2 c16384_i32
  let v913 : BitVec 32 := v912
  let v923 : Index := Scalar.indexCast v913
  ![0, v923.toNat]
def k0_cond4 (i : grid0.Coords) : BitVec 1 :=
  let arg2 : BitVec 32 := BitVec.ofNat 32 (i 2).val
  let c0_i32_656 : BitVec 32 := 0#32
  let v920 : BitVec 1 := Scalar.cmpi .eq arg2 c0_i32_656
  let v921 : BitVec 32 := Scalar.extui v920
  let c0_i32_657 : BitVec 32 := 0#32
  let v922 : BitVec 1 := Scalar.cmpi .ne v921 c0_i32_657
  v922

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S128x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S16384x8x96 : Shape := ⟨3, ![16384, 8, 96]⟩
abbrev S16384x8x64 : Shape := ⟨3, ![16384, 8, 64]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x16384x96 : Shape := ⟨3, ![8, 16384, 96]⟩
abbrev S16384x8x128 : Shape := ⟨3, ![16384, 8, 128]⟩
abbrev S16384x1024 : Shape := ⟨2, ![16384, 1024]⟩
abbrev S1024x16384 : Shape := ⟨2, ![1024, 16384]⟩

abbrev nBuf : Space → Nat
  | .hbm => 83
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S_, .f32⟩
  | .hbm, ⟨5, _⟩ => ⟨S16384x8x96, .f32⟩
  | .hbm, ⟨6, _⟩ => ⟨S16384x8x96, .f32⟩
  | .hbm, ⟨7, _⟩ => ⟨S8x16384x16384, .f32⟩
  | .hbm, ⟨8, _⟩ => ⟨S_, .f32⟩
  | .hbm, ⟨9, _⟩ => ⟨S8x16384, .f32⟩
  | .hbm, ⟨10, _⟩ => ⟨S8x16384x1, .f32⟩
  | .hbm, ⟨11, _⟩ => ⟨S8x16384x16384, .f32⟩
  | .hbm, ⟨12, _⟩ => ⟨S8x16384x16384, .i1⟩
  | .hbm, ⟨13, _⟩ => ⟨S8x16384x16384, .f32⟩
  | .hbm, ⟨14, _⟩ => ⟨S_, .f32⟩
  | .hbm, ⟨15, _⟩ => ⟨S8x16384, .f32⟩
  | .hbm, ⟨16, _⟩ => ⟨S_, .f32⟩
  | .hbm, ⟨17, _⟩ => ⟨S8x16384, .f32⟩
  | .hbm, ⟨18, _⟩ => ⟨S8x16384, .f32⟩
  | .hbm, ⟨19, _⟩ => ⟨S_, .f32⟩
  | .hbm, ⟨20, _⟩ => ⟨S8x16384, .f32⟩
  | .hbm, ⟨21, _⟩ => ⟨S8x16384, .i1⟩
  | .hbm, ⟨22, _⟩ => ⟨S_, .f32⟩
  | .hbm, ⟨23, _⟩ => ⟨S8x16384, .f32⟩
  | .hbm, ⟨24, _⟩ => ⟨S8x16384, .i1⟩
  | .hbm, ⟨25, _⟩ => ⟨S_, .f32⟩
  | .hbm, ⟨26, _⟩ => ⟨S8x16384, .f32⟩
  | .hbm, ⟨27, _⟩ => ⟨S_, .f32⟩
  | .hbm, ⟨28, _⟩ => ⟨S8x16384, .f32⟩
  | .hbm, ⟨29, _⟩ => ⟨S_, .f32⟩
  | .hbm, ⟨30, _⟩ => ⟨S8x16384, .f32⟩
  | .hbm, ⟨31, _⟩ => ⟨S8x16384, .f32⟩
  | .hbm, ⟨32, _⟩ => ⟨S8x16384, .f32⟩
  | .hbm, ⟨33, _⟩ => ⟨S8x16384x1, .f32⟩
  | .hbm, ⟨34, _⟩ => ⟨S8x16384x16384, .f32⟩
  | .hbm, ⟨35, _⟩ => ⟨S8x16384x16384, .f32⟩
  | .hbm, ⟨36, _⟩ => ⟨S8x16384x16384, .f32⟩
  | .hbm, ⟨37, _⟩ => ⟨S_, .f32⟩
  | .hbm, ⟨38, _⟩ => ⟨S8x16384, .f32⟩
  | .hbm, ⟨39, _⟩ => ⟨S8x16384x1, .f32⟩
  | .hbm, ⟨40, _⟩ => ⟨S8x16384x16384, .f32⟩
  | .hbm, ⟨41, _⟩ => ⟨S8x16384x16384, .f32⟩
  | .hbm, ⟨42, _⟩ => ⟨S8x16384x1, .f32⟩
  | .hbm, ⟨43, _⟩ => ⟨S_, .f32⟩
  | .hbm, ⟨44, _⟩ => ⟨S8x16384x1, .f32⟩
  | .hbm, ⟨45, _⟩ => ⟨S8x16384x1, .f32⟩
  | .hbm, ⟨46, _⟩ => ⟨S8x64x16384, .f32⟩
  | .hbm, ⟨47, _⟩ => ⟨S16384x8x64, .f32⟩
  | .hbm, ⟨48, _⟩ => ⟨S8x64x16384, .f32⟩
  | .hbm, ⟨49, _⟩ => ⟨S8x16384x16384, .f32⟩
  | .hbm, ⟨50, _⟩ => ⟨S8x64x16384, .f32⟩
  | .hbm, ⟨51, _⟩ => ⟨S16384x8x64, .f32⟩
  | .hbm, ⟨52, _⟩ => ⟨S8x16384x16384, .f32⟩
  | .hbm, ⟨53, _⟩ => ⟨S8x16384x16384, .f32⟩
  | .hbm, ⟨54, _⟩ => ⟨S8x16384x16384, .f32⟩
  | .hbm, ⟨55, _⟩ => ⟨S_, .f32⟩
  | .hbm, ⟨56, _⟩ => ⟨S8x16384, .f32⟩
  | .hbm, ⟨57, _⟩ => ⟨S8x16384x1, .f32⟩
  | .hbm, ⟨58, _⟩ => ⟨S8x16384x1, .f32⟩
  | .hbm, ⟨59, _⟩ => ⟨S8x16384x16384, .f32⟩
  | .hbm, ⟨60, _⟩ => ⟨S8x16384x16384, .f32⟩
  | .hbm, ⟨61, _⟩ => ⟨S_, .f32⟩
  | .hbm, ⟨62, _⟩ => ⟨S8x16384, .f32⟩
  | .hbm, ⟨63, _⟩ => ⟨S8x16384x16384, .f32⟩
  | .hbm, ⟨64, _⟩ => ⟨S8x16384x16384, .f32⟩
  | .hbm, ⟨65, _⟩ => ⟨S8x16384x16384, .f32⟩
  | .hbm, ⟨66, _⟩ => ⟨S8x16384x96, .f32⟩
  | .hbm, ⟨67, _⟩ => ⟨S16384x8x96, .f32⟩
  | .hbm, ⟨68, _⟩ => ⟨S8x16384x96, .f32⟩
  | .hbm, ⟨69, _⟩ => ⟨S16384x8x96, .f32⟩
  | .hbm, ⟨70, _⟩ => ⟨S_, .i32⟩
  | .hbm, ⟨71, _⟩ => ⟨S_, .f32⟩
  | .hbm, ⟨72, _⟩ => ⟨S16384x8x128, .f32⟩
  | .hbm, ⟨73, _⟩ => ⟨S16384x1024, .f32⟩
  | .hbm, ⟨74, _⟩ => ⟨S1024x16384, .f32⟩
  | .hbm, ⟨75, _⟩ => ⟨S_, .i32⟩
  | .hbm, ⟨76, _⟩ => ⟨S_, .f32⟩
  | .hbm, ⟨77, _⟩ => ⟨S16384x8x128, .f32⟩
  | .hbm, ⟨78, _⟩ => ⟨S16384x1024, .f32⟩
  | .hbm, ⟨79, _⟩ => ⟨S_, .i32⟩
  | .hbm, ⟨80, _⟩ => ⟨S_, .f32⟩
  | .hbm, ⟨81, _⟩ => ⟨S16384x8x128, .f32⟩
  | .hbm, ⟨82, _⟩ => ⟨S16384x1024, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c : Ref sig .tc := ⟨.hbm, 70, rfl⟩
abbrev main_call0_v0 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_12 : Ref sig .tc := ⟨.hbm, 75, rfl⟩
abbrev main_call1_v0 : Ref sig .tc := ⟨.hbm, 76, rfl⟩
abbrev main_v56 : Ref sig .tc := ⟨.hbm, 77, rfl⟩
abbrev main_v57 : Ref sig .tc := ⟨.hbm, 78, rfl⟩
abbrev main_c_13 : Ref sig .tc := ⟨.hbm, 79, rfl⟩
abbrev main_call2_v0 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Forward.lean ====
abbrev S16384x8x96 : Shape := ⟨3, ![16384, 8, 96]⟩
abbrev S16384x8x64 : Shape := ⟨3, ![16384, 8, 64]⟩
abbrev S_ : Shape := ⟨0, ![]⟩
abbrev S16384x8x128 : Shape := ⟨3, ![16384, 8, 128]⟩
abbrev S16384x1024 : Shape := ⟨2, ![16384, 1024]⟩
abbrev S1024x16384 : Shape := ⟨2, ![1024, 16384]⟩
abbrev S8x1x16384 : Shape := ⟨3, ![8, 1, 16384]⟩
abbrev S1024x128 : Shape := ⟨2, ![1024, 128]⟩
abbrev S16384x128 : Shape := ⟨2, ![16384, 128]⟩
abbrev S128x16384 : Shape := ⟨2, ![128, 16384]⟩
abbrev S1x1x1024 : Shape := ⟨3, ![1, 1, 1024]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 28
  | .vmem => 13
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S_, .f32⟩
  | .hbm, ⟨4, _⟩ => ⟨S16384x8x96, .f32⟩
  | .hbm, ⟨5, _⟩ => ⟨S16384x8x96, .f32⟩
  | .hbm, ⟨6, _⟩ => ⟨S_, .f32⟩
  | .hbm, ⟨7, _⟩ => ⟨S_, .f32⟩
  | .hbm, ⟨8, _⟩ => ⟨S16384x8x96, .f32⟩
  | .hbm, ⟨9, _⟩ => ⟨S16384x8x96, .f32⟩
  | .hbm, ⟨10, _⟩ => ⟨S_, .i32⟩
  | .hbm, ⟨11, _⟩ => ⟨S_, .f32⟩
  | .hbm, ⟨12, _⟩ => ⟨S16384x8x128, .f32⟩
  | .hbm, ⟨13, _⟩ => ⟨S16384x1024, .f32⟩
  | .hbm, ⟨14, _⟩ => ⟨S16384x1024, .bf16⟩
  | .hbm, ⟨15, _⟩ => ⟨S_, .i32⟩
  | .hbm, ⟨16, _⟩ => ⟨S_, .f32⟩
  | .hbm, ⟨17, _⟩ => ⟨S16384x8x128, .f32⟩
  | .hbm, ⟨18, _⟩ => ⟨S16384x1024, .f32⟩
  | .hbm, ⟨19, _⟩ => ⟨S16384x1024, .bf16⟩
  | .hbm, ⟨20, _⟩ => ⟨S_, .i32⟩
  | .hbm, ⟨21, _⟩ => ⟨S_, .f32⟩
  | .hbm, ⟨22, _⟩ => ⟨S16384x8x128, .f32⟩
  | .hbm, ⟨23, _⟩ => ⟨S16384x1024, .f32⟩
  | .hbm, ⟨24, _⟩ => ⟨S16384x1024, .bf16⟩
  | .hbm, ⟨25, _⟩ => ⟨S1024x16384, .bf16⟩
  | .hbm, ⟨26, _⟩ => ⟨S16384x1024, .bf16⟩
  | .hbm, ⟨27, _⟩ => ⟨S8x1x16384, .f32⟩
  | .local _ .vmem, ⟨0, _⟩ => ⟨S1024x128, .bf16⟩
  | .local _ .vmem, ⟨1, _⟩ => ⟨S1024x128, .bf16⟩
  | .local _ .vmem, ⟨2, _⟩ => ⟨S16384x128, .bf16⟩
  | .local _ .vmem, ⟨3, _⟩ => ⟨S16384x128, .bf16⟩
  | .local _ .vmem, ⟨4, _⟩ => ⟨S128x16384, .bf16⟩
  | .local _ .vmem, ⟨5, _⟩ => ⟨S128x16384, .bf16⟩
  | .local _ .vmem, ⟨6, _⟩ => ⟨S1024x128, .bf16⟩
  | .local _ .vmem, ⟨7, _⟩ => ⟨S1024x128, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S128x1024, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 1], ![false, false, false]⟩

def k0_cond2 (i : grid0.Coords) : BitVec 1 :=
  let arg2 : BitVec 32 := BitVec.ofNat 32 (i 2).val
  let c0_i32_126 : BitVec 32 := 0#32
  let v369 : BitVec 1 := Scalar.cmpi .eq arg2 c0_i32_126
  let v370 : BitVec 32 := Scalar.extui v369
  let c0_i32_127 : BitVec 32 := 0#32
  let v371 : BitVec 1 := Scalar.cmpi .ne v370 c0_i32_127
  v371

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ForwardIdeal.lean ====
variable {F : FTy → Type} [FloatOps F] [Named F]
def κ : String → Option EReal := fun
  | "log2e" => some (((Real.log 2)⁻¹ : ℝ) : EReal)
  | _ => none
-- ==== ForwardReferenceIdeal.lean ====
abbrev S16384x8x96 : Shape := ⟨3, ![16384, 8, 96]⟩
abbrev S16384x8x64 : Shape := ⟨3, ![16384, 8, 64]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x8x128 : Shape := ⟨3, ![16384, 8, 128]⟩
abbrev S16384x1024 : Shape := ⟨2, ![16384, 1024]⟩
abbrev S8x1x16384 : Shape := ⟨3, ![8, 1, 16384]⟩

abbrev nBuf : Space → Nat
  | .hbm => 41
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S_, .f32⟩
  | .hbm, ⟨4, _⟩ => ⟨S16384x8x96, .f32⟩
  | .hbm, ⟨5, _⟩ => ⟨S16384x8x96, .f32⟩
  | .hbm, ⟨6, _⟩ => ⟨S8x16384x16384, .f32⟩
  | .hbm, ⟨7, _⟩ => ⟨S_, .f32⟩
  | .hbm, ⟨8, _⟩ => ⟨S8x16384, .f32⟩
  | .hbm, ⟨9, _⟩ => ⟨S_, .f32⟩
  | .hbm, ⟨10, _⟩ => ⟨S8x16384, .f32⟩
  | .hbm, ⟨11, _⟩ => ⟨S8x16384, .f32⟩
  | .hbm, ⟨12, _⟩ => ⟨S8x16384x1, .f32⟩
  | .hbm, ⟨13, _⟩ => ⟨S8x16384x16384, .f32⟩
  | .hbm, ⟨14, _⟩ => ⟨S8x16384x16384, .f32⟩
  | .hbm, ⟨15, _⟩ => ⟨S8x16384x16384, .f32⟩
  | .hbm, ⟨16, _⟩ => ⟨S_, .f32⟩
  | .hbm, ⟨17, _⟩ => ⟨S8x16384, .f32⟩
  | .hbm, ⟨18, _⟩ => ⟨S8x16384x1, .f32⟩
  | .hbm, ⟨19, _⟩ => ⟨S8x16384x16384, .f32⟩
  | .hbm, ⟨20, _⟩ => ⟨S8x16384x16384, .f32⟩
  | .hbm, ⟨21, _⟩ => ⟨S8x64x16384, .f32⟩
  | .hbm, ⟨22, _⟩ => ⟨S16384x8x64, .f32⟩
  | .hbm, ⟨23, _⟩ => ⟨S_, .f32⟩
  | .hbm, ⟨24, _⟩ => ⟨S16384x8x96, .f32⟩
  | .hbm, ⟨25, _⟩ => ⟨S16384x8x96, .f32⟩
  | .hbm, ⟨26, _⟩ => ⟨S8x16384x16384, .f32⟩
  | .hbm, ⟨27, _⟩ => ⟨S8x16384x16384, .f32⟩
  | .hbm, ⟨28, _⟩ => ⟨S_, .f32⟩
  | .hbm, ⟨29, _⟩ => ⟨S8x16384, .f32⟩
  | .hbm, ⟨30, _⟩ => ⟨S8x16384, .f32⟩
  | .hbm, ⟨31, _⟩ => ⟨S_, .f32⟩
  | .hbm, ⟨32, _⟩ => ⟨S_, .f32⟩
  | .hbm, ⟨33, _⟩ => ⟨S8x16384, .f32⟩
  | .hbm, ⟨34, _⟩ => ⟨S8x16384, .f32⟩
  | .hbm, ⟨35, _⟩ => ⟨S_, .i32⟩
  | .hbm, ⟨36, _⟩ => ⟨S_, .f32⟩
  | .hbm, ⟨37, _⟩ => ⟨S16384x8x128, .f32⟩
  | .hbm, ⟨38, _⟩ => ⟨S16384x1024, .f32⟩
  | .hbm, ⟨39, _⟩ => ⟨S16384x1024, .bf16⟩
  | .hbm, ⟨40, _⟩ => ⟨S8x1x16384, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== GateGrad.lean ====
abbrev S16384x1024 : Shape := ⟨2, ![16384, 1024]⟩
abbrev S16384x2816 : Shape := ⟨2, ![16384, 2816]⟩
abbrev S4x4x1024x1408 : Shape := ⟨4, ![4, 4, 1024, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S4x4x1024x1408, .f32⟩
  | .hbm, ⟨3, _⟩ => ⟨S4x4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateGradReferenceIdeal.lean ====
abbrev S16384x1024 : Shape := ⟨2, ![16384, 1024]⟩
abbrev S16384x2816 : Shape := ⟨2, ![16384, 2816]⟩
abbrev S4x4x1024x1408 : Shape := ⟨4, ![4, 4, 1024, 1408]⟩
abbrev S_ : Shape := ⟨0, ![]⟩
abbrev S1024x2816 : Shape := ⟨2, ![1024, 2816]⟩
abbrev S2816x1024 : Shape := ⟨2, ![2816, 1024]⟩
abbrev S1024x2x1408 : Shape := ⟨3, ![1024, 2, 1408]⟩
abbrev S2x1024x1408 : Shape := ⟨3, ![2, 1024, 1408]⟩
abbrev S1x2x1024x1408 : Shape := ⟨4, ![1, 2, 1024, 1408]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S4x4x1024x1408, .f32⟩
  | .hbm, ⟨3, _⟩ => ⟨S_, .f32⟩
  | .hbm, ⟨4, _⟩ => ⟨S1024x2816, .f32⟩
  | .hbm, ⟨5, _⟩ => ⟨S16384x1024, .f32⟩
  | .hbm, ⟨6, _⟩ => ⟨S16384x2816, .f32⟩
  | .hbm, ⟨7, _⟩ => ⟨S16384x2816, .f32⟩
  | .hbm, ⟨8, _⟩ => ⟨S2816x1024, .f32⟩
  | .hbm, ⟨9, _⟩ => ⟨S1024x2816, .f32⟩
  | .hbm, ⟨10, _⟩ => ⟨S1024x2x1408, .f32⟩
  | .hbm, ⟨11, _⟩ => ⟨S2x1024x1408, .f32⟩
  | .hbm, ⟨12, _⟩ => ⟨S1x2x1024x1408, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S4x4x1024x1408, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== UpGrad.lean ====
abbrev S16384x1024 : Shape := ⟨2, ![16384, 1024]⟩
abbrev S16384x2816 : Shape := ⟨2, ![16384, 2816]⟩
abbrev S4x4x1024x1408 : Shape := ⟨4, ![4, 4, 1024, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S4x4x1024x1408, .f32⟩
  | .hbm, ⟨3, _⟩ => ⟨S4x4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UpGradReferenceIdeal.lean ====
abbrev S16384x1024 : Shape := ⟨2, ![16384, 1024]⟩
abbrev S16384x2816 : Shape := ⟨2, ![16384, 2816]⟩
abbrev S4x4x1024x1408 : Shape := ⟨4, ![4, 4, 1024, 1408]⟩
abbrev S_ : Shape := ⟨0, ![]⟩
abbrev S1024x2816 : Shape := ⟨2, ![1024, 2816]⟩
abbrev S2816x1024 : Shape := ⟨2, ![2816, 1024]⟩
abbrev S1024x2x1408 : Shape := ⟨3, ![1024, 2, 1408]⟩
abbrev S2x1024x1408 : Shape := ⟨3, ![2, 1024, 1408]⟩
abbrev S1x2x1024x1408 : Shape := ⟨4, ![1, 2, 1024, 1408]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S4x4x1024x1408, .f32⟩
  | .hbm, ⟨3, _⟩ => ⟨S_, .f32⟩
  | .hbm, ⟨4, _⟩ => ⟨S1024x2816, .f32⟩
  | .hbm, ⟨5, _⟩ => ⟨S16384x1024, .f32⟩
  | .hbm, ⟨6, _⟩ => ⟨S16384x2816, .f32⟩
  | .hbm, ⟨7, _⟩ => ⟨S16384x2816, .f32⟩
  | .hbm, ⟨8, _⟩ => ⟨S2816x1024, .f32⟩
  | .hbm, ⟨9, _⟩ => ⟨S1024x2816, .f32⟩
  | .hbm, ⟨10, _⟩ => ⟨S1024x2x1408, .f32⟩
  | .hbm, ⟨11, _⟩ => ⟨S2x1024x1408, .f32⟩
  | .hbm, ⟨12, _⟩ => ⟨S1x2x1024x1408, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S4x4x1024x1408, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== DownGrad.lean ====
abbrev S16384x2816 : Shape := ⟨2, ![16384, 2816]⟩
abbrev S16384x1024 : Shape := ⟨2, ![16384, 1024]⟩
abbrev S4x2816x1024 : Shape := ⟨3, ![4, 2816, 1024]⟩
abbrev S1024x2816 : Shape := ⟨2, ![1024, 2816]⟩
abbrev S1024x1024 : Shape := ⟨2, ![1024, 1024]⟩
abbrev S1x2816x1024 : Shape := ⟨3, ![1, 2816, 1024]⟩
abbrev S2816x1024 : Shape := ⟨2, ![2816, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S4x2816x1024, .f32⟩
  | .hbm, ⟨3, _⟩ => ⟨S4x2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S1x2816x1024, .f32⟩
  | .local _ .vmem, ⟨5, _⟩ => ⟨S2816x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== DownGradReferenceIdeal.lean ====
abbrev S16384x2816 : Shape := ⟨2, ![16384, 2816]⟩
abbrev S16384x1024 : Shape := ⟨2, ![16384, 1024]⟩
abbrev S4x2816x1024 : Shape := ⟨3, ![4, 2816, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S4x2816x1024, .f32⟩
  | .hbm, ⟨3, _⟩ => ⟨S_, .f32⟩
  | .hbm, ⟨4, _⟩ => ⟨S2816x1024, .f32⟩
  | .hbm, ⟨5, _⟩ => ⟨S16384x2816, .f32⟩
  | .hbm, ⟨6, _⟩ => ⟨S16384x1024, .f32⟩
  | .hbm, ⟨7, _⟩ => ⟨S16384x1024, .f32⟩
  | .hbm, ⟨8, _⟩ => ⟨S1024x2816, .f32⟩
  | .hbm, ⟨9, _⟩ => ⟨S2816x1024, .f32⟩
  | .hbm, ⟨10, _⟩ => ⟨S1x2816x1024, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4x2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Feed.lean ====
abbrev S16384x1024 : Shape := ⟨2, ![16384, 1024]⟩
abbrev S1024 : Shape := ⟨1, ![1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S4x1024x4x1408 : Shape := ⟨4, ![4, 1024, 4, 1408]⟩
abbrev S4x4x1024x1408 : Shape := ⟨4, ![4, 4, 1024, 1408]⟩
abbrev S16384x2816 : Shape := ⟨2, ![16384, 2816]⟩
abbrev S512x1024 : Shape := ⟨2, ![512, 1024]⟩
abbrev S1x1x1024x1408 : Shape := ⟨4, ![1, 1, 1024, 1408]⟩
abbrev S1x1408x1024 : Shape := ⟨3, ![1, 1408, 1024]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩
abbrev S1408x1024 : Shape := ⟨2, ![1408, 1024]⟩

abbrev nBuf : Space → Nat
  | .hbm => 12
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x5632, .f32⟩
  | .hbm, ⟨3, _⟩ => ⟨S4x2816x1024, .f32⟩
  | .hbm, ⟨4, _⟩ => ⟨S1x1024, .f32⟩
  | .hbm, ⟨5, _⟩ => ⟨S4x1024x4x1408, .f32⟩
  | .hbm, ⟨6, _⟩ => ⟨S4x4x1024x1408, .f32⟩
  | .hbm, ⟨7, _⟩ => ⟨S4x4x1024x1408, .bf16⟩
  | .hbm, ⟨8, _⟩ => ⟨S4x2816x1024, .bf16⟩
  | .hbm, ⟨9, _⟩ => ⟨S16384x1024, .f32⟩
  | .hbm, ⟨10, _⟩ => ⟨S16384x2816, .bf16⟩
  | .hbm, ⟨11, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1024, .bf16⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v26 : BitVec 1 := Scalar.cmpi .eq arg1 c1_i32
  let v27 : BitVec 32 := Scalar.extui v26
  let c0_i32_23 : BitVec 32 := 0#32
  let v28 : BitVec 1 := Scalar.cmpi .ne v27 c0_i32_23
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FeedReferenceIdeal.lean ====
abbrev S16384x1024 : Shape := ⟨2, ![16384, 1024]⟩
abbrev S1024 : Shape := ⟨1, ![1024]⟩
abbrev S4x1024x5632 : Shape := ⟨3, ![4, 1024, 5632]⟩
abbrev S4x2816x1024 : Shape := ⟨3, ![4, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S16384x5632 : Shape := ⟨2, ![16384, 5632]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x5632, .f32⟩
  | .hbm, ⟨3, _⟩ => ⟨S4x2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1x1024x5632, .f32⟩
  | .hbm, ⟨21, _⟩ => ⟨S1024x5632, .f32⟩
  | .hbm, ⟨22, _⟩ => ⟨S16384x5632, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S1x2816x1024, .f32⟩
  | .hbm, ⟨36, _⟩ => ⟨S2816x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x2816, .bf16⟩
  | .hbm, ⟨43, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== FeedGrad.lean ====
abbrev S16384x1024 : Shape := ⟨2, ![16384, 1024]⟩
abbrev S1024 : Shape := ⟨1, ![1024]⟩
abbrev S4x1024x5632 : Shape := ⟨3, ![4, 1024, 5632]⟩
abbrev S4x2816x1024 : Shape := ⟨3, ![4, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S16384x5632 : Shape := ⟨2, ![16384, 5632]⟩
abbrev S16384x2816 : Shape := ⟨2, ![16384, 2816]⟩
abbrev S4x1024x4x1408 : Shape := ⟨4, ![4, 1024, 4, 1408]⟩
abbrev S4x4x1024x1408 : Shape := ⟨4, ![4, 4, 1024, 1408]⟩
abbrev S512x1024 : Shape := ⟨2, ![512, 1024]⟩
abbrev S512x1408 : Shape := ⟨2, ![512, 1408]⟩
abbrev S1x1x1024x1408 : Shape := ⟨4, ![1, 1, 1024, 1408]⟩
abbrev S1x1408x1024 : Shape := ⟨3, ![1, 1408, 1024]⟩
abbrev S512 : Shape := ⟨1, ![512]⟩
abbrev S512x1 : Shape := ⟨2, ![512, 1]⟩
abbrev S256x1408 : Shape := ⟨2, ![256, 1408]⟩
abbrev S256x1024 : Shape := ⟨2, ![256, 1024]⟩
abbrev S1408x1024 : Shape := ⟨2, ![1408, 1024]⟩
abbrev S1024x1408 : Shape := ⟨2, ![1024, 1408]⟩

abbrev nBuf : Space → Nat
  | .hbm => 40
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x5632, .f32⟩
  | .hbm, ⟨3, _⟩ => ⟨S4x2816x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024x5632, .f32⟩
  | .hbm, ⟨22, _⟩ => ⟨S1024x5632, .f32⟩
  | .hbm, ⟨23, _⟩ => ⟨S16384x5632, .f32⟩
  | .hbm, ⟨24, _⟩ => ⟨S16384x2816, .f32⟩
  | .hbm, ⟨25, _⟩ => ⟨S16384x2816, .bf16⟩
  | .hbm, ⟨26, _⟩ => ⟨S16384x2816, .f32⟩
  | .hbm, ⟨27, _⟩ => ⟨S16384x2816, .bf16⟩
  | .hbm, ⟨28, _⟩ => ⟨S1x1024, .f32⟩
  | .hbm, ⟨29, _⟩ => ⟨S4x1024x4x1408, .f32⟩
  | .hbm, ⟨30, _⟩ => ⟨S4x4x1024x1408, .f32⟩
  | .hbm, ⟨31, _⟩ => ⟨S4x4x1024x1408, .bf16⟩
  | .hbm, ⟨32, _⟩ => ⟨S4x2816x1024, .bf16⟩
  | .hbm, ⟨33, _⟩ => ⟨S16384x1024, .f32⟩
  | .hbm, ⟨34, _⟩ => ⟨S16384x1024, .bf16⟩
  | .hbm, ⟨35, _⟩ => ⟨S16384x2816, .bf16⟩
  | .hbm, ⟨36, _⟩ => ⟨S16384x2816, .bf16⟩
  | .hbm, ⟨37, _⟩ => ⟨S16384x2816, .bf16⟩
  | .hbm, ⟨38, _⟩ => ⟨S16384x1024, .bf16⟩
  | .hbm, ⟨39, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S1x1x1024x1408, .bf16⟩
  | .local _ .vmem, ⟨10, _⟩ => ⟨S1x1x1024x1408, .bf16⟩
  | .local _ .vmem, ⟨11, _⟩ => ⟨S1x1x1024x1408, .bf16⟩
  | .local _ .vmem, ⟨12, _⟩ => ⟨S1x1x1024x1408, .bf16⟩
  | .local _ .vmem, ⟨13, _⟩ => ⟨S1x1408x1024, .bf16⟩
  | .local _ .vmem, ⟨14, _⟩ => ⟨S1x1408x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S512x1408, .bf16⟩
  | .local _ .vmem, ⟨25, _⟩ => ⟨S512x1024, .bf16⟩
  | .local _ .vmem, ⟨26, _⟩ => ⟨S512x1024, .bf16⟩
  | .local _ .vmem, ⟨27, _⟩ => ⟨S1x1024, .f32⟩
  | .local _ .vmem, ⟨28, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v25_3 : Ref sig .tc := ⟨.hbm, 36, rfl⟩
abbrev main_v25_4 : Ref sig .tc := ⟨.hbm, 37, rfl⟩
abbrev main_v25_5 : Ref sig .tc := ⟨.hbm, 38, rfl⟩
abbrev main_v25_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v85 : BitVec 1 := Scalar.cmpi .eq arg1 c1_i32
  let v86 : BitVec 32 := Scalar.extui v85
  let c0_i32_62 : BitVec 32 := 0#32
  let v87 : BitVec 1 := Scalar.cmpi .ne v86 c0_i32_62
  v87

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_79 : BitVec 32 := 0#32
  let v120 : BitVec 1 := Scalar.cmpi .eq arg0 c0_i32_79
  let v121 : BitVec 32 := Scalar.extui v120
  let c0_i32_80 : BitVec 32 := 0#32
  let v122 : BitVec 1 := Scalar.cmpi .ne v121 c0_i32_80
  v122

def k0_cond4 (i : grid0.Coords) : BitVec 1 :=
  let arg0 : BitVec 32 := BitVec.ofNat 32 (i 0).val
  let c0_i32_81 : BitVec 32 := 0#32
  let v123 : BitVec 1 := Scalar.cmpi .sgt arg0 c0_i32_81
  let v124 : BitVec 32 := Scalar.extui v123
  let c0_i32_82 : BitVec 32 := 0#32
  let v125 : BitVec 1 := Scalar.cmpi .ne v124 c0_i32_82
  v125

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== FeedGradReferenceIdeal.lean ====
abbrev S16384x1024 : Shape := ⟨2, ![16384, 1024]⟩
abbrev S1024 : Shape := ⟨1, ![1024]⟩
abbrev S4x1024x5632 : Shape := ⟨3, ![4, 1024, 5632]⟩
abbrev S4x2816x1024 : Shape := ⟨3, ![4, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S16384x5632 : Shape := ⟨2, ![16384, 5632]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x5632, .f32⟩
  | .hbm, ⟨3, _⟩ => ⟨S4x2816x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1x1024x5632, .f32⟩
  | .hbm, ⟨26, _⟩ => ⟨S1024x5632, .f32⟩
  | .hbm, ⟨27, _⟩ => ⟨S16384x5632, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S1x2816x1024, .f32⟩
  | .hbm, ⟨45, _⟩ => ⟨S2816x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S16384x5632, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S_, .f32⟩
  | .hbm, ⟨65, _⟩ => ⟨S16384x5632, .f32⟩
  | .hbm, ⟨66, _⟩ => ⟨S16384x5632, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S_, .f32⟩
  | .hbm, ⟨82, _⟩ => ⟨S16384, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== Proof.Points.lean ====
/- The grid points of the launch: which branches of the body run at a point, where the windows are idle, and the buffers a point works on. -/
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The body's branches: the first condition (the query block is the first). -/
abbrev cond0_0 (i : grid0.Coords) : Prop := (Scalar.cmpi .ne (Scalar.extui (Scalar.cmpi .eq (BitVec.ofNat 32 (i 2).val) 0#32)) 0#32) = 1#1
/-- It holds at every point. -/
theorem hcond0_0 : ∀ t : Fin cfg0.N, cond0_0 (grid0.coords t) :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    have e2 : (grid0.coords t 2).val = t.val / 1 % 1 := Pipeline.Grid.coords_val t 2 (by decide) rfl
    simp only [cond0_0, e0, e1, e2]
    word_cmp
   : ∀ t : Fin grid0.N, cond0_0 (grid0.coords t))

/-- The body's branches: the second condition (the key block is the first). -/
abbrev cond0_1 (i : grid0.Coords) : Prop := k0_cond2 i = 1#1
/-- It holds at the points that are multiples of 16. -/
theorem hcond0_1 : ∀ t : Fin cfg0.N, cond0_1 (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    have e2 : (grid0.coords t 2).val = t.val / 1 % 1 := Pipeline.Grid.coords_val t 2 (by decide) rfl
    simp only [cond0_1, k0_cond2, e0, e1, e2]
    word_cmp
   : ∀ t : Fin grid0.N, cond0_1 (grid0.coords t) ↔ t.val % 16 = 0)

/-- The body's branches: the third condition (the key block is a later one). -/
abbrev cond0_2 (i : grid0.Coords) : Prop := k0_cond3 i = 1#1
/-- It holds at the other points. -/
theorem hcond0_2 : ∀ t : Fin cfg0.N, cond0_2 (grid0.coords t) ↔ 1 ≤ t.val % 16 :=
  (by decide +kernel : ∀ t : Fin grid0.N, cond0_2 (grid0.coords t) ↔ 1 ≤ t.val % 16)

/-- The body's branches: the fourth condition (the query block is the last). -/
abbrev cond0_3 (i : grid0.Coords) : Prop := k0_cond4 i = 1#1
/-- It holds at every point. -/
theorem hcond0_3 : ∀ t : Fin cfg0.N, cond0_3 (grid0.coords t) :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    have e2 : (grid0.coords t 2).val = t.val / 1 % 1 := Pipeline.Grid.coords_val t 2 (by decide) rfl
    simp only [cond0_3, k0_cond4, e0, e1, e2]
    word_cmp
   : ∀ t : Fin grid0.N, cond0_3 (grid0.coords t))

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl

/-- Case A's branch conditions on the grid, as one proposition. -/
abbrev conds0_A (i : grid0.Coords) : Prop := cond0_0 i ∧ cond0_1 i ∧ ¬cond0_2 i ∧ cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := cond0_0 i ∧ ¬cond0_1 i ∧ cond0_2 i ∧ cond0_3 i
instance conds0_B.dec (i : grid0.Coords) : Decidable (conds0_B i) :=
  @instDecidableAnd _ _ inferInstance (@instDecidableAnd _ _ inferInstance (@instDecidableAnd _ _ inferInstance inferInstance))
/-- Whether the transposed gradient's buffer holds nothing stored since its last write-back, at each position: only at the
    positions that follow a head's last point. -/
def freshTab0_6 : ℕ → Bool
  | 0 => true
  | n + 1 => (0x80008000800080008000800080008000 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A output 6 is stored into. -/
theorem liveAt0_6_A : ∀ t : Fin cfg0.N, cond0_0 (grid0.coords t) → cond0_1 (grid0.coords t) → ¬cond0_2 (grid0.coords t) → cond0_3 (grid0.coords t) → cfg0.idle 6 (grid0.coords t) = false :=
  fun t h0 h1 h2 h3 => (by decide +kernel : ∀ t : Fin cfg0.N, conds0_A (grid0.coords t) → cfg0.idle 6 (grid0.coords t) = false) t ⟨h0, h1, h2, h3⟩
/-- At the points of case B output 6 is stored into. -/
theorem liveAt0_6_B : ∀ t : Fin cfg0.N, cond0_0 (grid0.coords t) → ¬cond0_1 (grid0.coords t) → cond0_2 (grid0.coords t) → cond0_3 (grid0.coords t) → cfg0.idle 6 (grid0.coords t) = false :=
  fun t h0 h1 h2 h3 => (by decide +kernel : ∀ t : Fin cfg0.N, conds0_B (grid0.coords t) → cfg0.idle 6 (grid0.coords t) = false) t ⟨h0, h1, h2, h3⟩
/-- At the points of case B something was stored into the transposed gradient's buffer since its last write-back. -/
theorem notFresh0_6_B : ∀ t : Fin cfg0.N, cond0_0 (grid0.coords t) → ¬cond0_1 (grid0.coords t) → cond0_2 (grid0.coords t) → cond0_3 (grid0.coords t) → cfg0.fresh 6 t.val = false :=
  fun t h0 h1 h2 h3 => (by intro t; rw [fresh0_6_eq t]; revert t; decide +kernel : ∀ t : Fin cfg0.N, conds0_B (grid0.coords t) → cfg0.fresh 6 t.val = false) t ⟨h0, h1, h2, h3⟩
/-- At the points of case A output 7 is stored into. -/
theorem liveAt0_7_A : ∀ t : Fin cfg0.N, cond0_0 (grid0.coords t) → cond0_1 (grid0.coords t) → ¬cond0_2 (grid0.coords t) → cond0_3 (grid0.coords t) → cfg0.idle 7 (grid0.coords t) = false :=
  fun t h0 h1 h2 h3 => (by decide +kernel : ∀ t : Fin cfg0.N, conds0_A (grid0.coords t) → cfg0.idle 7 (grid0.coords t) = false) t ⟨h0, h1, h2, h3⟩
/-- At the points of case B output 7 is stored into. -/
theorem liveAt0_7_B : ∀ t : Fin cfg0.N, cond0_0 (grid0.coords t) → ¬cond0_1 (grid0.coords t) → cond0_2 (grid0.coords t) → cond0_3 (grid0.coords t) → cfg0.idle 7 (grid0.coords t) = false :=
  fun t h0 h1 h2 h3 => (by decide +kernel : ∀ t : Fin cfg0.N, conds0_B (grid0.coords t) → cfg0.idle 7 (grid0.coords t) = false) t ⟨h0, h1, h2, h3⟩
/-- At the points of case A output 8 is stored into. -/
theorem liveAt0_8_A : ∀ t : Fin cfg0.N, cond0_0 (grid0.coords t) → cond0_1 (grid0.coords t) → ¬cond0_2 (grid0.coords t) → cond0_3 (grid0.coords t) → cfg0.idle 8 (grid0.coords t) = false :=
  fun t h0 h1 h2 h3 => (by decide +kernel : ∀ t : Fin cfg0.N, conds0_A (grid0.coords t) → cfg0.idle 8 (grid0.coords t) = false) t ⟨h0, h1, h2, h3⟩
/-- At the points of case B output 8 is stored into. -/
theorem liveAt0_8_B : ∀ t : Fin cfg0.N, cond0_0 (grid0.coords t) → ¬cond0_1 (grid0.coords t) → cond0_2 (grid0.coords t) → cond0_3 (grid0.coords t) → cfg0.idle 8 (grid0.coords t) = false :=
  fun t h0 h1 h2 h3 => (by decide +kernel : ∀ t : Fin cfg0.N, conds0_B (grid0.coords t) → cfg0.idle 8 (grid0.coords t) = false) t ⟨h0, h1, h2, h3⟩

/-! ## The buffers of a point -/

/-- One buffer of output 6, through which its contents are stated. -/
abbrev VO0_6 : View sig .tc .vmem S128x16384 .f32 := (Memref.whole cc0_stg6_0 : Memref sig .tc .vmem S128x16384 .f32).view
/-- One buffer of output 7, through which its contents are stated. -/
abbrev VO0_7 : View sig .tc .vmem S1024x128 .f32 := (Memref.whole cc0_stg7_0 : Memref sig .tc .vmem S1024x128 .f32).view
/-- One buffer of output 8, through which its contents are stated. -/
abbrev VO0_8 : View sig .tc .vmem S1024x128 .f32 := (Memref.whole cc0_stg8_0 : Memref sig .tc .vmem S1024x128 .f32).view
/-- Each window's buffer at point `t`. -/
abbrev ms0_0 (t : Fin cfg0.N) : Memref sig .tc .vmem S16384x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16384x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x16384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x16384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x16384 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)
/-- The scratch buffers. -/
abbrev scM0_0 : Memref sig .tc .vmem S128x1024 .bf16 := Memref.whole cc0_scratch0
abbrev scM0_1 : Memref sig .tc .vmem S1024x128 .f32 := Memref.whole cc0_scratch1
abbrev scM0_2 : Memref sig .tc .vmem S1024x128 .f32 := Memref.whole cc0_scratch2

/-- The scratch buffers hold anything between the points. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Att

end
-- ==== Proof.RunA.lean ====
/- The body run at the points where the key block is the first. -/
module

public import proofs.«01_k».proof.Proof.Points

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1336000 in
/-- What the body's stores leave in the output blocks and in the scratch buffers at a point whose key block is
    the first, with the proof that the body runs from blocks holding the given arrays to blocks so written. -/
noncomputable def kernelRun0_A (c : Dev nD) (i : grid0.Coords) (arg3 : Memref sig .tc .vmem S16384x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S128x16384 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S128x1024 .bf16) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : cond0_3 i)
    (x0 : Vec F S16384x128 .bf16) (x1 : Vec F S1024x128 .bf16) (x2 : Vec F S1024x128 .bf16) (x3 : Vec F S16384x128 .bf16) (x4 : Vec F S1x1x16384 .f32) (x5 : Vec F S1x1x16384 .f32) :
    Σ' (L6 : List (View.Piece (Elt F) S128x16384 .f32)), Σ' (L7 : List (View.Piece (Elt F) S1024x128 .f32)), Σ' (L8 : List (View.Piece (Elt F) S1024x128 .f32)), Σ' (LT0 : List (View.Piece (Elt F) S128x1024 .bf16)), Σ' (LT1 : List (View.Piece (Elt F) S1024x128 .f32)), { LT2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2)) -∗ K ⟨⟩))
          ⊢ wp frame (wpE (defs₀ (F := F)) Variants.none c none) E (cc0_flash_bwd i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_flash_bwd_eq_skeleton]; unfold cc0_flash_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [HS0]; · iexists _; iexact HS0
    isplitl [HS1]; · iexists _; iexact HS1
    iexists _; iexact HS2

end Cert.KernelIdeal.Att

end
-- ==== Proof.RunB.lean ====
/- The body run at the points where the key block is a later one. -/
module

public import proofs.«01_k».proof.Proof.RunA

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1340000 in
/-- What the body's stores leave in the output blocks and in the scratch buffers at a point whose key block is
    a later one, with the proof that the body runs from blocks holding the given arrays to blocks so written. -/
noncomputable def kernelRun0_B (c : Dev nD) (i : grid0.Coords) (arg3 : Memref sig .tc .vmem S16384x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S128x16384 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S128x1024 .bf16) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : ¬cond0_1 i) (hc2 : cond0_2 i) (hc3 : cond0_3 i)
    (x0 : Vec F S16384x128 .bf16) (x1 : Vec F S1024x128 .bf16) (x2 : Vec F S1024x128 .bf16) (x3 : Vec F S16384x128 .bf16) (x4 : Vec F S1x1x16384 .f32) (x5 : Vec F S1x1x16384 .f32) (xo6 : Vec F S128x16384 .f32) :
    Σ' (L6 : List (View.Piece (Elt F) S128x16384 .f32)), Σ' (L7 : List (View.Piece (Elt F) S1024x128 .f32)), Σ' (L8 : List (View.Piece (Elt F) S1024x128 .f32)), Σ' (LT0 : List (View.Piece (Elt F) S128x1024 .bf16)), Σ' (LT1 : List (View.Piece (Elt F) S1024x128 .f32)), { LT2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2)) -∗ K ⟨⟩))
          ⊢ wp frame (wpE (defs₀ (F := F)) Variants.none c none) E (cc0_flash_bwd i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_flash_bwd_eq_skeleton]; unfold cc0_flash_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [HS0]; · iexists _; iexact HS0
    isplitl [HS1]; · iexists _; iexact HS1
    iexists _; iexact HS2

end Cert.KernelIdeal.Att

end
-- ==== Proof.Block.lean ====
/- What one grid point of the launch computes, as functions of the blocks it is given. -/
module

public import proofs.«01_k».proof.Proof.Gen.KernelIdeal.Frame
public import proofs.«01_k».proof.Proof.Gen.KernelIdeal.Skeleton
public import Idealize.ShloMosaic.Lib.Pipeline.ValueKit

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The parts of a chunk of 512 queries -/

theorem rowsAt_inb (n : Fin 32) : ∀ a, (![512 * n.val, 0] : Fin 2 → ℕ) a + S512x128.size a ≤ S16384x128.size a := by
  intro a; have := n.isLt; fin_cases a
  · show 512 * n.val + 512 ≤ 16384; omega
  · show 0 + 128 ≤ 128; omega

theorem colsAt_inb (n : Fin 32) : ∀ a, (![0, 0, 512 * n.val] : Fin 3 → ℕ) a + S1x1x512.size a ≤ S1x1x16384.size a := by
  intro a; have := n.isLt; fin_cases a
  · show 0 + 1 ≤ 1; omega
  · show 0 + 1 ≤ 1; omega
  · show 512 * n.val + 512 ≤ 16384; omega

/-- The 512 rows of chunk `n` of a block of 16384 rows. -/
def rowsAt (x : Vec F S16384x128 .bf16) (n : Fin 32) : Vec F S512x128 .bf16 :=
  View.ld x (Rect.unit (s := S16384x128) ![512 * n.val, 0] S512x128.size (rowsAt_inb n))

/-- The 512 entries of chunk `n` of a row of 16384 entries. -/
def colsAt (x : Vec F S1x1x16384 .f32) (n : Fin 32) : Vec F S1x1x512 .f32 :=
  View.ld x (Rect.unit (s := S1x1x16384) ![0, 0, 512 * n.val] S1x1x512.size (colsAt_inb n))

/-- The products of the block's 1024 keys (or values) with 512 rows. -/
def score (k : Vec F S1024x128 .bf16) (r : Vec F S512x128 .bf16) : FVec F S1024x512 .f32 :=
  matmul dot_S1024x128_S512x128_S1024x512_1_1_0_0_n_n none (shapeCast S1024x128 k shapeCasts_S1024x128_S1024x128)
    (shapeCast S512x128 r shapeCasts_S512x128_S512x128) (constant S1024x512 .f32 0x00000000#32)

/-- One entry per query, repeated down the 1024 keys. -/
def spread (l : Vec F S1x1x512 .f32) : FVec F S1024x512 .f32 :=
  broadcastTo S1024x512 (shapeCast S1x512 l shapeCasts_S1x1x512_S1x512) broadcasts_S1x512_S1024x512

/-- The probabilities of chunk `n`: two to the power of score less log-sum. -/
def probs (x0 : Vec F S16384x128 .bf16) (x1 : Vec F S1024x128 .bf16) (x4 : Vec F S1x1x16384 .f32) (n : Fin 32) : FVec F S1024x512 .f32 :=
  exp2 (subf (score x1 (rowsAt x0 n)) (spread (colsAt x4 n)))

/-- The gradient with respect to the scores of chunk `n`. -/
def grads (x0 : Vec F S16384x128 .bf16) (x1 x2 : Vec F S1024x128 .bf16) (x3 : Vec F S16384x128 .bf16) (x4 x5 : Vec F S1x1x16384 .f32)
    (n : Fin 32) : FVec F S1024x512 .bf16 :=
  truncf .bf16 (mulf (probs x0 x1 x4 n) (subf (score x2 (rowsAt x3 n)) (spread (colsAt x5 n)))) bitsLt_bf16_f32

/-- A matrix over keys and queries applied to the chunk's rows. -/
def onto (p : FVec F S1024x512 .bf16) (r : Vec F S512x128 .bf16) : FVec F S1024x128 .f32 :=
  matmul dot_S1024x512_S512x128_S1024x128_1_0_0_1_n_n none p (shapeCast S512x128 r shapeCasts_S512x128_S512x128)
    (constant S1024x128 .f32 0x00000000#32)

/-- The chunk's contribution to the transposed gradient of the queries. -/
def part (x0 : Vec F S16384x128 .bf16) (x1 x2 : Vec F S1024x128 .bf16) (x3 : Vec F S16384x128 .bf16) (x4 x5 : Vec F S1x1x16384 .f32)
    (n : Fin 32) : FVec F S128x512 .f32 :=
  matmul dot_S128x1024_S1024x512_S128x512_1_0_0_1_n_n none (k0_pay2 x1) (grads x0 x1 x2 x3 x4 x5 n) (constant S128x512 .f32 0x00000000#32)

/-! ## What a grid point computes -/

/-- The gradient of the values after the first `n` chunks. -/
def dvAcc (x0 : Vec F S16384x128 .bf16) (x1 : Vec F S1024x128 .bf16) (x3 : Vec F S16384x128 .bf16) (x4 : Vec F S1x1x16384 .f32) :
    (n : ℕ) → n ≤ 32 → FVec F S1024x128 .f32
  | 0, _ => k0_pay4
  | n + 1, h => addf (dvAcc x0 x1 x3 x4 n (Nat.le_of_succ_le h))
      (onto (truncf .bf16 (probs x0 x1 x4 ⟨n, h⟩) bitsLt_bf16_f32) (rowsAt x3 ⟨n, h⟩))

/-- The gradient of the keys, before its last factor, after the first `n` chunks. -/
def dkAcc (x0 : Vec F S16384x128 .bf16) (x1 x2 : Vec F S1024x128 .bf16) (x3 : Vec F S16384x128 .bf16) (x4 x5 : Vec F S1x1x16384 .f32) :
    (n : ℕ) → n ≤ 32 → FVec F S1024x128 .f32
  | 0, _ => k0_pay3
  | n + 1, h => addf (dkAcc x0 x1 x2 x3 x4 x5 n (Nat.le_of_succ_le h)) (onto (grads x0 x1 x2 x3 x4 x5 ⟨n, h⟩) (rowsAt x0 ⟨n, h⟩))

theorem parts_concat (f : Fin 32 → FVec F S128x512 .f32) :
    Shape.Concatenates ((List.ofFn fun n : Fin 32 => (⟨S128x512, f n⟩ : (s : Shape) × (s.Idx → F .f32))).map (·.1)) S128x16384 1 := by
  rw [List.map_ofFn, show ((fun p : (s : Shape) × (s.Idx → F .f32) => p.1) ∘ fun n : Fin 32 => (⟨S128x512, f n⟩ : (s : Shape) × (s.Idx → F .f32)))
    = fun _ => S128x512 from rfl]
  decide

/-- The contributions of all chunks side by side. -/
def dqAll (x0 : Vec F S16384x128 .bf16) (x1 x2 : Vec F S1024x128 .bf16) (x3 : Vec F S16384x128 .bf16) (x4 x5 : Vec F S1x1x16384 .f32) :
    FVec F S128x16384 .f32 :=
  concatenate S128x16384 1 (List.ofFn fun n : Fin 32 => ⟨S128x512, part x0 x1 x2 x3 x4 x5 n⟩) (parts_concat _)

end Cert.KernelIdeal.Att

end
-- ==== Proof.Cases.lean ====
/- The body stores, at every point, what the closed forms say. -/
module

public import proofs.«01_k».proof.Proof.RunB
public import proofs.«01_k».proof.Proof.Block

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves as the transposed gradient of the queries at a point whose key block is the first. -/
theorem dq_A  (c : Dev nD) (i : grid0.Coords) (arg3 : Memref sig .tc .vmem S16384x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S128x16384 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S128x1024 .bf16) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : cond0_3 i)
    (x0 : Vec F S16384x128 .bf16) (x1 x2 : Vec F S1024x128 .bf16) (x3 : Vec F S16384x128 .bf16) (x4 x5 : Vec F S1x1x16384 .f32) :
    View.canon (kernelRun0_A c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).1 = dqAll x0 x1 x2 x3 x4 x5 := by
  have hoff : k0_off1 i = fun _ => 0 := by
    funext a; have := k0_off1_inb i hc1 a; omega
  frame_out
  rw [View.canon_unit_zero hoff]
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, dqAll, part, grads, probs, score, spread, rowsAt, colsAt]
  rfl

set_option maxHeartbeats 4000000 in
/-- What the body leaves as the gradient of the keys at a point whose key block is the first. -/
theorem dk_A  (c : Dev nD) (i : grid0.Coords) (arg3 : Memref sig .tc .vmem S16384x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S128x16384 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S128x1024 .bf16) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : cond0_3 i)
    (x0 : Vec F S16384x128 .bf16) (x1 x2 : Vec F S1024x128 .bf16) (x3 : Vec F S16384x128 .bf16) (x4 x5 : Vec F S1x1x16384 .f32) :
    View.canon (kernelRun0_A c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.1 = k0_pay1 (shapeCast S1024x128 (dkAcc x0 x1 x2 x3 x4 x5 32 le_rfl) shapeCasts_S1024x128_S1024x128) := by
  frame_out
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, dkAcc, grads, probs, score, spread, onto, rowsAt, colsAt]

set_option maxHeartbeats 4000000 in
/-- What the body leaves as the gradient of the values at a point whose key block is the first. -/
theorem dv_A  (c : Dev nD) (i : grid0.Coords) (arg3 : Memref sig .tc .vmem S16384x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S128x16384 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S128x1024 .bf16) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : cond0_3 i)
    (x0 : Vec F S16384x128 .bf16) (x1 x2 : Vec F S1024x128 .bf16) (x3 : Vec F S16384x128 .bf16) (x4 x5 : Vec F S1x1x16384 .f32) :
    View.canon (kernelRun0_A c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.1 = shapeCast S1024x128 (dvAcc x0 x1 x3 x4 32 le_rfl) shapeCasts_S1024x128_S1024x128 := by
  frame_out
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, dvAcc, probs, score, spread, onto, rowsAt, colsAt]

set_option maxHeartbeats 4000000 in
/-- What the body leaves as the transposed gradient of the queries at a point whose key block is a later one. -/
theorem dq_B  (c : Dev nD) (i : grid0.Coords) (arg3 : Memref sig .tc .vmem S16384x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S128x16384 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S128x1024 .bf16) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : ¬cond0_1 i) (hc2 : cond0_2 i) (hc3 : cond0_3 i)
    (x0 : Vec F S16384x128 .bf16) (x1 x2 : Vec F S1024x128 .bf16) (x3 : Vec F S16384x128 .bf16) (x4 x5 : Vec F S1x1x16384 .f32) (xo6 : Vec F S128x16384 .f32) :
    View.canon (kernelRun0_B c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6).1 = addf (shapeCast S128x16384 xo6 shapeCasts_S128x16384_S128x16384) (dqAll x0 x1 x2 x3 x4 x5) := by
  have hoff : k0_off2 i = fun _ => 0 := by
    funext a; have := k0_off2_inb i hc2 a; omega
  frame_out
  rw [View.canon_unit_zero hoff]
  try rw [View.ld_unit_zero hoff]
  unfold k0_pay232
  refine congrArg (addf _) ?_
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, dqAll, part, grads, probs, score, spread, rowsAt, colsAt]
  rfl

set_option maxHeartbeats 4000000 in
/-- What the body leaves as the gradient of the keys at a point whose key block is a later one. -/
theorem dk_B  (c : Dev nD) (i : grid0.Coords) (arg3 : Memref sig .tc .vmem S16384x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S128x16384 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S128x1024 .bf16) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : ¬cond0_1 i) (hc2 : cond0_2 i) (hc3 : cond0_3 i)
    (x0 : Vec F S16384x128 .bf16) (x1 x2 : Vec F S1024x128 .bf16) (x3 : Vec F S16384x128 .bf16) (x4 x5 : Vec F S1x1x16384 .f32) (xo6 : Vec F S128x16384 .f32) :
    View.canon (kernelRun0_B c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6).2.1 = k0_pay1 (shapeCast S1024x128 (dkAcc x0 x1 x2 x3 x4 x5 32 le_rfl) shapeCasts_S1024x128_S1024x128) := by
  frame_out
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, dkAcc, grads, probs, score, spread, onto, rowsAt, colsAt]

set_option maxHeartbeats 4000000 in
/-- What the body leaves as the gradient of the values at a point whose key block is a later one. -/
theorem dv_B  (c : Dev nD) (i : grid0.Coords) (arg3 : Memref sig .tc .vmem S16384x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S128x16384 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S128x1024 .bf16) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : ¬cond0_1 i) (hc2 : cond0_2 i) (hc3 : cond0_3 i)
    (x0 : Vec F S16384x128 .bf16) (x1 x2 : Vec F S1024x128 .bf16) (x3 : Vec F S16384x128 .bf16) (x4 x5 : Vec F S1x1x16384 .f32) (xo6 : Vec F S128x16384 .f32) :
    View.canon (kernelRun0_B c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6).2.2.1 = shapeCast S1024x128 (dvAcc x0 x1 x3 x4 32 le_rfl) shapeCasts_S1024x128_S1024x128 := by
  frame_out
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, dvAcc, probs, score, spread, onto, rowsAt, colsAt]

/-- The same, of a buffer the stores were written over. -/
theorem left_dq_A  (c : Dev nD) (i : grid0.Coords) (arg3 : Memref sig .tc .vmem S16384x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S128x16384 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S128x1024 .bf16) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : cond0_3 i)
    (x0 : Vec F S16384x128 .bf16) (x1 x2 : Vec F S1024x128 .bf16) (x3 : Vec F S16384x128 .bf16) (x4 x5 : Vec F S1x1x16384 .f32)
    (v : View sig .tc .vmem S128x16384 .f32) (f : v.ty.Contents (Elt F)) :
    v.read (Elt F) (v.writes (Elt F) f (kernelRun0_A c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).1) = dqAll x0 x1 x2 x3 x4 x5 := by
  have hoff : k0_off1 i = fun _ => 0 := by
    funext a; have := k0_off1_inb i hc1 a; omega
  rw [View.read_writes_eq_canon v f]
  rotate_left
  · intro y
    unfold kernelRun0_A; dsimp only
    exact ⟨_, List.Mem.head _, View.mem_set_unit_zero hoff (k0_off1_inb i hc1) y⟩
  exact dq_A c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5

/-- The same, of a buffer the stores were written over. -/
theorem left_dk_A  (c : Dev nD) (i : grid0.Coords) (arg3 : Memref sig .tc .vmem S16384x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S128x16384 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S128x1024 .bf16) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : cond0_3 i)
    (x0 : Vec F S16384x128 .bf16) (x1 x2 : Vec F S1024x128 .bf16) (x3 : Vec F S16384x128 .bf16) (x4 x5 : Vec F S1x1x16384 .f32)
    (v : View sig .tc .vmem S1024x128 .f32) (f : v.ty.Contents (Elt F)) :
    v.read (Elt F) (v.writes (Elt F) f (kernelRun0_A c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.1) = k0_pay1 (shapeCast S1024x128 (dkAcc x0 x1 x2 x3 x4 x5 32 le_rfl) shapeCasts_S1024x128_S1024x128) := by
  rw [View.read_writes_eq_canon v f _ fun y => View.cover_of_tiledL (kernelRun0_A c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.1 S1024x128.size (by sl_kernel_rfl) y]
  exact dk_A c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5

/-- The same, of a buffer the stores were written over. -/
theorem left_dv_A  (c : Dev nD) (i : grid0.Coords) (arg3 : Memref sig .tc .vmem S16384x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S128x16384 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S128x1024 .bf16) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : cond0_3 i)
    (x0 : Vec F S16384x128 .bf16) (x1 x2 : Vec F S1024x128 .bf16) (x3 : Vec F S16384x128 .bf16) (x4 x5 : Vec F S1x1x16384 .f32)
    (v : View sig .tc .vmem S1024x128 .f32) (f : v.ty.Contents (Elt F)) :
    v.read (Elt F) (v.writes (Elt F) f (kernelRun0_A c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.1) = shapeCast S1024x128 (dvAcc x0 x1 x3 x4 32 le_rfl) shapeCasts_S1024x128_S1024x128 := by
  rw [View.read_writes_eq_canon v f _ fun y => View.cover_of_tiledL (kernelRun0_A c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.1 S1024x128.size (by sl_kernel_rfl) y]
  exact dv_A c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5

/-- The same, of a buffer the stores were written over. -/
theorem left_dq_B  (c : Dev nD) (i : grid0.Coords) (arg3 : Memref sig .tc .vmem S16384x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S128x16384 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S128x1024 .bf16) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : ¬cond0_1 i) (hc2 : cond0_2 i) (hc3 : cond0_3 i)
    (x0 : Vec F S16384x128 .bf16) (x1 x2 : Vec F S1024x128 .bf16) (x3 : Vec F S16384x128 .bf16) (x4 x5 : Vec F S1x1x16384 .f32) (xo6 : Vec F S128x16384 .f32)
    (v : View sig .tc .vmem S128x16384 .f32) (f : v.ty.Contents (Elt F)) :
    v.read (Elt F) (v.writes (Elt F) f (kernelRun0_B c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6).1) = addf (shapeCast S128x16384 xo6 shapeCasts_S128x16384_S128x16384) (dqAll x0 x1 x2 x3 x4 x5) := by
  have hoff : k0_off2 i = fun _ => 0 := by
    funext a; have := k0_off2_inb i hc2 a; omega
  rw [View.read_writes_eq_canon v f]
  rotate_left
  · intro y
    unfold kernelRun0_B; dsimp only
    exact ⟨_, List.Mem.head _, View.mem_set_unit_zero hoff (k0_off2_inb i hc2) y⟩
  exact dq_B c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6

/-- The same, of a buffer the stores were written over. -/
theorem left_dk_B  (c : Dev nD) (i : grid0.Coords) (arg3 : Memref sig .tc .vmem S16384x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S128x16384 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S128x1024 .bf16) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : ¬cond0_1 i) (hc2 : cond0_2 i) (hc3 : cond0_3 i)
    (x0 : Vec F S16384x128 .bf16) (x1 x2 : Vec F S1024x128 .bf16) (x3 : Vec F S16384x128 .bf16) (x4 x5 : Vec F S1x1x16384 .f32) (xo6 : Vec F S128x16384 .f32)
    (v : View sig .tc .vmem S1024x128 .f32) (f : v.ty.Contents (Elt F)) :
    v.read (Elt F) (v.writes (Elt F) f (kernelRun0_B c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6).2.1) = k0_pay1 (shapeCast S1024x128 (dkAcc x0 x1 x2 x3 x4 x5 32 le_rfl) shapeCasts_S1024x128_S1024x128) := by
  rw [View.read_writes_eq_canon v f _ fun y => View.cover_of_tiledL (kernelRun0_B c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6).2.1 S1024x128.size (by sl_kernel_rfl) y]
  exact dk_B c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6

/-- The same, of a buffer the stores were written over. -/
theorem left_dv_B  (c : Dev nD) (i : grid0.Coords) (arg3 : Memref sig .tc .vmem S16384x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S128x16384 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S128x1024 .bf16) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : ¬cond0_1 i) (hc2 : cond0_2 i) (hc3 : cond0_3 i)
    (x0 : Vec F S16384x128 .bf16) (x1 x2 : Vec F S1024x128 .bf16) (x3 : Vec F S16384x128 .bf16) (x4 x5 : Vec F S1x1x16384 .f32) (xo6 : Vec F S128x16384 .f32)
    (v : View sig .tc .vmem S1024x128 .f32) (f : v.ty.Contents (Elt F)) :
    v.read (Elt F) (v.writes (Elt F) f (kernelRun0_B c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6).2.2.1) = shapeCast S1024x128 (dvAcc x0 x1 x3 x4 32 le_rfl) shapeCasts_S1024x128_S1024x128 := by
  rw [View.read_writes_eq_canon v f _ fun y => View.cover_of_tiledL (kernelRun0_B c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6).2.2.1 S1024x128.size (by sl_kernel_rfl) y]
  exact dv_B c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6

end Cert.KernelIdeal.Att

end
-- ==== Proof.Launch.lean ====
/- The launch: what its output arrays hold after it, and that it leaves the arguments alone. -/
module

public import proofs.«01_k».proof.Proof.Cases
public import Idealize.ShloMosaic.Lib.Pipeline.Value

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the outputs hold after each point -/

/-- The point's contribution to the transposed gradient of the queries, -/
def dqPt (c : Dev nD) (t : Fin cfg0.N) : FVec F S128x16384 .f32 :=
  dqAll (iblk m c 0 t) (iblk m c 1 t) (iblk m c 2 t) (iblk m c 3 t) (iblk m c 4 t) (iblk m c 5 t)
/-- its block of the gradient of the keys, -/
def dkPt (c : Dev nD) (t : Fin cfg0.N) : FVec F S1024x128 .f32 :=
  k0_pay1 (shapeCast S1024x128 (dkAcc (iblk m c 0 t) (iblk m c 1 t) (iblk m c 2 t) (iblk m c 3 t) (iblk m c 4 t) (iblk m c 5 t) 32 le_rfl) shapeCasts_S1024x128_S1024x128)
/-- and its block of the gradient of the values. -/
def dvPt (c : Dev nD) (t : Fin cfg0.N) : FVec F S1024x128 .f32 :=
  shapeCast S1024x128 (dvAcc (iblk m c 0 t) (iblk m c 1 t) (iblk m c 3 t) (iblk m c 4 t) 32 le_rfl) shapeCasts_S1024x128_S1024x128

/-- The transposed gradient of the queries of the point's head after point `n`: started where the key block is the
    first, added to elsewhere. -/
def dqTo (c : Dev nD) : (n : ℕ) → n < cfg0.N → FVec F S128x16384 .f32
  | 0, h => dqPt m c ⟨0, h⟩
  | n + 1, h => if (n + 1) % 16 = 0 then dqPt m c ⟨n + 1, h⟩
      else addf (shapeCast S128x16384 (dqTo c n (Nat.lt_of_succ_lt h)) shapeCasts_S128x16384_S128x16384) (dqPt m c ⟨n + 1, h⟩)

theorem dqTo_first (c : Dev nD) (t : Fin cfg0.N) (h : t.val % 16 = 0) : dqTo m c t.val t.isLt = dqPt m c t := by
  obtain ⟨n, hn⟩ := t
  cases n with
  | zero => rfl
  | succ n => exact if_pos h

theorem dqTo_later (c : Dev nD) (t : Fin cfg0.N) (h : ¬t.val % 16 = 0) : dqTo m c t.val t.isLt
    = addf (shapeCast S128x16384 (dqTo m c (t.val - 1) (Nat.lt_of_le_of_lt (Nat.sub_le _ _) t.isLt)) shapeCasts_S128x16384_S128x16384) (dqPt m c t) := by
  obtain ⟨n, hn⟩ := t
  cases n with
  | zero => exact absurd (Nat.zero_mod _) h
  | succ n => exact if_neg h

/-! ## The pipeline's proof data -/

/-- What the launch holds on core `c`: the arrays as it finds them; after the body at point `t` the inputs' blocks
    unchanged and the outputs' at `dqTo`, `dkPt` and `dvPt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqTo m c t.val t.isLt
    | ⟨7, _⟩ => dkPt m c t
    | ⟨8, _⟩ => dvPt m c t
  Φ _ := Pipeline.ΦA spec0 c
  q _ := fullShare
  owed _ := 0

/-- The arrays are those the launch finds. -/
theorem A_eq (c : Dev nD) (w : Fin cfg0.W) : (dats m 0 c).A w = V m c (Pipeline.arrRef spec0 w) := by
  dsimp only [dats]

/-- What the body leaves, block by block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqTo m c t.val t.isLt := by dsimp only [dats]
theorem after0_7 (c : Dev nD) (t : Fin cfg0.N) : (dats m 0 c).after 7 t = dkPt m c t := by dsimp only [dats]
theorem after0_8 (c : Dev nD) (t : Fin cfg0.N) : (dats m 0 c).after 8 t = dvPt m c t := by dsimp only [dats]

/-- Each input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The transposed gradient of the queries is stored into at every point, so it is never carried through an idle one. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 128 := lt_of_lt_of_eq t.isLt (show cfg0.N = 128 from N_0)
  rw [after0_6, after0_6]
  by_cases h1 : t.val % 16 = 0
  · by_cases h2 : 1 ≤ t.val % 16
    · exfalso; omega
    · rw [liveAt0_6_A t (hcond0_0 t) ((hcond0_1 t).mpr h1) (fun h => h2 ((hcond0_2 t).mp h)) (hcond0_3 t)] at hi
      exact absurd hi Bool.false_ne_true
  · by_cases h2 : 1 ≤ t.val % 16
    · rw [liveAt0_6_B t (hcond0_0 t) (fun h => h1 ((hcond0_1 t).mp h)) ((hcond0_2 t).mpr h2) (hcond0_3 t)] at hi
      exact absurd hi Bool.false_ne_true
    · exfalso; omega
/-- Where the key block is a later one, the transposed gradient's buffer holds what the point before left. -/
theorem before0_6_B (c : Dev nD) (t : Fin cfg0.N) (h1 : ¬t.val % 16 = 0) (h2 : 1 ≤ t.val % 16) (d) :
    (dats m 0 c).before 6 t d = dqTo m c (t.val - 1) (Nat.lt_of_le_of_lt (Nat.sub_le _ _) t.isLt) := by
  rw [Dat.before_out_traj _ 6 rfl (fun _ _ => rfl) (hcarry0_6 m c) t.val t rfl d,
    if_neg (by rw [notFresh0_6_B t (hcond0_0 t) (fun h => h1 ((hcond0_1 t).mp h)) ((hcond0_2 t).mpr h2) (hcond0_3 t)]; exact Bool.false_ne_true)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 2400000 in
/-- The body at any point: the inputs' buffers hold their blocks, and the transposed gradient's buffer what the point
    before left where the key block is a later one; the run of the case the point is in applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 128 := lt_of_lt_of_eq t.isLt (show cfg0.N = 128 from N_0)
  by_cases h1 : t.val % 16 = 0
  · by_cases h2 : 1 ≤ t.val % 16
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_A t (hcond0_0 t) ((hcond0_1 t).mpr h1) (fun h => h2 ((hcond0_2 t).mp h)) (hcond0_3 t)], after0_6]
      rw [show (dats m 0 c).leavesExact 7 t = owns (c : Thread nD τ) (ms0_7 t) fullShare ((dats m 0 c).after 7 t) from by
      unfold Dat.leavesExact; rw [liveAt0_7_A t (hcond0_0 t) ((hcond0_1 t).mpr h1) (fun h => h2 ((hcond0_2 t).mp h)) (hcond0_3 t)], after0_7]
      rw [show (dats m 0 c).leavesExact 8 t = owns (c : Thread nD τ) (ms0_8 t) fullShare ((dats m 0 c).after 8 t) from by
      unfold Dat.leavesExact; rw [liveAt0_8_A t (hcond0_0 t) ((hcond0_1 t).mpr h1) (fun h => h2 ((hcond0_2 t).mp h)) (hcond0_3 t)], after0_8]
      rw [dqTo_first m c t h1]
      unfold dqPt dkPt dvPt
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ (hcond0_0 t) ((hcond0_1 t).mpr h1) (fun h => h2 ((hcond0_2 t).mp h)) (hcond0_3 t) (iblk m c 0 t) (iblk m c 1 t) (iblk m c 2 t) (iblk m c 3 t) (iblk m c 4 t) (iblk m c 5 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, ⟨%e6, H6⟩, ⟨%e7, H7⟩, ⟨%e8, H8⟩, ⟨%fT0, HS0⟩, ⟨%fT1, HS1⟩, ⟨%fT2, HS2⟩⟩
      isplitl [HS0 HS1 HS2 Hg]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact left_dq_A c _ _ _ _ _ _ _ _ _ _ _ _ _ _ _ _ _ _ _ _ _ _ _ _ _ _ _ _ _ _ _ _ _ _ _ _ _
      isplitl [H7]
      · unfold owns; iexists _; isplitr
        swap; · iexact H7
        ipureintro; exact left_dk_A c _ _ _ _ _ _ _ _ _ _ _ _ _ _ _ _ _ _ _ _ _ _ _ _ _ _ _ _ _ _ _ _ _ _ _ _ _
      unfold owns; iexists _; isplitr
      swap; · iexact H8
      ipureintro; exact left_dv_A c _ _ _ _ _ _ _ _ _ _ _ _ _ _ _ _ _ _ _ _ _ _ _ _ _ _ _ _ _ _ _ _ _ _ _ _ _
  · by_cases h2 : 1 ≤ t.val % 16
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_B t (hcond0_0 t) (fun h => h1 ((hcond0_1 t).mp h)) ((hcond0_2 t).mpr h2) (hcond0_3 t)], after0_6]
      rw [show (dats m 0 c).leavesExact 7 t = owns (c : Thread nD τ) (ms0_7 t) fullShare ((dats m 0 c).after 7 t) from by
      unfold Dat.leavesExact; rw [liveAt0_7_B t (hcond0_0 t) (fun h => h1 ((hcond0_1 t).mp h)) ((hcond0_2 t).mpr h2) (hcond0_3 t)], after0_7]
      rw [show (dats m 0 c).leavesExact 8 t = owns (c : Thread nD τ) (ms0_8 t) fullShare ((dats m 0 c).after 8 t) from by
      unfold Dat.leavesExact; rw [liveAt0_8_B t (hcond0_0 t) (fun h => h1 ((hcond0_1 t).mp h)) ((hcond0_2 t).mpr h2) (hcond0_3 t)], after0_8]
      rw [dqTo_later m c t h1]
      simp only [before0_6_B m c t h1 h2]
      unfold dqPt dkPt dvPt
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ (hcond0_0 t) (fun h => h1 ((hcond0_1 t).mp h)) ((hcond0_2 t).mpr h2) (hcond0_3 t) (iblk m c 0 t) (iblk m c 1 t) (iblk m c 2 t) (iblk m c 3 t) (iblk m c 4 t) (iblk m c 5 t) _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, ⟨%e6, H6⟩, ⟨%e7, H7⟩, ⟨%e8, H8⟩, ⟨%fT0, HS0⟩, ⟨%fT1, HS1⟩, ⟨%fT2, HS2⟩⟩
      isplitl [HS0 HS1 HS2 Hg]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact left_dq_B c _ _ _ _ _ _ _ _ _ _ _ _ _ _ _ _ _ _ _ _ _ _ _ _ _ _ _ _ _ _ _ _ _ _ _ _ _ _
      isplitl [H7]
      · unfold owns; iexists _; isplitr
        swap; · iexact H7
        ipureintro; exact left_dk_B c _ _ _ _ _ _ _ _ _ _ _ _ _ _ _ _ _ _ _ _ _ _ _ _ _ _ _ _ _ _ _ _ _ _ _ _ _ _
      unfold owns; iexists _; isplitr
      swap; · iexact H8
      ipureintro; exact left_dv_B c _ _ _ _ _ _ _ _ _ _ _ _ _ _ _ _ _ _ _ _ _ _ _ _ _ _ _ _ _ _ _ _ _ _ _ _ _ _
    · exfalso; omega

/-- The body of the launch at point `t`. -/
theorem defs₀_row (t : Fin cfg0.N) :
    defs₀ (F := F) .tc cfg0.body (cfg0.bodyArgs t (cfg0.slots t)) = bodyAt0 t := by
  unfold defs₀; rw [Defs.onTc_tc]

/-- The body leaves what `dats` says, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends, with each array of the launch as `dats` says and every semaphore at zero, -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- the same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- The run with each output array named, and the arguments unchanged. -/
theorem run_blocks : θ_run defs (onTc (τ := τ) (main (F := F))) ⟨m, fun _ => 0, ρ⟩ fun r => (∀ c : Dev nD,
      r.2.mem ((c : Thread nD τ).loc main_v42_0) = (dats m 0 c).arrAt 6 cfg0.N
      ∧ r.2.mem ((c : Thread nD τ).loc main_v42_1) = (dats m 0 c).arrAt 7 cfg0.N
      ∧ r.2.mem ((c : Thread nD τ).loc main_v42_2) = (dats m 0 c).arrAt 8 cfg0.N) :=
  (θ_run defs _ _).mono (fun r h c => ⟨(h c).1 6, (h c).1 7, (h c).1 8⟩) (run_main m ρ)

end Cert.KernelIdeal.Att

end
-- ==== Proof.Reals.lean ====
/- The attention and its gradients over the real numbers, and the extended reals that are real numbers. -/
module

public import Idealize.ShloMosaic.Lib.Pointwise
public import Idealize.ShloMosaic.Lib.IdealHost
public import Mathlib.Analysis.SpecialFunctions.Pow.Real
public import Mathlib.Analysis.SpecialFunctions.Log.Basic

@[expose] public section

noncomputable section

namespace Cert.Reals

open Idealize.ShloMosaic
open scoped BigOperators

/-! ## Extended reals that are real numbers -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many real numbers. -/
def top {n : ℕ} (f : Fin n → ℝ) : ℝ := (Finset.univ.fold max (⊥ : EReal) fun k => (f k : EReal)).toReal

theorem coe_top {n : ℕ} [NeZero n] (f : Fin n → ℝ) :
    Finset.univ.fold max (⊥ : EReal) (fun k => (f k : EReal)) = ((top f : ℝ) : EReal) := by
  refine (EReal.coe_toReal ?_ ?_).symm
  · exact ne_of_lt ((Finset.fold_max_lt ⊤).mpr ⟨bot_lt_top, fun k _ => EReal.coe_lt_top _⟩)
  · exact ne_of_gt ((Finset.lt_fold_max ⊥).mpr (Or.inr ⟨0, Finset.mem_univ _, EReal.bot_lt_coe _⟩))

/-- The f32 number nearest to the inverse square root of 96. -/
def rate : ℝ := 13698540 / 134217728

theorem ofBits_rate : Ideal.ofBits .f32 0x3DD105EC#32 = (rate : EReal) := by
  unfold rate
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

theorem lt_top_real (x : EReal) (h : max x (-x) < ⊤) : ((x.toReal : ℝ) : EReal) = x := by
  induction x using EReal.rec with
  | bot => simp at h
  | coe r => rfl
  | top => simp at h

theorem log_two_ne : Real.log 2 ≠ 0 := (Real.log_pos one_lt_two).ne'

/-! ## Attention over the real numbers -/

section

variable (Q K : Fin 16384 → Fin 8 → Fin 96 → ℝ) (V G : Fin 16384 → Fin 8 → Fin 64 → ℝ)

/-- The score of query `q` and key `k` in head `h`. -/
def sc (h : Fin 8) (q k : Fin 16384) : ℝ := ∑ d, Q q h d * rate * K k h d
/-- The largest score of a query. -/
def mx (h : Fin 8) (q : Fin 16384) : ℝ := top fun k => sc Q K h q k
/-- The exponential of a score less the largest. -/
def ex (h : Fin 8) (q k : Fin 16384) : ℝ := Real.exp (sc Q K h q k - mx Q K h q)
/-- The sum of a query's exponentials. -/
def den (h : Fin 8) (q : Fin 16384) : ℝ := ∑ k, ex Q K h q k
/-- The probability of key `k` for query `q`. -/
def pr (h : Fin 8) (q k : Fin 16384) : ℝ := ex Q K h q k / den Q K h q
/-- The gradient with respect to a probability. -/
def dp (h : Fin 8) (q k : Fin 16384) : ℝ := ∑ e, G q h e * V k h e
/-- A query's probabilities' gradients, averaged by the probabilities. -/
def mean (h : Fin 8) (q : Fin 16384) : ℝ := ∑ k, pr Q K h q k * dp V G h q k
/-- The gradient with respect to a score. -/
def ds (h : Fin 8) (q k : Fin 16384) : ℝ := pr Q K h q k * (dp V G h q k - mean Q K V G h q)
/-- The gradient with respect to the scaled queries, -/
def dq (q : Fin 16384) (h : Fin 8) (d : Fin 96) : ℝ := ∑ k, ds Q K V G h q k * K k h d
/-- to the keys, -/
def dk (k : Fin 16384) (h : Fin 8) (d : Fin 96) : ℝ := ∑ q, ds Q K V G h q k * (Q q h d * rate)
/-- and to the values. -/
def dv (k : Fin 16384) (h : Fin 8) (e : Fin 64) : ℝ := ∑ q, pr Q K h q k * G q h e

theorem ex_pos (h : Fin 8) (q k : Fin 16384) : 0 < ex Q K h q k := Real.exp_pos _

theorem den_pos (h : Fin 8) (q : Fin 16384) : 0 < den Q K h q :=
  Finset.sum_pos (fun k _ => ex_pos Q K h q k) ⟨0, Finset.mem_univ _⟩

theorem den_ne (h : Fin 8) (q : Fin 16384) : den Q K h q ≠ 0 := (den_pos Q K h q).ne'

/-- Two to the power of a score less its logarithmic sum, both in units of the logarithm of two, is the probability. -/
theorem rpow_score (h : Fin 8) (q k : Fin 16384) :
    Real.rpow 2 (sc Q K h q k / Real.log 2 - (mx Q K h q + Real.log (den Q K h q)) / Real.log 2) = pr Q K h q k := by
  have h2 : (0 : ℝ) < 2 := two_pos
  show (2 : ℝ) ^ (_ : ℝ) = _
  rw [Real.rpow_def_of_pos h2, ← sub_div, mul_div_cancel₀ _ log_two_ne,
    show sc Q K h q k - (mx Q K h q + Real.log (den Q K h q)) = (sc Q K h q k - mx Q K h q) - Real.log (den Q K h q) by ring,
    Real.exp_sub, Real.exp_log (den_pos Q K h q)]
  rfl

/-- The average of the gradients is the output's product with its gradient. -/
theorem mean_eq (h : Fin 8) (q : Fin 16384) :
    ∑ e, G q h e * ∑ k, V k h e * pr Q K h q k = mean Q K V G h q := by
  unfold mean dp
  simp only [Finset.mul_sum]
  rw [Finset.sum_comm]
  exact Finset.sum_congr rfl fun k _ => Finset.sum_congr rfl fun e _ => by ring

/-- The gradient with respect to a score as the quotient rule writes it. -/
theorem ds_quotient (h : Fin 8) (q k : Fin 16384) :
    (dp V G h q k / den Q K h q
      + -(∑ k', dp V G h q k' * (1 / (den Q K h q * den Q K h q)) * ex Q K h q k')) * ex Q K h q k = ds Q K V G h q k := by
  have hd := den_ne Q K h q
  have hm : ∑ k', dp V G h q k' * (1 / (den Q K h q * den Q K h q)) * ex Q K h q k' = mean Q K V G h q / den Q K h q := by
    unfold mean pr
    rw [Finset.sum_div]
    refine Finset.sum_congr rfl fun k' _ => ?_
    field_simp
  rw [hm]
  unfold ds pr
  field_simp
  ring

end

/-! ## Rows of 128 entries, the last ones zero -/

/-- The first `n` of 128 entries, then zeros. -/
def wide {n : ℕ} (f : Fin n → ℝ) (d : Fin 128) : ℝ := if h : d.val < n then f ⟨d.val, h⟩ else 0

theorem sum_first {n N : ℕ} (hn : n ≤ N) (f : Fin n → ℝ) :
    (∑ d : Fin N, if h : d.val < n then f ⟨d.val, h⟩ else 0) = ∑ d, f d := by
  obtain ⟨r, rfl⟩ := Nat.exists_eq_add_of_le hn
  rw [Fin.sum_univ_add]
  simp

theorem sum_wide {n : ℕ} (hn : n ≤ 128) (f g : Fin n → ℝ) : ∑ d, wide f d * wide g d = ∑ d, f d * g d := by
  rw [← sum_first hn fun d => f d * g d]
  refine Finset.sum_congr rfl fun d _ => ?_
  unfold wide
  split <;> simp

end Cert.Reals

end
-- ==== Proof.BlockValue.lean ====
/- What a grid point computes from blocks of real numbers. -/
module

public import proofs.«01_k».proof.Proof.Block
public import proofs.«01_k».proof.Proof.Reals

@[expose] public section

set_option maxRecDepth 16384

noncomputable section

namespace Cert.KernelIdeal.Att

open Cert.KernelIdeal.Gen
open Idealize.ShloMosaic Idealize.ShloMosaic.TcCoe Idealize.ShloMosaic.Tactic
open Idealize.SL.Sem
open scoped BigOperators

open Cert.Reals

/-- Query `i` of chunk `n`. -/
def qi (n : Fin 32) (i : Fin 512) : Fin 16384 := ⟨n.val * 512 + i.val, by omega⟩

theorem rowsAt_apply (x : Vec Ideal S16384x128 .bf16) (n : Fin 32) (i : Fin 512) (d : Fin 128) :
    rowsAt x n (ix2 i d) = x (ix2 (qi n i) d) := by
  unfold rowsAt qi
  pointwise
  simp only [Nat.mul_comm]

theorem colsAt_apply (x : Vec Ideal S1x1x16384 .f32) (n : Fin 32) (i : Fin 512) :
    colsAt x n (ix3 0 0 i) = x (ix3 0 0 (qi n i)) := by
  unfold colsAt qi
  pointwise
  simp only [Nat.mul_comm]

theorem score_apply (k : Vec Ideal S1024x128 .bf16) (r : Vec Ideal S512x128 .bf16) (i : Fin 1024) (q : Fin 512) :
    score k r (ix2 i q) = ∑ d : Fin 128, k (ix2 i d) * r (ix2 q d) := by
  unfold score
  pointwise

theorem onto_apply (p : FVec Ideal S1024x512 .bf16) (r : Vec Ideal S512x128 .bf16) (i : Fin 1024) (d : Fin 128) :
    onto p r (ix2 i d) = ∑ q : Fin 512, p (ix2 i q) * r (ix2 q d) := by
  unfold onto
  pointwise

theorem part_apply (x0 : Vec Ideal S16384x128 .bf16) (x1 x2 : Vec Ideal S1024x128 .bf16) (x3 : Vec Ideal S16384x128 .bf16)
    (x4 x5 : Vec Ideal S1x1x16384 .f32) (n : Fin 32) (d : Fin 128) (q : Fin 512) :
    part x0 x1 x2 x3 x4 x5 n (ix2 d q) = ∑ k : Fin 1024, x1 (ix2 k d) * grads x0 x1 x2 x3 x4 x5 n (ix2 k q) := by
  unfold part k0_pay2
  pointwise

theorem spread_apply (l : Vec Ideal S1x1x512 .f32) (i : Fin 1024) (q : Fin 512) : spread l (ix2 i q) = l (ix3 0 0 q) := by
  unfold spread
  pointwise

section

variable {a g : Fin 16384 → Fin 128 → ℝ} {b v : Fin 1024 → Fin 128 → ℝ} {L D : Fin 16384 → ℝ}

/-- The probability of key `k` of the block for query `q`. -/
def bp (a : Fin 16384 → Fin 128 → ℝ) (b : Fin 1024 → Fin 128 → ℝ) (L : Fin 16384 → ℝ) (k : Fin 1024) (q : Fin 16384) : ℝ :=
  Real.rpow 2 ((∑ d, b k d * a q d) - L q)
/-- The gradient with respect to their score. -/
def bs (a g : Fin 16384 → Fin 128 → ℝ) (b v : Fin 1024 → Fin 128 → ℝ) (L D : Fin 16384 → ℝ) (k : Fin 1024) (q : Fin 16384) : ℝ :=
  bp a b L k q * ((∑ d, v k d * g q d) - D q)

variable {x0 : Vec Ideal S16384x128 .bf16} {x1 x2 : Vec Ideal S1024x128 .bf16} {x3 : Vec Ideal S16384x128 .bf16}
    {x4 x5 : Vec Ideal S1x1x16384 .f32}
  (h0 : ∀ q d, x0 (ix2 q d) = (a q d : EReal)) (h1 : ∀ k d, x1 (ix2 k d) = (b k d : EReal)) (h2 : ∀ k d, x2 (ix2 k d) = (v k d : EReal))
  (h3 : ∀ q d, x3 (ix2 q d) = (g q d : EReal)) (h4 : ∀ q, x4 (ix3 0 0 q) = (L q : EReal)) (h5 : ∀ q, x5 (ix3 0 0 q) = (D q : EReal))

include h0 h1 in
theorem score_coe (n : Fin 32) (k : Fin 1024) (i : Fin 512) :
    score x1 (rowsAt x0 n) (ix2 k i) = ((∑ d, b k d * a (qi n i) d : ℝ) : EReal) := by
  rw [score_apply, coe_sum]
  exact Finset.sum_congr rfl fun d _ => by rw [rowsAt_apply, h0, h1, EReal.coe_mul]

include h0 h1 h4 in
theorem probs_coe (n : Fin 32) (k : Fin 1024) (i : Fin 512) :
    probs x0 x1 x4 n (ix2 k i) = (bp a b L k (qi n i) : EReal) := by
  unfold probs
  show Ideal.exp2 (score x1 (rowsAt x0 n) (ix2 k i) - spread (colsAt x4 n) (ix2 k i)) = _
  rw [score_coe h0 h1, spread_apply, colsAt_apply, h4, ← EReal.coe_sub, Ideal.exp2_coe]
  rfl

include h0 h1 h2 h3 h4 h5 in
theorem grads_coe (n : Fin 32) (k : Fin 1024) (i : Fin 512) :
    grads x0 x1 x2 x3 x4 x5 n (ix2 k i) = (bs a g b v L D k (qi n i) : EReal) := by
  unfold grads
  show probs x0 x1 x4 n (ix2 k i) * (score x2 (rowsAt x3 n) (ix2 k i) - spread (colsAt x5 n) (ix2 k i)) = _
  rw [probs_coe h0 h1 h4, score_coe h3 h2, spread_apply, colsAt_apply, h5, ← EReal.coe_sub, ← EReal.coe_mul]
  rfl

include h0 h1 h2 h3 h4 h5 in
theorem part_coe (n : Fin 32) (d : Fin 128) (i : Fin 512) :
    part x0 x1 x2 x3 x4 x5 n (ix2 d i) = ((∑ k, b k d * bs a g b v L D k (qi n i) : ℝ) : EReal) := by
  rw [part_apply, coe_sum]
  exact Finset.sum_congr rfl fun k _ => by rw [grads_coe h0 h1 h2 h3 h4 h5, h1, EReal.coe_mul]

include h0 h1 h2 h3 h4 h5 in
theorem dqAll_coe (d : Fin 128) (q : Fin 16384) :
    dqAll x0 x1 x2 x3 x4 x5 (ix2 d q) = ((∑ k, b k d * bs a g b v L D k q : ℝ) : EReal) := by
  unfold dqAll
  have hq : qi ⟨q.val / 512, by omega⟩ ⟨q.val % 512, by omega⟩ = q := Fin.ext (by unfold qi; simp only; omega)
  rw [concatenate_ofFn_apply (t := S128x16384) (s₁ := S128x512) 1 _ _ rfl 512 rfl (ix2 d q) ⟨q.val / 512, by omega⟩ rfl
    (ix2 d ⟨q.val % 512, by omega⟩) rfl (by intro c hc; fin_cases c; · rfl
                                            · exact absurd rfl hc),
    part_coe h0 h1 h2 h3 h4 h5, hq]

include h0 h1 h3 h4 in
theorem dvAcc_coe (n : ℕ) (hn : n ≤ 32) (k : Fin 1024) (d : Fin 128) :
    dvAcc x0 x1 x3 x4 n hn (ix2 k d)
      = ((∑ j : Fin n, ∑ i : Fin 512, bp a b L k (qi ⟨j.val, by omega⟩ i) * g (qi ⟨j.val, by omega⟩ i) d : ℝ) : EReal) := by
  induction n with
  | zero => rw [Fin.sum_univ_zero]; unfold dvAcc k0_pay4; pointwise; exact EReal.coe_zero.symm
  | succ n ih =>
    show dvAcc x0 x1 x3 x4 n _ (ix2 k d) + onto (truncf .bf16 (probs x0 x1 x4 ⟨n, hn⟩) bitsLt_bf16_f32) (rowsAt x3 ⟨n, hn⟩) (ix2 k d) = _
    rw [Fin.sum_univ_castSucc, EReal.coe_add, ih, onto_apply, coe_sum (Finset.univ : Finset (Fin 512))]
    congr 1
    refine Finset.sum_congr rfl fun i _ => ?_
    show probs x0 x1 x4 ⟨n, hn⟩ (ix2 k i) * _ = _
    rw [probs_coe h0 h1 h4, rowsAt_apply, h3, EReal.coe_mul]
    rfl

include h0 h1 h2 h3 h4 h5 in
theorem dkAcc_coe (n : ℕ) (hn : n ≤ 32) (k : Fin 1024) (d : Fin 128) :
    dkAcc x0 x1 x2 x3 x4 x5 n hn (ix2 k d)
      = ((∑ j : Fin n, ∑ i : Fin 512, bs a g b v L D k (qi ⟨j.val, by omega⟩ i) * a (qi ⟨j.val, by omega⟩ i) d : ℝ) : EReal) := by
  induction n with
  | zero => rw [Fin.sum_univ_zero]; unfold dkAcc k0_pay3; pointwise; exact EReal.coe_zero.symm
  | succ n ih =>
    show dkAcc x0 x1 x2 x3 x4 x5 n _ (ix2 k d) + onto (grads x0 x1 x2 x3 x4 x5 ⟨n, hn⟩) (rowsAt x0 ⟨n, hn⟩) (ix2 k d) = _
    rw [Fin.sum_univ_castSucc, EReal.coe_add, ih, onto_apply, coe_sum (Finset.univ : Finset (Fin 512))]
    congr 1
    refine Finset.sum_congr rfl fun i _ => ?_
    rw [grads_coe h0 h1 h2 h3 h4 h5, rowsAt_apply, h0, EReal.coe_mul]
    rfl

include h0 h1 h3 h4 in
theorem dvAll_coe (k : Fin 1024) (d : Fin 128) :
    dvAcc x0 x1 x3 x4 32 le_rfl (ix2 k d) = ((∑ q, bp a b L k q * g q d : ℝ) : EReal) := by
  rw [dvAcc_coe h0 h1 h3 h4]
  exact congrArg _ (Fin.sum_mul_add_fin 32 512 fun q : Fin 16384 => bp a b L k q * g q d)

include h0 h1 h2 h3 h4 h5 in
theorem dkAll_coe (k : Fin 1024) (d : Fin 128) :
    dkAcc x0 x1 x2 x3 x4 x5 32 le_rfl (ix2 k d) = ((∑ q, bs a g b v L D k q * a q d : ℝ) : EReal) := by
  rw [dkAcc_coe h0 h1 h2 h3 h4 h5]
  exact congrArg _ (Fin.sum_mul_add_fin 32 512 fun q : Fin 16384 => bs a g b v L D k q * a q d)

end

theorem named_ln2 : (Named.named κ "ln2" 0x3F317218#32 : Ideal .f32) = ((Real.log 2 : ℝ) : EReal) := by
  simp [Named.named, κ]

theorem scaled_apply (x : Vec Ideal S1024x128 .f32) (k : Fin 1024) (d : Fin 128) :
    k0_pay1 (shapeCast S1024x128 x shapeCasts_S1024x128_S1024x128) (ix2 k d) = x (ix2 k d) * ((Real.log 2 : ℝ) : EReal) := by
  rw [← named_ln2]
  unfold k0_pay1
  pointwise

end Cert.KernelIdeal.Att

end
-- ==== Proof.KernelHost.lean ====
/- The arrays that the launch is given, as functions of the program's arguments. -/
module

public import proofs.«01_k».proof.Proof.Gen.KernelIdeal.Frame
public import Idealize.ShloMosaic.Lib.StableHlo.RunRead

@[expose] public section

set_option maxRecDepth 16384

noncomputable section

namespace Cert.KernelIdeal.Att

open Cert.KernelIdeal.Gen
open Idealize.ShloMosaic Idealize.ShloMosaic.TcCoe Idealize.ShloMosaic.Tactic
open Idealize.SL.Sem
open scoped BigOperators

section
variable {F : FTy → Type} [FloatOps F] [Named F]

/-- The scaled queries, -/
def hScaled (a0 : FVec F S16384x8x96 .f32) : FVec F S16384x8x96 .f32 :=
  mulf a0 (broadcastInDim S16384x8x96 ![] bcast_S_S16384x8x96 (constant S_ .f32 0x3DD105EC#32))
/-- the scores, -/
def hScores (a0 a1 : FVec F S16384x8x96 .f32) : FVec F S8x16384x16384 .f32 :=
  Host.dotGeneral dot_S16384x8x96_S16384x8x96_S8x16384x16384_2_2_0_0_1_1 none (hScaled a0) a1
/-- each query's largest score, -/
def hMax (a0 a1 : FVec F S16384x8x96 .f32) : FVec F S8x16384x1 .f32 :=
  broadcastInDim S8x16384x1 ![0, 1] bcast_S8x16384_S8x16384x1_0_1
    (Host.reduce FloatOps.maximumf (hScores a0 a1) (constant S_ .f32 0xFF800000#32) reducesTo_S8x16384x16384_S8x16384_d2 h_S_)
/-- the exponentials, -/
def hExp (a0 a1 : FVec F S16384x8x96 .f32) : FVec F S8x16384x16384 .f32 :=
  Host.exp (subf (hScores a0 a1) (broadcastInDim S8x16384x16384 ![0, 1, 2] bcast_S8x16384x1_S8x16384x16384_0_1_2 (hMax a0 a1)))
/-- their sums, -/
def hSum (a0 a1 : FVec F S16384x8x96 .f32) : FVec F S8x16384x1 .f32 :=
  broadcastInDim S8x16384x1 ![0, 1] bcast_S8x16384_S8x16384x1_0_1
    (Host.reduceAdd (hExp a0 a1) (constant S_ .f32 0x00000000#32) reducesTo_S8x16384x16384_S8x16384_d2 h_S_)
/-- the attention's output, -/
def hOut (a0 a1 : FVec F S16384x8x96 .f32) (a2 : FVec F S16384x8x64 .f32) : FVec F S16384x8x64 .f32 :=
  transpose S16384x8x64 [2, 0, 1] (Host.dotGeneral dot_S16384x8x64_S8x16384x16384_S8x64x16384_0_2_2_1_1_0 none a2
    (Host.divf (hExp a0 a1) (broadcastInDim S8x16384x16384 ![0, 1, 2] bcast_S8x16384x1_S8x16384x16384_0_1_2 (hSum a0 a1))))
    transposes_S8x64x16384_S16384x8x64_2_0_1
/-- the logarithm of two, -/
def hTwo : FVec F S_ .f32 := Host.log (constant S_ .f32 0x40000000#32)
/-- the logarithmic sums, -/
def hLse (a0 a1 : FVec F S16384x8x96 .f32) : FVec F S8x1x16384 .f32 :=
  shapeCast S8x1x16384 (Host.divf (addf (hMax a0 a1) (Host.log (hSum a0 a1))) (broadcastInDim S8x16384x1 ![] bcast_S_S8x16384x1 hTwo))
    shapeCasts_S8x16384x1_S8x1x16384
/-- the products of the output with its gradient, -/
def hDelta (a0 a1 : FVec F S16384x8x96 .f32) (a2 a3 : FVec F S16384x8x64 .f32) : FVec F S8x1x16384 .f32 :=
  shapeCast S8x1x16384 (transpose S8x16384 [1, 0] (Host.reduceAdd (mulf a3 (hOut a0 a1 a2)) (constant S_ .f32 0x00000000#32)
    reducesTo_S16384x8x64_S16384x8_d2 h_S_) transposes_S16384x8_S8x16384_1_0) shapeCasts_S8x16384_S8x1x16384
/-- an array with its heads of 96 entries padded to 128 and laid side by side, -/
def hWide96 (x : FVec F S16384x8x96 .f32) : FVec F S16384x1024 .bf16 :=
  truncf .bf16 (shapeCast S16384x1024 (pad S16384x8x128 ![0, 0, 0] ![0, 0, 32] ![0, 0, 0] x (sitofp .f32 (constantI S_ 32 0#32))
    pads_S16384x8x96_S16384x8x128_000_000_0320 h_S_) shapeCasts_S16384x8x128_S16384x1024) bitsLt_bf16_f32
/-- one with heads of 64 entries, -/
def hWide64 (x : FVec F S16384x8x64 .f32) : FVec F S16384x1024 .bf16 :=
  truncf .bf16 (shapeCast S16384x1024 (pad S16384x8x128 ![0, 0, 0] ![0, 0, 64] ![0, 0, 0] x (sitofp .f32 (constantI S_ 32 0#32))
    pads_S16384x8x64_S16384x8x128_000_000_0640 h_S_) shapeCasts_S16384x8x128_S16384x1024) bitsLt_bf16_f32
/-- and the scaled queries in units of the logarithm of two. -/
def hQuery (a0 : FVec F S16384x8x96 .f32) : FVec F S16384x1024 .bf16 :=
  hWide96 (Host.divf (hScaled a0) (broadcastInDim S16384x8x96 ![] bcast_S_S16384x8x96 hTwo))

variable (m : (ℓ : Loc nD τ sig) → Buf (Elt F) ℓ)

theorem V_v32 (c : Dev nD) : V m c main_v32 = hQuery (m ((c.tc : Thread nD τ).loc main_arg0)) := by
  simp only [V, hostOps0, hostOps0_1, hostOps0_2, hostOps0_3, hostOps0_4, hostOps0_5, hostOps0_6, hostOps0_7, hostOps0_8, List.flatten_cons, List.flatten_nil,
    List.cons_append, List.nil_append, List.append_nil]
  after_reads_simp
  rfl

theorem V_v35 (c : Dev nD) : V m c main_v35 = hWide96 (m ((c.tc : Thread nD τ).loc main_arg1)) := by
  simp only [V, hostOps0, hostOps0_1, hostOps0_2, hostOps0_3, hostOps0_4, hostOps0_5, hostOps0_6, hostOps0_7, hostOps0_8, List.flatten_cons, List.flatten_nil,
    List.cons_append, List.nil_append, List.append_nil]
  after_reads_simp
  rfl

theorem V_v38 (c : Dev nD) : V m c main_v38 = hWide64 (m ((c.tc : Thread nD τ).loc main_arg2)) := by
  simp only [V, hostOps0, hostOps0_1, hostOps0_2, hostOps0_3, hostOps0_4, hostOps0_5, hostOps0_6, hostOps0_7, hostOps0_8, List.flatten_cons, List.flatten_nil,
    List.cons_append, List.nil_append, List.append_nil]
  after_reads_simp
  rfl

theorem V_v41 (c : Dev nD) : V m c main_v41 = hWide64 (m ((c.tc : Thread nD τ).loc main_arg3)) := by
  simp only [V, hostOps0, hostOps0_1, hostOps0_2, hostOps0_3, hostOps0_4, hostOps0_5, hostOps0_6, hostOps0_7, hostOps0_8, List.flatten_cons, List.flatten_nil,
    List.cons_append, List.nil_append, List.append_nil]
  after_reads_simp
  rfl

theorem V_v22 (c : Dev nD) : V m c main_v22 = hLse (m ((c.tc : Thread nD τ).loc main_arg0)) (m ((c.tc : Thread nD τ).loc main_arg1)) := by
  simp only [V, hostOps0, hostOps0_1, hostOps0_2, hostOps0_3, hostOps0_4, hostOps0_5, hostOps0_6, hostOps0_7, hostOps0_8, List.flatten_cons, List.flatten_nil,
    List.cons_append, List.nil_append, List.append_nil]
  after_reads_simp
  rfl

theorem V_v26 (c : Dev nD) : V m c main_v26 = hDelta (m ((c.tc : Thread nD τ).loc main_arg0)) (m ((c.tc : Thread nD τ).loc main_arg1)) (m ((c.tc : Thread nD τ).loc main_arg2)) (m ((c.tc : Thread nD τ).loc main_arg3)) := by
  simp only [V, hostOps0, hostOps0_1, hostOps0_2, hostOps0_3, hostOps0_4, hostOps0_5, hostOps0_6, hostOps0_7, hostOps0_8, List.flatten_cons, List.flatten_nil,
    List.cons_append, List.nil_append, List.append_nil]
  after_reads_simp
  rfl

end

end Cert.KernelIdeal.Att

end
-- ==== Proof.KernelHostValue.lean ====
/- The arrays that the launch is given, where the program's arguments are real numbers. -/
module

public import proofs.«01_k».proof.Proof.KernelHost
public import proofs.«01_k».proof.Proof.Reals

@[expose] public section

set_option maxRecDepth 16384

noncomputable section

namespace Cert.KernelIdeal.Att

open Cert.KernelIdeal.Gen
open Idealize.ShloMosaic Idealize.ShloMosaic.TcCoe Idealize.ShloMosaic.Tactic
open Idealize.SL.Sem
open scoped BigOperators

open Cert.Reals

section
variable {Q K : Fin 16384 → Fin 8 → Fin 96 → ℝ} {U G : Fin 16384 → Fin 8 → Fin 64 → ℝ}
  {a0 a1 : FVec Ideal S16384x8x96 .f32} {a2 a3 : FVec Ideal S16384x8x64 .f32}
  (h0 : ∀ q h d, a0 (ix3 q h d) = (Q q h d : EReal)) (h1 : ∀ k h d, a1 (ix3 k h d) = (K k h d : EReal))
  (h2 : ∀ k h e, a2 (ix3 k h e) = (U k h e : EReal)) (h3 : ∀ q h e, a3 (ix3 q h e) = (G q h e : EReal))

include h0 in
theorem hScaled_coe (q : Fin 16384) (h : Fin 8) (d : Fin 96) : hScaled a0 (ix3 q h d) = ((Q q h d * rate : ℝ) : EReal) := by
  unfold hScaled
  pointwise
  rw [h0, ofBits_rate, EReal.coe_mul]

include h0 h1 in
theorem hScores_coe (h : Fin 8) (q k : Fin 16384) : hScores a0 a1 (ix3 h q k) = (sc Q K h q k : EReal) := by
  unfold hScores sc
  pointwise
  rw [coe_sum]
  exact Finset.sum_congr rfl fun d _ => by rw [hScaled_coe h0, h1, ← EReal.coe_mul]

include h0 h1 in
theorem hMax_coe (h : Fin 8) (q : Fin 16384) : hMax a0 a1 (ix3 h q 0) = (mx Q K h q : EReal) := by
  unfold hMax mx
  pointwise
  rw [← coe_top, ofBits_bot]
  exact congrArg (fun f => Finset.fold max ⊥ f Finset.univ) (funext fun k => hScores_coe h0 h1 h q k)

include h0 h1 in
theorem hExp_coe (h : Fin 8) (q k : Fin 16384) : hExp a0 a1 (ix3 h q k) = (ex Q K h q k : EReal) := by
  unfold hExp ex
  pointwise
  rw [hScores_coe h0 h1, hMax_coe h0 h1, ← EReal.coe_sub, Ideal.exp_coe]

include h0 h1 in
theorem hSum_coe (h : Fin 8) (q : Fin 16384) : hSum a0 a1 (ix3 h q 0) = (den Q K h q : EReal) := by
  unfold hSum den
  pointwise
  rw [coe_sum]
  exact Finset.sum_congr rfl fun k _ => hExp_coe h0 h1 h q k

include h0 h1 h2 in
theorem hOut_coe (q : Fin 16384) (h : Fin 8) (e : Fin 64) :
    hOut a0 a1 a2 (ix3 q h e) = ((∑ k, U k h e * pr Q K h q k : ℝ) : EReal) := by
  unfold hOut
  pointwise
  rw [coe_sum]
  refine Finset.sum_congr rfl fun k _ => ?_
  rw [h2, hExp_coe h0 h1, hSum_coe h0 h1, Ideal.div_coe (den_ne Q K h q), ← EReal.coe_mul, ← EReal.coe_mul, mul_one_div]
  rfl

theorem hTwo_coe : hTwo (F := Ideal) ix0 = ((Real.log 2 : ℝ) : EReal) := by
  unfold hTwo
  pointwise
  rw [ofBits_two, Ideal.log_coe, if_neg (by norm_num)]

theorem column_row (x : FVec Ideal S8x16384x1 .f32) (h : Fin 8) (q : Fin 16384) :
    shapeCast S8x1x16384 x shapeCasts_S8x16384x1_S8x1x16384 (ix3 h 0 q) = x (ix3 h q 0) := by
  refine shapeCast_apply x _ _ _ ?_
  rw [rowMajor_val3 (d := ![8, 16384, 1]) (ix3 h q 0) 16384 1 rfl rfl, rowMajor_val3 (d := ![8, 1, 16384]) (ix3 h 0 q) 16384 16384 rfl rfl]
  show h.val * 16384 + q.val * 1 + 0 = h.val * 16384 + 0 * 16384 + q.val
  omega

theorem flat_row (x : FVec Ideal S8x16384 .f32) (h : Fin 8) (q : Fin 16384) :
    shapeCast S8x1x16384 x shapeCasts_S8x16384_S8x1x16384 (ix3 h 0 q) = x (ix2 h q) := by
  refine shapeCast_apply x _ _ _ ?_
  rw [rowMajor_val2 (d := ![8, 16384]) (ix2 h q) 16384 rfl, rowMajor_val3 (d := ![8, 1, 16384]) (ix3 h 0 q) 16384 16384 rfl rfl]
  show h.val * 16384 + q.val = h.val * 16384 + 0 * 16384 + q.val
  omega

theorem quotient_coe (a s : ℝ) (hs : 0 < s) :
    Ideal.div ((a : EReal) + Ideal.log (s : EReal)) ((Real.log 2 : ℝ) : EReal) = (((a + Real.log s) / Real.log 2 : ℝ) : EReal) := by
  rw [Ideal.log_coe, if_neg (not_le.mpr hs), Ideal.div_coe log_two_ne, ← EReal.coe_add, ← EReal.coe_mul, mul_one_div]

theorem read_quotient (x y : FVec Ideal S8x16384x1 .f32) (z : FVec Ideal S_ .f32) (h : Fin 8) (q : Fin 16384) :
    Host.divf (addf x (Host.log y)) (broadcastInDim S8x16384x1 ![] bcast_S_S8x16384x1 z) (ix3 h q 0)
      = Ideal.div (x (ix3 h q 0) + Ideal.log (y (ix3 h q 0))) (z ix0) := by
  pointwise

include h0 h1 in
theorem hLse_coe (h : Fin 8) (q : Fin 16384) :
    hLse a0 a1 (ix3 h 0 q) = (((mx Q K h q + Real.log (den Q K h q)) / Real.log 2 : ℝ) : EReal) := by
  unfold hLse
  refine (column_row _ h q).trans ((read_quotient _ _ _ h q).trans ?_)
  rw [hTwo_coe, hMax_coe h0 h1, hSum_coe h0 h1]
  exact quotient_coe _ _ (den_pos Q K h q)

include h0 h1 h2 h3 in
theorem hDelta_coe (h : Fin 8) (q : Fin 16384) :
    hDelta a0 a1 a2 a3 (ix3 h 0 q) = (mean Q K U G h q : EReal) := by
  rw [← mean_eq]
  unfold hDelta
  refine (flat_row _ h q).trans ?_
  pointwise
  rw [coe_sum]
  exact Finset.sum_congr rfl fun e _ => by rw [h3, hOut_coe h0 h1 h2, EReal.coe_mul]

theorem sitofp_zero : (FloatOps.sitofp .f32 (0#32) : Ideal .f32) = 0 := by
  show ((BitVec.toInt 0#32 : ℝ) : EReal) = 0
  simp

theorem hWide96_coe {x : FVec Ideal S16384x8x96 .f32} {X : Fin 16384 → Fin 8 → Fin 96 → ℝ} (hx : ∀ q h d, x (ix3 q h d) = (X q h d : EReal))
    (q : Fin 16384) (j : Fin 1024) : hWide96 x (ix2 q j) = (wide (X q ⟨j.val / 128, by omega⟩) ⟨j.val % 128, by omega⟩ : EReal) := by
  unfold hWide96 wide
  pointwise
  by_cases hd : j.val % 128 < 96
  · rw [dif_pos ⟨by omega, hd⟩, dif_pos hd, hx]
  · rw [dif_neg fun h => hd h.2, dif_neg hd, sitofp_zero]; rfl

theorem hWide64_coe {x : FVec Ideal S16384x8x64 .f32} {X : Fin 16384 → Fin 8 → Fin 64 → ℝ} (hx : ∀ q h d, x (ix3 q h d) = (X q h d : EReal))
    (q : Fin 16384) (j : Fin 1024) : hWide64 x (ix2 q j) = (wide (X q ⟨j.val / 128, by omega⟩) ⟨j.val % 128, by omega⟩ : EReal) := by
  unfold hWide64 wide
  pointwise
  by_cases hd : j.val % 128 < 64
  · rw [dif_pos ⟨by omega, hd⟩, dif_pos hd, hx]
  · rw [dif_neg fun h => hd h.2, dif_neg hd, sitofp_zero]; rfl

include h0 in
theorem hQuery_coe (q : Fin 16384) (j : Fin 1024) :
    hQuery a0 (ix2 q j) = (wide (fun d => Q q ⟨j.val / 128, by omega⟩ d * rate / Real.log 2) ⟨j.val % 128, by omega⟩ : EReal) := by
  refine hWide96_coe (X := fun q h d => Q q h d * rate / Real.log 2) (fun q h d => ?_) q j
  pointwise
  rw [hTwo_coe, hScaled_coe h0, Ideal.div_coe log_two_ne, ← EReal.coe_mul, mul_one_div]

end

end Cert.KernelIdeal.Att

end
-- ==== Proof.KernelValue.lean ====
/- The output arrays of the launch, where the program's arguments are real numbers. -/
module

public import proofs.«01_k».proof.Proof.Launch
public import proofs.«01_k».proof.Proof.BlockValue
public import proofs.«01_k».proof.Proof.KernelHostValue

@[expose] public section

set_option maxRecDepth 16384

noncomputable section

namespace Cert.KernelIdeal.Att

open Cert.KernelIdeal.Gen
open Idealize.ShloMosaic Idealize.ShloMosaic.TcCoe Idealize.ShloMosaic.Tactic
open Idealize.SL.Sem
open scoped BigOperators

open Cert.Reals

/-! ## The blocks of a grid point -/

/-- Column `d` of head `h` among the 1024 columns of the eight heads. -/
def col (h : Fin 8) (d : Fin 128) : Fin 1024 := ⟨h.val * 128 + d.val, by omega⟩
/-- The head of a grid point, -/
def hd (t : Fin cfg0.N) : Fin 8 := ⟨t.val / 16, by have := lt_of_lt_of_eq t.isLt (show cfg0.N = 128 from N_0); omega⟩
/-- and its key `k`. -/
def key (t : Fin cfg0.N) (k : Fin 1024) : Fin 16384 := ⟨t.val % 16 * 1024 + k.val, by omega⟩

theorem wide_col {n : ℕ} (f : Fin 8 → Fin n → ℝ) (h : Fin 8) (d : Fin 128) :
    wide (f ⟨(col h d).val / 128, by omega⟩) ⟨(col h d).val % 128, by omega⟩ = wide (f h) d := by
  have e1 : (⟨(col h d).val / 128, by omega⟩ : Fin 8) = h := Fin.ext (by unfold col; simp only; omega)
  have e2 : (⟨(col h d).val % 128, by omega⟩ : Fin 128) = d := Fin.ext (by unfold col; simp only; omega)
  rw [e1, e2]

/-- The places of the blocks. -/
theorem place0 : ∀ t : Fin cfg0.N, win0_0.index t 0 = 0 ∧ win0_0.index t 1 = t.val / 16 :=
  (by decide +kernel : ∀ t : Fin grid0.N, win0_0.index t 0 = 0 ∧ win0_0.index t 1 = t.val / 16)
theorem place1 : ∀ t : Fin cfg0.N, win0_1.index t 0 = t.val % 16 ∧ win0_1.index t 1 = t.val / 16 :=
  (by decide +kernel : ∀ t : Fin grid0.N, win0_1.index t 0 = t.val % 16 ∧ win0_1.index t 1 = t.val / 16)
theorem place2 : ∀ t : Fin cfg0.N, win0_2.index t 0 = t.val % 16 ∧ win0_2.index t 1 = t.val / 16 :=
  (by decide +kernel : ∀ t : Fin grid0.N, win0_2.index t 0 = t.val % 16 ∧ win0_2.index t 1 = t.val / 16)
theorem place3 : ∀ t : Fin cfg0.N, win0_3.index t 0 = 0 ∧ win0_3.index t 1 = t.val / 16 :=
  (by decide +kernel : ∀ t : Fin grid0.N, win0_3.index t 0 = 0 ∧ win0_3.index t 1 = t.val / 16)
theorem place4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)
theorem place5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)
theorem place6 : ∀ t : Fin cfg0.N, win0_6.index t 0 = t.val / 16 ∧ win0_6.index t 1 = 0 :=
  (by decide +kernel : ∀ t : Fin grid0.N, win0_6.index t 0 = t.val / 16 ∧ win0_6.index t 1 = 0)
theorem place7 : ∀ t : Fin cfg0.N, win0_7.index t 0 = t.val % 16 ∧ win0_7.index t 1 = t.val / 16 :=
  (by decide +kernel : ∀ t : Fin grid0.N, win0_7.index t 0 = t.val % 16 ∧ win0_7.index t 1 = t.val / 16)
theorem place8 : ∀ t : Fin cfg0.N, win0_8.index t 0 = t.val % 16 ∧ win0_8.index t 1 = t.val / 16 :=
  (by decide +kernel : ∀ t : Fin grid0.N, win0_8.index t 0 = t.val % 16 ∧ win0_8.index t 1 = t.val / 16)

section
variable (t : Fin cfg0.N)

theorem read0 (X : Vec Ideal S16384x1024 .bf16) (q : Fin 16384) (d : Fin 128) :
    ((cfg0.win 0).blk t).view.read (Elt Ideal) X (ix2 q d) = X (ix2 q (col (hd t) d)) := by
  obtain ⟨e0, e1⟩ := place0 t
  unfold col hd
  blk_ext [e0, e1]
theorem read1 (X : Vec Ideal S16384x1024 .bf16) (k : Fin 1024) (d : Fin 128) :
    ((cfg0.win 1).blk t).view.read (Elt Ideal) X (ix2 k d) = X (ix2 (key t k) (col (hd t) d)) := by
  obtain ⟨e0, e1⟩ := place1 t
  unfold col hd key
  blk_ext [e0, e1]
theorem read2 (X : Vec Ideal S16384x1024 .bf16) (k : Fin 1024) (d : Fin 128) :
    ((cfg0.win 2).blk t).view.read (Elt Ideal) X (ix2 k d) = X (ix2 (key t k) (col (hd t) d)) := by
  obtain ⟨e0, e1⟩ := place2 t
  unfold col hd key
  blk_ext [e0, e1]
theorem read3 (X : Vec Ideal S16384x1024 .bf16) (q : Fin 16384) (d : Fin 128) :
    ((cfg0.win 3).blk t).view.read (Elt Ideal) X (ix2 q d) = X (ix2 q (col (hd t) d)) := by
  obtain ⟨e0, e1⟩ := place3 t
  unfold col hd
  blk_ext [e0, e1]
theorem read4 (X : Vec Ideal S8x1x16384 .f32) (q : Fin 16384) :
    ((cfg0.win 4).blk t).view.read (Elt Ideal) X (ix3 0 0 q) = X (ix3 (hd t) 0 q) := by
  obtain ⟨e0, e1, e2⟩ := place4 t
  unfold hd
  blk_ext [e0, e1, e2]
theorem read5 (X : Vec Ideal S8x1x16384 .f32) (q : Fin 16384) :
    ((cfg0.win 5).blk t).view.read (Elt Ideal) X (ix3 0 0 q) = X (ix3 (hd t) 0 q) := by
  obtain ⟨e0, e1, e2⟩ := place5 t
  unfold hd
  blk_ext [e0, e1, e2]

end

/-! ## The blocks' products are the attention's -/

section
variable (Q K : Fin 16384 → Fin 8 → Fin 96 → ℝ) (U G : Fin 16384 → Fin 8 → Fin 64 → ℝ)

/-- The blocks as real numbers: queries, -/
def bQ (h : Fin 8) (q : Fin 16384) : Fin 128 → ℝ := wide fun d => Q q h d * rate / Real.log 2
/-- logarithmic sums. -/
def bL (h : Fin 8) (q : Fin 16384) : ℝ := (mx Q K h q + Real.log (den Q K h q)) / Real.log 2

theorem bp_eq (h : Fin 8) (f : Fin 1024 → Fin 16384) (k : Fin 1024) (q : Fin 16384) :
    bp (bQ Q h) (fun k => wide (K (f k) h)) (bL Q K h) k q = pr Q K h q (f k) := by
  rw [← rpow_score]
  unfold bp bQ bL
  congr 2
  rw [sum_wide (by norm_num)]
  unfold sc
  rw [Finset.sum_div]
  exact Finset.sum_congr rfl fun d _ => by ring

theorem bs_eq (h : Fin 8) (f : Fin 1024 → Fin 16384) (k : Fin 1024) (q : Fin 16384) :
    bs (bQ Q h) (fun q => wide (G q h)) (fun k => wide (K (f k) h)) (fun k => wide (U (f k) h)) (bL Q K h) (mean Q K U G h) k q
      = ds Q K U G h q (f k) := by
  unfold bs ds
  rw [bp_eq, sum_wide (by norm_num)]
  unfold dp
  congr 2
  exact Finset.sum_congr rfl fun e _ => mul_comm _ _

theorem wide_sum {n : ℕ} {ι : Type} [Fintype ι] (w : ι → ℝ) (f : ι → Fin n → ℝ) (d : Fin 128) :
    ∑ i, w i * wide (f i) d = wide (fun d => ∑ i, w i * f i d) d := by
  unfold wide
  split
  · rfl
  · simp

end

section
variable (m : (ℓ : Loc nD τ sig) → Buf (Elt Ideal) ℓ) (c : Dev nD)
variable {Q K : Fin 16384 → Fin 8 → Fin 96 → ℝ} {U G : Fin 16384 → Fin 8 → Fin 64 → ℝ}
  (h0 : ∀ q h d, (m ((c.tc : Thread nD τ).loc main_arg0) : FVec Ideal S16384x8x96 .f32) (ix3 q h d) = (Q q h d : EReal))
  (h1 : ∀ k h d, (m ((c.tc : Thread nD τ).loc main_arg1) : FVec Ideal S16384x8x96 .f32) (ix3 k h d) = (K k h d : EReal))
  (h2 : ∀ k h e, (m ((c.tc : Thread nD τ).loc main_arg2) : FVec Ideal S16384x8x64 .f32) (ix3 k h e) = (U k h e : EReal))
  (h3 : ∀ q h e, (m ((c.tc : Thread nD τ).loc main_arg3) : FVec Ideal S16384x8x64 .f32) (ix3 q h e) = (G q h e : EReal))

include h0 in
theorem block0 (t : Fin cfg0.N) (q : Fin 16384) (d : Fin 128) : iblk m c 0 t (ix2 q d) = (bQ Q (hd t) q d : EReal) := by
  refine (read0 t (V m c main_v32) q d).trans ((congrFun (V_v32 m c) _).trans ((hQuery_coe h0 q _).trans ?_))
  exact congrArg _ (wide_col (fun h d => Q q h d * rate / Real.log 2) (hd t) d)
include h1 in
theorem block1 (t : Fin cfg0.N) (k : Fin 1024) (d : Fin 128) : iblk m c 1 t (ix2 k d) = (wide (K (key t k) (hd t)) d : EReal) := by
  refine (read1 t (V m c main_v35) k d).trans ((congrFun (V_v35 m c) _).trans ((hWide96_coe h1 _ _).trans ?_))
  exact congrArg _ (wide_col (K (key t k)) (hd t) d)
include h2 in
theorem block2 (t : Fin cfg0.N) (k : Fin 1024) (d : Fin 128) : iblk m c 2 t (ix2 k d) = (wide (U (key t k) (hd t)) d : EReal) := by
  refine (read2 t (V m c main_v38) k d).trans ((congrFun (V_v38 m c) _).trans ((hWide64_coe h2 _ _).trans ?_))
  exact congrArg _ (wide_col (U (key t k)) (hd t) d)
include h3 in
theorem block3 (t : Fin cfg0.N) (q : Fin 16384) (d : Fin 128) : iblk m c 3 t (ix2 q d) = (wide (G q (hd t)) d : EReal) := by
  refine (read3 t (V m c main_v41) q d).trans ((congrFun (V_v41 m c) _).trans ((hWide64_coe h3 _ _).trans ?_))
  exact congrArg _ (wide_col (G q) (hd t) d)
include h0 h1 in
theorem block4 (t : Fin cfg0.N) (q : Fin 16384) : iblk m c 4 t (ix3 0 0 q) = (bL Q K (hd t) q : EReal) :=
  (read4 t (V m c main_v22) q).trans ((congrFun (V_v22 m c) _).trans (hLse_coe h0 h1 (hd t) q))
include h0 h1 h2 h3 in
theorem block5 (t : Fin cfg0.N) (q : Fin 16384) : iblk m c 5 t (ix3 0 0 q) = (mean Q K U G (hd t) q : EReal) :=
  (read5 t (V m c main_v26) q).trans ((congrFun (V_v26 m c) _).trans (hDelta_coe h0 h1 h2 h3 (hd t) q))

/-! ## The outputs of a grid point -/

include h0 h1 h2 h3 in
theorem dqPt_coe (t : Fin cfg0.N) (d : Fin 128) (q : Fin 16384) :
    dqPt m c t (ix2 d q) = ((∑ k, ds Q K U G (hd t) q (key t k) * wide (K (key t k) (hd t)) d : ℝ) : EReal) := by
  unfold dqPt
  rw [dqAll_coe (block0 m c h0 t) (block1 m c h1 t) (block2 m c h2 t) (block3 m c h3 t) (block4 m c h0 h1 t) (block5 m c h0 h1 h2 h3 t)]
  exact congrArg _ (Finset.sum_congr rfl fun k _ => by rw [bs_eq, mul_comm])

include h0 h1 h2 h3 in
theorem dkPt_coe (t : Fin cfg0.N) (k : Fin 1024) (d : Fin 128) :
    dkPt m c t (ix2 k d) = (wide (dk Q K U G (key t k) (hd t)) d : EReal) := by
  unfold dkPt
  rw [scaled_apply,
    dkAll_coe (block0 m c h0 t) (block1 m c h1 t) (block2 m c h2 t) (block3 m c h3 t) (block4 m c h0 h1 t) (block5 m c h0 h1 h2 h3 t),
    ← EReal.coe_mul]
  refine congrArg _ ?_
  simp only [bs_eq]
  unfold bQ
  rw [wide_sum]
  unfold wide
  split
  · rw [Finset.sum_mul]
    refine Finset.sum_congr rfl fun q _ => ?_
    rw [mul_assoc, div_mul_cancel₀ _ log_two_ne]
  · exact zero_mul _

include h0 h1 h2 h3 in
theorem dvPt_coe (t : Fin cfg0.N) (k : Fin 1024) (d : Fin 128) :
    dvPt m c t (ix2 k d) = (wide (dv Q K G (key t k) (hd t)) d : EReal) := by
  unfold dvPt
  refine (shapeCast_apply _ _ _ (ix2 k d) rfl).trans ?_
  rw [dvAll_coe (block0 m c h0 t) (block1 m c h1 t) (block3 m c h3 t) (block4 m c h0 h1 t), wide_sum]
  refine congrArg _ ?_
  unfold dv
  simp only [bp_eq]

theorem same_cast (x : FVec Ideal S128x16384 .f32) (i : S128x16384.Idx) :
    shapeCast S128x16384 x shapeCasts_S128x16384_S128x16384 i = x i := shapeCast_apply _ _ _ i rfl

include h0 h1 h2 h3 in
theorem dqTo_coe (t : Fin cfg0.N) (ht : t.val % 16 = 15) (d : Fin 128) (q : Fin 16384) :
    dqTo m c t.val t.isLt (ix2 d q) = (wide (dq Q K U G q (hd t)) d : EReal) := by
  rw [Pipeline.eq_sum_fin_of_reset_step_apply_of_flush (M := EReal) (dqTo m c) 16 (fun _ => 0) (dqPt m c)
    (fun t h i => by rw [dqTo_first m c t h]; exact (zero_add _).symm)
    (fun t h i => by rw [dqTo_later m c t h, addf_apply, same_cast]; rfl) t ht, zero_add]
  unfold dq
  rw [← wide_sum, ← Fin.sum_mul_add_fin 16 1024 fun l : Fin 16384 => ds Q K U G (hd t) q l * wide (K l (hd t)) d, coe_sum]
  refine Finset.sum_congr rfl fun s _ => ?_
  rw [dqPt_coe m c h0 h1 h2 h3]
  have eh : ∀ p, hd ⟨16 * (t.val / 16) + s.val, p⟩ = hd t := fun p => Fin.ext (by unfold hd; simp only; omega)
  have ek : ∀ p k, key ⟨16 * (t.val / 16) + s.val, p⟩ k = ⟨s.val * 1024 + k.val, by omega⟩ := fun p k => Fin.ext (by unfold key; simp only; omega)
  simp only [eh, ek]

/-! ## The output arrays -/

theorem wide_place {n : ℕ} (f : Fin 16384 → Fin 8 → Fin n → ℝ) {r r' : Fin 16384} {h h' : Fin 8} {d d' : Fin 128} (hr : r.val = r'.val)
    (hh : h.val = h'.val) (hd : d.val = d'.val) : (wide (f r h) d : EReal) = (wide (f r' h') d' : EReal) := by
  rw [Fin.ext hr, Fin.ext hh, Fin.ext hd]

include h0 h1 h2 h3 in
theorem out0 : (dats m 0 c).arrAt 6 cfg0.N
    = fun i => (wide (dq Q K U G ⟨(i 1).val, (i 1).isLt⟩ ⟨(i 0).val / 128, by have : (i 0).val < 1024 := (i 0).isLt; omega⟩)
        ⟨(i 0).val % 128, by omega⟩ : EReal) := by
  refine (dats m 0 c).arrAt_eq_of_covers 6 _ (by decide +kernel) fun t hf y => ?_
  have ht := (flush0_6 t).mp hf
  obtain ⟨e0, e1⟩ := place6 t
  idx_bounds y
  blk_simp [e0, e1]
  rw [after0_6]
  obtain ⟨d, q, rfl⟩ : ∃ (d : Fin 128) (q : Fin 16384), y = ix2 d q := ⟨⟨(y 0).val, (y 0).isLt⟩, ⟨(y 1).val, (y 1).isLt⟩, by funext a; fin_cases a <;> rfl⟩
  refine (dqTo_coe m c h0 h1 h2 h3 t ht d q).trans ?_
  refine wide_place (dq Q K U G) rfl ?_ ?_
  · show t.val / 16 = (t.val / 16 * 128 + d.val) / 128
    omega
  · show d.val = (t.val / 16 * 128 + d.val) % 128
    omega

include h0 h1 h2 h3 in
theorem out1 : (dats m 0 c).arrAt 7 cfg0.N
    = fun i => (wide (dk Q K U G ⟨(i 0).val, (i 0).isLt⟩ ⟨(i 1).val / 128, by have : (i 1).val < 1024 := (i 1).isLt; omega⟩)
        ⟨(i 1).val % 128, by omega⟩ : EReal) := by
  refine (dats m 0 c).arrAt_eq_of_covers 7 _ (by decide +kernel) fun t hf y => ?_
  obtain ⟨e0, e1⟩ := place7 t
  idx_bounds y
  blk_simp [e0, e1]
  rw [after0_7]
  obtain ⟨k, d, rfl⟩ : ∃ (k : Fin 1024) (d : Fin 128), y = ix2 k d := ⟨⟨(y 0).val, (y 0).isLt⟩, ⟨(y 1).val, (y 1).isLt⟩, by funext a; fin_cases a <;> rfl⟩
  refine (dkPt_coe m c h0 h1 h2 h3 t k d).trans ?_
  refine wide_place (dk Q K U G) rfl ?_ ?_
  · show t.val / 16 = (t.val / 16 * 128 + d.val) / 128
    omega
  · show d.val = (t.val / 16 * 128 + d.val) % 128
    omega

include h0 h1 h2 h3 in
theorem out2 : (dats m 0 c).arrAt 8 cfg0.N
    = fun i => (wide (dv Q K G ⟨(i 0).val, (i 0).isLt⟩ ⟨(i 1).val / 128, by have : (i 1).val < 1024 := (i 1).isLt; omega⟩)
        ⟨(i 1).val % 128, by omega⟩ : EReal) := by
  refine (dats m 0 c).arrAt_eq_of_covers 8 _ (by decide +kernel) fun t hf y => ?_
  obtain ⟨e0, e1⟩ := place8 t
  idx_bounds y
  blk_simp [e0, e1]
  rw [after0_8]
  obtain ⟨k, d, rfl⟩ : ∃ (k : Fin 1024) (d : Fin 128), y = ix2 k d := ⟨⟨(y 0).val, (y 0).isLt⟩, ⟨(y 1).val, (y 1).isLt⟩, by funext a; fin_cases a <;> rfl⟩
  refine (dvPt_coe m c h0 h1 h2 h3 t k d).trans ?_
  refine wide_place (dv Q K G) rfl ?_ ?_
  · show t.val / 16 = (t.val / 16 * 128 + d.val) / 128
    omega
  · show d.val = (t.val / 16 * 128 + d.val) % 128
    omega

end

end Cert.KernelIdeal.Att

end
-- ==== Proof.RefValue.lean ====
/- What the reference computes, where the program's arguments are real numbers. -/
module

public import proofs.«01_k».proof.Proof.Gen.ReferenceIdeal.Run
public import proofs.«01_k».proof.Proof.Reals
public import Idealize.ShloMosaic.Lib.Pointwise
public import Idealize.ShloMosaic.Lib.Pipeline.Value

@[expose] public section

set_option maxRecDepth 16384

noncomputable section

namespace Cert.ReferenceIdeal.Att

open Cert.ReferenceIdeal.Gen
open Idealize.ShloMosaic Idealize.ShloMosaic.TcCoe Idealize.ShloMosaic.Tactic
open Idealize.SL.Sem
open scoped BigOperators

open Cert.Reals

section
variable {F : FTy → Type} [FloatOps F]

/-! ## The reference in steps: the scaled queries, -/
def rScaled (a0 : FVec F S16384x8x96 .f32) : FVec F S16384x8x96 .f32 :=
  mulf a0 (broadcastInDim S16384x8x96 ![] bcast_S_S16384x8x96 (constant S_ .f32 0x3DD105EC#32))
/-- the scores, -/
def rScores (a0 a1 : FVec F S16384x8x96 .f32) : FVec F S8x16384x16384 .f32 :=
  Host.dotGeneral dot_S16384x8x96_S16384x8x96_S8x16384x16384_2_2_0_0_1_1 none (rScaled a0) a1
/-- each query's largest score, -/
def rMax (a0 a1 : FVec F S16384x8x96 .f32) : FVec F S8x16384 .f32 :=
  maximumf (broadcastInDim S8x16384 ![] bcast_S_S8x16384 (constant S_ .f32 0xFF800000#32))
    (Host.reduce FloatOps.maximumf (rScores a0 a1) (constant S_ .f32 0xFF800000#32) reducesTo_S8x16384x16384_S8x16384_d2 h_S_)
/-- the exponentials, -/
def rExp (a0 a1 : FVec F S16384x8x96 .f32) : FVec F S8x16384x16384 .f32 :=
  Host.exp (subf (rScores a0 a1) (broadcastInDim S8x16384x16384 ![0, 1, 2] bcast_S8x16384x1_S8x16384x16384_0_1_2
    (broadcastInDim S8x16384x1 ![0, 1] bcast_S8x16384_S8x16384x1_0_1 (rMax a0 a1))))
/-- their sums, -/
def rSum (a0 a1 : FVec F S16384x8x96 .f32) : FVec F S8x16384x1 .f32 :=
  broadcastInDim S8x16384x1 ![0, 1] bcast_S8x16384_S8x16384x1_0_1
    (Host.reduceAdd (rExp a0 a1) (constant S_ .f32 0x00000000#32) reducesTo_S8x16384x16384_S8x16384_d2 h_S_)
/-- the probabilities, -/
def rProbs (a0 a1 : FVec F S16384x8x96 .f32) : FVec F S8x16384x16384 .f32 :=
  Host.divf (rExp a0 a1) (broadcastInDim S8x16384x16384 ![0, 1, 2] bcast_S8x16384x1_S8x16384x16384_0_1_2 (rSum a0 a1))
/-- the output's gradient, heads first, -/
def rHeads (a3 : FVec F S16384x8x64 .f32) : FVec F S8x64x16384 .f32 :=
  transpose S8x64x16384 [1, 2, 0] a3 transposes_S16384x8x64_S8x64x16384_1_2_0
/-- the probabilities' gradients, -/
def rDp (a2 a3 : FVec F S16384x8x64 .f32) : FVec F S8x16384x16384 .f32 :=
  Host.dotGeneral dot_S8x64x16384_S16384x8x64_S8x16384x16384_1_2_2_0_0_1 none (rHeads a3) a2
/-- one over the square of the sums, -/
def rSquare (a0 a1 : FVec F S16384x8x96 .f32) : FVec F S8x16384x1 .f32 :=
  Host.divf (broadcastInDim S8x16384x1 ![] bcast_S_S8x16384x1 (constant S_ .f32 0x3F800000#32)) (mulf (rSum a0 a1) (rSum a0 a1))
/-- the gradient with respect to the sums, before its sign, -/
def rDsum (a0 a1 : FVec F S16384x8x96 .f32) (a2 a3 : FVec F S16384x8x64 .f32) : FVec F S8x16384 .f32 :=
  Host.reduceAdd (mulf (mulf (rDp a2 a3) (broadcastInDim S8x16384x16384 ![0, 1, 2] bcast_S8x16384x1_S8x16384x16384_0_1_2 (rSquare a0 a1)))
    (rExp a0 a1)) (constant S_ .f32 0x00000000#32) reducesTo_S8x16384x16384_S8x16384_d2 h_S_
/-- with its sign, -/
def rNeg (a0 a1 : FVec F S16384x8x96 .f32) (a2 a3 : FVec F S16384x8x64 .f32) : FVec F S8x16384 .f32 :=
  Host.reduceAdd (Host.negf (shapeCast S8x16384x1 (rDsum a0 a1 a2 a3) shapeCasts_S8x16384_S8x16384x1))
    (constant S_ .f32 0x00000000#32) reducesTo_S8x16384x1_S8x16384_d2 h_S_
/-- the scores' gradients, -/
def rDs (a0 a1 : FVec F S16384x8x96 .f32) (a2 a3 : FVec F S16384x8x64 .f32) : FVec F S8x16384x16384 .f32 :=
  mulf (addf (Host.divf (rDp a2 a3) (broadcastInDim S8x16384x16384 ![0, 1, 2] bcast_S8x16384x1_S8x16384x16384_0_1_2 (rSum a0 a1)))
    (broadcastInDim S8x16384x16384 ![0, 1] bcast_S8x16384_S8x16384x16384_0_1 (rNeg a0 a1 a2 a3))) (rExp a0 a1)
/-- the gradients of the queries, -/
def rDq (a0 a1 : FVec F S16384x8x96 .f32) (a2 a3 : FVec F S16384x8x64 .f32) : FVec F S16384x8x96 .f32 :=
  transpose S16384x8x96 [1, 0, 2] (Host.dotGeneral dot_S8x16384x16384_S16384x8x96_S8x16384x96_2_0_1_2_0_1 none (rDs a0 a1 a2 a3) a1)
    transposes_S8x16384x96_S16384x8x96_1_0_2
/-- the keys -/
def rDk (a0 a1 : FVec F S16384x8x96 .f32) (a2 a3 : FVec F S16384x8x64 .f32) : FVec F S16384x8x96 .f32 :=
  transpose S16384x8x96 [1, 0, 2] (Host.dotGeneral dot_S8x16384x16384_S16384x8x96_S8x16384x96_1_0_2_2_0_1 none (rDs a0 a1 a2 a3) (rScaled a0))
    transposes_S8x16384x96_S16384x8x96_1_0_2
/-- and the values, -/
def rDv (a0 a1 : FVec F S16384x8x96 .f32) (a3 : FVec F S16384x8x64 .f32) : FVec F S16384x8x64 .f32 :=
  transpose S16384x8x64 [2, 0, 1] (Host.dotGeneral dot_S8x64x16384_S8x16384x16384_S8x64x16384_2_1_1_2_0_0 none (rHeads a3) (rProbs a0 a1))
    transposes_S8x64x16384_S16384x8x64_2_0_1
/-- and heads of 96 entries padded to 128 and laid side by side, -/
def rWide96 (x : FVec F S16384x8x96 .f32) : FVec F S16384x1024 .f32 :=
  shapeCast S16384x1024 (pad S16384x8x128 ![0, 0, 0] ![0, 0, 32] ![0, 0, 0] x (sitofp .f32 (constantI S_ 32 0#32))
    pads_S16384x8x96_S16384x8x128_000_000_0320 h_S_) shapeCasts_S16384x8x128_S16384x1024
/-- or of 64 entries. -/
def rWide64 (x : FVec F S16384x8x64 .f32) : FVec F S16384x1024 .f32 :=
  shapeCast S16384x1024 (pad S16384x8x128 ![0, 0, 0] ![0, 0, 64] ![0, 0, 0] x (sitofp .f32 (constantI S_ 32 0#32))
    pads_S16384x8x64_S16384x8x128_000_000_0640 h_S_) shapeCasts_S16384x8x128_S16384x1024

variable (m : (ℓ : Loc nD τ sig) → Buf (Elt F) ℓ) (c : Dev nD)

theorem res55_eq : Cert.ReferenceIdeal.Value.res_main_v55 m c = transpose S1024x16384 [1, 0] (rWide96 (rDq (m ((c.tc : Thread nD τ).loc main_arg0))
    (m ((c.tc : Thread nD τ).loc main_arg1)) (m ((c.tc : Thread nD τ).loc main_arg2)) (m ((c.tc : Thread nD τ).loc main_arg3))))
    transposes_S16384x1024_S1024x16384_1_0 := by
  unfold Cert.ReferenceIdeal.Value.res_main_v55
  rfl

theorem res57_eq : Cert.ReferenceIdeal.Value.res_main_v57 m c = rWide96 (rDk (m ((c.tc : Thread nD τ).loc main_arg0))
    (m ((c.tc : Thread nD τ).loc main_arg1)) (m ((c.tc : Thread nD τ).loc main_arg2)) (m ((c.tc : Thread nD τ).loc main_arg3))) := by
  unfold Cert.ReferenceIdeal.Value.res_main_v57
  rfl

/-- The reference's run, its results in these terms. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = transpose S1024x16384 [1, 0] (rWide96 (rDq (m ((c.tc : Thread nD τ).loc main_arg0))
        (m ((c.tc : Thread nD τ).loc main_arg1)) (m ((c.tc : Thread nD τ).loc main_arg2)) (m ((c.tc : Thread nD τ).loc main_arg3))))
        transposes_S16384x1024_S1024x16384_1_0
      ∧ r.2.mem ((c.tc : Thread nD τ).loc main_v57) = rWide96 (rDk (m ((c.tc : Thread nD τ).loc main_arg0))
        (m ((c.tc : Thread nD τ).loc main_arg1)) (m ((c.tc : Thread nD τ).loc main_arg2)) (m ((c.tc : Thread nD τ).loc main_arg3)))
      ∧ r.2.mem ((c.tc : Thread nD τ).loc main_v59) = rWide64 (rDv (m ((c.tc : Thread nD τ).loc main_arg0))
        (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res55_eq m c), (h c).2.1.trans (res57_eq m c), (h c).2.2.1, (h c).2.2.2⟩)
    (Cert.ReferenceIdeal.Value.run m ρ)

end

section
variable {Q K : Fin 16384 → Fin 8 → Fin 96 → ℝ} {U G : Fin 16384 → Fin 8 → Fin 64 → ℝ}
  {a0 a1 : FVec Ideal S16384x8x96 .f32} {a2 a3 : FVec Ideal S16384x8x64 .f32}
  (h0 : ∀ q h d, a0 (ix3 q h d) = (Q q h d : EReal)) (h1 : ∀ k h d, a1 (ix3 k h d) = (K k h d : EReal))
  (h2 : ∀ k h e, a2 (ix3 k h e) = (U k h e : EReal)) (h3 : ∀ q h e, a3 (ix3 q h e) = (G q h e : EReal))

include h0 in
theorem rScaled_coe (q : Fin 16384) (h : Fin 8) (d : Fin 96) : rScaled a0 (ix3 q h d) = ((Q q h d * rate : ℝ) : EReal) := by
  unfold rScaled
  pointwise
  rw [h0, ofBits_rate, EReal.coe_mul]

include h0 h1 in
theorem rScores_coe (h : Fin 8) (q k : Fin 16384) : rScores a0 a1 (ix3 h q k) = (sc Q K h q k : EReal) := by
  unfold rScores sc
  pointwise
  rw [coe_sum]
  exact Finset.sum_congr rfl fun d _ => by rw [rScaled_coe h0, h1, ← EReal.coe_mul]

theorem largest (x : FVec Ideal S8x16384 .f32) (h : Fin 8) (q : Fin 16384) :
    maximumf (broadcastInDim S8x16384 ![] bcast_S_S8x16384 (constant S_ .f32 0xFF800000#32)) x (ix2 h q) = x (ix2 h q) := by
  pointwise
  rw [ofBits_bot]
  exact max_eq_right bot_le

include h0 h1 in
theorem rMax_coe (h : Fin 8) (q : Fin 16384) : rMax a0 a1 (ix2 h q) = (mx Q K h q : EReal) := by
  unfold rMax mx
  rw [largest]
  pointwise
  rw [← coe_top, ofBits_bot]
  exact congrArg (fun f => Finset.fold max ⊥ f Finset.univ) (funext fun k => rScores_coe h0 h1 h q k)

include h0 h1 in
theorem rExp_coe (h : Fin 8) (q k : Fin 16384) : rExp a0 a1 (ix3 h q k) = (ex Q K h q k : EReal) := by
  unfold rExp ex
  pointwise
  rw [rScores_coe h0 h1, rMax_coe h0 h1, ← EReal.coe_sub, Ideal.exp_coe]

include h0 h1 in
theorem rSum_coe (h : Fin 8) (q : Fin 16384) : rSum a0 a1 (ix3 h q 0) = (den Q K h q : EReal) := by
  unfold rSum den
  pointwise
  rw [coe_sum]
  exact Finset.sum_congr rfl fun k _ => rExp_coe h0 h1 h q k

include h0 h1 in
theorem rProbs_coe (h : Fin 8) (q k : Fin 16384) : rProbs a0 a1 (ix3 h q k) = (pr Q K h q k : EReal) := by
  unfold rProbs pr
  pointwise
  rw [rExp_coe h0 h1, rSum_coe h0 h1, Ideal.div_coe (den_ne Q K h q), ← EReal.coe_mul, mul_one_div]

include h3 in
theorem rHeads_coe (h : Fin 8) (e : Fin 64) (q : Fin 16384) : rHeads a3 (ix3 h e q) = (G q h e : EReal) := by
  unfold rHeads
  pointwise
  exact h3 q h e

include h2 h3 in
theorem rDp_coe (h : Fin 8) (q k : Fin 16384) : rDp a2 a3 (ix3 h q k) = (dp U G h q k : EReal) := by
  unfold rDp dp
  pointwise
  rw [coe_sum]
  exact Finset.sum_congr rfl fun e _ => by rw [rHeads_coe h3, h2, EReal.coe_mul]

include h0 h1 in
theorem rSquare_coe (h : Fin 8) (q : Fin 16384) :
    rSquare a0 a1 (ix3 h q 0) = ((1 / (den Q K h q * den Q K h q) : ℝ) : EReal) := by
  unfold rSquare
  pointwise
  rw [rSum_coe h0 h1, ← EReal.coe_mul, Ideal.div_coe (mul_ne_zero (den_ne Q K h q) (den_ne Q K h q)), one_mul]

include h0 h1 h2 h3 in
theorem rDsum_coe (h : Fin 8) (q : Fin 16384) :
    rDsum a0 a1 a2 a3 (ix2 h q) = ((∑ k, dp U G h q k * (1 / (den Q K h q * den Q K h q)) * ex Q K h q k : ℝ) : EReal) := by
  unfold rDsum
  pointwise
  rw [coe_sum]
  exact Finset.sum_congr rfl fun k _ => by rw [rDp_coe h2 h3, rSquare_coe h0 h1, rExp_coe h0 h1, EReal.coe_mul, EReal.coe_mul]

theorem as_column (x : FVec Ideal S8x16384 .f32) (h : Fin 8) (q : Fin 16384) (z : Fin 1) :
    shapeCast S8x16384x1 x shapeCasts_S8x16384_S8x16384x1 (ix3 h q z) = x (ix2 h q) := by
  refine shapeCast_apply x _ _ _ ?_
  rw [rowMajor_val2 (d := ![8, 16384]) (ix2 h q) 16384 rfl, rowMajor_val3 (d := ![8, 16384, 1]) (ix3 h q z) 16384 1 rfl rfl]
  show h.val * 16384 + q.val = h.val * 16384 + q.val * 1 + z.val
  omega

theorem read_negated (x : FVec Ideal S8x16384x1 .f32) (h : Fin 8) (q : Fin 16384) :
    Host.reduceAdd (Host.negf x) (constant S_ .f32 0x00000000#32) reducesTo_S8x16384x1_S8x16384_d2 h_S_ (ix2 h q) = -x (ix3 h q 0) := by
  pointwise
  exact Fin.sum_univ_one _

include h0 h1 h2 h3 in
theorem rNeg_coe (h : Fin 8) (q : Fin 16384) :
    rNeg a0 a1 a2 a3 (ix2 h q) = ((-∑ k, dp U G h q k * (1 / (den Q K h q * den Q K h q)) * ex Q K h q k : ℝ) : EReal) := by
  unfold rNeg
  rw [read_negated, as_column, rDsum_coe h0 h1 h2 h3, EReal.coe_neg]

theorem read_scored (x e : FVec Ideal S8x16384x16384 .f32) (y : FVec Ideal S8x16384x1 .f32) (z : FVec Ideal S8x16384 .f32) (h : Fin 8)
    (q k : Fin 16384) :
    mulf (addf (Host.divf x (broadcastInDim S8x16384x16384 ![0, 1, 2] bcast_S8x16384x1_S8x16384x16384_0_1_2 y))
      (broadcastInDim S8x16384x16384 ![0, 1] bcast_S8x16384_S8x16384x16384_0_1 z)) e (ix3 h q k)
      = (Ideal.div (x (ix3 h q k)) (y (ix3 h q 0)) + z (ix2 h q)) * e (ix3 h q k) := by
  pointwise

include h0 h1 h2 h3 in
theorem rDs_coe (h : Fin 8) (q k : Fin 16384) : rDs a0 a1 a2 a3 (ix3 h q k) = (ds Q K U G h q k : EReal) := by
  unfold rDs
  rw [read_scored, rDp_coe h2 h3, rSum_coe h0 h1, rNeg_coe h0 h1 h2 h3, rExp_coe h0 h1, Ideal.div_coe (den_ne Q K h q), ← EReal.coe_mul,
    mul_one_div, ← EReal.coe_add, ← EReal.coe_mul, ds_quotient]

include h0 h1 h2 h3 in
theorem rDq_coe (q : Fin 16384) (h : Fin 8) (d : Fin 96) : rDq a0 a1 a2 a3 (ix3 q h d) = (dq Q K U G q h d : EReal) := by
  unfold rDq dq
  pointwise
  rw [coe_sum]
  exact Finset.sum_congr rfl fun k _ => by rw [rDs_coe h0 h1 h2 h3, h1, EReal.coe_mul]

include h0 h1 h2 h3 in
theorem rDk_coe (k : Fin 16384) (h : Fin 8) (d : Fin 96) : rDk a0 a1 a2 a3 (ix3 k h d) = (dk Q K U G k h d : EReal) := by
  unfold rDk dk
  pointwise
  rw [coe_sum]
  exact Finset.sum_congr rfl fun q _ => by rw [rDs_coe h0 h1 h2 h3, rScaled_coe h0, ← EReal.coe_mul]

include h0 h1 h3 in
theorem rDv_coe (k : Fin 16384) (h : Fin 8) (e : Fin 64) : rDv a0 a1 a3 (ix3 k h e) = (dv Q K G k h e : EReal) := by
  unfold rDv dv
  pointwise
  rw [coe_sum]
  exact Finset.sum_congr rfl fun q _ => by rw [rHeads_coe h3, rProbs_coe h0 h1, mul_comm, EReal.coe_mul]

theorem sitofp_zero : (FloatOps.sitofp .f32 (0#32) : Ideal .f32) = 0 := by
  show ((BitVec.toInt 0#32 : ℝ) : EReal) = 0
  simp

theorem rWide96_coe {x : FVec Ideal S16384x8x96 .f32} {X : Fin 16384 → Fin 8 → Fin 96 → ℝ} (hx : ∀ q h d, x (ix3 q h d) = (X q h d : EReal))
    (q : Fin 16384) (j : Fin 1024) : rWide96 x (ix2 q j) = (wide (X q ⟨j.val / 128, by omega⟩) ⟨j.val % 128, by omega⟩ : EReal) := by
  unfold rWide96 wide
  pointwise
  by_cases hd : j.val % 128 < 96
  · rw [dif_pos ⟨by omega, hd⟩, dif_pos hd, hx]
  · rw [dif_neg fun h => hd h.2, dif_neg hd, sitofp_zero]; rfl

theorem rWide64_coe {x : FVec Ideal S16384x8x64 .f32} {X : Fin 16384 → Fin 8 → Fin 64 → ℝ} (hx : ∀ q h d, x (ix3 q h d) = (X q h d : EReal))
    (q : Fin 16384) (j : Fin 1024) : rWide64 x (ix2 q j) = (wide (X q ⟨j.val / 128, by omega⟩) ⟨j.val % 128, by omega⟩ : EReal) := by
  unfold rWide64 wide
  pointwise
  by_cases hd : j.val % 128 < 64
  · rw [dif_pos ⟨by omega, hd⟩, dif_pos hd, hx]
  · rw [dif_neg fun h => hd h.2, dif_neg hd, sitofp_zero]; rfl

theorem swap_apply (x : FVec Ideal S16384x1024 .f32) (j : Fin 1024) (q : Fin 16384) :
    transpose S1024x16384 [1, 0] x transposes_S16384x1024_S1024x16384_1_0 (ix2 j q) = x (ix2 q j) := by
  pointwise

end

end Cert.ReferenceIdeal.Att

end
-- ==== Proof.Result.lean ====
/- The reference's three results as whole arrays of real numbers. -/
module

public import proofs.«01_k».proof.Proof.RefValue
public import Idealize.ShloMosaic.Lib.ValueIdxCore

@[expose] public section

set_option maxRecDepth 16384

noncomputable section

namespace Cert.ReferenceIdeal.Att

open Cert.ReferenceIdeal.Gen
open Idealize.ShloMosaic Idealize.ShloMosaic.TcCoe Idealize.ShloMosaic.Tactic
open Idealize.SL.Sem
open scoped BigOperators

open Cert.Reals

variable {Q K : Fin 16384 → Fin 8 → Fin 96 → ℝ} {U G : Fin 16384 → Fin 8 → Fin 64 → ℝ}
  {a0 a1 : FVec Ideal S16384x8x96 .f32} {a2 a3 : FVec Ideal S16384x8x64 .f32}
  (h0 : ∀ q h d, a0 (ix3 q h d) = (Q q h d : EReal)) (h1 : ∀ k h d, a1 (ix3 k h d) = (K k h d : EReal))
  (h2 : ∀ k h e, a2 (ix3 k h e) = (U k h e : EReal)) (h3 : ∀ q h e, a3 (ix3 q h e) = (G q h e : EReal))

section
include h0 h1 h2 h3

theorem result0 : transpose S1024x16384 [1, 0] (rWide96 (rDq a0 a1 a2 a3)) transposes_S16384x1024_S1024x16384_1_0
    = fun i => (wide (dq Q K U G ⟨(i 1).val, (i 1).isLt⟩ ⟨(i 0).val / 128, by have : (i 0).val < 1024 := (i 0).isLt; omega⟩)
        ⟨(i 0).val % 128, by omega⟩ : EReal) := by
  funext i
  rw [eq_ix2 i]
  exact (swap_apply _ (i 0) (i 1)).trans (rWide96_coe (rDq_coe h0 h1 h2 h3) (i 1) (i 0))

theorem result1 : rWide96 (rDk a0 a1 a2 a3)
    = fun i => (wide (dk Q K U G ⟨(i 0).val, (i 0).isLt⟩ ⟨(i 1).val / 128, by have : (i 1).val < 1024 := (i 1).isLt; omega⟩)
        ⟨(i 1).val % 128, by omega⟩ : EReal) := by
  funext i
  rw [eq_ix2 i]
  exact rWide96_coe (rDk_coe h0 h1 h2 h3) (i 0) (i 1)

end

include h0 h1 h3 in
theorem result2 : rWide64 (rDv a0 a1 a3)
    = fun i => (wide (dv Q K G ⟨(i 0).val, (i 0).isLt⟩ ⟨(i 1).val / 128, by have : (i 1).val < 1024 := (i 1).isLt; omega⟩)
        ⟨(i 1).val % 128, by omega⟩ : EReal) := by
  funext i
  rw [eq_ix2 i]
  exact rWide64_coe (rDv_coe h0 h1 h3) (i 0) (i 1)

end Cert.ReferenceIdeal.Att

end
-- ==== Proof.Finite.lean ====
/- The precondition, read: every argument's entries are real numbers. -/
module

public import proofs.«01_k».proof.Pre_finite
public import proofs.«01_k».proof.Proof.Reals
public import Idealize.ShloMosaic.Lib.Pointwise

@[expose] public section

set_option maxRecDepth 16384

noncomputable section

namespace Cert.Pre_finite.Att

open Cert.Pre_finite
open Idealize.ShloMosaic Idealize.ShloMosaic.TcCoe Idealize.ShloMosaic.Tactic
open Idealize.SL.Sem
open scoped BigOperators

open Cert.Reals

/-- The predicate's side conditions. -/
theorem facts : Cert.Pre_finite.Facts := ⟨by decide, by decide⟩

/-- An array whose absolute values are all below infinity is an array of real numbers. -/
theorem real_entry {s : Shape} (h : S_.BroadcastsInDim s (![] : Fin 0 → Fin s.rank)) (x : FVec Ideal s .f32)
    (hx : cmpf .olt (Host.absf x) (broadcastInDim s ![] h (constant S_ .f32 0x7F800000#32)) = fun _ => 1#1) (i : s.Idx) :
    ((x i).toReal : EReal) = x i := by
  have hi : Ideal.cmp .olt (max (x i) (-x i)) (Ideal.ofBits .f32 0x7F800000#32) = 1#1 := congrFun hx i
  rw [ofBits_top] at hi
  refine lt_top_real (x i) ?_
  by_contra hn
  simp [Ideal.cmp, hn] at hi

end Cert.Pre_finite.Att

end
-- ==== Proof.ForwardBlock.lean ====
/- What one grid point of the forward launch computes, as functions of the blocks it is given. -/
module

public import proofs.«01_k».proof.Proof.Gen.ForwardIdeal.Value
public import Idealize.ShloMosaic.Lib.Pipeline.ValueKit

@[expose] public section

set_option maxRecDepth 16384

noncomputable section

namespace Cert.ForwardIdeal.Att

open Cert.ForwardIdeal.Gen
open Idealize.ShloMosaic Idealize.ShloMosaic.TcCoe Idealize.ShloMosaic.Tactic

variable {F : FTy → Type} [FloatOps F] [Named F]

/-! ## The parts of a chunk of 1024 keys -/

theorem keysAt_inb (n : Fin 16) : ∀ a, (![1024 * n.val, 0] : Fin 2 → ℕ) a + S1024x128.size a ≤ S16384x128.size a := by
  intro a; have := n.isLt; fin_cases a
  · show 1024 * n.val + 1024 ≤ 16384; omega
  · show 0 + 128 ≤ 128; omega

theorem valsAt_inb (n : Fin 16) : ∀ a, (![0, 1024 * n.val] : Fin 2 → ℕ) a + S128x1024.size a ≤ S128x16384.size a := by
  intro a; have := n.isLt; fin_cases a
  · show 0 + 128 ≤ 128; omega
  · show 1024 * n.val + 1024 ≤ 16384; omega

/-- The keys of chunk `n`, -/
def keysAt (x : Vec F S16384x128 .bf16) (n : Fin 16) : Vec F S1024x128 .bf16 :=
  View.ld x (Rect.unit (s := S16384x128) ![1024 * n.val, 0] S1024x128.size (keysAt_inb n))

/-- and its values, transposed. -/
def valsAt (x : Vec F S128x16384 .bf16) (n : Fin 16) : Vec F S128x1024 .bf16 :=
  View.ld x (Rect.unit (s := S128x16384) ![0, 1024 * n.val] S128x1024.size (valsAt_inb n))

/-- The scores of a chunk's keys and the block's 1024 queries. -/
def score (x0 k : Vec F S1024x128 .bf16) : FVec F S1024x1024 .f32 :=
  matmul dot_S1024x128_S1024x128_S1024x1024_1_1_0_0_n_n none (shapeCast S1024x128 k shapeCasts_S1024x128_S1024x128)
    (shapeCast S1024x128 x0 shapeCasts_S1024x128_S1024x128) (constant S1024x1024 .f32 0x00000000#32)

/-- The larger of `m` and the chunk's largest score, query by query. -/
def larger (s : FVec F S1024x1024 .f32) (m : FVec F S1x1024 .f32) : FVec F S1x1024 .f32 :=
  maximumf m (shapeCast S1x1024 (multiReduction .maximumf [0] S1024 s 0xFF800000#32 reduces_S1024x1024_S1024 (.inl rfl) rfl)
    shapeCasts_S1024_S1x1024)

/-- Two to the power of a score less `m`. -/
def powers (s : FVec F S1024x1024 .f32) (m : FVec F S1x1024 .f32) : FVec F S1024x1024 .f32 :=
  exp2 (subf s (broadcastTo S1024x1024 m broadcasts_S1x1024_S1024x1024))

/-- Their sum over the chunk's keys, query by query. -/
def total (p : FVec F S1024x1024 .f32) : FVec F S1x1024 .f32 :=
  shapeCast S1x1024 (multiReduction .add [0] S1024 p 0x00000000#32 reduces_S1024x1024_S1024 (.inl rfl) rfl) shapeCasts_S1024_S1x1024

/-- The values weighted by the powers. -/
def weighted (v : Vec F S128x1024 .bf16) (p : FVec F S1024x1024 .f32) : FVec F S128x1024 .f32 :=
  matmul dot_S128x1024_S1024x1024_S128x1024_1_0_0_1_n_n none (shapeCast S128x1024 v shapeCasts_S128x1024_S128x1024)
    (truncf .bf16 p bitsLt_bf16_f32) (constant S128x1024 .f32 0x00000000#32)

/-! ## What a grid point computes -/

/-- Each query's largest score after the first `n` chunks. -/
def mAcc (x0 : Vec F S1024x128 .bf16) (x1 : Vec F S16384x128 .bf16) : (n : ℕ) → n ≤ 16 → FVec F S1x1024 .f32
  | 0, _ => k0_pay9
  | n + 1, h => larger (score x0 (keysAt x1 ⟨n, h⟩)) (mAcc x0 x1 n (Nat.le_of_succ_le h))

/-- Its sum of powers. -/
def lAcc (x0 : Vec F S1024x128 .bf16) (x1 : Vec F S16384x128 .bf16) : (n : ℕ) → n ≤ 16 → FVec F S1x1024 .f32
  | 0, _ => k0_pay10
  | n + 1, h => addf (mulf (exp2 (subf (mAcc x0 x1 n (Nat.le_of_succ_le h)) (mAcc x0 x1 (n + 1) h))) (lAcc x0 x1 n (Nat.le_of_succ_le h)))
      (total (powers (score x0 (keysAt x1 ⟨n, h⟩)) (mAcc x0 x1 (n + 1) h)))

/-- Its weighted values. -/
def aAcc (x0 : Vec F S1024x128 .bf16) (x1 : Vec F S16384x128 .bf16) (x2 : Vec F S128x16384 .bf16) : (n : ℕ) → n ≤ 16 → FVec F S128x1024 .f32
  | 0, _ => k0_pay11
  | n + 1, h => addf
      (mulf (broadcastTo S128x1024 (exp2 (subf (mAcc x0 x1 n (Nat.le_of_succ_le h)) (mAcc x0 x1 (n + 1) h))) broadcasts_S1x1024_S128x1024)
        (aAcc x0 x1 x2 n (Nat.le_of_succ_le h)))
      (weighted (valsAt x2 ⟨n, h⟩) (powers (score x0 (keysAt x1 ⟨n, h⟩)) (mAcc x0 x1 (n + 1) h)))

end Cert.ForwardIdeal.Att

end
-- ==== Proof.ForwardPoint.lean ====
/- The body of the forward launch leaves, at every point, what the closed forms say. -/
module

public import proofs.«01_k».proof.Proof.Gen.Forward.Frame
public import proofs.«01_k».proof.Proof.Gen.ForwardReferenceIdeal.Run
public import proofs.«01_k».proof.Proof.ForwardBlock

@[expose] public section

set_option maxRecDepth 16384

noncomputable section

namespace Cert.ForwardIdeal.Att

open Cert.ForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 4000000 in
/-- What the body leaves as the attention's output. -/
theorem out_A (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (hc0 : cond0_0 i) (hc1 : cond0_1 i)
    (x0 : Vec F S1024x128 .bf16) (x1 : Vec F S16384x128 .bf16) (x2 : Vec F S128x16384 .bf16) :
    out0_A_3 c i arg3 harg3 arg4 harg4 arg5 harg5 arg6 harg6 arg7 harg7 arg8 harg8 arg9 harg9 arg10 harg10 hc0 hc1 x0 x1 x2 = k0_pay7 (shapeCast S128x1024 (aAcc x0 x1 x2 16 le_rfl) shapeCasts_S128x1024_S128x1024)
      (shapeCast S1x1024 (lAcc x0 x1 16 le_rfl) shapeCasts_S1x1024_S1x1024) := by
  unfold out0_A_3
  rw [View.read_writes_eq_canon _ _ _ (cover0_A_3 c i arg3 harg3 arg4 harg4 arg5 harg5 arg6 harg6 arg7 harg7 arg8 harg8 arg9 harg9 arg10 harg10 hc0 hc1 x0 x1 x2)]
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, aAcc, lAcc, mAcc, weighted, total, powers, larger, score, keysAt, valsAt]

set_option maxHeartbeats 4000000 in
/-- What it leaves as the logarithmic sums. -/
theorem lse_A (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (hc0 : cond0_0 i) (hc1 : cond0_1 i)
    (x0 : Vec F S1024x128 .bf16) (x1 : Vec F S16384x128 .bf16) (x2 : Vec F S128x16384 .bf16) :
    out0_A_4 c i arg3 harg3 arg4 harg4 arg5 harg5 arg6 harg6 arg7 harg7 arg8 harg8 arg9 harg9 arg10 harg10 hc0 hc1 x0 x1 x2 = k0_pay8 (shapeCast S1x1024 (mAcc x0 x1 16 le_rfl) shapeCasts_S1x1024_S1x1024)
      (shapeCast S1x1024 (lAcc x0 x1 16 le_rfl) shapeCasts_S1x1024_S1x1024) := by
  unfold out0_A_4
  rw [View.read_writes_eq_canon _ _ _ (cover0_A_4 c i arg3 harg3 arg4 harg4 arg5 harg5 arg6 harg6 arg7 harg7 arg8 harg8 arg9 harg9 arg10 harg10 hc0 hc1 x0 x1 x2)]
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, lAcc, mAcc, total, powers, larger, score, keysAt, valsAt]

end Cert.ForwardIdeal.Att

end
-- ==== Proof.ForwardReals.lean ====
/- The attention's output and its logarithmic sums over the real numbers, from powers of two less any number. -/
module

public import proofs.«01_k».proof.Proof.Reals

@[expose] public section

noncomputable section

namespace Cert.Reals

open Idealize.ShloMosaic
open scoped BigOperators

/-- A nonnegative number times a sum, whatever is added. -/
theorem mul_sum_coe {ι : Type} (s : Finset ι) {c : ℝ} (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- The first `n` of 128 entries, then zeros. -/
def filled {n : ℕ} (f : Fin n → EReal) (d : Fin 128) : EReal := if h : d.val < n then f ⟨d.val, h⟩ else 0

theorem filled_place {n : ℕ} (f : Fin 16384 → Fin 8 → Fin n → EReal) {r r' : Fin 16384} {h h' : Fin 8} {d d' : Fin 128} (hr : r.val = r'.val)
    (hh : h.val = h'.val) (hd : d.val = d'.val) : filled (f r h) d = filled (f r' h') d' := by
  rw [Fin.ext hr, Fin.ext hh, Fin.ext hd]

section
variable (Q K : Fin 16384 → Fin 8 → Fin 96 → ℝ) (V : Fin 16384 → Fin 8 → Fin 64 → EReal)

/-- The attention's output, whatever the values are, -/
def out (q : Fin 16384) (h : Fin 8) (e : Fin 64) : EReal := ∑ k, (pr Q K h q k : EReal) * V k h e
/-- and the logarithm, to the base of two, of the sum of a query's exponentials. -/
def lse (h : Fin 8) (q : Fin 16384) : ℝ := Real.log (∑ k, Real.exp (sc Q K h q k)) / Real.log 2

/-- Two to the power of a quotient by the logarithm of two, less `M`. -/
theorem rpow_shift (x M : ℝ) : Real.rpow 2 (x / Real.log 2 - M) = Real.exp x * Real.exp (-(M * Real.log 2)) := by
  show (2 : ℝ) ^ (_ : ℝ) = _
  rw [Real.rpow_def_of_pos two_pos, ← Real.exp_add]
  congr 1
  have h2 := log_two_ne
  field_simp
  ring

theorem ratio_shift {ι : Type} [Fintype ι] (f : ι → ℝ) {c : ℝ} (hc : c ≠ 0) (k : ι) :
    f k * c / ∑ i, f i * c = f k / ∑ i, f i := by
  rw [← Finset.sum_mul, mul_div_mul_right _ _ hc]

theorem sum_exp_pos (h : Fin 8) (q : Fin 16384) : 0 < ∑ k, Real.exp (sc Q K h q k) :=
  Finset.sum_pos (fun k _ => Real.exp_pos _) ⟨0, Finset.mem_univ _⟩

/-- A probability is an exponential's share of their sum. -/
theorem pr_eq (h : Fin 8) (q k : Fin 16384) : pr Q K h q k = Real.exp (sc Q K h q k) / ∑ i, Real.exp (sc Q K h q i) := by
  unfold pr den ex
  simp only [Real.exp_sub, div_eq_mul_inv (Real.exp (sc Q K h q _)) (Real.exp (mx Q K h q))]
  exact ratio_shift (fun i => Real.exp (sc Q K h q i)) (inv_ne_zero (Real.exp_pos _).ne') k

theorem sum_pow_pos (h : Fin 8) (q : Fin 16384) (M : ℝ) : 0 < ∑ k, Real.rpow 2 (sc Q K h q k / Real.log 2 - M) := by
  simp only [rpow_shift]
  exact Finset.sum_pos (fun k _ => mul_pos (Real.exp_pos _) (Real.exp_pos _)) ⟨0, Finset.mem_univ _⟩

/-- A probability is a power's share of their sum, whatever was taken off. -/
theorem pr_shift (h : Fin 8) (q k : Fin 16384) (M : ℝ) :
    Real.rpow 2 (sc Q K h q k / Real.log 2 - M) / ∑ i, Real.rpow 2 (sc Q K h q i / Real.log 2 - M) = pr Q K h q k := by
  rw [pr_eq]
  simp only [rpow_shift]
  exact ratio_shift (fun i => Real.exp (sc Q K h q i)) (Real.exp_pos _).ne' k

/-- The logarithmic sum from the powers. -/
theorem lse_shift (h : Fin 8) (q : Fin 16384) (M : ℝ) :
    M + Real.log (∑ k, Real.rpow 2 (sc Q K h q k / Real.log 2 - M)) * (Real.log 2)⁻¹ = lse Q K h q := by
  unfold lse
  simp only [rpow_shift]
  rw [← Finset.sum_mul, Real.log_mul (sum_exp_pos Q K h q).ne' (Real.exp_pos _).ne', Real.log_exp]
  have h2 := log_two_ne
  field_simp
  ring

end

end Cert.Reals

end
-- ==== Proof.ForwardBlockValue.lean ====
/- What a grid point of the forward launch computes from blocks of real numbers. -/
module

public import proofs.«01_k».proof.Proof.ForwardBlock
public import proofs.«01_k».proof.Proof.ForwardReals

@[expose] public section

set_option maxRecDepth 16384

noncomputable section

namespace Cert.ForwardIdeal.Att

open Cert.ForwardIdeal.Gen
open Idealize.ShloMosaic Idealize.ShloMosaic.TcCoe Idealize.ShloMosaic.Tactic
open scoped BigOperators

open Cert.Reals

/-- Key `i` of chunk `n`. -/
def ki (n : Fin 16) (i : Fin 1024) : Fin 16384 := ⟨n.val * 1024 + i.val, by omega⟩

theorem keysAt_apply (x : Vec Ideal S16384x128 .bf16) (n : Fin 16) (i : Fin 1024) (d : Fin 128) :
    keysAt x n (ix2 i d) = x (ix2 (ki n i) d) := by
  unfold keysAt ki
  pointwise
  simp only [Nat.mul_comm]

theorem valsAt_apply (x : Vec Ideal S128x16384 .bf16) (n : Fin 16) (d : Fin 128) (i : Fin 1024) :
    valsAt x n (ix2 d i) = x (ix2 d (ki n i)) := by
  unfold valsAt ki
  pointwise
  simp only [Nat.mul_comm]

theorem score_apply (x0 k : Vec Ideal S1024x128 .bf16) (i q : Fin 1024) :
    score x0 k (ix2 i q) = ∑ d : Fin 128, k (ix2 i d) * x0 (ix2 q d) := by
  unfold score
  pointwise

theorem larger_apply (s : FVec Ideal S1024x1024 .f32) (m : FVec Ideal S1x1024 .f32) (q : Fin 1024) :
    larger s m (ix2 0 q) = max (m (ix2 0 q)) (Finset.univ.fold max (⊥ : EReal) fun i : Fin 1024 => s (ix2 i q)) := by
  unfold larger
  pointwise
  rw [ofBits_bot]

theorem powers_apply (s : FVec Ideal S1024x1024 .f32) (m : FVec Ideal S1x1024 .f32) (i q : Fin 1024) :
    powers s m (ix2 i q) = Ideal.exp2 (s (ix2 i q) - m (ix2 0 q)) := by
  unfold powers
  pointwise
  rfl

theorem total_apply (p : FVec Ideal S1024x1024 .f32) (q : Fin 1024) : total p (ix2 0 q) = ∑ i : Fin 1024, p (ix2 i q) := by
  unfold total
  pointwise

theorem weighted_apply (v : Vec Ideal S128x1024 .bf16) (p : FVec Ideal S1024x1024 .f32) (d : Fin 128) (q : Fin 1024) :
    weighted v p (ix2 d q) = ∑ i : Fin 1024, v (ix2 d i) * p (ix2 i q) := by
  unfold weighted
  pointwise

theorem factor_apply (a b c : FVec Ideal S1x1024 .f32) (q : Fin 1024) :
    mulf (exp2 (subf a b)) c (ix2 0 q) = Ideal.exp2 (a (ix2 0 q) - b (ix2 0 q)) * c (ix2 0 q) := by
  pointwise
  rfl

theorem factors_apply (a b : FVec Ideal S1x1024 .f32) (c : FVec Ideal S128x1024 .f32) (d : Fin 128) (q : Fin 1024) :
    mulf (broadcastTo S128x1024 (exp2 (subf a b)) broadcasts_S1x1024_S128x1024) c (ix2 d q)
      = Ideal.exp2 (a (ix2 0 q) - b (ix2 0 q)) * c (ix2 d q) := by
  pointwise
  rfl

theorem first_m (q : Fin 1024) : (k0_pay9 (F := Ideal)) (ix2 0 q) = ⊥ := by
  unfold k0_pay9
  pointwise
  exact ofBits_bot

theorem first_l (q : Fin 1024) : (k0_pay10 (F := Ideal)) (ix2 0 q) = 0 := by
  unfold k0_pay10
  pointwise

theorem first_a (d : Fin 128) (q : Fin 1024) : (k0_pay11 (F := Ideal)) (ix2 d q) = 0 := by
  unfold k0_pay11
  pointwise

section

variable {a : Fin 1024 → Fin 128 → ℝ} {b : Fin 16384 → Fin 128 → ℝ} {g : Fin 16384 → Fin 128 → EReal}

/-- The score of key `k` and query `q` of the block. -/
def bsc (a : Fin 1024 → Fin 128 → ℝ) (b : Fin 16384 → Fin 128 → ℝ) (k : Fin 16384) (q : Fin 1024) : ℝ := ∑ d, b k d * a q d

variable {x0 : Vec Ideal S1024x128 .bf16} {x1 : Vec Ideal S16384x128 .bf16} {x2 : Vec Ideal S128x16384 .bf16}
  (h0 : ∀ q d, x0 (ix2 q d) = (a q d : EReal)) (h1 : ∀ k d, x1 (ix2 k d) = (b k d : EReal)) (h2 : ∀ d k, x2 (ix2 d k) = g k d)

include h0 h1 in
theorem score_coe (n : Fin 16) (i q : Fin 1024) : score x0 (keysAt x1 n) (ix2 i q) = (bsc a b (ki n i) q : EReal) := by
  unfold bsc
  rw [score_apply, coe_sum]
  exact Finset.sum_congr rfl fun d _ => by rw [keysAt_apply, h0, h1, EReal.coe_mul]

include h0 h1 in
theorem powers_coe (n : Fin 16) {m : FVec Ideal S1x1024 .f32} {M : ℝ} (i q : Fin 1024) (hm : m (ix2 0 q) = (M : EReal)) :
    powers (score x0 (keysAt x1 n)) m (ix2 i q) = (Real.rpow 2 (bsc a b (ki n i) q - M) : EReal) := by
  rw [powers_apply, score_coe h0 h1, hm, ← EReal.coe_sub, Ideal.exp2_coe]

include h0 h1 in
theorem larger_coe (n : Fin 16) (m : FVec Ideal S1x1024 .f32) (q : Fin 1024) (hm : m (ix2 0 q) = ⊥ ∨ ∃ M : ℝ, m (ix2 0 q) = (M : EReal)) :
    ∃ M : ℝ, larger (score x0 (keysAt x1 n)) m (ix2 0 q) = (M : EReal) := by
  rw [larger_apply]
  simp only [score_coe h0 h1]
  rw [coe_top]
  rcases hm with hm | ⟨M, hm⟩
  · exact ⟨_, by rw [hm, max_eq_right bot_le]⟩
  · exact ⟨_, by rw [hm]; exact (EReal.coe_strictMono.monotone.map_max (a := M)).symm⟩

theorem rescale (M M' x : ℝ) : Real.rpow 2 (M - M') * Real.rpow 2 (x - M) = Real.rpow 2 (x - M') := by
  show (2 : ℝ) ^ (_ : ℝ) * (2 : ℝ) ^ (_ : ℝ) = (2 : ℝ) ^ (_ : ℝ)
  rw [← Real.rpow_add two_pos]
  congr 1
  ring

include h0 h1 in
theorem lAcc_step (n : ℕ) (hn : n + 1 ≤ 16) (q : Fin 1024) {M' : ℝ} (hm : mAcc x0 x1 (n + 1) hn (ix2 0 q) = (M' : EReal)) :
    lAcc x0 x1 (n + 1) hn (ix2 0 q)
      = Ideal.exp2 (mAcc x0 x1 n (Nat.le_of_succ_le hn) (ix2 0 q) - (M' : EReal)) * lAcc x0 x1 n (Nat.le_of_succ_le hn) (ix2 0 q)
        + ((∑ i, Real.rpow 2 (bsc a b (ki ⟨n, hn⟩ i) q - M') : ℝ) : EReal) := by
  rw [lAcc, addf_apply, factor_apply, total_apply, hm, coe_sum]
  congr 1
  exact Finset.sum_congr rfl fun i _ => powers_coe h0 h1 ⟨n, hn⟩ i q hm

include h0 h1 h2 in
theorem aAcc_step (n : ℕ) (hn : n + 1 ≤ 16) (d : Fin 128) (q : Fin 1024) {M' : ℝ} (hm : mAcc x0 x1 (n + 1) hn (ix2 0 q) = (M' : EReal)) :
    aAcc x0 x1 x2 (n + 1) hn (ix2 d q)
      = Ideal.exp2 (mAcc x0 x1 n (Nat.le_of_succ_le hn) (ix2 0 q) - (M' : EReal)) * aAcc x0 x1 x2 n (Nat.le_of_succ_le hn) (ix2 d q)
        + ∑ i, g (ki ⟨n, hn⟩ i) d * (Real.rpow 2 (bsc a b (ki ⟨n, hn⟩ i) q - M') : EReal) := by
  rw [aAcc, addf_apply, factors_apply, weighted_apply, hm]
  congr 1
  exact Finset.sum_congr rfl fun i _ => by rw [powers_coe h0 h1 ⟨n, hn⟩ i q hm, valsAt_apply, h2]

include h0 h1 h2 in
/-- After one chunk or more, the running values are sums over the keys seen. -/
theorem acc_coe (n : ℕ) (hn : n + 1 ≤ 16) (q : Fin 1024) :
    ∃ M : ℝ, mAcc x0 x1 (n + 1) hn (ix2 0 q) = (M : EReal)
      ∧ lAcc x0 x1 (n + 1) hn (ix2 0 q)
        = ((∑ j : Fin (n + 1), ∑ i, Real.rpow 2 (bsc a b (ki ⟨j.val, by omega⟩ i) q - M) : ℝ) : EReal)
      ∧ ∀ d, aAcc x0 x1 x2 (n + 1) hn (ix2 d q)
        = ∑ j : Fin (n + 1), ∑ i, g (ki ⟨j.val, by omega⟩ i) d * (Real.rpow 2 (bsc a b (ki ⟨j.val, by omega⟩ i) q - M) : EReal) := by
  induction n with
  | zero =>
    obtain ⟨M, hM⟩ := larger_coe h0 h1 ⟨0, hn⟩ (mAcc x0 x1 0 (Nat.zero_le _)) q (Or.inl (first_m q))
    have hz : Ideal.exp2 (mAcc x0 x1 0 (Nat.zero_le _) (ix2 0 q) - (M : EReal)) = 0 := by
      rw [show mAcc x0 x1 0 (Nat.zero_le _) (ix2 0 q) = ⊥ from first_m q, EReal.bot_sub]
      exact Ideal.exp2_bot
    refine ⟨M, hM, ?_, fun d => ?_⟩
    · rw [lAcc_step h0 h1 0 hn q hM, hz, zero_mul, zero_add]
      simp
    · rw [aAcc_step h0 h1 h2 0 hn d q hM, hz, zero_mul, zero_add]
      simp
  | succ n ih =>
    obtain ⟨M, hM, hl, ha⟩ := ih (Nat.le_of_succ_le hn)
    obtain ⟨M', hM'⟩ := larger_coe h0 h1 ⟨n + 1, hn⟩ (mAcc x0 x1 (n + 1) (Nat.le_of_succ_le hn)) q (Or.inr ⟨M, hM⟩)
    refine ⟨M', hM', ?_, fun d => ?_⟩
    · rw [lAcc_step h0 h1 (n + 1) hn q hM', hM, hl, ← EReal.coe_sub, Ideal.exp2_coe, ← EReal.coe_mul, ← EReal.coe_add,
        Fin.sum_univ_castSucc (n := n + 1)]
      refine congrArg _ (congrArg₂ _ ?_ rfl)
      rw [Finset.mul_sum]
      refine Finset.sum_congr rfl fun j _ => ?_
      rw [Finset.mul_sum]
      exact Finset.sum_congr rfl fun i _ => rescale M M' _
    · rw [aAcc_step h0 h1 h2 (n + 1) hn d q hM', hM, ha, ← EReal.coe_sub, Ideal.exp2_coe, Fin.sum_univ_castSucc (n := n + 1)]
      have hp : 0 ≤ Real.rpow 2 (M - M') := (Real.rpow_pos_of_pos two_pos _).le
      refine congrArg₂ _ ?_ rfl
      rw [mul_sum_coe _ hp]
      refine Finset.sum_congr rfl fun j _ => ?_
      rw [mul_sum_coe _ hp]
      exact Finset.sum_congr rfl fun i _ => by rw [mul_left_comm, ← EReal.coe_mul, rescale]; rfl

include h0 h1 h2 in
/-- After all chunks they are sums over all keys. -/
theorem acc_all (q : Fin 1024) :
    ∃ M : ℝ, mAcc x0 x1 16 le_rfl (ix2 0 q) = (M : EReal)
      ∧ lAcc x0 x1 16 le_rfl (ix2 0 q) = ((∑ k, Real.rpow 2 (bsc a b k q - M) : ℝ) : EReal)
      ∧ ∀ d, aAcc x0 x1 x2 16 le_rfl (ix2 d q) = ∑ k, g k d * (Real.rpow 2 (bsc a b k q - M) : EReal) := by
  obtain ⟨M, hm, hl, ha⟩ := acc_coe h0 h1 h2 15 le_rfl q
  refine ⟨M, hm, hl.trans (congrArg _ ?_), fun d => (ha d).trans ?_⟩
  · exact Fin.sum_mul_add_fin 16 1024 fun k : Fin 16384 => Real.rpow 2 (bsc a b k q - M)
  · exact Fin.sum_mul_add_fin 16 1024 fun k : Fin 16384 => g k d * (Real.rpow 2 (bsc a b k q - M) : EReal)

end

/-! ## The last steps -/

theorem named_log2e : (Named.named κ "log2e" 0x3FB8AA3B#32 : Ideal .f32) = (((Real.log 2)⁻¹ : ℝ) : EReal) := by
  simp [Named.named, κ]

theorem quotient_apply (x : Vec Ideal S128x1024 .f32) (l : Vec Ideal S1x1024 .f32) (q : Fin 1024) (d : Fin 128) :
    k0_pay7 (shapeCast S128x1024 x shapeCasts_S128x1024_S128x1024) (shapeCast S1x1024 l shapeCasts_S1x1024_S1x1024) (ix2 q d)
      = Ideal.div (x (ix2 d q)) (l (ix2 0 q)) := by
  unfold k0_pay7
  pointwise

theorem logs_apply (m l : Vec Ideal S1x1024 .f32) (q : Fin 1024) :
    k0_pay8 (shapeCast S1x1024 m shapeCasts_S1x1024_S1x1024) (shapeCast S1x1024 l shapeCasts_S1x1024_S1x1024) (ix3 0 0 q)
      = m (ix2 0 q) + Ideal.log (l (ix2 0 q)) * (((Real.log 2)⁻¹ : ℝ) : EReal) := by
  rw [← named_log2e]
  unfold k0_pay8
  pointwise

end Cert.ForwardIdeal.Att

end
-- ==== Proof.ForwardValue.lean ====
/- The forward launch's output arrays, where the queries' and keys' entries are real numbers. -/
module

public import proofs.«01_k».proof.Proof.ForwardPoint
public import proofs.«01_k».proof.Proof.ForwardBlockValue
public import proofs.«01_k».proof.Proof.KernelValue

@[expose] public section

set_option maxRecDepth 16384

noncomputable section

namespace Cert.ForwardIdeal.Att

open Cert.ForwardIdeal.Gen
open Idealize.ShloMosaic Idealize.ShloMosaic.TcCoe Idealize.ShloMosaic.Tactic
open Idealize.SL.Sem
open scoped BigOperators

open Cert.Reals
open Cert.KernelIdeal.Att (hQuery hWide96 hWide64 hQuery_coe hWide96_coe sitofp_zero col wide_col bQ)

section
variable {F : FTy → Type} [FloatOps F] [Named F]
variable (m : (ℓ : Loc nD τ sig) → Buf (Elt F) ℓ)

/-! ## The arrays that the launch is given -/

theorem V_v7 (c : Dev nD) : V m c main_v7 = hQuery (m ((c.tc : Thread nD τ).loc main_arg0)) := by
  simp only [V, hostOps0, hostOps0_1, hostOps0_2, hostOps0_3, hostOps0_4, List.flatten_cons, List.flatten_nil,
    List.cons_append, List.nil_append, List.append_nil]
  after_reads_simp
  rfl

theorem V_v10 (c : Dev nD) : V m c main_v10 = hWide96 (m ((c.tc : Thread nD τ).loc main_arg1)) := by
  simp only [V, hostOps0, hostOps0_1, hostOps0_2, hostOps0_3, hostOps0_4, List.flatten_cons, List.flatten_nil,
    List.cons_append, List.nil_append, List.append_nil]
  after_reads_simp
  rfl

theorem V_v14 (c : Dev nD) : V m c main_v14 = transpose S1024x16384 [1, 0] (hWide64 (m ((c.tc : Thread nD τ).loc main_arg2)))
    transposes_S16384x1024_S1024x16384_1_0 := by
  simp only [V, hostOps0, hostOps0_1, hostOps0_2, hostOps0_3, hostOps0_4, List.flatten_cons, List.flatten_nil,
    List.cons_append, List.nil_append, List.append_nil]
  after_reads_simp
  rfl

/-! ## The blocks of a grid point -/

/-- The head of a grid point, -/
def hd (t : Fin cfg0.N) : Fin 8 := ⟨t.val / 16, by have := lt_of_lt_of_eq t.isLt (show cfg0.N = 128 from N_0); omega⟩
/-- and its query `q`. -/
def qry (t : Fin cfg0.N) (q : Fin 1024) : Fin 16384 := ⟨t.val % 16 * 1024 + q.val, by omega⟩

theorem place0 : ∀ t : Fin cfg0.N, win0_0.index t 0 = t.val % 16 ∧ win0_0.index t 1 = t.val / 16 :=
  (by decide +kernel : ∀ t : Fin grid0.N, win0_0.index t 0 = t.val % 16 ∧ win0_0.index t 1 = t.val / 16)
theorem place1 : ∀ t : Fin cfg0.N, win0_1.index t 0 = 0 ∧ win0_1.index t 1 = t.val / 16 :=
  (by decide +kernel : ∀ t : Fin grid0.N, win0_1.index t 0 = 0 ∧ win0_1.index t 1 = t.val / 16)
theorem place2 : ∀ t : Fin cfg0.N, win0_2.index t 0 = t.val / 16 ∧ win0_2.index t 1 = 0 :=
  (by decide +kernel : ∀ t : Fin grid0.N, win0_2.index t 0 = t.val / 16 ∧ win0_2.index t 1 = 0)
theorem place3 : ∀ t : Fin cfg0.N, win0_3.index t 0 = t.val % 16 ∧ win0_3.index t 1 = t.val / 16 :=
  (by decide +kernel : ∀ t : Fin grid0.N, win0_3.index t 0 = t.val % 16 ∧ win0_3.index t 1 = t.val / 16)
theorem place4 : ∀ t : Fin cfg0.N, win0_4.index t 0 = t.val / 16 ∧ win0_4.index t 1 = 0 ∧ win0_4.index t 2 = t.val % 16 :=
  (by decide +kernel : ∀ t : Fin grid0.N, win0_4.index t 0 = t.val / 16 ∧ win0_4.index t 1 = 0 ∧ win0_4.index t 2 = t.val % 16)

end

section
variable (t : Fin cfg0.N)

theorem read0 (X : Vec Ideal S16384x1024 .bf16) (q : Fin 1024) (d : Fin 128) :
    ((cfg0.win 0).blk t).view.read (Elt Ideal) X (ix2 q d) = X (ix2 (qry t q) (col (hd t) d)) := by
  obtain ⟨e0, e1⟩ := place0 t
  unfold col hd qry
  blk_ext [e0, e1]
theorem read1 (X : Vec Ideal S16384x1024 .bf16) (k : Fin 16384) (d : Fin 128) :
    ((cfg0.win 1).blk t).view.read (Elt Ideal) X (ix2 k d) = X (ix2 k (col (hd t) d)) := by
  obtain ⟨e0, e1⟩ := place1 t
  unfold col hd
  blk_ext [e0, e1]
theorem read2 (X : Vec Ideal S1024x16384 .bf16) (d : Fin 128) (k : Fin 16384) :
    ((cfg0.win 2).blk t).view.read (Elt Ideal) X (ix2 d k) = X (ix2 (col (hd t) d) k) := by
  obtain ⟨e0, e1⟩ := place2 t
  unfold col hd
  blk_ext [e0, e1]

/-- The values' columns on the host, whatever they hold. -/
theorem hWide64_apply {x : FVec Ideal S16384x8x64 .f32} {X : Fin 16384 → Fin 8 → Fin 64 → EReal} (hx : ∀ q h d, x (ix3 q h d) = X q h d)
    (q : Fin 16384) (j : Fin 1024) : hWide64 x (ix2 q j) = filled (X q ⟨j.val / 128, by omega⟩) ⟨j.val % 128, by omega⟩ := by
  unfold hWide64 filled
  pointwise
  by_cases hd : j.val % 128 < 64
  · rw [dif_pos ⟨by omega, hd⟩, dif_pos hd, hx]
  · rw [dif_neg fun h => hd h.2, dif_neg hd, sitofp_zero]

theorem filled_col {n : ℕ} (f : Fin 8 → Fin n → EReal) (h : Fin 8) (d : Fin 128) :
    filled (f ⟨(col h d).val / 128, by omega⟩) ⟨(col h d).val % 128, by omega⟩ = filled (f h) d := by
  have e1 : (⟨(col h d).val / 128, by omega⟩ : Fin 8) = h := Fin.ext (by unfold col; simp only; omega)
  have e2 : (⟨(col h d).val % 128, by omega⟩ : Fin 128) = d := Fin.ext (by unfold col; simp only; omega)
  rw [e1, e2]

theorem swap_apply (x : FVec Ideal S16384x1024 .bf16) (j : Fin 1024) (q : Fin 16384) :
    transpose S1024x16384 [1, 0] x transposes_S16384x1024_S1024x16384_1_0 (ix2 j q) = x (ix2 q j) := by
  pointwise

end

section
variable (m : (ℓ : Loc nD τ sig) → Buf (Elt Ideal) ℓ) (c : Dev nD)
variable {Q K : Fin 16384 → Fin 8 → Fin 96 → ℝ} {U : Fin 16384 → Fin 8 → Fin 64 → EReal}
  (h0 : ∀ q h d, (m ((c.tc : Thread nD τ).loc main_arg0) : FVec Ideal S16384x8x96 .f32) (ix3 q h d) = (Q q h d : EReal))
  (h1 : ∀ k h d, (m ((c.tc : Thread nD τ).loc main_arg1) : FVec Ideal S16384x8x96 .f32) (ix3 k h d) = (K k h d : EReal))
  (h2 : ∀ k h e, (m ((c.tc : Thread nD τ).loc main_arg2) : FVec Ideal S16384x8x64 .f32) (ix3 k h e) = U k h e)

include h0 in
theorem block0 (t : Fin cfg0.N) (q : Fin 1024) (d : Fin 128) : iblk m c 0 t (ix2 q d) = (bQ Q (hd t) (qry t q) d : EReal) := by
  refine (read0 t (V m c main_v7) q d).trans ((congrFun (V_v7 m c) _).trans ((hQuery_coe h0 _ _).trans ?_))
  exact congrArg _ (wide_col (fun h d => Q (qry t q) h d * rate / Real.log 2) (hd t) d)
include h1 in
theorem block1 (t : Fin cfg0.N) (k : Fin 16384) (d : Fin 128) : iblk m c 1 t (ix2 k d) = (wide (K k (hd t)) d : EReal) := by
  refine (read1 t (V m c main_v10) k d).trans ((congrFun (V_v10 m c) _).trans ((hWide96_coe h1 _ _).trans ?_))
  exact congrArg _ (wide_col (K k) (hd t) d)
include h2 in
theorem block2 (t : Fin cfg0.N) (d : Fin 128) (k : Fin 16384) : iblk m c 2 t (ix2 d k) = filled (U k (hd t)) d := by
  refine (read2 t (V m c main_v14) d k).trans ((congrFun (V_v14 m c) _).trans ((swap_apply _ _ k).trans ((hWide64_apply h2 _ _).trans ?_)))
  exact filled_col (U k) (hd t) d

/-- A block's scores are the attention's, over the logarithm of two. -/
theorem bsc_eq (h : Fin 8) (f : Fin 1024 → Fin 16384) (k : Fin 16384) (q : Fin 1024) :
    bsc (fun q => bQ Q h (f q)) (fun k => wide (K k h)) k q = sc Q K h (f q) k / Real.log 2 := by
  unfold bsc bQ
  rw [sum_wide (by norm_num)]
  unfold sc
  rw [Finset.sum_div]
  exact Finset.sum_congr rfl fun d _ => by ring

/-! ## The outputs of a grid point -/

include h0 h1 h2 in
theorem outPt_coe (t : Fin cfg0.N) (q : Fin 1024) (d : Fin 128) :
    (outsAt0 m c t).1 (ix2 q d) = filled (out Q K U (qry t q) (hd t)) d := by
  obtain ⟨M, hm, hl, ha⟩ := acc_all (block0 m c h0 t) (block1 m c h1 t) (block2 m c h2 t) q
  simp only [bsc_eq] at hl ha
  unfold outsAt0
  rw [out_A]
  refine (quotient_apply _ _ q d).trans ?_
  have hpos := sum_pow_pos Q K (hd t) (qry t q) M
  rw [ha, hl, Ideal.div_coe hpos.ne', mul_comm, mul_sum_coe _ (one_div_pos.mpr hpos).le]
  unfold filled
  split
  · unfold out
    refine Finset.sum_congr rfl fun k _ => ?_
    rw [← pr_shift Q K (hd t) (qry t q) k M, mul_comm (U _ _ _), ← mul_assoc, ← EReal.coe_mul, one_div_mul_eq_div]
  · simp

include h0 h1 h2 in
theorem lsePt_coe (t : Fin cfg0.N) (q : Fin 1024) :
    (outsAt0 m c t).2 (ix3 0 0 q) = (lse Q K (hd t) (qry t q) : EReal) := by
  obtain ⟨M, hm, hl, -⟩ := acc_all (block0 m c h0 t) (block1 m c h1 t) (block2 m c h2 t) q
  simp only [bsc_eq] at hl
  unfold outsAt0
  rw [lse_A]
  refine (logs_apply _ _ q).trans ?_
  rw [hm, hl, Ideal.log_coe, if_neg (not_le.mpr (sum_pow_pos Q K (hd t) (qry t q) M)), ← EReal.coe_mul, ← EReal.coe_add, lse_shift]

/-! ## The output arrays -/

theorem lse_place {h h' : Fin 8} {q q' : Fin 16384} (hh : h.val = h'.val) (hq : q.val = q'.val) :
    (lse Q K h q : EReal) = (lse Q K h' q' : EReal) := by
  rw [Fin.ext hh, Fin.ext hq]

include h0 h1 h2 in
theorem out0 : (dats m 0 c).arrAt 3 cfg0.N
    = fun i => filled (out Q K U ⟨(i 0).val, (i 0).isLt⟩ ⟨(i 1).val / 128, by have : (i 1).val < 1024 := (i 1).isLt; omega⟩)
        ⟨(i 1).val % 128, by omega⟩ := by
  refine (dats m 0 c).arrAt_eq_of_covers 3 _ (by decide +kernel) fun t hf y => ?_
  obtain ⟨e0, e1⟩ := place3 t
  idx_bounds y
  blk_simp [e0, e1]
  rw [after0_3]
  obtain ⟨q, d, rfl⟩ : ∃ (q : Fin 1024) (d : Fin 128), y = ix2 q d := ⟨⟨(y 0).val, (y 0).isLt⟩, ⟨(y 1).val, (y 1).isLt⟩, by funext a; fin_cases a <;> rfl⟩
  refine (outPt_coe m c h0 h1 h2 t q d).trans ?_
  refine filled_place (out Q K U) rfl ?_ ?_
  · show t.val / 16 = (t.val / 16 * 128 + d.val) / 128
    omega
  · show d.val = (t.val / 16 * 128 + d.val) % 128
    omega

include h0 h1 h2 in
theorem out1 : (dats m 0 c).arrAt 4 cfg0.N
    = fun i => (lse Q K ⟨(i 0).val, (i 0).isLt⟩ ⟨(i 2).val, (i 2).isLt⟩ : EReal) := by
  refine (dats m 0 c).arrAt_eq_of_covers 4 _ (by decide +kernel) fun t hf y => ?_
  obtain ⟨e0, e1, e2⟩ := place4 t
  idx_bounds y
  blk_simp [e0, e1, e2]
  rw [after0_4]
  obtain ⟨q, rfl⟩ : ∃ (q : Fin 1024), y = ix3 0 0 q := ⟨⟨(y 2).val, (y 2).isLt⟩, by funext a; fin_cases a <;> first | rfl | exact Subsingleton.elim (α := Fin 1) _ _⟩
  refine (lsePt_coe m c h0 h1 h2 t q).trans ?_
  exact lse_place rfl rfl

end

end Cert.ForwardIdeal.Att

end
-- ==== Proof.ForwardRefValue.lean ====
/- The forward reference's two results, where the queries' and keys' entries are real numbers. -/
module

public import proofs.«01_k».proof.Proof.Gen.ForwardReferenceIdeal.Run
public import proofs.«01_k».proof.Proof.RefValue
public import proofs.«01_k».proof.Proof.ForwardReals
public import Idealize.ShloMosaic.Lib.ValueIdxCore

@[expose] public section

set_option maxRecDepth 16384

noncomputable section

namespace Cert.ForwardReferenceIdeal.Att

open Cert.ForwardReferenceIdeal.Gen
open Idealize.ShloMosaic Idealize.ShloMosaic.TcCoe Idealize.ShloMosaic.Tactic
open Idealize.SL.Sem
open scoped BigOperators

open Cert.Reals
open Cert.ReferenceIdeal.Att (rScores rProbs rScores_coe rProbs_coe rWide64)
open Cert.ReferenceIdeal.Att (sitofp_zero)

section
variable {F : FTy → Type} [FloatOps F]

/-- The attention's output, -/
def rOut (a0 a1 : FVec F S16384x8x96 .f32) (a2 : FVec F S16384x8x64 .f32) : FVec F S16384x8x64 .f32 :=
  transpose S16384x8x64 [2, 0, 1] (Host.dotGeneral dot_S16384x8x64_S8x16384x16384_S8x64x16384_0_2_2_1_1_0 none a2 (rProbs a0 a1))
    transposes_S8x64x16384_S16384x8x64_2_0_1
/-- the exponentials of the scores -/
def rPlain (a0 a1 : FVec F S16384x8x96 .f32) : FVec F S8x16384x16384 .f32 := Host.exp (rScores a0 a1)
/-- and the logarithms of their sums. -/
def rLse (a0 a1 : FVec F S16384x8x96 .f32) : FVec F S8x16384 .f32 :=
  Host.divf (Host.log (Host.reduceAdd (rPlain a0 a1) (constant S_ .f32 0x00000000#32) reducesTo_S8x16384x16384_S8x16384_d2 h_S_))
    (broadcastInDim S8x16384 ![] bcast_S_S8x16384 (Host.log (constant S_ .f32 0x40000000#32)))

/-- The reference's run, its results in these terms. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = truncf .bf16 (rWide64 (rOut (m ((c.tc : Thread nD τ).loc main_arg0))
        (m ((c.tc : Thread nD τ).loc main_arg1)) (m ((c.tc : Thread nD τ).loc main_arg2)))) bitsLt_bf16_f32
      ∧ r.2.mem ((c.tc : Thread nD τ).loc main_v28) = shapeCast S8x1x16384 (rLse (m ((c.tc : Thread nD τ).loc main_arg0))
        (m ((c.tc : Thread nD τ).loc main_arg1))) shapeCasts_S8x16384_S8x1x16384
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ForwardReferenceIdeal.Value.run m ρ

end

section
variable {Q K : Fin 16384 → Fin 8 → Fin 96 → ℝ} {U : Fin 16384 → Fin 8 → Fin 64 → EReal}
  {a0 a1 : FVec Ideal S16384x8x96 .f32} {a2 : FVec Ideal S16384x8x64 .f32}
  (h0 : ∀ q h d, a0 (ix3 q h d) = (Q q h d : EReal)) (h1 : ∀ k h d, a1 (ix3 k h d) = (K k h d : EReal))
  (h2 : ∀ k h e, a2 (ix3 k h e) = U k h e)

include h0 h1 h2 in
theorem rOut_coe (q : Fin 16384) (h : Fin 8) (e : Fin 64) : rOut a0 a1 a2 (ix3 q h e) = out Q K U q h e := by
  unfold rOut out
  pointwise
  exact Finset.sum_congr rfl fun k _ => by rw [h2, rProbs_coe h0 h1, mul_comm]

theorem rWide64_apply {x : FVec Ideal S16384x8x64 .f32} {X : Fin 16384 → Fin 8 → Fin 64 → EReal} (hx : ∀ q h d, x (ix3 q h d) = X q h d)
    (q : Fin 16384) (j : Fin 1024) : rWide64 x (ix2 q j) = filled (X q ⟨j.val / 128, by omega⟩) ⟨j.val % 128, by omega⟩ := by
  unfold rWide64 filled
  pointwise
  by_cases hd : j.val % 128 < 64
  · rw [dif_pos ⟨by omega, hd⟩, dif_pos hd, hx]
  · rw [dif_neg fun h => hd h.2, dif_neg hd, sitofp_zero]

include h0 h1 in
theorem rPlain_coe (h : Fin 8) (q k : Fin 16384) : rPlain a0 a1 (ix3 h q k) = (Real.exp (sc Q K h q k) : EReal) := by
  unfold rPlain
  pointwise
  rw [rScores_coe h0 h1, Ideal.exp_coe]

theorem read_logs (x : FVec Ideal S8x16384x16384 .f32) (h : Fin 8) (q : Fin 16384) :
    Host.divf (Host.log (Host.reduceAdd x (constant S_ .f32 0x00000000#32) reducesTo_S8x16384x16384_S8x16384_d2 h_S_))
      (broadcastInDim S8x16384 ![] bcast_S_S8x16384 (Host.log (constant S_ .f32 0x40000000#32))) (ix2 h q)
      = Ideal.div (Ideal.log (∑ k : Fin 16384, x (ix3 h q k))) ((Real.log 2 : ℝ) : EReal) := by
  pointwise
  rw [ofBits_two, Ideal.log_coe, if_neg (by norm_num)]

include h0 h1 in
theorem rLse_coe (h : Fin 8) (q : Fin 16384) : rLse a0 a1 (ix2 h q) = (lse Q K h q : EReal) := by
  unfold rLse
  rw [read_logs]
  simp only [rPlain_coe h0 h1]
  rw [← coe_sum, Ideal.log_coe, if_neg (not_le.mpr (sum_exp_pos Q K h q)), Ideal.div_coe log_two_ne, ← EReal.coe_mul, mul_one_div]
  rfl

theorem flat_row (x : FVec Ideal S8x16384 .f32) (h : Fin 8) (q : Fin 16384) (z : Fin 1) :
    shapeCast S8x1x16384 x shapeCasts_S8x16384_S8x1x16384 (ix3 h z q) = x (ix2 h q) := by
  refine shapeCast_apply x _ _ _ ?_
  rw [rowMajor_val2 (d := ![8, 16384]) (ix2 h q) 16384 rfl, rowMajor_val3 (d := ![8, 1, 16384]) (ix3 h z q) 16384 16384 rfl rfl]
  show h.val * 16384 + q.val = h.val * 16384 + z.val * 16384 + q.val
  omega

include h0 h1 h2 in
theorem result0 : (truncf .bf16 (rWide64 (rOut a0 a1 a2)) bitsLt_bf16_f32 : FVec Ideal S16384x1024 .bf16)
    = fun i => filled (out Q K U ⟨(i 0).val, (i 0).isLt⟩ ⟨(i 1).val / 128, by have : (i 1).val < 1024 := (i 1).isLt; omega⟩)
        ⟨(i 1).val % 128, by omega⟩ := by
  funext i
  rw [eq_ix2 i]
  exact rWide64_apply (rOut_coe h0 h1 h2) (i 0) (i 1)

include h0 h1 in
theorem result1 : shapeCast S8x1x16384 (rLse a0 a1) shapeCasts_S8x16384_S8x1x16384
    = fun i => (lse Q K ⟨(i 0).val, (i 0).isLt⟩ ⟨(i 2).val, (i 2).isLt⟩ : EReal) := by
  funext i
  rw [eq_ix3 i]
  exact (flat_row _ (i 0) (i 2) (i 1)).trans (rLse_coe h0 h1 (i 0) (i 2))

end

end Cert.ForwardReferenceIdeal.Att

end
-- ==== Proof.ForwardClaim.lean ====
/- The forward call's two results are its reference's. -/
module

public import proofs.«01_k».proof.Defs
public import proofs.«01_k».proof.Proof.ForwardValue
public import proofs.«01_k».proof.Proof.ForwardRefValue
public import proofs.«01_k».proof.Proof.Gen.ForwardIdeal.Value
public import proofs.«01_k».proof.Proof.Gen.Forward.Frame
public import proofs.«01_k».proof.Proof.Finite
public import Idealize.ShloMosaic.Lib.Quiescent

@[expose] public section

noncomputable section

namespace Cert.Proof.Fwd

open Idealize.ShloMosaic Idealize.SL.Sem

open Cert.Reals

/-- The predicate's side conditions. -/
theorem finite_facts : Cert.Pre_finite_inputs.Facts := ⟨by decide, by decide⟩

/-- The reference leaves its arguments alone, and it has no semaphores. -/
theorem frame_reference (m : (ℓ : Loc Cert.ForwardReferenceIdeal.nD Cert.ForwardReferenceIdeal.τ Cert.ForwardReferenceIdeal.sig) → Buf (Elt Ideal) ℓ)
    (ρ : Dev Cert.ForwardReferenceIdeal.nD → PrngReg) :
    θ_run (Cert.ForwardReferenceIdeal.defs (F := Ideal)) (onTc (τ := Cert.ForwardReferenceIdeal.τ) (Cert.ForwardReferenceIdeal.main (F := Ideal)))
      ⟨m, fun _ => 0, ρ⟩ (fun r => (∀ c : Dev Cert.ForwardReferenceIdeal.nD,
       r.2.mem ((c.tc : Thread Cert.ForwardReferenceIdeal.nD Cert.ForwardReferenceIdeal.τ).loc Cert.ForwardReferenceIdeal.main_arg0)
        = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1)
        = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2)
        = m ((c.tc : Thread Cert.ForwardReferenceIdeal.nD Cert.ForwardReferenceIdeal.τ).loc Cert.ForwardReferenceIdeal.main_arg2))
      ∧ r.2.sem = fun _ => 0) :=
  (θ_run Cert.ForwardReferenceIdeal.defs _ _).mono (fun r h => ⟨fun c => (h c).2.2, Idealize.ShloMosaic.sem_eq_zero_of_no_sems (by decide) r.2⟩)
    (Cert.ForwardReferenceIdeal.Value.run (F := Ideal) m ρ)

/-- The contents of the call's memory. -/
abbrev Memory := (ℓ : Loc Cert.ForwardIdeal.nD Cert.ForwardIdeal.τ Cert.ForwardIdeal.sig) → Buf (Elt Ideal) ℓ

section

variable (m : Memory) (c : Dev Cert.ForwardIdeal.nD)

/-- The call's three arguments, as arrays. -/
def arg0 : FVec Ideal Cert.ForwardIdeal.S16384x8x96 .f32 := m ((c.tc : Thread Cert.ForwardIdeal.nD Cert.ForwardIdeal.τ).loc Cert.ForwardIdeal.main_arg0)
def arg1 : FVec Ideal Cert.ForwardIdeal.S16384x8x96 .f32 := m ((c.tc : Thread Cert.ForwardIdeal.nD Cert.ForwardIdeal.τ).loc Cert.ForwardIdeal.main_arg1)
def arg2 : FVec Ideal Cert.ForwardIdeal.S16384x8x64 .f32 := m ((c.tc : Thread Cert.ForwardIdeal.nD Cert.ForwardIdeal.τ).loc Cert.ForwardIdeal.main_arg2)

theorem real0 (hp : Cert.Pre_ForwardIdeal_finite_inputs (hPre_finite_inputs := finite_facts) m) (q : Fin 16384) (h : Fin 8) (d : Fin 96) :
    arg0 m c (ix3 q h d) = ((arg0 m c (ix3 q h d)).toReal : EReal) := (Cert.Pre_finite.Att.real_entry _ _ (hp c).1 (ix3 q h d)).symm
theorem real1 (hp : Cert.Pre_ForwardIdeal_finite_inputs (hPre_finite_inputs := finite_facts) m) (q : Fin 16384) (h : Fin 8) (d : Fin 96) :
    arg1 m c (ix3 q h d) = ((arg1 m c (ix3 q h d)).toReal : EReal) := (Cert.Pre_finite.Att.real_entry _ _ (hp c).2 (ix3 q h d)).symm

end

section

variable {m : Memory} {c : Dev Cert.ForwardIdeal.nD} {Q K : Fin 16384 → Fin 8 → Fin 96 → ℝ} {U : Fin 16384 → Fin 8 → Fin 64 → EReal}
  (h0 : ∀ q h d, arg0 m c (ix3 q h d) = (Q q h d : EReal)) (h1 : ∀ q h d, arg1 m c (ix3 q h d) = (K q h d : EReal))
  (h2 : ∀ q h d, arg2 m c (ix3 q h d) = U q h d)

include h0 h1 h2

/-- The attention's output: the reference's array is the call's. -/
theorem same0 : (truncf .bf16 (Cert.ReferenceIdeal.Att.rWide64 (Cert.ForwardReferenceIdeal.Att.rOut (arg0 m c) (arg1 m c) (arg2 m c)))
      Cert.ForwardReferenceIdeal.Gen.bitsLt_bf16_f32 : FVec Ideal Cert.ForwardReferenceIdeal.S16384x1024 .bf16)
    = (Cert.ForwardIdeal.Gen.dats m 0 c).arrAt 3 Cert.ForwardIdeal.cfg0.N :=
  (Cert.ForwardReferenceIdeal.Att.result0 h0 h1 h2).trans (Cert.ForwardIdeal.Att.out0 m c h0 h1 h2).symm

/-- The logarithmic sums. -/
theorem same1 : shapeCast Cert.ForwardReferenceIdeal.S8x1x16384 (Cert.ForwardReferenceIdeal.Att.rLse (arg0 m c) (arg1 m c))
      Cert.ForwardReferenceIdeal.Gen.shapeCasts_S8x16384_S8x1x16384
    = (Cert.ForwardIdeal.Gen.dats m 0 c).arrAt 4 Cert.ForwardIdeal.cfg0.N :=
  (Cert.ForwardReferenceIdeal.Att.result1 h0 h1).trans (Cert.ForwardIdeal.Att.out1 m c h0 h1 h2).symm

end

/-- The call's two results are the reference's. -/
theorem algebraic : Cert.algebraic_ForwardIdeal_ForwardReferenceIdeal_pre_finite_inputs (hForwardIdeal := Cert.ForwardIdeal.Gen.facts)
    (hForwardReferenceIdeal := Cert.ForwardReferenceIdeal.Gen.facts) (hPre_finite_inputs := finite_facts) := by
  intro m g m' g' hp hargs
  refine ⟨fun c => (Cert.ForwardIdeal.Gen.dats m 0 c).arrAt 3 Cert.ForwardIdeal.cfg0.N,
    fun c => (Cert.ForwardIdeal.Gen.dats m 0 c).arrAt 4 Cert.ForwardIdeal.cfg0.N, Cert.ForwardIdeal.Value.run_blocks m g, ?_⟩
  refine (θ_run Cert.ForwardReferenceIdeal.defs _ _).mono (fun r h c => ⟨(h c).1.trans ?_, (h c).2.1.trans ?_, (h c).2.2⟩)
    (Cert.ForwardReferenceIdeal.Att.run m' g')
  all_goals
    obtain ⟨e0, e1, e2⟩ := hargs c
    rw [e0, e1]
    try rw [e2]
  · exact same0 (real0 m c hp) (real1 m c hp) (fun _ _ _ => rfl)
  · exact same1 (real0 m c hp) (real1 m c hp) (fun _ _ _ => rfl)

end Cert.Proof.Fwd

end
-- ==== Proof.GateGrad.lean ====
/- The gradient of the gate weights: the call's output is the reference's. -/
module

public import proofs.«01_k».proof.Defs
public import proofs.«01_k».proof.Proof.Gen.GateGradIdeal.Value
public import proofs.«01_k».proof.Proof.Gen.GateGrad.Frame
public import proofs.«01_k».proof.Proof.Gen.GateGradReferenceIdeal.Run
public import Idealize.ShloMosaic.Lib.Quiescent
public import Idealize.ShloMosaic.Lib.Pointwise
public import Idealize.ShloMosaic.Lib.StableHlo.RunRead
public import Idealize.ShloMosaic.Lib.Pipeline.ValueKit
public import Idealize.ShloMosaic.Lib.Pipeline.ValueKit.Partial

@[expose] public section

noncomputable section

namespace Cert.GateGradIdeal.Att

open Cert.GateGradIdeal.Gen
open Idealize.ShloMosaic Idealize.ShloMosaic.TcCoe Idealize.ShloMosaic.Tactic
open Idealize.SL.Sem
open scoped BigOperators

section
variable {F : FTy → Type} [FloatOps F]

/-- What the first block of rows leaves in the accumulator, -/
theorem scratch_A (c : Dev nD) (i : grid0.Coords) (arg2 : Memref sig .tc .vmem S2048x1024 .bf16) (harg2 : arg2.IsWhole) (arg3 : Memref sig .tc .vmem S2048x1408 .bf16) (harg3 : arg3.IsWhole) (arg5 : Memref sig .tc .vmem S1x1x1024x1408 .f32) (harg5 : arg5.IsWhole) (arg6 : Memref sig .tc .vmem S1024x1408 .f32) (harg6 : arg6.IsWhole) (hc0 : cond0_0 i) (hc1 : ¬cond0_1 i)
    (x0 : Vec F S2048x1024 .bf16) (x1 : Vec F S2048x1408 .bf16) :
    sout0_A_0 c i arg2 harg2 arg3 harg3 arg5 harg5 arg6 harg6 hc0 hc1 x0 x1 = k0_pay2 k0_pay1 x0 x1 := by
  unfold sout0_A_0
  rw [View.read_writes_eq_canon _ _ _ (scover0_A_0 c i arg2 harg2 arg3 harg3 arg5 harg5 arg6 harg6 hc0 hc1 x0 x1)]
  frame_out

/-- what a later one leaves, -/
theorem scratch_B (c : Dev nD) (i : grid0.Coords) (arg2 : Memref sig .tc .vmem S2048x1024 .bf16) (harg2 : arg2.IsWhole) (arg3 : Memref sig .tc .vmem S2048x1408 .bf16) (harg3 : arg3.IsWhole) (arg5 : Memref sig .tc .vmem S1x1x1024x1408 .f32) (harg5 : arg5.IsWhole) (arg6 : Memref sig .tc .vmem S1024x1408 .f32) (harg6 : arg6.IsWhole) (hc0 : ¬cond0_0 i) (hc1 : ¬cond0_1 i)
    (x0 : Vec F S2048x1024 .bf16) (x1 : Vec F S2048x1408 .bf16) (xs0 : Vec F S1024x1408 .f32) :
    sout0_B_0 c i arg2 harg2 arg3 harg3 arg5 harg5 arg6 harg6 hc0 hc1 x0 x1 xs0 = k0_pay2 xs0 x0 x1 := by
  unfold sout0_B_0
  rw [View.read_writes_eq_canon _ _ _ (scover0_B_0 c i arg2 harg2 arg3 harg3 arg5 harg5 arg6 harg6 hc0 hc1 x0 x1 xs0)]
  frame_out

/-- what the last one leaves, -/
theorem scratch_C (c : Dev nD) (i : grid0.Coords) (arg2 : Memref sig .tc .vmem S2048x1024 .bf16) (harg2 : arg2.IsWhole) (arg3 : Memref sig .tc .vmem S2048x1408 .bf16) (harg3 : arg3.IsWhole) (arg5 : Memref sig .tc .vmem S1x1x1024x1408 .f32) (harg5 : arg5.IsWhole) (arg6 : Memref sig .tc .vmem S1024x1408 .f32) (harg6 : arg6.IsWhole) (hc0 : ¬cond0_0 i) (hc1 : cond0_1 i)
    (x0 : Vec F S2048x1024 .bf16) (x1 : Vec F S2048x1408 .bf16) (xs0 : Vec F S1024x1408 .f32) :
    sout0_C_0 c i arg2 harg2 arg3 harg3 arg5 harg5 arg6 harg6 hc0 hc1 x0 x1 xs0 = k0_pay2 xs0 x0 x1 := by
  unfold sout0_C_0
  rw [View.read_writes_eq_canon _ _ _ (scover0_C_0 c i arg2 harg2 arg3 harg3 arg5 harg5 arg6 harg6 hc0 hc1 x0 x1 xs0)]
  frame_out

/-- and the block of the output that the last one writes. -/
theorem out_C (c : Dev nD) (i : grid0.Coords) (arg2 : Memref sig .tc .vmem S2048x1024 .bf16) (harg2 : arg2.IsWhole) (arg3 : Memref sig .tc .vmem S2048x1408 .bf16) (harg3 : arg3.IsWhole) (arg5 : Memref sig .tc .vmem S1x1x1024x1408 .f32) (harg5 : arg5.IsWhole) (arg6 : Memref sig .tc .vmem S1024x1408 .f32) (harg6 : arg6.IsWhole) (hc0 : ¬cond0_0 i) (hc1 : cond0_1 i)
    (x0 : Vec F S2048x1024 .bf16) (x1 : Vec F S2048x1408 .bf16) (xs0 : Vec F S1024x1408 .f32) :
    out0_C_2 c i arg2 harg2 arg3 harg3 arg5 harg5 arg6 harg6 hc0 hc1 x0 x1 xs0 = k0_pay3 (k0_pay2 xs0 x0 x1) := by
  unfold out0_C_2
  rw [View.read_writes_eq_canon _ _ _ (cover0_C_2 c i arg2 harg2 arg3 harg3 arg5 harg5 arg6 harg6 hc0 hc1 x0 x1 xs0)]
  frame_out

end

/-! ## Values -/

theorem zero_apply (p : Fin 1024) (q : Fin 1408) : (k0_pay1 (F := Ideal)) (ix2 p q) = 0 := by
  unfold k0_pay1
  pointwise

theorem add_apply (x : Vec Ideal S1024x1408 .f32) (y : Vec Ideal S2048x1024 .bf16) (z : Vec Ideal S2048x1408 .bf16) (p : Fin 1024) (q : Fin 1408) :
    k0_pay2 x y z (ix2 p q) = x (ix2 p q) + ∑ k : Fin 2048, y (ix2 k p) * z (ix2 k q) := by
  unfold k0_pay2
  pointwise

theorem write_apply (x : Vec Ideal S1024x1408 .f32) (p : Fin 1024) (q : Fin 1408) : k0_pay3 x (ix4 0 0 p q) = x (ix2 p q) := by
  unfold k0_pay3
  pointwise

/-- Row `r`'s product at weight `p`, `j`; no row is left out of range. -/
def prod (a : FVec Ideal S16384x1024 .bf16) (b : FVec Ideal S16384x2816 .bf16) (p : Fin 1024) (j : Fin 2816) (r : ℕ) : EReal :=
  if h : r < 16384 then a (ix2 ⟨r, h⟩ p) * b (ix2 ⟨r, h⟩ j) else 0

section

theorem place0 : ∀ t : Fin cfg0.N, win0_0.index t 0 = t.val % 8 ∧ win0_0.index t 1 = 0 :=
  (by decide +kernel : ∀ t : Fin grid0.N, win0_0.index t 0 = t.val % 8 ∧ win0_0.index t 1 = 0)
theorem place1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
theorem place2 : ∀ t : Fin cfg0.N, win0_2.index t 0 = 0 ∧ win0_2.index t 1 = t.val / 8 ∧ win0_2.index t 2 = 0 ∧ win0_2.index t 3 = 0 :=
  (by decide +kernel : ∀ t : Fin grid0.N, win0_2.index t 0 = 0 ∧ win0_2.index t 1 = t.val / 8 ∧ win0_2.index t 2 = 0 ∧ win0_2.index t 3 = 0)

theorem lt16 (t : Fin cfg0.N) : t.val < 16 := lt_of_lt_of_eq t.isLt N_0

/-- Row `k` of the point's block, and column `q`. -/
def row (t : Fin cfg0.N) (k : Fin 2048) : Fin 16384 := ⟨t.val % 8 * 2048 + k.val, by omega⟩
def col (t : Fin cfg0.N) (q : Fin 1408) : Fin 2816 := ⟨t.val / 8 * 1408 + q.val, by have := lt16 t; omega⟩

theorem read0 (t : Fin cfg0.N) (X : Vec Ideal S16384x1024 .bf16) (k : Fin 2048) (p : Fin 1024) :
    ((cfg0.win 0).blk t).view.read (Elt Ideal) X (ix2 k p) = X (ix2 (row t k) p) := by
  obtain ⟨e0, e1⟩ := place0 t
  unfold row
  blk_ext [e0, e1]
theorem read1 (t : Fin cfg0.N) (X : Vec Ideal S16384x2816 .bf16) (k : Fin 2048) (q : Fin 1408) :
    ((cfg0.win 1).blk t).view.read (Elt Ideal) X (ix2 k q) = X (ix2 (row t k) (col t q)) := by
  obtain ⟨e0, e1⟩ := place1 t
  unfold row col
  blk_ext [e0, e1]

end

section
variable (m : (ℓ : Loc nD τ sig) → Buf (Elt Ideal) ℓ) (c : Dev nD)

/-- The call's three arguments, as arrays. -/
def arg0 : FVec Ideal S16384x1024 .bf16 := m ((c.tc : Thread nD τ).loc main_arg0)
def arg1 : FVec Ideal S16384x2816 .bf16 := m ((c.tc : Thread nD τ).loc main_arg1)
def arg2 : FVec Ideal S4x4x1024x1408 .f32 := m ((c.tc : Thread nD τ).loc main_arg2)

theorem V_v0 : V m c main_v0 = arg2 m c := by
  simp only [V, hostOps0]
  after_reads_simp
  rfl

theorem block0 (t : Fin cfg0.N) (k : Fin 2048) (p : Fin 1024) : iblk m c 0 t (ix2 k p) = arg0 m c (ix2 (row t k) p) :=
  (read0 t (V m c main_arg0) k p).trans (congrFun (V_main_arg0 m c) _)
theorem block1 (t : Fin cfg0.N) (k : Fin 2048) (q : Fin 1408) : iblk m c 1 t (ix2 k q) = arg1 m c (ix2 (row t k) (col t q)) :=
  (read1 t (V m c main_arg1) k q).trans (congrFun (V_main_arg1 m c) _)

/-- The point's blocks, as arrays. -/
def blockA (t : Fin cfg0.N) : FVec Ideal S2048x1024 .bf16 := iblk m c 0 t
def blockB (t : Fin cfg0.N) : FVec Ideal S2048x1408 .bf16 := iblk m c 1 t

/-- A block's products, added to what there was, are the rows' from the block's first. -/
theorem step (x : Vec Ideal S1024x1408 .f32) (t : Fin cfg0.N) (p : Fin 1024) (q : Fin 1408) :
    k0_pay2 x (blockA m c t) (blockB m c t) (ix2 p q)
      = x (ix2 p q) + ∑ k ∈ Finset.range 2048, prod (arg0 m c) (arg1 m c) p (col t q) (t.val % 8 * 2048 + k) := by
  rw [add_apply, Finset.sum_range]
  refine congrArg (x (ix2 p q) + ·) (Finset.sum_congr rfl fun k _ => ?_)
  rw [show blockA m c t (ix2 k p) = _ from block0 m c t k p, show blockB m c t (ix2 k q) = _ from block1 m c t k q]
  unfold prod
  rw [dif_pos (show t.val % 8 * 2048 + k.val < 16384 by omega)]
  rfl

/-- After a point the accumulator holds the products of the rows so far. -/
theorem scratch (n : ℕ) : ∀ (hn : n < cfg0.N) (p : Fin 1024) (q : Fin 1408), (outsAt0 m c n hn).2 (ix2 p q)
    = ∑ r ∈ Finset.range (n % 8 * 2048 + 2048), prod (arg0 m c) (arg1 m c) p (col ⟨n, hn⟩ q) r := by
  induction n with
  | zero =>
    intro hn p q
    rw [outsAt0_A m c ⟨0, hn⟩ rfl (by dsimp only; omega)]
    dsimp only
    rw [scratch_A]
    refine (step m c _ ⟨0, hn⟩ p q).trans ?_
    rw [zero_apply, Finset.sum_range_add]
    simp
  | succ n ih =>
    intro hn p q
    have hN : n + 1 < 16 := lt_of_lt_of_eq hn N_0
    rw [Finset.sum_range_add]
    by_cases h0 : (n + 1) % 8 = 0
    · rw [outsAt0_A m c ⟨n + 1, hn⟩ h0 (by dsimp only; omega)]
      dsimp only
      rw [scratch_A]
      refine (step m c _ ⟨n + 1, hn⟩ p q).trans ?_
      rw [zero_apply]
      simp [h0]
    · have hc : col ⟨n, by omega⟩ q = col ⟨n + 1, hn⟩ q := Fin.ext (by show n / 8 * 1408 + q.val = (n + 1) / 8 * 1408 + q.val; omega)
      have hk : (n + 1) % 8 * 2048 = n % 8 * 2048 + 2048 := by omega
      have hp := ih (by omega) p q
      rw [hc, ← hk] at hp
      by_cases h1 : (n + 1) % 8 = 7
      · rw [outsAt0_C m c ⟨n + 1, hn⟩ h0 h1]
        dsimp only
        rw [scratch_C]
        exact (step m c _ ⟨n + 1, hn⟩ p q).trans (congrArg (· + _) hp)
      · rw [outsAt0_B m c ⟨n + 1, hn⟩ h0 h1]
        dsimp only
        rw [scratch_B]
        exact (step m c _ ⟨n + 1, hn⟩ p q).trans (congrArg (· + _) hp)

/-- The weights' gradient in its block of the output. -/
def grad (a : FVec Ideal S16384x1024 .bf16) (b : FVec Ideal S16384x2816 .bf16) (p : Fin 1024) (j : Fin 2816) : EReal :=
  ∑ r : Fin 16384, a (ix2 r p) * b (ix2 r j)

theorem grad_eq (a : FVec Ideal S16384x1024 .bf16) (b : FVec Ideal S16384x2816 .bf16) (p : Fin 1024) (j : Fin 2816) :
    ∑ r ∈ Finset.range 16384, prod a b p j r = grad a b p j := by
  rw [Finset.sum_range]
  exact Finset.sum_congr rfl fun r _ => dif_pos r.isLt

theorem after_last (t : Fin cfg0.N) (h1 : t.val % 8 = 7) (p : Fin 1024) (q : Fin 1408) :
    (outsAt0 m c t.val t.isLt).1 (ix4 0 0 p q) = grad (arg0 m c) (arg1 m c) p (col t q) := by
  have hs := scratch m c t.val t.isLt p q
  rw [outsAt0_C m c t (by omega) h1] at hs ⊢
  dsimp only at hs ⊢
  rw [scratch_C] at hs
  rw [out_C, write_apply, hs, h1]
  exact grad_eq _ _ _ _

/-- The weights' gradient in its blocks, over what the array held. -/
def placed (a : FVec Ideal S16384x1024 .bf16) (b : FVec Ideal S16384x2816 .bf16) (x : FVec Ideal S4x4x1024x1408 .f32) : FVec Ideal S4x4x1024x1408 .f32 :=
  fun i => if (i 0).val < 1 ∧ (i 1).val < 2
    then grad a b ⟨(i 2).val, (i 2).isLt⟩ ⟨(i 1).val % 2 * 1408 + (i 3).val, by have h1 : (i 3).val < 1408 := (i 3).isLt; omega⟩
    else x i

theorem grad_place {a : FVec Ideal S16384x1024 .bf16} {b : FVec Ideal S16384x2816 .bf16} {p p' : Fin 1024} {j j' : Fin 2816}
    (hp : p.val = p'.val) (hj : j.val = j'.val) : grad a b p j = grad a b p' j' := by
  rw [Fin.ext hp, Fin.ext hj]

theorem flush_last : ∀ t : Fin cfg0.N, (cfg0.win 2).flush t = true → t.val % 8 = 7 :=
  (by decide +kernel : ∀ t : Fin grid0.N, win0_2.flush t = true → t.val % 8 = 7)

theorem out : (dats m 0 c).arrAt 2 cfg0.N = placed (arg0 m c) (arg1 m c) (arg2 m c) := by
  refine ((dats m 0 c).arrAt_eq_of_coversWhere 2 (P := fun i => (i 0).val < 1 ∧ (i 1).val < 2)
    (fun i => grad (arg0 m c) (arg1 m c) ⟨(i 2).val, (i 2).isLt⟩
      ⟨(i 1).val % 2 * 1408 + (i 3).val, by have h1 : (i 3).val < 1408 := (i 3).isLt; omega⟩)
    (fun β => β (0 : Fin 4) < 1 ∧ β (1 : Fin 4) < 2) (by decide +kernel) (fun t hf y => ?_)
    (fun j => by blk_simp [Pipeline.Window.cell_apply, Nat.div_one])).trans ?_
  · obtain ⟨e0, e1, e2, e3⟩ := place2 t
    have h7 := flush_last t hf
    have ht := lt16 t
    idx_bounds y
    blk_simp [e0, e1, e2, e3]
    rw [after0_2]
    obtain ⟨p, q, rfl⟩ : ∃ (p : Fin 1024) (q : Fin 1408), y = ix4 0 0 p q := ⟨⟨(y 2).val, (y 2).isLt⟩, ⟨(y 3).val, (y 3).isLt⟩, by
      funext a; fin_cases a <;> first | rfl | exact Subsingleton.elim (α := Fin 1) _ _⟩
    refine (after_last m c t h7 p q).trans (grad_place ?_ ?_)
    · rfl
    · show t.val / 8 * 1408 + q.val = t.val / 8 % 2 * 1408 + q.val
      omega
  · funext i
    unfold placed
    rw [A_eq]
    rw [show V m c (Pipeline.arrRef spec0 2) = arg2 m c from V_v0 m c]

end

end Cert.GateGradIdeal.Att

namespace Cert.GateGradReferenceIdeal.Att

open Cert.GateGradReferenceIdeal.Gen
open Idealize.ShloMosaic Idealize.ShloMosaic.TcCoe Idealize.ShloMosaic.Tactic
open Idealize.SL.Sem
open scoped BigOperators
open Cert.GateGradIdeal.Att (grad placed)

/-- The product's gradient, as the reference takes it. -/
def rGrad (a : FVec Ideal S16384x1024 .bf16) (b : FVec Ideal S16384x2816 .bf16) : FVec Ideal S2816x1024 .f32 :=
  Host.dotGeneral dot_S16384x2816_S16384x1024_S2816x1024_0_0_1_1_n_n none (extf .f32 b bitsLt_bf16_f32) (extf .f32 a bitsLt_bf16_f32)

/-- Two blocks of columns, first. -/
def rBlocks (x : FVec Ideal S2816x1024 .f32) : FVec Ideal S1x2x1024x1408 .f32 :=
  broadcastInDim S1x2x1024x1408 ![1, 2, 3] bcast_S2x1024x1408_S1x2x1024x1408_1_2_3
    (transpose S2x1024x1408 [1, 0, 2] (shapeCast _ (transpose S1024x2816 [1, 0] x transposes_S2816x1024_S1024x2816_1_0)
      shapeCasts_S1024x2816_S1024x2x1408) transposes_S1024x2x1408_S2x1024x1408_1_0_2)

theorem rGrad_apply (a : FVec Ideal S16384x1024 .bf16) (b : FVec Ideal S16384x2816 .bf16) (j : Fin 2816) (p : Fin 1024) :
    rGrad a b (ix2 j p) = grad a b p j := by
  unfold rGrad grad
  pointwise
  exact Finset.sum_congr rfl fun r _ => mul_comm _ _

theorem rBlocks_apply (x : FVec Ideal S2816x1024 .f32) (b : Fin 2) (p : Fin 1024) (q : Fin 1408) :
    rBlocks x (ix4 0 b p q) = x (ix2 ⟨b.val * 1408 + q.val, by omega⟩ p) := by
  unfold rBlocks
  pointwise

/-- Where the update starts: at the array's first entry. -/
def starts : Fin 4 → Int := fun k => (((![constantI S_ 32 0#32, constantI S_ 32 0#32, constantI S_ 32 0#32, constantI S_ 32 0#32] :
    Fin 4 → S_.Idx → BitVec 32) k) (Shape.Idx.first h_S_)).toInt

theorem starts_zero (h : S1x2x1024x1408.rank = S4x4x1024x1408.rank) (a : Fin 4) :
    Host.clampedStart S4x4x1024x1408 S1x2x1024x1408 h starts a = 0 := by
  fin_cases a <;> rfl

/-- The reference's update of the array. -/
def rPlaced (x : FVec Ideal S4x4x1024x1408 .f32) (u : FVec Ideal S1x2x1024x1408 .f32) : FVec Ideal S4x4x1024x1408 .f32 :=
  Host.dynamicUpdateSlice x u starts updateFits_S4x4x1024x1408_S1x2x1024x1408

theorem rPlaced_apply (x : FVec Ideal S4x4x1024x1408 .f32) (u : FVec Ideal S1x2x1024x1408 .f32) (l b : Fin 4) (p : Fin 1024) (q : Fin 1408) :
    rPlaced x u (ix4 l b p q) = if h : l.val < 1 ∧ b.val < 2 then u (ix4 0 ⟨b.val, h.2⟩ p q) else x (ix4 l b p q) := by
  unfold rPlaced
  pointwise
  simp only [starts_zero]
  by_cases h : l.val < 1 ∧ b.val < 2
  · rw [dif_pos h, dif_pos (by omega)]
    refine congrArg u ?_
    funext a
    fin_cases a <;> first | rfl | exact Subsingleton.elim (α := Fin 1) _ _
  · rw [dif_neg h, dif_neg (by omega)]

/-- The reference's result. -/
theorem result (a : FVec Ideal S16384x1024 .bf16) (b : FVec Ideal S16384x2816 .bf16) (x : FVec Ideal S4x4x1024x1408 .f32) :
    rPlaced x (rBlocks (rGrad a b)) = placed a b x := by
  funext i
  obtain ⟨l, k, p, q, rfl⟩ : ∃ (l k : Fin 4) (p : Fin 1024) (q : Fin 1408), i = ix4 l k p q :=
    ⟨⟨(i 0).val, (i 0).isLt⟩, ⟨(i 1).val, (i 1).isLt⟩, ⟨(i 2).val, (i 2).isLt⟩, ⟨(i 3).val, (i 3).isLt⟩, by funext a; fin_cases a <;> rfl⟩
  rw [rPlaced_apply]
  unfold placed
  by_cases h : l.val < 1 ∧ k.val < 2
  · rw [dif_pos h, rBlocks_apply, rGrad_apply]
    refine Eq.trans ?_ (if_pos h).symm
    refine Cert.GateGradIdeal.Att.grad_place rfl ?_
    show k.val * 1408 + q.val = k.val % 2 * 1408 + q.val
    omega
  · rw [dif_neg h]
    exact (if_neg h).symm

end Cert.GateGradReferenceIdeal.Att

namespace Cert.Proof.Gate

open Idealize.ShloMosaic Idealize.SL.Sem

/-- The reference leaves its arguments alone, and it has no semaphores. -/
theorem frame_reference (m : (ℓ : Loc Cert.GateGradReferenceIdeal.nD Cert.GateGradReferenceIdeal.τ Cert.GateGradReferenceIdeal.sig) → Buf (Elt Ideal) ℓ)
    (ρ : Dev Cert.GateGradReferenceIdeal.nD → PrngReg) :
    θ_run (Cert.GateGradReferenceIdeal.defs (F := Ideal)) (onTc (τ := Cert.GateGradReferenceIdeal.τ) (Cert.GateGradReferenceIdeal.main (F := Ideal)))
      ⟨m, fun _ => 0, ρ⟩ (fun r => (∀ c : Dev Cert.GateGradReferenceIdeal.nD,
       r.2.mem ((c.tc : Thread Cert.GateGradReferenceIdeal.nD Cert.GateGradReferenceIdeal.τ).loc Cert.GateGradReferenceIdeal.main_arg0)
        = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1)
        = m ((c.tc : Thread Cert.GateGradReferenceIdeal.nD Cert.GateGradReferenceIdeal.τ).loc Cert.GateGradReferenceIdeal.main_arg1)
      ∧ r.2.mem ((c.tc : Thread Cert.GateGradReferenceIdeal.nD Cert.GateGradReferenceIdeal.τ).loc Cert.GateGradReferenceIdeal.main_arg2)
        = m ((c.tc : Thread Cert.GateGradReferenceIdeal.nD Cert.GateGradReferenceIdeal.τ).loc Cert.GateGradReferenceIdeal.main_arg2))
      ∧ r.2.sem = fun _ => 0) :=
  (θ_run Cert.GateGradReferenceIdeal.defs _ _).mono (fun r h => ⟨fun c => (h c).2, Idealize.ShloMosaic.sem_eq_zero_of_no_sems (by decide) r.2⟩)
    (Cert.GateGradReferenceIdeal.Value.run (F := Ideal) m ρ)

/-- The call's result is the reference's. -/
theorem algebraic : Cert.algebraic_GateGradIdeal_GateGradReferenceIdeal (hGateGradIdeal := Cert.GateGradIdeal.Gen.facts)
    (hGateGradReferenceIdeal := Cert.GateGradReferenceIdeal.Gen.facts) := by
  intro m g m' g' hp hargs
  refine ⟨fun c => (Cert.GateGradIdeal.Gen.dats m 0 c).arrAt 2 Cert.GateGradIdeal.cfg0.N, Cert.GateGradIdeal.Value.run_blocks m g, ?_⟩
  refine (θ_run Cert.GateGradReferenceIdeal.defs _ _).mono (fun r h c => ⟨(h c).1.trans ?_, (h c).2⟩)
    (Cert.GateGradReferenceIdeal.Value.run (F := Ideal) m' g')
  obtain ⟨e0, e1, e2⟩ := hargs c
  rw [e0, e1, e2]
  exact (Cert.GateGradReferenceIdeal.Att.result _ _ _).trans (Cert.GateGradIdeal.Att.out m c).symm

end Cert.Proof.Gate

end
-- ==== Proof.Feed.lean ====
/- The forward pass of a feed-forward layer: the call's outputs are the reference's. -/
module

public import proofs.«01_k».proof.Defs
public import proofs.«01_k».proof.Proof.Gen.FeedIdeal.Value
public import proofs.«01_k».proof.Proof.Gen.Feed.Frame
public import proofs.«01_k».proof.Proof.Gen.FeedReferenceIdeal.Run
public import Idealize.ShloMosaic.Lib.Quiescent
public import Idealize.ShloMosaic.Lib.Pointwise
public import Idealize.ShloMosaic.Lib.StableHlo.RunRead
public import Idealize.ShloMosaic.Lib.Pipeline.ValueKit
public import Idealize.ShloMosaic.Lib.Pipeline.ValueKit.Partial

@[expose] public section

noncomputable section

namespace Cert.FeedIdeal.Att

open Cert.FeedIdeal.Gen
open Idealize.ShloMosaic Idealize.ShloMosaic.TcCoe Idealize.ShloMosaic.Tactic
open Idealize.SL.Sem
open scoped BigOperators

section
variable {F : FTy → Type} [FloatOps F]

/-- What an even point leaves of the normalised rows, -/
theorem rows_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1x1024x1408 .bf16) (harg4 : arg4.IsWhole) (arg5 : Memref sig .tc .vmem S1x1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S512x1408 .bf16) (harg8 : arg8.IsWhole) (arg9 : Memref sig .tc .vmem S512x1408 .bf16) (harg9 : arg9.IsWhole) (arg10 : Memref sig .tc .vmem S512x1024 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1x1024 .f32) (x2 : Vec F S1x1x1024x1408 .bf16) (x3 : Vec F S1x1x1024x1408 .bf16) (x4 : Vec F S1x1408x1024 .bf16) :
    sout0_A_0 c i arg2 harg2 arg3 harg3 arg4 harg4 arg5 harg5 arg6 harg6 arg7 harg7 arg8 harg8 arg9 harg9 arg10 harg10 arg11 harg11 hc0 hc1 x0 x1 x2 x3 x4 = k0_pay2 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4)]
  frame_out

/-- in the accumulator, -/
theorem sums_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1x1024x1408 .bf16) (harg4 : arg4.IsWhole) (arg5 : Memref sig .tc .vmem S1x1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S512x1408 .bf16) (harg8 : arg8.IsWhole) (arg9 : Memref sig .tc .vmem S512x1408 .bf16) (harg9 : arg9.IsWhole) (arg10 : Memref sig .tc .vmem S512x1024 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1x1024 .f32) (x2 : Vec F S1x1x1024x1408 .bf16) (x3 : Vec F S1x1x1024x1408 .bf16) (x4 : Vec F S1x1408x1024 .bf16) :
    sout0_A_1 c i arg2 harg2 arg3 harg3 arg4 harg4 arg5 harg5 arg6 harg6 arg7 harg7 arg8 harg8 arg9 harg9 arg10 harg10 arg11 harg11 hc0 hc1 x0 x1 x2 x3 x4 = k0_pay8 (k0_pay2 x0 x1) x2 x3 k0_pay3 x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4)]
  frame_out

/-- in the block of the gate's products, -/
theorem gate_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1x1024x1408 .bf16) (harg4 : arg4.IsWhole) (arg5 : Memref sig .tc .vmem S1x1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S512x1408 .bf16) (harg8 : arg8.IsWhole) (arg9 : Memref sig .tc .vmem S512x1408 .bf16) (harg9 : arg9.IsWhole) (arg10 : Memref sig .tc .vmem S512x1024 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1x1024 .f32) (x2 : Vec F S1x1x1024x1408 .bf16) (x3 : Vec F S1x1x1024x1408 .bf16) (x4 : Vec F S1x1408x1024 .bf16) :
    out0_A_6 c i arg2 harg2 arg3 harg3 arg4 harg4 arg5 harg5 arg6 harg6 arg7 harg7 arg8 harg8 arg9 harg9 arg10 harg10 arg11 harg11 hc0 hc1 x0 x1 x2 x3 x4 = k0_pay6 (k0_pay2 x0 x1) x2 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 hc1 x0 x1 x2 x3 x4)]
  frame_out

/-- and of the up's; -/
theorem up_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1x1024x1408 .bf16) (harg4 : arg4.IsWhole) (arg5 : Memref sig .tc .vmem S1x1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S512x1408 .bf16) (harg8 : arg8.IsWhole) (arg9 : Memref sig .tc .vmem S512x1408 .bf16) (harg9 : arg9.IsWhole) (arg10 : Memref sig .tc .vmem S512x1024 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1x1024 .f32) (x2 : Vec F S1x1x1024x1408 .bf16) (x3 : Vec F S1x1x1024x1408 .bf16) (x4 : Vec F S1x1408x1024 .bf16) :
    out0_A_7 c i arg2 harg2 arg3 harg3 arg4 harg4 arg5 harg5 arg6 harg6 arg7 harg7 arg8 harg8 arg9 harg9 arg10 harg10 arg11 harg11 hc0 hc1 x0 x1 x2 x3 x4 = k0_pay7 (k0_pay2 x0 x1) x3 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 hc1 x0 x1 x2 x3 x4)]
  frame_out

/-- what an odd one leaves in the block of the layer's output, -/
theorem layer_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1x1024x1408 .bf16) (harg4 : arg4.IsWhole) (arg5 : Memref sig .tc .vmem S1x1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S512x1408 .bf16) (harg8 : arg8.IsWhole) (arg9 : Memref sig .tc .vmem S512x1408 .bf16) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1x1024 .f32) (x2 : Vec F S1x1x1024x1408 .bf16) (x3 : Vec F S1x1x1024x1408 .bf16) (x4 : Vec F S1x1408x1024 .bf16) (xs0 : Vec F S512x1024 .bf16) (xs1 : Vec F S512x1024 .f32) :
    out0_B_5 c i arg2 harg2 arg3 harg3 arg4 harg4 arg5 harg5 arg6 harg6 arg7 harg7 arg8 harg8 arg9 harg9 arg10 harg10 arg11 harg11 hc0 hc1 x0 x1 x2 x3 x4 xs0 xs1 = k0_pay1 x0 (k0_pay8 xs0 x2 x3 xs1 x4) := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 hc0 hc1 x0 x1 x2 x3 x4 xs0 xs1)]
  frame_out

/-- of the gate's products, -/
theorem gate_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1x1024x1408 .bf16) (harg4 : arg4.IsWhole) (arg5 : Memref sig .tc .vmem S1x1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S512x1408 .bf16) (harg8 : arg8.IsWhole) (arg9 : Memref sig .tc .vmem S512x1408 .bf16) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1x1024 .f32) (x2 : Vec F S1x1x1024x1408 .bf16) (x3 : Vec F S1x1x1024x1408 .bf16) (x4 : Vec F S1x1408x1024 .bf16) (xs0 : Vec F S512x1024 .bf16) (xs1 : Vec F S512x1024 .f32) :
    out0_B_6 c i arg2 harg2 arg3 harg3 arg4 harg4 arg5 harg5 arg6 harg6 arg7 harg7 arg8 harg8 arg9 harg9 arg10 harg10 arg11 harg11 hc0 hc1 x0 x1 x2 x3 x4 xs0 xs1 = k0_pay6 xs0 x2 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 hc1 x0 x1 x2 x3 x4 xs0 xs1)]
  frame_out

/-- and of the up's. -/
theorem up_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1x1024x1408 .bf16) (harg4 : arg4.IsWhole) (arg5 : Memref sig .tc .vmem S1x1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S512x1408 .bf16) (harg8 : arg8.IsWhole) (arg9 : Memref sig .tc .vmem S512x1408 .bf16) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1x1024 .f32) (x2 : Vec F S1x1x1024x1408 .bf16) (x3 : Vec F S1x1x1024x1408 .bf16) (x4 : Vec F S1x1408x1024 .bf16) (xs0 : Vec F S512x1024 .bf16) (xs1 : Vec F S512x1024 .f32) :
    out0_B_7 c i arg2 harg2 arg3 harg3 arg4 harg4 arg5 harg5 arg6 harg6 arg7 harg7 arg8 harg8 arg9 harg9 arg10 harg10 arg11 harg11 hc0 hc1 x0 x1 x2 x3 x4 xs0 xs1 = k0_pay7 xs0 x3 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 x0 x1 x2 x3 x4 xs0 xs1)]
  frame_out

end

/-! ## Values -/

theorem ofBits_1024 : Ideal.ofBits .f32 0x44800000#32 = ((1024 : ℝ) : EReal) := by
  simp [Ideal.ofBits, Ideal.ieee, -EReal.coe_mul]; norm_num
theorem ofBits_1024th : Ideal.ofBits .f32 0x3A800000#32 = ((1 / 1024 : ℝ) : EReal) := by
  simp [Ideal.ofBits, Ideal.ieee, -EReal.coe_mul]; norm_num
theorem pay3_apply (r : Fin 512) (p : Fin 1024) : (k0_pay3 (F := Ideal)) (ix2 r p) = 0 := by
  unfold k0_pay3
  pointwise

theorem pay2_apply (x : Vec Ideal S512x1024 .f32) (g : Vec Ideal S1x1024 .f32) (r : Fin 512) (p : Fin 1024) :
    k0_pay2 x g (ix2 r p) = x (ix2 r p) * Ideal.rsqrt ((∑ k, x (ix2 r k) * x (ix2 r k)) * Ideal.ofBits .f32 0x3A800000#32
      + Ideal.ofBits .f32 0x358637BD#32) * g (ix2 0 p) := by
  unfold k0_pay2
  pointwise

theorem pay4_apply (h : Vec Ideal S512x1024 .bf16) (w : Vec Ideal S1x1x1024x1408 .bf16) (r : Fin 512) (q : Fin 1408) :
    k0_pay4 h w (ix2 r q) = ∑ p : Fin 1024, h (ix2 r p) * w (ix4 0 0 p q) := by
  unfold k0_pay4
  pointwise

theorem pay5_apply (h : Vec Ideal S512x1024 .bf16) (w : Vec Ideal S1x1x1024x1408 .bf16) (r : Fin 512) (q : Fin 1408) :
    k0_pay5 h w (ix2 r q) = ∑ p : Fin 1024, h (ix2 r p) * w (ix4 0 0 p q) := by
  unfold k0_pay5
  pointwise

theorem pay8_apply (h : Vec Ideal S512x1024 .bf16) (wg wu : Vec Ideal S1x1x1024x1408 .bf16) (a : Vec Ideal S512x1024 .f32) (wd : Vec Ideal S1x1408x1024 .bf16)
    (r : Fin 512) (p : Fin 1024) :
    k0_pay8 h wg wu a wd (ix2 r p) = a (ix2 r p) + ∑ q : Fin 1408, k0_pay4 h wg (ix2 r q) * Ideal.logistic (k0_pay4 h wg (ix2 r q))
      * k0_pay5 h wu (ix2 r q) * wd (ix3 0 q p) := by
  unfold k0_pay8
  pointwise

theorem pay1_apply (x a : Vec Ideal S512x1024 .f32) (r : Fin 512) (p : Fin 1024) :
    k0_pay1 x a (ix2 r p) = x (ix2 r p) + Ideal.ofBits .f32 0x3F000000#32 * a (ix2 r p) := by
  unfold k0_pay1
  pointwise

/-! ## The layer -/

/-- The normalised input: row `r` over the root of its mean square, times the norm's weights. -/
def normal (x : FVec Ideal S16384x1024 .f32) (g : FVec Ideal S1024 .f32) (r : Fin 16384) (p : Fin 1024) : EReal :=
  x (ix2 r p) * Ideal.rsqrt ((∑ k, x (ix2 r k) * x (ix2 r k)) * ((1 / 1024 : ℝ) : EReal) + Ideal.ofBits .f32 0x358637BD#32) * g (ix1 p)

/-- Its product with the layer's gate and up weights, -/
def pre (x : FVec Ideal S16384x1024 .f32) (g : FVec Ideal S1024 .f32) (w : FVec Ideal S4x1024x5632 .f32) (r : Fin 16384) (j : Fin 5632) : EReal :=
  ∑ p : Fin 1024, normal x g r p * w (ix3 0 p j)

/-- the activation, -/
def act (x : FVec Ideal S16384x1024 .f32) (g : FVec Ideal S1024 .f32) (w : FVec Ideal S4x1024x5632 .f32) (r : Fin 16384) (j : Fin 2816) : EReal :=
  pre x g w r ⟨j.val, by omega⟩ * Ideal.logistic (pre x g w r ⟨j.val, by omega⟩) * pre x g w r ⟨j.val + 2816, by omega⟩

/-- and the layer's output. -/
def layer (x : FVec Ideal S16384x1024 .f32) (g : FVec Ideal S1024 .f32) (w : FVec Ideal S4x1024x5632 .f32) (d : FVec Ideal S4x2816x1024 .f32)
    (r : Fin 16384) (p : Fin 1024) : EReal :=
  x (ix2 r p) + Ideal.ofBits .f32 0x3F000000#32 * ∑ j : Fin 2816, act x g w r j * d (ix3 0 j p)

/-- A sum over the columns is the two halves'. -/
theorem sum_halves (f : Fin 2816 → EReal) :
    ∑ j, f j = ∑ q : Fin 1408, f ⟨q.val, by omega⟩ + ∑ q : Fin 1408, f ⟨1408 + q.val, by omega⟩ :=
  Fin.sum_univ_add (a := 1408) (b := 1408) f

section

theorem place0 : ∀ t : Fin cfg0.N, win0_0.index t 0 = t.val / 2 ∧ win0_0.index t 1 = 0 :=
  (by decide +kernel : ∀ t : Fin grid0.N, win0_0.index t 0 = t.val / 2 ∧ win0_0.index t 1 = 0)
theorem place1 : ∀ t : Fin cfg0.N, win0_1.index t 0 = 0 ∧ win0_1.index t 1 = 0 :=
  (by decide +kernel : ∀ t : Fin grid0.N, win0_1.index t 0 = 0 ∧ win0_1.index t 1 = 0)
theorem place2 : ∀ t : Fin cfg0.N, win0_2.index t 0 = t.val % 2 ∧ win0_2.index t 1 = 0 ∧ win0_2.index t 2 = 0 ∧ win0_2.index t 3 = 0 :=
  (by decide +kernel : ∀ t : Fin grid0.N, win0_2.index t 0 = t.val % 2 ∧ win0_2.index t 1 = 0 ∧ win0_2.index t 2 = 0 ∧ win0_2.index t 3 = 0)
theorem place3 : ∀ t : Fin cfg0.N, win0_3.index t 0 = t.val % 2 + 2 ∧ win0_3.index t 1 = 0 ∧ win0_3.index t 2 = 0 ∧ win0_3.index t 3 = 0 :=
  (by decide +kernel : ∀ t : Fin grid0.N, win0_3.index t 0 = t.val % 2 + 2 ∧ win0_3.index t 1 = 0 ∧ win0_3.index t 2 = 0 ∧ win0_3.index t 3 = 0)
theorem place4 : ∀ t : Fin cfg0.N, win0_4.index t 0 = 0 ∧ win0_4.index t 1 = t.val % 2 ∧ win0_4.index t 2 = 0 :=
  (by decide +kernel : ∀ t : Fin grid0.N, win0_4.index t 0 = 0 ∧ win0_4.index t 1 = t.val % 2 ∧ win0_4.index t 2 = 0)
theorem place5 : ∀ t : Fin cfg0.N, win0_5.index t 0 = t.val / 2 ∧ win0_5.index t 1 = 0 :=
  (by decide +kernel : ∀ t : Fin grid0.N, win0_5.index t 0 = t.val / 2 ∧ win0_5.index t 1 = 0)
theorem place6 : ∀ t : Fin cfg0.N, win0_6.index t 0 = t.val / 2 ∧ win0_6.index t 1 = t.val % 2 :=
  (by decide +kernel : ∀ t : Fin grid0.N, win0_6.index t 0 = t.val / 2 ∧ win0_6.index t 1 = t.val % 2)
theorem place7 : ∀ t : Fin cfg0.N, win0_7.index t 0 = t.val / 2 ∧ win0_7.index t 1 = t.val % 2 :=
  (by decide +kernel : ∀ t : Fin grid0.N, win0_7.index t 0 = t.val / 2 ∧ win0_7.index t 1 = t.val % 2)

theorem lt64 (t : Fin cfg0.N) : t.val < 64 := lt_of_lt_of_eq t.isLt N_0

/-- Row `k` of the point's block, column `q` of its half, and the columns of the gate's and the up's weights. -/
def row (t : Fin cfg0.N) (k : Fin 512) : Fin 16384 := ⟨t.val / 2 * 512 + k.val, by have := lt64 t; omega⟩
def col (t : Fin cfg0.N) (q : Fin 1408) : Fin 2816 := ⟨t.val % 2 * 1408 + q.val, by omega⟩
def colGate (t : Fin cfg0.N) (q : Fin 1408) : Fin 5632 := ⟨t.val % 2 * 1408 + q.val, by omega⟩
def colUp (t : Fin cfg0.N) (q : Fin 1408) : Fin 5632 := ⟨t.val % 2 * 1408 + q.val + 2816, by omega⟩

theorem read0 (t : Fin cfg0.N) (X : Vec Ideal S16384x1024 .f32) (k : Fin 512) (p : Fin 1024) :
    ((cfg0.win 0).blk t).view.read (Elt Ideal) X (ix2 k p) = X (ix2 (row t k) p) := by
  obtain ⟨e0, e1⟩ := place0 t
  unfold row
  blk_ext [e0, e1]
theorem read1 (t : Fin cfg0.N) (X : Vec Ideal S1x1024 .f32) (p : Fin 1024) :
    ((cfg0.win 1).blk t).view.read (Elt Ideal) X (ix2 0 p) = X (ix2 0 p) := by
  obtain ⟨e0, e1⟩ := place1 t
  blk_ext [e0, e1]
theorem read2 (t : Fin cfg0.N) (X : Vec Ideal S4x4x1024x1408 .bf16) (p : Fin 1024) (q : Fin 1408) :
    ((cfg0.win 2).blk t).view.read (Elt Ideal) X (ix4 0 0 p q) = X (ix4 ⟨t.val % 2, by omega⟩ 0 p q) := by
  obtain ⟨e0, e1, e2, e3⟩ := place2 t
  blk_ext [e0, e1, e2, e3]
theorem read3 (t : Fin cfg0.N) (X : Vec Ideal S4x4x1024x1408 .bf16) (p : Fin 1024) (q : Fin 1408) :
    ((cfg0.win 3).blk t).view.read (Elt Ideal) X (ix4 0 0 p q) = X (ix4 ⟨t.val % 2 + 2, by omega⟩ 0 p q) := by
  obtain ⟨e0, e1, e2, e3⟩ := place3 t
  blk_ext [e0, e1, e2, e3]
theorem read4 (t : Fin cfg0.N) (X : Vec Ideal S4x2816x1024 .bf16) (q : Fin 1408) (p : Fin 1024) :
    ((cfg0.win 4).blk t).view.read (Elt Ideal) X (ix3 0 q p) = X (ix3 0 (col t q) p) := by
  obtain ⟨e0, e1, e2⟩ := place4 t
  unfold col
  blk_ext [e0, e1, e2]

end

/-- The weights in the tiles that the call reads, as the host lays them out. -/
def wide (g : FVec Ideal S1024 .f32) : FVec Ideal S1x1024 .f32 := broadcastInDim S1x1024 ![1] bcast_S1024_S1x1024_1 g
def tiles (w : FVec Ideal S4x1024x5632 .f32) : FVec Ideal S4x4x1024x1408 .bf16 :=
  truncf .bf16 (transpose S4x4x1024x1408 [2, 0, 1, 3] (shapeCast _ w shapeCasts_S4x1024x5632_S4x1024x4x1408 : FVec Ideal S4x1024x4x1408 .f32)
    transposes_S4x1024x4x1408_S4x4x1024x1408_2_0_1_3) bitsLt_bf16_f32
def down (d : FVec Ideal S4x2816x1024 .f32) : FVec Ideal S4x2816x1024 .bf16 := truncf .bf16 d bitsLt_bf16_f32

theorem wide_apply (g : FVec Ideal S1024 .f32) (p : Fin 1024) : wide g (ix2 0 p) = g (ix1 p) := by
  unfold wide
  pointwise
theorem tiles_apply (w : FVec Ideal S4x1024x5632 .f32) (k : Fin 4) (p : Fin 1024) (q : Fin 1408) :
    tiles w (ix4 k 0 p q) = w (ix3 0 p ⟨k.val * 1408 + q.val, by omega⟩) := by
  unfold tiles
  pointwise

section
variable (m : (ℓ : Loc nD τ sig) → Buf (Elt Ideal) ℓ) (c : Dev nD)

/-- The call's arguments, as arrays. -/
def X : FVec Ideal S16384x1024 .f32 := m ((c.tc : Thread nD τ).loc main_arg0)
def G : FVec Ideal S1024 .f32 := m ((c.tc : Thread nD τ).loc main_arg1)
def W : FVec Ideal S4x1024x5632 .f32 := m ((c.tc : Thread nD τ).loc main_arg2)
def D : FVec Ideal S4x2816x1024 .f32 := m ((c.tc : Thread nD τ).loc main_arg3)

theorem V_v0 : V m c main_v0 = wide (G m c) := by
  simp only [V, hostOps0]
  after_reads_simp
  rfl
theorem V_v3 : V m c main_v3 = tiles (W m c) := by
  simp only [V, hostOps0]
  after_reads_simp
  rfl
theorem V_v4 : V m c main_v4 = down (D m c) := by
  simp only [V, hostOps0]
  after_reads_simp
  rfl

/-- The point's blocks, as arrays, and their entries. -/
def block0 (t : Fin cfg0.N) : Vec Ideal S512x1024 .f32 := iblk m c 0 t
def block1 (t : Fin cfg0.N) : Vec Ideal S1x1024 .f32 := iblk m c 1 t
def block2 (t : Fin cfg0.N) : Vec Ideal S1x1x1024x1408 .bf16 := iblk m c 2 t
def block3 (t : Fin cfg0.N) : Vec Ideal S1x1x1024x1408 .bf16 := iblk m c 3 t
def block4 (t : Fin cfg0.N) : Vec Ideal S1x1408x1024 .bf16 := iblk m c 4 t

theorem block0_apply (t : Fin cfg0.N) (k : Fin 512) (p : Fin 1024) : block0 m c t (ix2 k p) = X m c (ix2 (row t k) p) :=
  (read0 t (V m c main_arg0) k p).trans (congrFun (V_main_arg0 m c) _)
theorem block1_apply (t : Fin cfg0.N) (p : Fin 1024) : block1 m c t (ix2 0 p) = G m c (ix1 p) :=
  (read1 t (V m c main_v0) p).trans ((congrFun (V_v0 m c) _).trans (wide_apply _ p))
theorem block2_apply (t : Fin cfg0.N) (p : Fin 1024) (q : Fin 1408) : block2 m c t (ix4 0 0 p q) = W m c (ix3 0 p (colGate t q)) :=
  (read2 t (V m c main_v3) p q).trans ((congrFun (V_v3 m c) _).trans (tiles_apply _ ⟨t.val % 2, by omega⟩ p q))
theorem block3_apply (t : Fin cfg0.N) (p : Fin 1024) (q : Fin 1408) : block3 m c t (ix4 0 0 p q) = W m c (ix3 0 p (colUp t q)) :=
  (read3 t (V m c main_v3) p q).trans ((congrFun (V_v3 m c) _).trans ((tiles_apply _ ⟨t.val % 2 + 2, by omega⟩ p q).trans (congrArg (fun j => W m c (ix3 0 p j)) (Fin.ext (by
    show (t.val % 2 + 2) * 1408 + q.val = t.val % 2 * 1408 + q.val + 2816
    omega)))))
theorem block4_apply (t : Fin cfg0.N) (q : Fin 1408) (p : Fin 1024) : block4 m c t (ix3 0 q p) = D m c (ix3 0 (col t q) p) :=
  (read4 t (V m c main_v4) q p).trans (congrFun (V_v4 m c) _)

/-- The point's normalised rows. -/
theorem rows_apply (t : Fin cfg0.N) (k : Fin 512) (p : Fin 1024) :
    k0_pay2 (block0 m c t) (block1 m c t) (ix2 k p) = normal (X m c) (G m c) (row t k) p := by
  rw [pay2_apply, ofBits_1024th, block1_apply]
  simp only [block0_apply]
  rfl

section
variable (t : Fin cfg0.N) (h : Vec Ideal S512x1024 .bf16) (hh : ∀ k p, h (ix2 k p) = normal (X m c) (G m c) (row t k) p)
include hh

/-- From the normalised rows: the products with the half's gate and up weights, -/
theorem gate_apply (k : Fin 512) (q : Fin 1408) : k0_pay4 h (block2 m c t) (ix2 k q) = pre (X m c) (G m c) (W m c) (row t k) (colGate t q) := by
  rw [pay4_apply]
  simp only [hh, block2_apply]
  rfl
theorem up_apply (k : Fin 512) (q : Fin 1408) : k0_pay5 h (block3 m c t) (ix2 k q) = pre (X m c) (G m c) (W m c) (row t k) (colUp t q) := by
  rw [pay5_apply]
  simp only [hh, block3_apply]
  rfl

/-- and the half's part of the layer. -/
theorem half_apply (a : Vec Ideal S512x1024 .f32) (k : Fin 512) (p : Fin 1024) :
    k0_pay8 h (block2 m c t) (block3 m c t) a (block4 m c t) (ix2 k p)
      = a (ix2 k p) + ∑ q : Fin 1408, act (X m c) (G m c) (W m c) (row t k) (col t q) * D m c (ix3 0 (col t q) p) := by
  rw [pay8_apply]
  simp only [gate_apply m c t h hh, up_apply m c t h hh, block4_apply]
  rfl

end

/-- What an even point leaves. -/
theorem even (t : Fin cfg0.N) (h0 : t.val % 2 = 0) :
    (outsAt0 m c t.val t.isLt).2.2.2.1 = k0_pay2 (block0 m c t) (block1 m c t)
    ∧ (outsAt0 m c t.val t.isLt).2.2.2.2
      = k0_pay8 (k0_pay2 (block0 m c t) (block1 m c t)) (block2 m c t) (block3 m c t) (k0_pay3 (F := Ideal)) (block4 m c t)
    ∧ (outsAt0 m c t.val t.isLt).2.1 = k0_pay6 (k0_pay2 (block0 m c t) (block1 m c t)) (block2 m c t)
    ∧ (outsAt0 m c t.val t.isLt).2.2.1 = k0_pay7 (k0_pay2 (block0 m c t) (block1 m c t)) (block3 m c t) := by
  rw [outsAt0_A m c t h0 (by omega)]
  dsimp only
  rw [rows_A, sums_A, gate_A, up_A]
  exact ⟨rfl, rfl, rfl, rfl⟩

/-- The point before, in the same block of rows. -/
def before (t : Fin cfg0.N) : Fin cfg0.N := ⟨t.val - 1, Nat.lt_of_le_of_lt (Nat.sub_le _ _) t.isLt⟩

/-- The normalised rows that an odd point finds, -/
def kept (t : Fin cfg0.N) : Vec Ideal S512x1024 .bf16 := (outsAt0 m c (before t).val (before t).isLt).2.2.2.1
/-- and the first half's part. -/
def part (t : Fin cfg0.N) : Vec Ideal S512x1024 .f32 := (outsAt0 m c (before t).val (before t).isLt).2.2.2.2

/-- What an odd point leaves. -/
theorem odd (t : Fin cfg0.N) (h1 : t.val % 2 = 1) :
    (outsAt0 m c t.val t.isLt).1 = k0_pay1 (block0 m c t) (k0_pay8 (kept m c t) (block2 m c t) (block3 m c t) (part m c t) (block4 m c t))
    ∧ (outsAt0 m c t.val t.isLt).2.1 = k0_pay6 (kept m c t) (block2 m c t)
    ∧ (outsAt0 m c t.val t.isLt).2.2.1 = k0_pay7 (kept m c t) (block3 m c t) := by
  rw [outsAt0_B m c t (by omega) h1]
  dsimp only
  rw [layer_B, gate_B, up_B]
  exact ⟨rfl, rfl, rfl⟩

theorem before_even (t : Fin cfg0.N) (h1 : t.val % 2 = 1) : (before t).val % 2 = 0 := by
  show (t.val - 1) % 2 = 0
  omega
theorem before_row (t : Fin cfg0.N) (h1 : t.val % 2 = 1) (k : Fin 512) : row (before t) k = row t k := by
  refine Fin.ext ?_
  show (t.val - 1) / 2 * 512 + k.val = t.val / 2 * 512 + k.val
  omega

theorem kept_apply (t : Fin cfg0.N) (h1 : t.val % 2 = 1) (k : Fin 512) (p : Fin 1024) : kept m c t (ix2 k p) = normal (X m c) (G m c) (row t k) p := by
  unfold kept
  rw [(even m c (before t) (before_even t h1)).1, rows_apply, before_row t h1]

theorem part_apply (t : Fin cfg0.N) (h1 : t.val % 2 = 1) (k : Fin 512) (p : Fin 1024) :
    part m c t (ix2 k p) = ∑ q : Fin 1408, act (X m c) (G m c) (W m c) (row t k) ⟨q.val, by omega⟩ * D m c (ix3 0 ⟨q.val, by omega⟩ p) := by
  unfold part
  rw [(even m c (before t) (before_even t h1)).2.1, half_apply m c (before t) _ (rows_apply m c (before t)), pay3_apply, zero_add, before_row t h1]
  refine Finset.sum_congr rfl fun q _ => ?_
  rw [show col (before t) q = ⟨q.val, by omega⟩ from Fin.ext (by
    show (before t).val % 2 * 1408 + q.val = q.val
    rw [before_even t h1]; omega)]

/-- The outputs' blocks: the products with the gate's weights, -/
theorem gate_block (t : Fin cfg0.N) (k : Fin 512) (q : Fin 1408) :
    (outsAt0 m c t.val t.isLt).2.1 (ix2 k q) = pre (X m c) (G m c) (W m c) (row t k) (colGate t q) := by
  rcases Nat.mod_two_eq_zero_or_one t.val with h0 | h1
  · rw [(even m c t h0).2.2.1]
    exact gate_apply m c t _ (rows_apply m c t) k q
  · rw [(odd m c t h1).2.1]
    exact gate_apply m c t _ (kept_apply m c t h1) k q

/-- with the up's, -/
theorem up_block (t : Fin cfg0.N) (k : Fin 512) (q : Fin 1408) :
    (outsAt0 m c t.val t.isLt).2.2.1 (ix2 k q) = pre (X m c) (G m c) (W m c) (row t k) (colUp t q) := by
  rcases Nat.mod_two_eq_zero_or_one t.val with h0 | h1
  · rw [(even m c t h0).2.2.2]
    exact up_apply m c t _ (rows_apply m c t) k q
  · rw [(odd m c t h1).2.2]
    exact up_apply m c t _ (kept_apply m c t h1) k q

/-- and the layer, at an odd point. -/
theorem layer_block (t : Fin cfg0.N) (h1 : t.val % 2 = 1) (k : Fin 512) (p : Fin 1024) :
    (outsAt0 m c t.val t.isLt).1 (ix2 k p) = layer (X m c) (G m c) (W m c) (D m c) (row t k) p := by
  rw [(odd m c t h1).1, pay1_apply, block0_apply, half_apply m c t _ (kept_apply m c t h1), part_apply m c t h1]
  unfold layer
  rw [sum_halves]
  refine congrArg (fun z => X m c (ix2 (row t k) p) + Ideal.ofBits .f32 0x3F000000#32 * (_ + z)) (Finset.sum_congr rfl fun q _ => ?_)
  rw [show col t q = ⟨1408 + q.val, by omega⟩ from Fin.ext (by
    show t.val % 2 * 1408 + q.val = 1408 + q.val
    rw [h1])]

/-- The outputs, as arrays. -/
def layerArr (x : FVec Ideal S16384x1024 .f32) (g : FVec Ideal S1024 .f32) (w : FVec Ideal S4x1024x5632 .f32) (d : FVec Ideal S4x2816x1024 .f32) :
    FVec Ideal S16384x1024 .f32 :=
  fun i => layer x g w d ⟨(i 0).val, (i 0).isLt⟩ ⟨(i 1).val, (i 1).isLt⟩
def gateArr (x : FVec Ideal S16384x1024 .f32) (g : FVec Ideal S1024 .f32) (w : FVec Ideal S4x1024x5632 .f32) : FVec Ideal S16384x2816 .bf16 :=
  fun i => pre x g w ⟨(i 0).val, (i 0).isLt⟩ ⟨(i 1).val, lt_trans (i 1).isLt (by decide : 2816 < 5632)⟩
def upArr (x : FVec Ideal S16384x1024 .f32) (g : FVec Ideal S1024 .f32) (w : FVec Ideal S4x1024x5632 .f32) : FVec Ideal S16384x2816 .bf16 :=
  fun i => pre x g w ⟨(i 0).val, (i 0).isLt⟩ ⟨(i 1).val + 2816, Nat.add_lt_add_right (i 1).isLt 2816⟩

theorem layer_out : (dats m 0 c).arrAt 5 cfg0.N = layerArr (X m c) (G m c) (W m c) (D m c) := by
  unfold layerArr
  refine (dats m 0 c).arrAt_eq_of_covers 5 _ (by decide +kernel) fun t hf y => ?_
  obtain ⟨e0, e1⟩ := place5 t
  have h1 := (flush0_5 t).mp hf
  idx_bounds y
  blk_simp [e0, e1]
  rw [after0_5]
  obtain ⟨k, p, rfl⟩ : ∃ (k : Fin 512) (p : Fin 1024), y = ix2 k p := ⟨⟨(y 0).val, (y 0).isLt⟩, ⟨(y 1).val, (y 1).isLt⟩, by funext a; fin_cases a <;> rfl⟩
  refine (layer_block m c t h1 k p).trans ?_
  exact congrArg₂ (layer (X m c) (G m c) (W m c) (D m c)) (Fin.ext rfl) (Fin.ext rfl)

theorem gate_out : (dats m 0 c).arrAt 6 cfg0.N = gateArr (X m c) (G m c) (W m c) := by
  unfold gateArr
  refine (dats m 0 c).arrAt_eq_of_covers 6 _ (by decide +kernel) fun t hf y => ?_
  obtain ⟨e0, e1⟩ := place6 t
  idx_bounds y
  blk_simp [e0, e1]
  rw [after0_6]
  obtain ⟨k, q, rfl⟩ : ∃ (k : Fin 512) (q : Fin 1408), y = ix2 k q := ⟨⟨(y 0).val, (y 0).isLt⟩, ⟨(y 1).val, (y 1).isLt⟩, by funext a; fin_cases a <;> rfl⟩
  exact gate_block m c t k q

theorem up_out : (dats m 0 c).arrAt 7 cfg0.N = upArr (X m c) (G m c) (W m c) := by
  unfold upArr
  refine (dats m 0 c).arrAt_eq_of_covers 7 _ (by decide +kernel) fun t hf y => ?_
  obtain ⟨e0, e1⟩ := place7 t
  idx_bounds y
  blk_simp [e0, e1]
  rw [after0_7]
  obtain ⟨k, q, rfl⟩ : ∃ (k : Fin 512) (q : Fin 1408), y = ix2 k q := ⟨⟨(y 0).val, (y 0).isLt⟩, ⟨(y 1).val, (y 1).isLt⟩, by funext a; fin_cases a <;> rfl⟩
  exact up_block m c t k q

end

end Cert.FeedIdeal.Att

namespace Cert.FeedReferenceIdeal.Att

open Cert.FeedReferenceIdeal.Gen
open Idealize.ShloMosaic Idealize.ShloMosaic.TcCoe Idealize.ShloMosaic.Tactic
open Idealize.SL.Sem
open scoped BigOperators
open Cert.FeedIdeal.Att (normal pre act layer layerArr gateArr upArr)

def rNorm (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

def rPre (h : FVec Ideal S16384x1024 .f32) (w : FVec Ideal S4x1024x5632 .f32) : FVec Ideal S16384x5632 .f32 :=
  Host.dotGeneral dot_S16384x1024_S1024x5632_S16384x5632_1_0_0_1_n_n none h (shapeCast _ (extractStridedSlice S1x1024x5632 ![0, 0, 0] w slices_S4x1024x5632_S1x1024x5632_0_0_0) shapeCasts_S1x1024x5632_S1024x5632)

def rGate (z : FVec Ideal S16384x5632 .f32) : FVec Ideal S16384x2816 .f32 := extractStridedSlice S16384x2816 ![0, 0] z slices_S16384x5632_S16384x2816_0_0
def rUp (z : FVec Ideal S16384x5632 .f32) : FVec Ideal S16384x2816 .f32 := extractStridedSlice S16384x2816 ![0, 2816] z slices_S16384x5632_S16384x2816_0_2816

def rAct (a b : FVec Ideal S16384x2816 .f32) : FVec Ideal S16384x2816 .f32 :=
  mulf (mulf a (Host.divf (broadcastInDim S16384x2816 ![] bcast_S_S16384x2816 (constant S_ .f32 0x3F800000#32)) (addf (broadcastInDim S16384x2816 ![] bcast_S_S16384x2816 (constant S_ .f32 0x3F800000#32)) (Host.exp (Host.negf a))))) b

def rLayer (x : FVec Ideal S16384x1024 .f32) (a : FVec Ideal S16384x2816 .f32) (w : FVec Ideal S4x2816x1024 .f32) : FVec Ideal S16384x1024 .f32 :=
  addf x (mulf (broadcastInDim S16384x1024 ![] bcast_S_S16384x1024 (constant S_ .f32 0x3F000000#32)) (Host.dotGeneral dot_S16384x2816_S2816x1024_S16384x1024_1_0_0_1_n_n none a (shapeCast _ (extractStridedSlice S1x2816x1024 ![0, 0, 0] w slices_S4x2816x1024_S1x2816x1024_0_0_0) shapeCasts_S1x2816x1024_S2816x1024)))

theorem rPre_apply (h : FVec Ideal S16384x1024 .f32) (w : FVec Ideal S4x1024x5632 .f32) (r : Fin 16384) (j : Fin 5632) :
    rPre h w (ix2 r j) = ∑ p : Fin 1024, h (ix2 r p) * w (ix3 0 p j) := by
  unfold rPre
  pointwise

theorem rGate_apply (z : FVec Ideal S16384x5632 .f32) (r : Fin 16384) (j : Fin 2816) :
    rGate z (ix2 r j) = z (ix2 r ⟨j.val, by omega⟩) := by
  unfold rGate
  pointwise

theorem rUp_apply (z : FVec Ideal S16384x5632 .f32) (r : Fin 16384) (j : Fin 2816) :
    rUp z (ix2 r j) = z (ix2 r ⟨j.val + 2816, by omega⟩) := by
  unfold rUp
  pointwise
  exact congrArg (fun j => z (ix2 r j)) (Fin.ext (Nat.add_comm _ _))

theorem rAct_apply (a b : FVec Ideal S16384x2816 .f32) (r : Fin 16384) (j : Fin 2816) :
    rAct a b (ix2 r j) = a (ix2 r j) * Ideal.logistic (a (ix2 r j)) * b (ix2 r j) := by
  unfold rAct Ideal.logistic
  pointwise

theorem rLayer_apply (x : FVec Ideal S16384x1024 .f32) (a : FVec Ideal S16384x2816 .f32) (w : FVec Ideal S4x2816x1024 .f32) (r : Fin 16384) (p : Fin 1024) :
    rLayer x a w (ix2 r p) = x (ix2 r p) + Ideal.ofBits .f32 0x3F000000#32 * ∑ j : Fin 2816, a (ix2 r j) * w (ix3 0 j p) := by
  unfold rLayer
  pointwise

theorem rNorm_apply (x : FVec Ideal S16384x1024 .f32) (g : FVec Ideal S1024 .f32) (r : Fin 16384) (p : Fin 1024) :
    rNorm x g (ix2 r p) = normal x g r p := by
  unfold rNorm normal
  pointwise
  rw [Cert.FeedIdeal.Att.ofBits_1024, Ideal.div_coe (by norm_num)]

theorem rPre_eq (x : FVec Ideal S16384x1024 .f32) (g : FVec Ideal S1024 .f32) (w : FVec Ideal S4x1024x5632 .f32) (r : Fin 16384) (j : Fin 5632) :
    rPre (rNorm x g) w (ix2 r j) = pre x g w r j := by
  rw [rPre_apply]
  simp only [rNorm_apply]
  rfl

/-- The reference's results: the layer, -/
theorem layer_result (x : FVec Ideal S16384x1024 .f32) (g : FVec Ideal S1024 .f32) (w : FVec Ideal S4x1024x5632 .f32) (d : FVec Ideal S4x2816x1024 .f32) :
    rLayer x (rAct (rGate (rPre (rNorm x g) w)) (rUp (rPre (rNorm x g) w))) d = layerArr x g w d := by
  funext i
  obtain ⟨r, p, rfl⟩ : ∃ (r : Fin 16384) (p : Fin 1024), i = ix2 r p :=
    ⟨⟨(i 0).val, (i 0).isLt⟩, ⟨(i 1).val, (i 1).isLt⟩, by funext a; fin_cases a <;> rfl⟩
  rw [rLayer_apply]
  simp only [rAct_apply, rGate_apply, rUp_apply, rPre_eq]
  rfl

/-- the products with the gate's weights, -/
theorem gate_result (x : FVec Ideal S16384x1024 .f32) (g : FVec Ideal S1024 .f32) (w : FVec Ideal S4x1024x5632 .f32) :
    (truncf .bf16 (rGate (rPre (rNorm x g) w)) bitsLt_bf16_f32 : FVec Ideal S16384x2816 .bf16) = gateArr x g w := by
  funext i
  obtain ⟨r, j, rfl⟩ : ∃ (r : Fin 16384) (j : Fin 2816), i = ix2 r j :=
    ⟨⟨(i 0).val, (i 0).isLt⟩, ⟨(i 1).val, (i 1).isLt⟩, by funext a; fin_cases a <;> rfl⟩
  refine (rGate_apply _ r j).trans ((rPre_eq x g w r _).trans ?_)
  rfl

/-- and with the up's. -/
theorem up_result (x : FVec Ideal S16384x1024 .f32) (g : FVec Ideal S1024 .f32) (w : FVec Ideal S4x1024x5632 .f32) :
    (truncf .bf16 (rUp (rPre (rNorm x g) w)) bitsLt_bf16_f32 : FVec Ideal S16384x2816 .bf16) = upArr x g w := by
  funext i
  obtain ⟨r, j, rfl⟩ : ∃ (r : Fin 16384) (j : Fin 2816), i = ix2 r j :=
    ⟨⟨(i 0).val, (i 0).isLt⟩, ⟨(i 1).val, (i 1).isLt⟩, by funext a; fin_cases a <;> rfl⟩
  refine (rUp_apply _ r j).trans ((rPre_eq x g w r _).trans ?_)
  rfl

end Cert.FeedReferenceIdeal.Att

namespace Cert.Proof.Layer

open Idealize.ShloMosaic Idealize.SL.Sem

/-- The reference leaves its arguments alone, and it has no semaphores. -/
theorem frame_reference (m : (ℓ : Loc Cert.FeedReferenceIdeal.nD Cert.FeedReferenceIdeal.τ Cert.FeedReferenceIdeal.sig) → Buf (Elt Ideal) ℓ)
    (ρ : Dev Cert.FeedReferenceIdeal.nD → PrngReg) :
    θ_run (Cert.FeedReferenceIdeal.defs (F := Ideal)) (onTc (τ := Cert.FeedReferenceIdeal.τ) (Cert.FeedReferenceIdeal.main (F := Ideal)))
      ⟨m, fun _ => 0, ρ⟩ (fun r => (∀ c : Dev Cert.FeedReferenceIdeal.nD,
       r.2.mem ((c.tc : Thread Cert.FeedReferenceIdeal.nD Cert.FeedReferenceIdeal.τ).loc Cert.FeedReferenceIdeal.main_arg0)
        = m ((c.tc : Thread Cert.FeedReferenceIdeal.nD Cert.FeedReferenceIdeal.τ).loc Cert.FeedReferenceIdeal.main_arg0)
      ∧ r.2.mem ((c.tc : Thread Cert.FeedReferenceIdeal.nD Cert.FeedReferenceIdeal.τ).loc Cert.FeedReferenceIdeal.main_arg1)
        = m ((c.tc : Thread Cert.FeedReferenceIdeal.nD Cert.FeedReferenceIdeal.τ).loc Cert.FeedReferenceIdeal.main_arg1)
      ∧ r.2.mem ((c.tc : Thread Cert.FeedReferenceIdeal.nD Cert.FeedReferenceIdeal.τ).loc Cert.FeedReferenceIdeal.main_arg2)
        = m ((c.tc : Thread Cert.FeedReferenceIdeal.nD Cert.FeedReferenceIdeal.τ).loc Cert.FeedReferenceIdeal.main_arg2)
      ∧ r.2.mem ((c.tc : Thread Cert.FeedReferenceIdeal.nD Cert.FeedReferenceIdeal.τ).loc Cert.FeedReferenceIdeal.main_arg3)
        = m ((c.tc : Thread Cert.FeedReferenceIdeal.nD Cert.FeedReferenceIdeal.τ).loc Cert.FeedReferenceIdeal.main_arg3))
      ∧ r.2.sem = fun _ => 0) :=
  (θ_run Cert.FeedReferenceIdeal.defs _ _).mono (fun r h => ⟨fun c => (h c).2.2.2, Idealize.ShloMosaic.sem_eq_zero_of_no_sems (by decide) r.2⟩)
    (Cert.FeedReferenceIdeal.Value.run (F := Ideal) m ρ)

/-- The call's results are the reference's. -/
theorem algebraic : Cert.algebraic_FeedIdeal_FeedReferenceIdeal (hFeedIdeal := Cert.FeedIdeal.Gen.facts)
    (hFeedReferenceIdeal := Cert.FeedReferenceIdeal.Gen.facts) := by
  intro m g m' g' hp hargs
  refine ⟨fun c => (Cert.FeedIdeal.Gen.dats m 0 c).arrAt 5 Cert.FeedIdeal.cfg0.N, fun c => (Cert.FeedIdeal.Gen.dats m 0 c).arrAt 6 Cert.FeedIdeal.cfg0.N,
    fun c => (Cert.FeedIdeal.Gen.dats m 0 c).arrAt 7 Cert.FeedIdeal.cfg0.N, Cert.FeedIdeal.Value.run_blocks m g, ?_⟩
  refine (θ_run Cert.FeedReferenceIdeal.defs _ _).mono (fun r h c => ?_) (Cert.FeedReferenceIdeal.Value.run (F := Ideal) m' g')
  obtain ⟨e0, e1, e2, e3⟩ := hargs c
  refine ⟨(h c).1.trans ?_, (h c).2.1.trans ?_, (h c).2.2.1.trans ?_, (h c).2.2.2⟩
  · rw [e0, e1, e2, e3]
    exact (Cert.FeedReferenceIdeal.Att.layer_result _ _ _ _).trans (Cert.FeedIdeal.Att.layer_out m c).symm
  · rw [e0, e1, e2]
    exact (Cert.FeedReferenceIdeal.Att.gate_result _ _ _).trans (Cert.FeedIdeal.Att.gate_out m c).symm
  · rw [e0, e1, e2]
    exact (Cert.FeedReferenceIdeal.Att.up_result _ _ _).trans (Cert.FeedIdeal.Att.up_out m c).symm

end Cert.Proof.Layer

end
-- ==== Proof.FeedGradPoints.lean ====
/- The grid of the feed-forward gradient's launch: which branches the body takes at a point, and which blocks it stores into there. -/
module

public import proofs.«01_k».proof.Proof.Gen.FeedGradIdeal.Frame
public import proofs.«01_k».proof.Proof.Gen.FeedGradIdeal.Launch
public import proofs.«01_k».proof.Proof.Gen.FeedGradIdeal.Points
public import proofs.«01_k».proof.Proof.Gen.FeedGradIdeal
public import proofs.«01_k».proof.Proof.Gen.FeedGradIdeal.Skeleton
public import proofs.«01_k».proof.Proof.Gen.FeedGrad
public import proofs.«01_k».proof.Proof.Gen.FeedGradReferenceIdeal.Run
public import Idealize.ShloMosaic.Lib.Pipeline.TableIdle

@[expose] public section

set_option maxRecDepth 16384

noncomputable section

namespace Cert.FeedGradIdeal.Back

open Cert.FeedGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The half of the features is the first, -/
abbrev cond0_1 (i : grid0.Coords) : Prop := k0_cond1 i = 1#1
/-- or the second; -/
abbrev cond0_2 (i : grid0.Coords) : Prop := k0_cond2 i = 1#1
/-- the rows are the first, -/
abbrev cond0_3 (i : grid0.Coords) : Prop := k0_cond3 i = 1#1
/-- or later ones. -/
abbrev cond0_4 (i : grid0.Coords) : Prop := k0_cond4 i = 1#1

theorem hcond0_1 : ∀ t : Fin cfg0.N, cond0_1 (grid0.coords t) ↔ t.val % 2 = 0 :=
  (by decide +kernel : ∀ t : Fin grid0.N, cond0_1 (grid0.coords t) ↔ t.val % 2 = 0)
theorem hcond0_2 : ∀ t : Fin cfg0.N, cond0_2 (grid0.coords t) ↔ t.val % 2 = 1 :=
  (by decide +kernel : ∀ t : Fin grid0.N, cond0_2 (grid0.coords t) ↔ t.val % 2 = 1)
theorem hcond0_3 : ∀ t : Fin cfg0.N, cond0_3 (grid0.coords t) ↔ t.val < 2 :=
  (by decide +kernel : ∀ t : Fin grid0.N, cond0_3 (grid0.coords t) ↔ t.val < 2)
theorem hcond0_4 : ∀ t : Fin cfg0.N, cond0_4 (grid0.coords t) ↔ 2 ≤ t.val :=
  (by decide +kernel : ∀ t : Fin grid0.N, cond0_4 (grid0.coords t) ↔ 2 ≤ t.val)

/-! ## Where the blocks are stored into -/

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
theorem live0_5 : ∀ t : Fin cfg0.N, cfg0.idle 5 (grid0.coords t) = false := fun _ => rfl
theorem live0_6 : ∀ t : Fin cfg0.N, cfg0.idle 6 (grid0.coords t) = false := fun _ => rfl
theorem live0_7 : ∀ t : Fin cfg0.N, cfg0.idle 7 (grid0.coords t) = false := fun _ => rfl
theorem live0_10 : ∀ t : Fin cfg0.N, cfg0.idle 10 (grid0.coords t) = false := fun _ => rfl
theorem live0_11 : ∀ t : Fin cfg0.N, cfg0.idle 11 (grid0.coords t) = false := fun _ => rfl
theorem live0_12 : ∀ t : Fin cfg0.N, cfg0.idle 12 (grid0.coords t) = false := fun _ => rfl
theorem idle0_9 : ∀ t : Fin cfg0.N, cfg0.idle 9 (grid0.coords t) = decide (t.val % 2 = 1) := by decide +kernel
theorem idle0_13 : ∀ t : Fin cfg0.N, cfg0.idle 13 (grid0.coords t) = decide (t.val % 2 = 1) := by decide +kernel
theorem idle0_8 : ∀ t : Fin cfg0.N, cfg0.idle 8 (grid0.coords t) = decide (t.val % 2 = 0) := by decide +kernel
theorem idle0_14 : ∀ t : Fin cfg0.N, cfg0.idle 14 (grid0.coords t) = decide (t.val % 2 = 0) := by decide +kernel
theorem noFlush0_8 : ∀ t : Fin cfg0.N, t.val % 2 = 0 → (cfg0.win 8).flush t = false := by decide +kernel
theorem noFlush0_14 : ∀ t : Fin cfg0.N, t.val % 2 = 0 → (cfg0.win 14).flush t = false := by decide +kernel

/-- Whether nothing was stored into a block's buffer since it was last written back: for the blocks stored into at the
    first half, before that store, -/
theorem fresh0_9 (t : Fin cfg0.N) : cfg0.fresh 9 t.val = decide (t.val % 2 = 0) :=
  Pipeline.Cfg.fresh_tab cfg0 9 (fun n => decide (n % 2 = 0)) rfl (by decide +kernel) t.val (Nat.le_of_lt t.isLt)
theorem fresh0_13 (t : Fin cfg0.N) : cfg0.fresh 13 t.val = decide (t.val % 2 = 0) :=
  Pipeline.Cfg.fresh_tab cfg0 13 (fun n => decide (n % 2 = 0)) rfl (by decide +kernel) t.val (Nat.le_of_lt t.isLt)
/-- and for the gradient of the scales, at the first two points. -/
theorem fresh0_14 (t : Fin cfg0.N) : cfg0.fresh 14 t.val = decide (t.val < 2 ∨ t.val = 64) :=
  Pipeline.Cfg.fresh_tab cfg0 14 (fun n => decide (n < 2 ∨ n = 64)) rfl (by decide +kernel) t.val (Nat.le_of_lt t.isLt)

/-! ## The buffers -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1408 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1408 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024x1408 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024x1408 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1408x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1408 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1408 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1408 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)
/-- The buffer of the body's own, -/
abbrev scM0 : Memref sig .tc .vmem S512x1024 .f32 := Memref.whole cc0_scratch0

/-- and what the launch keeps besides the blocks. -/
theorem PhiA0_eq (c : Dev nD) :
    (Pipeline.ΦA spec0 c : sProp 𝕄)
      = iprop((∃ d, owns (c : Thread nD τ) scM0 fullShare d) ∗ (∃ r, prngReg c r)) := by
  unfold Pipeline.ΦA; rw [scopedRest0_eq]; simp only [scM0, owns_whole]; try rfl

/-! ## What a point computes -/

/-- The first 256 rows of a block, -/
def loG (x : Vec F S512x1408 .bf16) : Vec F S256x1408 .bf16 :=
  View.ld x (Rect.unit (s := S512x1408) ![0, 0] S256x1408.size inb_S512x1408_S256x1408_0_0)
/-- and the last. -/
def hiG (x : Vec F S512x1408 .bf16) : Vec F S256x1408 .bf16 :=
  View.ld x (Rect.unit (s := S512x1408) ![256, 0] S256x1408.size inb_S512x1408_S256x1408_256_0)
/-- The same for the wider blocks. -/
def loD {e : EltTy} (x : Vec F S512x1024 e) : Vec F S256x1024 e :=
  View.ld x (Rect.unit (s := S512x1024) ![0, 0] S256x1024.size inb_S512x1024_S256x1024_0_0)
def hiD {e : EltTy} (x : Vec F S512x1024 e) : Vec F S256x1024 e :=
  View.ld x (Rect.unit (s := S512x1024) ![256, 0] S256x1024.size inb_S512x1024_S256x1024_256_0)

/-- Two halves of 256 rows, one over the other. -/
def stackG (lo hi : Vec F S256x1408 .bf16) : Vec F S512x1408 .bf16 :=
  View.canon [⟨Rect.unit (s := S512x1408) ![256, 0] S256x1408.size inb_S512x1408_S256x1408_256_0, hi⟩,
    ⟨Rect.unit (s := S512x1408) ![0, 0] S256x1408.size inb_S512x1408_S256x1408_0_0, lo⟩]
def stackD (lo hi : Vec F S256x1024 .f32) : Vec F S512x1024 .f32 :=
  View.canon [⟨Rect.unit (s := S512x1024) ![256, 0] S256x1024.size inb_S512x1024_S256x1024_256_0, hi⟩,
    ⟨Rect.unit (s := S512x1024) ![0, 0] S256x1024.size inb_S512x1024_S256x1024_0_0, lo⟩]

end Cert.FeedGradIdeal.Back

end
-- ==== Proof.FeedGradRun.lean ====
/- The body of the feed-forward gradient's launch, run in each of the three cases of its branches. -/
module

public import proofs.«01_k».proof.Proof.FeedGradPoints

@[expose] public section

set_option maxRecDepth 16384

noncomputable section

namespace Cert.FeedGradIdeal.Back

open Cert.FeedGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave in the blocks they go to at a point whose half of the features is the first, with the proof that the body runs
    from blocks holding the given arrays to blocks so written. -/
noncomputable def run_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : cond0_1 i) (hc2 : ¬cond0_2 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16) :
    Σ' (L11 : List (View.Piece (Elt F) S512x1024 .bf16)), Σ' (L12 : List (View.Piece (Elt F) S512x1408 .bf16)), Σ' (L13 : List (View.Piece (Elt F) S512x1408 .bf16)), Σ' (L14 : List (View.Piece (Elt F) S512x1408 .bf16)), Σ' (L15 : List (View.Piece (Elt F) S512x1024 .bf16)), { L17 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%d13, %f13, -, H13⟩, ⟨%d14, %f14, -, H14⟩, ⟨%d15, %f15, -, H15⟩, ⟨%d17, %f17, -, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H11]; · iexists _; iexact H11
    isplitl [H12]; · iexists _; iexact H12
    isplitl [H13]; · iexists _; iexact H13
    isplitl [H14]; · iexists _; iexact H14
    isplitl [H15]; · iexists _; iexact H15
    iexists _; iexact H17

set_option maxHeartbeats 2000000 in
/-- What the body's stores leave in the blocks they go to at a point whose half of the features is the second and whose rows are the first, with the proof that the body runs
    from blocks holding the given arrays to blocks so written. -/
noncomputable def run_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : ¬cond0_1 i) (hc2 : cond0_2 i) (hc3 : cond0_3 i) (hc4 : ¬cond0_4 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16) (y15 : Vec F S512x1024 .bf16) (y17 : Vec F S512x1024 .f32) :
    Σ' (L10 : List (View.Piece (Elt F) S512x1024 .f32)), Σ' (L12 : List (View.Piece (Elt F) S512x1408 .bf16)), Σ' (L13 : List (View.Piece (Elt F) S512x1408 .bf16)), Σ' (L14 : List (View.Piece (Elt F) S512x1408 .bf16)), Σ' (L16 : List (View.Piece (Elt F) S1x1024 .f32)), { L17 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare y15 ∗ (∃ d, owns (c : Thread nD τ) arg16 fullShare d) ∗ owns (c : Thread nD τ) arg17 fullShare y17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ owns (c : Thread nD τ) arg15 fullShare y15 ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d12, %f12, -, H12⟩, ⟨%d13, %f13, -, H13⟩, ⟨%d14, %f14, -, H14⟩, ⟨%f15, %hf15, H15⟩, ⟨%d16, %f16, -, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg15.eq_unread hf15; obtain rfl := harg17.eq_unread hf17
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H12]; · iexists _; iexact H12
    isplitl [H13]; · iexists _; iexact H13
    isplitl [H14]; · iexists _; iexact H14
    isplitl [H15]
    · iexists _; isplitr; · ipureintro; exact harg15.read_unread _
      iexact H15
    isplitl [H16]; · iexists _; iexact H16
    iexists _; iexact H17

set_option maxHeartbeats 2000000 in
/-- What the body's stores leave in the blocks they go to at a point whose half of the features is the second and whose rows are later ones, with the proof that the body runs
    from blocks holding the given arrays to blocks so written. -/
noncomputable def run_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : ¬cond0_1 i) (hc2 : cond0_2 i) (hc3 : ¬cond0_3 i) (hc4 : cond0_4 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16) (y15 : Vec F S512x1024 .bf16) (y16 : Vec F S1x1024 .f32) (y17 : Vec F S512x1024 .f32) :
    Σ' (L10 : List (View.Piece (Elt F) S512x1024 .f32)), Σ' (L12 : List (View.Piece (Elt F) S512x1408 .bf16)), Σ' (L13 : List (View.Piece (Elt F) S512x1408 .bf16)), Σ' (L14 : List (View.Piece (Elt F) S512x1408 .bf16)), Σ' (L16 : List (View.Piece (Elt F) S1x1024 .f32)), { L17 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare y15 ∗ owns (c : Thread nD τ) arg16 fullShare y16 ∗ owns (c : Thread nD τ) arg17 fullShare y17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ owns (c : Thread nD τ) arg15 fullShare y15 ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d12, %f12, -, H12⟩, ⟨%d13, %f13, -, H13⟩, ⟨%d14, %f14, -, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg15.eq_unread hf15; obtain rfl := harg16.eq_unread hf16; obtain rfl := harg17.eq_unread hf17
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H12]; · iexists _; iexact H12
    isplitl [H13]; · iexists _; iexact H13
    isplitl [H14]; · iexists _; iexact H14
    isplitl [H15]
    · iexists _; isplitr; · ipureintro; exact harg15.read_unread _
      iexact H15
    isplitl [H16]; · iexists _; iexact H16
    iexists _; iexact H17

end Cert.FeedGradIdeal.Back

end
-- ==== Proof.FeedGradCases.lean ====
/- What the stores of the feed-forward gradient's body leave in their blocks. -/
module

public import proofs.«01_k».proof.Proof.FeedGradRun
public import Idealize.ShloMosaic.Lib.Pipeline.ValueKit
public import Idealize.ShloMosaic.Lib.Pipeline.ValueKit.Partial
public import Idealize.ShloMosaic.Lib.Pipeline.ReadBack

@[expose] public section

set_option maxRecDepth 16384

noncomputable section

namespace Cert.FeedGradIdeal.Back

open Cert.FeedGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point computes, block by block -/

/-- The activations, -/
def aOf (g u : Vec F S512x1408 .bf16) : Vec F S512x1408 .bf16 :=
  stackG (k0_pay16 (loG g) (loG u)) (k0_pay25 (hiG g) (hiG u))
/-- the gate's gradient, -/
def dgOf (g u : Vec F S512x1408 .bf16) (d : Vec F S512x1024 .bf16) (wd : Vec F S1x1408x1024 .bf16) : Vec F S512x1408 .bf16 :=
  stackG (k0_pay18 (loG g) (loG u) (loD d) wd)
    (k0_pay1 (k0_pay23 (hiG g)) (k0_pay27 (hiG u) (hiD d) wd) (k0_pay28 (hiG g)) (Scalar.ofBits .f32 0x3F800000#32))
/-- the up's, -/
def duOf (g : Vec F S512x1408 .bf16) (d : Vec F S512x1024 .bf16) (wd : Vec F S1x1408x1024 .bf16) : Vec F S512x1408 .bf16 :=
  stackG (k0_pay19 (loG g) (loD d) wd) (k0_pay2 (k0_pay24 (hiG g)) (k0_pay26 (hiD d) wd))
/-- and the normalised rows', added to what the first half of the features gave. -/
def dhOf (g u : Vec F S512x1408 .bf16) (d : Vec F S512x1024 .bf16) (wd : Vec F S1x1408x1024 .bf16) (wg wu : Vec F S1x1x1024x1408 .bf16)
    (p : Vec F S512x1024 .f32) : Vec F S512x1024 .f32 :=
  stackD (k0_pay20 (k0_pay18 (loG g) (loG u) (loD d) wd) (k0_pay19 (loG g) (loD d) wd) (loD p) wg wu)
    (k0_pay3 (k0_pay23 (hiG g)) (k0_pay24 (hiG g)) (k0_pay26 (hiD d) wd) (k0_pay27 (hiG u) (hiD d) wd) (k0_pay28 (hiG g))
      (Scalar.ofBits .f32 0x3F800000#32) (hiD p) wg wu)

/-- Two stores that cover a block read back, whatever was stored before. -/
theorem over_two {s : Shape} {e : EltTy} (v : View sig .tc .vmem s e) (f : v.ty.Contents (Elt F)) (p q r : View.Piece (Elt F) s e)
    (h : ∀ y, ∃ p' ∈ [p, q], y ∈ p'.1.set) : v.read (Elt F) (v.writes (Elt F) f [p, q, r]) = View.canon [p, q] :=
  View.read_writes_eq_canon v (v.writes (Elt F) f [r]) [p, q] h

/-- A load of a whole block. -/
theorem readCov_all (v : View sig .tc .vmem S512x1024 .f32) (L : List (View.Piece (Elt F) S512x1024 .f32))
    (inb : ∀ a, (![0, 0] : Fin 2 → ℕ) a + (![512, 1024] : Fin 2 → ℕ) a ≤ S512x1024.size a) :
    v.readCov L (Rect.unit (s := S512x1024) ![0, 0] ![512, 1024] inb).toLoadRect = View.canon L := by
  rw [View.readCov_eq_canon']
  exact View.ld_unit_lit (S := S512x1024) inb (View.canon L) (by decide)

/-- A load of half a block after a store of the whole, -/
theorem fill_lo {e : EltTy} (v : View sig .tc .vmem S512x1024 e) (Z : Vec F S512x1024 e) (L : List (View.Piece (Elt F) S512x1024 e))
    (inb : ∀ a, (![0, 0] : Fin 2 → ℕ) a + (![512, 1024] : Fin 2 → ℕ) a ≤ S512x1024.size a)
    (inb' : ∀ a, (![0, 0] : Fin 2 → ℕ) a + (![256, 1024] : Fin 2 → ℕ) a ≤ S512x1024.size a) :
    v.readCov (⟨Rect.unit (s := S512x1024) ![0, 0] ![512, 1024] inb, Z⟩ :: L) (Rect.unit (s := S512x1024) ![0, 0] ![256, 1024] inb').toLoadRect = loD Z :=
  View.readCov_fill v (s := S512x1024) inb Z L _ (by decide)
theorem fill_hi {e : EltTy} (v : View sig .tc .vmem S512x1024 e) (Z : Vec F S512x1024 e) (L : List (View.Piece (Elt F) S512x1024 e))
    (inb : ∀ a, (![0, 0] : Fin 2 → ℕ) a + (![512, 1024] : Fin 2 → ℕ) a ≤ S512x1024.size a)
    (inb' : ∀ a, (![256, 0] : Fin 2 → ℕ) a + (![256, 1024] : Fin 2 → ℕ) a ≤ S512x1024.size a) :
    v.readCov (⟨Rect.unit (s := S512x1024) ![0, 0] ![512, 1024] inb, Z⟩ :: L) (Rect.unit (s := S512x1024) ![256, 0] ![256, 1024] inb').toLoadRect = hiD Z :=
  View.readCov_fill v (s := S512x1024) inb Z L _ (by decide)
/-- and of the last half after a store of the first. -/
theorem skip_hi {e : EltTy} (v : View sig .tc .vmem S512x1024 e) (L : List (View.Piece (Elt F) S512x1024 e))
    (inb : ∀ a, (![0, 0] : Fin 2 → ℕ) a + (![256, 1024] : Fin 2 → ℕ) a ≤ S512x1024.size a)
    (w : (Rect.unit (s := S512x1024) ![0, 0] ![256, 1024] inb).shape.Idx → Elt F e)
    (inb' : ∀ a, (![256, 0] : Fin 2 → ℕ) a + (![256, 1024] : Fin 2 → ℕ) a ≤ S512x1024.size a) :
    v.readCov (⟨Rect.unit (s := S512x1024) ![0, 0] ![256, 1024] inb, w⟩ :: L) (Rect.unit (s := S512x1024) ![256, 0] ![256, 1024] inb').toLoadRect
      = v.readCov L (Rect.unit (s := S512x1024) ![256, 0] ![256, 1024] inb').toLoadRect := by
  rw [View.readCov_skip]
  simp [LoadRect.disj, Rect.unit, Rect.toLoadRect]

/-! ## What the stores leave -/

/-- What the stores leave in their block. -/
theorem left_A_11 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : cond0_1 i) (hc2 : ¬cond0_2 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16)
    (v : View sig .tc .vmem S512x1024 .bf16) (f : v.ty.Contents (Elt F)) :
    v.read (Elt F) (v.writes (Elt F) f (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7).1)
      = k0_pay9 x0 x2 := by
  rw [View.read_writes_eq_canon v f _ fun y => View.cover_of_tiledL (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7).1 S512x1024.size (by sl_kernel_rfl) y]
  unfold run_A; frame_out

/-- What the stores leave in their block. -/
theorem left_A_12 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : cond0_1 i) (hc2 : ¬cond0_2 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16)
    (v : View sig .tc .vmem S512x1408 .bf16) (f : v.ty.Contents (Elt F)) :
    v.read (Elt F) (v.writes (Elt F) f (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7).2.1)
      = aOf x3 x4 := by
  rw [View.read_writes_eq_canon v f _ fun y => View.cover_of_tiledL (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7).2.1 S256x1408.size (by sl_kernel_rfl) y]
  unfold aOf
  unfold run_A; frame_out
  rfl

/-- What the stores leave in their block. -/
theorem left_A_13 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : cond0_1 i) (hc2 : ¬cond0_2 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16)
    (v : View sig .tc .vmem S512x1408 .bf16) (f : v.ty.Contents (Elt F)) :
    v.read (Elt F) (v.writes (Elt F) f (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7).2.2.1)
      = dgOf x3 x4 (k0_pay10 x1) x7 := by
  rw [View.read_writes_eq_canon v f _ fun y => View.cover_of_tiledL (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7).2.2.1 S256x1408.size (by sl_kernel_rfl) y]
  unfold dgOf
  unfold run_A; frame_out
  simp only [↓fill_lo, ↓fill_hi]
  rfl

/-- What the stores leave in their block. -/
theorem left_A_14 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : cond0_1 i) (hc2 : ¬cond0_2 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16)
    (v : View sig .tc .vmem S512x1408 .bf16) (f : v.ty.Contents (Elt F)) :
    v.read (Elt F) (v.writes (Elt F) f (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7).2.2.2.1)
      = duOf x3 (k0_pay10 x1) x7 := by
  rw [View.read_writes_eq_canon v f _ fun y => View.cover_of_tiledL (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7).2.2.2.1 S256x1408.size (by sl_kernel_rfl) y]
  unfold duOf
  unfold run_A; frame_out
  simp only [↓fill_lo, ↓fill_hi]
  rfl

/-- What the stores leave in their block. -/
theorem left_A_15 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : cond0_1 i) (hc2 : ¬cond0_2 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16)
    (v : View sig .tc .vmem S512x1024 .bf16) (f : v.ty.Contents (Elt F)) :
    v.read (Elt F) (v.writes (Elt F) f (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7).2.2.2.2.1)
      = k0_pay10 x1 := by
  rw [View.read_writes_eq_canon v f _ fun y => View.cover_of_tiledL (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7).2.2.2.2.1 S512x1024.size (by sl_kernel_rfl) y]
  unfold run_A; frame_out

/-- What the stores leave in their block. -/
theorem left_A_17 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : cond0_1 i) (hc2 : ¬cond0_2 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16)
    (v : View sig .tc .vmem S512x1024 .f32) (f : v.ty.Contents (Elt F)) :
    v.read (Elt F) (v.writes (Elt F) f (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7).2.2.2.2.2.1)
      = dhOf x3 x4 (k0_pay10 x1) x7 x5 x6 k0_pay11 := by
  unfold dhOf
  unfold run_A; dsimp only; frame_out
  simp only [↓fill_lo, ↓fill_hi, ↓skip_hi]
  exact over_two v f _ _ _ (View.cover_of_tiledL _ S256x1024.size (by sl_kernel_rfl))

/-- What the stores leave in their block. -/
theorem left_B_10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : ¬cond0_1 i) (hc2 : cond0_2 i) (hc3 : cond0_3 i) (hc4 : ¬cond0_4 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16) (y15 : Vec F S512x1024 .bf16) (y17 : Vec F S512x1024 .f32)
    (v : View sig .tc .vmem S512x1024 .f32) (f : v.ty.Contents (Elt F)) :
    v.read (Elt F) (v.writes (Elt F) f (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y17).1)
      = k0_pay7 x0 (dhOf x3 x4 y15 x7 x5 x6 y17) x2 x1 := by
  rw [View.read_writes_eq_canon v f _ fun y => View.cover_of_tiledL (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y17).1 S512x1024.size (by sl_kernel_rfl) y]
  unfold dhOf
  unfold run_B; frame_out
  simp only [↓readCov_all]
  rfl

/-- What the stores leave in their block. -/
theorem left_B_12 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : ¬cond0_1 i) (hc2 : cond0_2 i) (hc3 : cond0_3 i) (hc4 : ¬cond0_4 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16) (y15 : Vec F S512x1024 .bf16) (y17 : Vec F S512x1024 .f32)
    (v : View sig .tc .vmem S512x1408 .bf16) (f : v.ty.Contents (Elt F)) :
    v.read (Elt F) (v.writes (Elt F) f (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y17).2.1)
      = aOf x3 x4 := by
  rw [View.read_writes_eq_canon v f _ fun y => View.cover_of_tiledL (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y17).2.1 S256x1408.size (by sl_kernel_rfl) y]
  unfold aOf
  unfold run_B; frame_out
  rfl

/-- What the stores leave in their block. -/
theorem left_B_13 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : ¬cond0_1 i) (hc2 : cond0_2 i) (hc3 : cond0_3 i) (hc4 : ¬cond0_4 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16) (y15 : Vec F S512x1024 .bf16) (y17 : Vec F S512x1024 .f32)
    (v : View sig .tc .vmem S512x1408 .bf16) (f : v.ty.Contents (Elt F)) :
    v.read (Elt F) (v.writes (Elt F) f (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y17).2.2.1)
      = dgOf x3 x4 y15 x7 := by
  rw [View.read_writes_eq_canon v f _ fun y => View.cover_of_tiledL (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y17).2.2.1 S256x1408.size (by sl_kernel_rfl) y]
  unfold dgOf
  unfold run_B; frame_out
  rfl

/-- What the stores leave in their block. -/
theorem left_B_14 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : ¬cond0_1 i) (hc2 : cond0_2 i) (hc3 : cond0_3 i) (hc4 : ¬cond0_4 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16) (y15 : Vec F S512x1024 .bf16) (y17 : Vec F S512x1024 .f32)
    (v : View sig .tc .vmem S512x1408 .bf16) (f : v.ty.Contents (Elt F)) :
    v.read (Elt F) (v.writes (Elt F) f (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y17).2.2.2.1)
      = duOf x3 y15 x7 := by
  rw [View.read_writes_eq_canon v f _ fun y => View.cover_of_tiledL (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y17).2.2.2.1 S256x1408.size (by sl_kernel_rfl) y]
  unfold duOf
  unfold run_B; frame_out
  rfl

/-- What the stores leave in their block. -/
theorem left_B_16 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : ¬cond0_1 i) (hc2 : cond0_2 i) (hc3 : cond0_3 i) (hc4 : ¬cond0_4 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16) (y15 : Vec F S512x1024 .bf16) (y17 : Vec F S512x1024 .f32)
    (v : View sig .tc .vmem S1x1024 .f32) (f : v.ty.Contents (Elt F)) :
    v.read (Elt F) (v.writes (Elt F) f (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y17).2.2.2.2.1)
      = k0_pay8 x0 (dhOf x3 x4 y15 x7 x5 x6 y17) := by
  rw [View.read_writes_eq_canon v f _ fun y => View.cover_of_tiledL (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y17).2.2.2.2.1 S1x1024.size (by sl_kernel_rfl) y]
  unfold dhOf
  unfold run_B; frame_out
  simp only [↓readCov_all]
  rfl

/-- What the stores leave in their block. -/
theorem left_B_17 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : ¬cond0_1 i) (hc2 : cond0_2 i) (hc3 : cond0_3 i) (hc4 : ¬cond0_4 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16) (y15 : Vec F S512x1024 .bf16) (y17 : Vec F S512x1024 .f32)
    (v : View sig .tc .vmem S512x1024 .f32) (f : v.ty.Contents (Elt F)) :
    v.read (Elt F) (v.writes (Elt F) f (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y17).2.2.2.2.2.1)
      = dhOf x3 x4 y15 x7 x5 x6 y17 := by
  rw [View.read_writes_eq_canon v f _ fun y => View.cover_of_tiledL (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y17).2.2.2.2.2.1 S256x1024.size (by sl_kernel_rfl) y]
  unfold dhOf
  unfold run_B; frame_out
  rfl

/-- What the stores leave in their block. -/
theorem left_C_10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : ¬cond0_1 i) (hc2 : cond0_2 i) (hc3 : ¬cond0_3 i) (hc4 : cond0_4 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16) (y15 : Vec F S512x1024 .bf16) (y16 : Vec F S1x1024 .f32) (y17 : Vec F S512x1024 .f32)
    (v : View sig .tc .vmem S512x1024 .f32) (f : v.ty.Contents (Elt F)) :
    v.read (Elt F) (v.writes (Elt F) f (run_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y16 y17).1)
      = k0_pay7 x0 (dhOf x3 x4 y15 x7 x5 x6 y17) x2 x1 := by
  rw [View.read_writes_eq_canon v f _ fun y => View.cover_of_tiledL (run_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y16 y17).1 S512x1024.size (by sl_kernel_rfl) y]
  unfold dhOf
  unfold run_C; frame_out
  simp only [↓readCov_all]
  rfl

/-- What the stores leave in their block. -/
theorem left_C_12 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : ¬cond0_1 i) (hc2 : cond0_2 i) (hc3 : ¬cond0_3 i) (hc4 : cond0_4 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16) (y15 : Vec F S512x1024 .bf16) (y16 : Vec F S1x1024 .f32) (y17 : Vec F S512x1024 .f32)
    (v : View sig .tc .vmem S512x1408 .bf16) (f : v.ty.Contents (Elt F)) :
    v.read (Elt F) (v.writes (Elt F) f (run_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y16 y17).2.1)
      = aOf x3 x4 := by
  rw [View.read_writes_eq_canon v f _ fun y => View.cover_of_tiledL (run_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y16 y17).2.1 S256x1408.size (by sl_kernel_rfl) y]
  unfold aOf
  unfold run_C; frame_out
  rfl

/-- What the stores leave in their block. -/
theorem left_C_13 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : ¬cond0_1 i) (hc2 : cond0_2 i) (hc3 : ¬cond0_3 i) (hc4 : cond0_4 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16) (y15 : Vec F S512x1024 .bf16) (y16 : Vec F S1x1024 .f32) (y17 : Vec F S512x1024 .f32)
    (v : View sig .tc .vmem S512x1408 .bf16) (f : v.ty.Contents (Elt F)) :
    v.read (Elt F) (v.writes (Elt F) f (run_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y16 y17).2.2.1)
      = dgOf x3 x4 y15 x7 := by
  rw [View.read_writes_eq_canon v f _ fun y => View.cover_of_tiledL (run_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y16 y17).2.2.1 S256x1408.size (by sl_kernel_rfl) y]
  unfold dgOf
  unfold run_C; frame_out
  rfl

/-- What the stores leave in their block. -/
theorem left_C_14 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : ¬cond0_1 i) (hc2 : cond0_2 i) (hc3 : ¬cond0_3 i) (hc4 : cond0_4 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16) (y15 : Vec F S512x1024 .bf16) (y16 : Vec F S1x1024 .f32) (y17 : Vec F S512x1024 .f32)
    (v : View sig .tc .vmem S512x1408 .bf16) (f : v.ty.Contents (Elt F)) :
    v.read (Elt F) (v.writes (Elt F) f (run_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y16 y17).2.2.2.1)
      = duOf x3 y15 x7 := by
  rw [View.read_writes_eq_canon v f _ fun y => View.cover_of_tiledL (run_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y16 y17).2.2.2.1 S256x1408.size (by sl_kernel_rfl) y]
  unfold duOf
  unfold run_C; frame_out
  rfl

/-- What the stores leave in their block. -/
theorem left_C_16 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : ¬cond0_1 i) (hc2 : cond0_2 i) (hc3 : ¬cond0_3 i) (hc4 : cond0_4 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16) (y15 : Vec F S512x1024 .bf16) (y16 : Vec F S1x1024 .f32) (y17 : Vec F S512x1024 .f32)
    (v : View sig .tc .vmem S1x1024 .f32) (f : v.ty.Contents (Elt F)) :
    v.read (Elt F) (v.writes (Elt F) f (run_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y16 y17).2.2.2.2.1)
      = k0_pay4 (k0_pay8 x0 (dhOf x3 x4 y15 x7 x5 x6 y17)) y16 := by
  rw [View.read_writes_eq_canon v f _ fun y => View.cover_of_tiledL (run_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y16 y17).2.2.2.2.1 S1x1024.size (by sl_kernel_rfl) y]
  unfold dhOf
  unfold run_C; frame_out
  simp only [↓readCov_all]
  rfl

/-- What the stores leave in their block. -/
theorem left_C_17 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1x1x1024x1408 .bf16) (harg7 : arg7.IsWhole) (arg8 : Memref sig .tc .vmem S1x1x1024x1408 .bf16) (harg8 : arg8.IsWhole) (arg9 : Memref sig .tc .vmem S1x1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S512x1024 .f32) (harg17 : arg17.IsWhole) (hc1 : ¬cond0_1 i) (hc2 : cond0_2 i) (hc3 : ¬cond0_3 i) (hc4 : cond0_4 i)
    (x0 : Vec F S512x1024 .f32) (x1 : Vec F S512x1024 .f32) (x2 : Vec F S1x1024 .f32) (x3 : Vec F S512x1408 .bf16) (x4 : Vec F S512x1408 .bf16) (x5 : Vec F S1x1x1024x1408 .bf16) (x6 : Vec F S1x1x1024x1408 .bf16) (x7 : Vec F S1x1408x1024 .bf16) (y15 : Vec F S512x1024 .bf16) (y16 : Vec F S1x1024 .f32) (y17 : Vec F S512x1024 .f32)
    (v : View sig .tc .vmem S512x1024 .f32) (f : v.ty.Contents (Elt F)) :
    v.read (Elt F) (v.writes (Elt F) f (run_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y16 y17).2.2.2.2.2.1)
      = dhOf x3 x4 y15 x7 x5 x6 y17 := by
  rw [View.read_writes_eq_canon v f _ fun y => View.cover_of_tiledL (run_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 y15 y16 y17).2.2.2.2.2.1 S256x1024.size (by sl_kernel_rfl) y]
  unfold dhOf
  unfold run_C; frame_out
  rfl

end Cert.FeedGradIdeal.Back

end
-- ==== Proof.FeedGradLaunch.lean ====
/- The feed-forward gradient's launch: what its output arrays hold after it, and that it leaves the arguments alone. -/
module

public import proofs.«01_k».proof.Proof.FeedGradCases
public import Idealize.ShloMosaic.Lib.Claim
public import Idealize.ShloMosaic.Lib.Quiescent

@[expose] public section

set_option maxRecDepth 16384

noncomputable section

namespace Cert.FeedGradIdeal.Back

open Cert.FeedGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs and the body's own buffer hold after each point -/

/-- The point before. -/
def prev (t : Fin cfg0.N) : Fin cfg0.N := ⟨t.val - 1, Nat.lt_of_le_of_lt (Nat.sub_le _ _) t.isLt⟩
/-- The point whose half of the features is the first, of the same rows. -/
def first (t : Fin cfg0.N) : Fin cfg0.N := if t.val % 2 = 0 then t else prev t

theorem first_even (t : Fin cfg0.N) (h : t.val % 2 = 0) : first t = t := if_pos h
theorem first_odd (t : Fin cfg0.N) (h : t.val % 2 = 1) : first t = prev t := if_neg (by omega)
theorem first_prev (t : Fin cfg0.N) (h : t.val % 2 = 1) : first (prev t) = prev t :=
  if_pos (by show (t.val - 1) % 2 = 0; omega)

/-- The normalised rows, -/
def hPt (c : Dev nD) (t : Fin cfg0.N) : Vec F S512x1024 .bf16 := k0_pay9 (iblk m c 0 (first t)) (iblk m c 2 (first t))
/-- half of the result's gradient, -/
def dyhPt (c : Dev nD) (t : Fin cfg0.N) : Vec F S512x1024 .bf16 := k0_pay10 (iblk m c 1 (first t))
/-- the activations, -/
def aPt (c : Dev nD) (t : Fin cfg0.N) : Vec F S512x1408 .bf16 := aOf (iblk m c 3 t) (iblk m c 4 t)
/-- the gate's gradient, -/
def dgPt (c : Dev nD) (t : Fin cfg0.N) : Vec F S512x1408 .bf16 := dgOf (iblk m c 3 t) (iblk m c 4 t) (dyhPt m c t) (iblk m c 7 t)
/-- the up's, -/
def duPt (c : Dev nD) (t : Fin cfg0.N) : Vec F S512x1408 .bf16 := duOf (iblk m c 3 t) (dyhPt m c t) (iblk m c 7 t)
/-- a half's sum for the normalised rows' gradient, added to another array, -/
def dhPt (c : Dev nD) (t : Fin cfg0.N) (p : Vec F S512x1024 .f32) : Vec F S512x1024 .f32 :=
  dhOf (iblk m c 3 t) (iblk m c 4 t) (dyhPt m c t) (iblk m c 7 t) (iblk m c 5 t) (iblk m c 6 t) p
/-- the normalised rows' gradient as far as the point has it, -/
def scrPt (c : Dev nD) (t : Fin cfg0.N) : Vec F S512x1024 .f32 :=
  if t.val % 2 = 0 then dhPt m c t k0_pay11 else dhPt m c t (dhPt m c (prev t) k0_pay11)
/-- the rows' gradient, -/
def dxPt (c : Dev nD) (t : Fin cfg0.N) : Vec F S512x1024 .f32 := k0_pay7 (iblk m c 0 t) (scrPt m c t) (iblk m c 2 t) (iblk m c 1 t)
/-- and the point's part of the scales' gradient, -/
def dgnPt (c : Dev nD) (t : Fin cfg0.N) : Vec F S1x1024 .f32 := k0_pay8 (iblk m c 0 t) (scrPt m c t)
/-- summed so far. -/
def dgnTo (c : Dev nD) : (n : ℕ) → n < cfg0.N → Vec F S1x1024 .f32
  | 0, h => dgnPt m c ⟨0, h⟩
  | n + 1, h => if (n + 1) % 2 = 0 then dgnTo c n (Nat.lt_of_succ_lt h)
      else if n + 1 < 2 then dgnPt m c ⟨n + 1, h⟩ else k0_pay4 (dgnPt m c ⟨n + 1, h⟩) (dgnTo c n (Nat.lt_of_succ_lt h))

theorem scr_even (c : Dev nD) (t : Fin cfg0.N) (h : t.val % 2 = 0) : scrPt m c t = dhPt m c t k0_pay11 := if_pos h
theorem scr_odd (c : Dev nD) (t : Fin cfg0.N) (h : t.val % 2 = 1) : scrPt m c t = dhPt m c t (scrPt m c (prev t)) :=
  (if_neg (by omega)).trans (by rw [scr_even m c (prev t) (by show (t.val - 1) % 2 = 0; omega)])
theorem hPt_odd (c : Dev nD) (t : Fin cfg0.N) (h : t.val % 2 = 1) : hPt m c t = hPt m c (prev t) := by
  unfold hPt; rw [first_odd t h, first_prev t h]
theorem dyhPt_odd (c : Dev nD) (t : Fin cfg0.N) (h : t.val % 2 = 1) : dyhPt m c t = dyhPt m c (prev t) := by
  unfold dyhPt; rw [first_odd t h, first_prev t h]
theorem dgnTo_even (c : Dev nD) (t : Fin cfg0.N) (h0 : t.val ≠ 0) (h : t.val % 2 = 0) :
    dgnTo m c t.val t.isLt = dgnTo m c (prev t).val (prev t).isLt := by
  obtain ⟨n, hn⟩ := t
  cases n with
  | zero => exact absurd rfl h0
  | succ n => exact if_pos h
theorem dgnTo_one (c : Dev nD) (t : Fin cfg0.N) (h : t.val % 2 = 1) (h2 : t.val < 2) : dgnTo m c t.val t.isLt = dgnPt m c t := by
  obtain ⟨n, hn⟩ := t
  cases n with
  | zero => exact absurd h (by show ¬(0 % 2 = 1); decide)
  | succ n => exact (if_neg (by simp only at h; omega)).trans (if_pos h2)
theorem dgnTo_odd (c : Dev nD) (t : Fin cfg0.N) (h : t.val % 2 = 1) (h2 : ¬t.val < 2) :
    dgnTo m c t.val t.isLt = k0_pay4 (dgnPt m c t) (dgnTo m c (prev t).val (prev t).isLt) := by
  obtain ⟨n, hn⟩ := t
  cases n with
  | zero => exact absurd h (by show ¬(0 % 2 = 1); decide)
  | succ n => exact (if_neg (by simp only at h; omega)).trans (if_neg h2)

/-! ## What the launch holds between points -/

/-- Before the first point the body's own buffer is at anything; afterwards at what the point before left. -/
def PhiS (c : Dev nD) : (n : ℕ) → n ≤ cfg0.N → sProp 𝕄
  | 0, _ => Pipeline.ΦA spec0 c
  | n + 1, hn => iprop(owns (c : Thread nD τ) scM0 fullShare (scrPt m c ⟨n, hn⟩) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(owns (c : Thread nD τ) scM0 fullShare (scrPt m c ⟨n, hn⟩) ∗ (∃ r, prngReg c r)) := rfl
theorem PhiS_pos (c : Dev nD) (n : ℕ) (h : n ≤ cfg0.N) (hz : n ≠ 0) :
    PhiS m c n h = iprop(owns (c : Thread nD τ) scM0 fullShare (scrPt m c ⟨n - 1, by omega⟩) ∗ (∃ r, prngReg c r)) := by
  cases n with
  | zero => exact absurd rfl hz
  | succ n => rfl

/-- What the launch holds on core `c`: the arrays as it finds them, the inputs' blocks unchanged, the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dxPt m c t
    | ⟨9, _⟩ => hPt m c t
    | ⟨10, _⟩ => aPt m c t
    | ⟨11, _⟩ => dgPt m c t
    | ⟨12, _⟩ => duPt m c t
    | ⟨13, _⟩ => dyhPt m c t
    | ⟨14, _⟩ => dgnTo m c t.val t.isLt
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, block by block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dxPt m c t := by dsimp only [dats]
theorem after0_9 (c : Dev nD) (t : Fin cfg0.N) : (dats m 0 c).after 9 t = hPt m c t := by dsimp only [dats]
theorem after0_10 (c : Dev nD) (t : Fin cfg0.N) : (dats m 0 c).after 10 t = aPt m c t := by dsimp only [dats]
theorem after0_11 (c : Dev nD) (t : Fin cfg0.N) : (dats m 0 c).after 11 t = dgPt m c t := by dsimp only [dats]
theorem after0_12 (c : Dev nD) (t : Fin cfg0.N) : (dats m 0 c).after 12 t = duPt m c t := by dsimp only [dats]
theorem after0_13 (c : Dev nD) (t : Fin cfg0.N) : (dats m 0 c).after 13 t = dyhPt m c t := by dsimp only [dats]
theorem after0_14 (c : Dev nD) (t : Fin cfg0.N) : (dats m 0 c).after 14 t = dgnTo m c t.val t.isLt := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Where nothing is stored into an output's buffer, it keeps what the point before left. -/
theorem carry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  rw [idle0_9 t, decide_eq_true_eq] at hi
  rw [after0_9, after0_9]; exact hPt_odd m c t hi
theorem before0_9 (c : Dev nD) (t : Fin cfg0.N) (h : t.val % 2 = 1) (d) : (dats m 0 c).before 9 t d = hPt m c t := by
  rw [Dat.before_out_traj _ 9 rfl (fun _ _ => rfl) (carry0_9 m c) t.val t rfl d,
    if_neg (by rw [fresh0_9, decide_eq_false (by omega)]; exact Bool.false_ne_true), after0_9]
  exact (hPt_odd m c t h).symm
theorem carry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  rw [idle0_13 t, decide_eq_true_eq] at hi
  rw [after0_13, after0_13]; exact dyhPt_odd m c t hi
theorem before0_13 (c : Dev nD) (t : Fin cfg0.N) (h : t.val % 2 = 1) (d) : (dats m 0 c).before 13 t d = dyhPt m c t := by
  rw [Dat.before_out_traj _ 13 rfl (fun _ _ => rfl) (carry0_13 m c) t.val t rfl d,
    if_neg (by rw [fresh0_13, decide_eq_false (by omega)]; exact Bool.false_ne_true), after0_13]
  exact (dyhPt_odd m c t h).symm
theorem carry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t h0 hi _
  rw [idle0_14 t, decide_eq_true_eq] at hi
  rw [after0_14, after0_14]; exact dgnTo_even m c t h0 hi
theorem before0_14 (c : Dev nD) (t : Fin cfg0.N) (h : ¬t.val < 2) (d) :
    (dats m 0 c).before 14 t d = dgnTo m c (prev t).val (prev t).isLt := by
  have hN : t.val < 64 := lt_of_lt_of_eq t.isLt (show cfg0.N = 64 from N_0)
  rw [Dat.before_out_traj _ 14 rfl (fun _ _ => rfl) (carry0_14 m c) t.val t rfl d,
    if_neg (by rw [fresh0_14, decide_eq_false (by omega)]; exact Bool.false_ne_true), after0_14]
  rfl

/-- What the body is to leave, window by window. -/
theorem leaves0_0 (c : Dev nD) (t : Fin cfg0.N) :
    (dats m 0 c).leavesExact 0 t = owns (c : Thread nD τ) (ms0_0 t) fullShare (iblk m c 0 t) := by
  rw [← after0_0 m c t]
theorem leaves0_1 (c : Dev nD) (t : Fin cfg0.N) :
    (dats m 0 c).leavesExact 1 t = owns (c : Thread nD τ) (ms0_1 t) fullShare (iblk m c 1 t) := by
  rw [← after0_1 m c t]
theorem leaves0_2 (c : Dev nD) (t : Fin cfg0.N) :
    (dats m 0 c).leavesExact 2 t = owns (c : Thread nD τ) (ms0_2 t) fullShare (iblk m c 2 t) := by
  rw [← after0_2 m c t]
theorem leaves0_3 (c : Dev nD) (t : Fin cfg0.N) :
    (dats m 0 c).leavesExact 3 t = owns (c : Thread nD τ) (ms0_3 t) fullShare (iblk m c 3 t) := by
  rw [← after0_3 m c t]
theorem leaves0_4 (c : Dev nD) (t : Fin cfg0.N) :
    (dats m 0 c).leavesExact 4 t = owns (c : Thread nD τ) (ms0_4 t) fullShare (iblk m c 4 t) := by
  rw [← after0_4 m c t]
theorem leaves0_5 (c : Dev nD) (t : Fin cfg0.N) :
    (dats m 0 c).leavesExact 5 t = owns (c : Thread nD τ) (ms0_5 t) fullShare (iblk m c 5 t) := by
  rw [← after0_5 m c t]
theorem leaves0_6 (c : Dev nD) (t : Fin cfg0.N) :
    (dats m 0 c).leavesExact 6 t = owns (c : Thread nD τ) (ms0_6 t) fullShare (iblk m c 6 t) := by
  rw [← after0_6 m c t]
theorem leaves0_7 (c : Dev nD) (t : Fin cfg0.N) :
    (dats m 0 c).leavesExact 7 t = owns (c : Thread nD τ) (ms0_7 t) fullShare (iblk m c 7 t) := by
  rw [← after0_7 m c t]
theorem leaves0_10 (c : Dev nD) (t : Fin cfg0.N) :
    (dats m 0 c).leavesExact 10 t = owns (c : Thread nD τ) (ms0_10 t) fullShare (aPt m c t) := by
  rw [← after0_10 m c t]
theorem leaves0_11 (c : Dev nD) (t : Fin cfg0.N) :
    (dats m 0 c).leavesExact 11 t = owns (c : Thread nD τ) (ms0_11 t) fullShare (dgPt m c t) := by
  rw [← after0_11 m c t]
theorem leaves0_12 (c : Dev nD) (t : Fin cfg0.N) :
    (dats m 0 c).leavesExact 12 t = owns (c : Thread nD τ) (ms0_12 t) fullShare (duPt m c t) := by
  rw [← after0_12 m c t]
theorem flush0_9 : ∀ t : Fin cfg0.N, t.val % 2 = 1 → (cfg0.win 9).flush t = true := by decide +kernel
theorem flush0_13 : ∀ t : Fin cfg0.N, t.val % 2 = 1 → (cfg0.win 13).flush t = true := by decide +kernel
theorem leaves0_9 (c : Dev nD) (t : Fin cfg0.N) :
    (dats m 0 c).leavesExact 9 t = owns (c : Thread nD τ) (ms0_9 t) fullShare (hPt m c t) := by
  rw [← after0_9 m c t]; unfold Dat.leavesExact
  by_cases h : t.val % 2 = 1
  · rw [idle0_9 t, decide_eq_true h, flush0_9 t h]
  · rw [idle0_9 t, decide_eq_false h]
theorem leaves0_13 (c : Dev nD) (t : Fin cfg0.N) :
    (dats m 0 c).leavesExact 13 t = owns (c : Thread nD τ) (ms0_13 t) fullShare (dyhPt m c t) := by
  rw [← after0_13 m c t]; unfold Dat.leavesExact
  by_cases h : t.val % 2 = 1
  · rw [idle0_13 t, decide_eq_true h, flush0_13 t h]
  · rw [idle0_13 t, decide_eq_false h]
theorem leaves0_8 (c : Dev nD) (t : Fin cfg0.N) (h : t.val % 2 = 1) :
    (dats m 0 c).leavesExact 8 t = owns (c : Thread nD τ) (ms0_8 t) fullShare (dxPt m c t) := by
  rw [← after0_8 m c t]; unfold Dat.leavesExact; rw [idle0_8 t, decide_eq_false (by omega)]
theorem rests0_8 (c : Dev nD) (t : Fin cfg0.N) (h : t.val % 2 = 0) :
    (dats m 0 c).leavesExact 8 t = iprop(∃ d, owns (c : Thread nD τ) (ms0_8 t) fullShare ((dats m 0 c).before 8 t d)) :=
  Dat.leavesExact_idle (dats m 0 c) 8 t (by rw [idle0_8 t]; exact decide_eq_true h) (noFlush0_8 t h)
theorem leaves0_14 (c : Dev nD) (t : Fin cfg0.N) (h : t.val % 2 = 1) :
    (dats m 0 c).leavesExact 14 t = owns (c : Thread nD τ) (ms0_14 t) fullShare (dgnTo m c t.val t.isLt) := by
  rw [← after0_14 m c t]; unfold Dat.leavesExact; rw [idle0_14 t, decide_eq_false (by omega)]
theorem rests0_14 (c : Dev nD) (t : Fin cfg0.N) (h : t.val % 2 = 0) :
    (dats m 0 c).leavesExact 14 t = iprop(∃ d, owns (c : Thread nD τ) (ms0_14 t) fullShare ((dats m 0 c).before 14 t d)) :=
  Dat.leavesExact_idle (dats m 0 c) 14 t (by rw [idle0_14 t]; exact decide_eq_true h) (noFlush0_14 t h)

/-! ## The body, at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 6400000 in
/-- The body where the half of the features is the first, -/
theorem sound_A (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = PhiS m c (t.val + 1) t.isLt from rfl, PhiS_succ]
  rw [leaves0_0, leaves0_1, leaves0_2, leaves0_3, leaves0_4, leaves0_5, leaves0_6, leaves0_7, leaves0_9, leaves0_10, leaves0_11, leaves0_12, leaves0_13, rests0_8 m c t h, rests0_14 m c t h]
  have e17 : scrPt m c ⟨t.val, t.isLt⟩ = dhPt m c t k0_pay11 := scr_even m c t h
  have e15 : dyhPt m c t = k0_pay10 (iblk m c 1 t) := by unfold dyhPt; rw [first_even t h]
  have e11 : hPt m c t = k0_pay9 (iblk m c 0 t) (iblk m c 2 t) := by unfold hPt; rw [first_even t h]
  rw [e17, e11]
  unfold dhPt aPt dgPt duPt
  rw [e15]
  by_cases hz : t.val = 0
  · rw [PhiS_castSucc m c t, PhiS_zero m c _ _ hz, PhiA0_eq]
    iintro ⟨⟨HS, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩⟩
    iapply ((run_A c (grid0.coords t) _ _ _ _ _ _ _ _ _ _ _ _ _ _ _ _ _ _ _ _ _ _ _ _ _ _ _ _ _ _ _ _ ((hcond0_1 t).mpr h) (fun e => by have := (hcond0_2 t).mp e; omega) (iblk m c 0 t) (iblk m c 1 t) (iblk m c 2 t) (iblk m c 3 t) (iblk m c 4 t) (iblk m c 5 t) (iblk m c 6 t) (iblk m c 7 t)).2.2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]; · iexists _; iexact H11
    isplitl [H12]; · iexists _; iexact H12
    isplitl [H13]; · iexists _; iexact H13
    isplitl [H14]; · iexists _; iexact H14
    isplitl [H15]; · iexists _; iexact H15
    isplitl [HS]; · iexact HS
    iintro ⟨H2, H3, H4, H5, H6, H7, H8, H9, ⟨%e11, H11⟩, ⟨%e12, H12⟩, ⟨%e13, H13⟩, ⟨%e14, H14⟩, ⟨%e15, H15⟩, ⟨%e17, HS⟩⟩
    isplitl [HS Hg]
    · isplitl [HS]
      · unfold owns; iexists _; isplitr
        swap; · iexact HS
        ipureintro; exact left_A_17 c _ _ _ _ _ _ _ _ _ _ _ _ _ _ _ _ _ _ _ _ _ _ _ _ _ _ _ _ _ _ _ _ _ _ _ _ _ _ _ _ _ _ _ _ _
      iexact Hg
    isplitl [Ho]; · iexact Ho
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]
    · unfold owns; iexists _; isplitr
      swap; · iexact H11
      ipureintro; exact left_A_11 c _ _ _ _ _ _ _ _ _ _ _ _ _ _ _ _ _ _ _ _ _ _ _ _ _ _ _ _ _ _ _ _ _ _ _ _ _ _ _ _ _ _ _ _ _
    isplitl [H12]
    · unfold owns; iexists _; isplitr
      swap; · iexact H12
      ipureintro; exact left_A_12 c _ _ _ _ _ _ _ _ _ _ _ _ _ _ _ _ _ _ _ _ _ _ _ _ _ _ _ _ _ _ _ _ _ _ _ _ _ _ _ _ _ _ _ _ _
    isplitl [H13]
    · unfold owns; iexists _; isplitr
      swap; · iexact H13
      ipureintro; exact left_A_13 c _ _ _ _ _ _ _ _ _ _ _ _ _ _ _ _ _ _ _ _ _ _ _ _ _ _ _ _ _ _ _ _ _ _ _ _ _ _ _ _ _ _ _ _ _
    isplitl [H14]
    · unfold owns; iexists _; isplitr
      swap; · iexact H14
      ipureintro; exact left_A_14 c _ _ _ _ _ _ _ _ _ _ _ _ _ _ _ _ _ _ _ _ _ _ _ _ _ _ _ _ _ _ _ _ _ _ _ _ _ _ _ _ _ _ _ _ _
    isplitl [H15]
    · unfold owns; iexists _; isplitr
      swap; · iexact H15
      ipureintro; exact left_A_15 c _ _ _ _ _ _ _ _ _ _ _ _ _ _ _ _ _ _ _ _ _ _ _ _ _ _ _ _ _ _ _ _ _ _ _ _ _ _ _ _ _ _ _ _ _
    iexists _; iexact H16
  · rw [PhiS_castSucc m c t, PhiS_pos m c _ _ hz]
    iintro ⟨⟨HS, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩⟩
    iapply ((run_A c (grid0.coords t) _ _ _ _ _ _ _ _ _ _ _ _ _ _ _ _ _ _ _ _ _ _ _ _ _ _ _ _ _ _ _ _ ((hcond0_1 t).mpr h) (fun e => by have := (hcond0_2 t).mp e; omega) (iblk m c 0 t) (iblk m c 1 t) (iblk m c 2 t) (iblk m c 3 t) (iblk m c 4 t) (iblk m c 5 t) (iblk m c 6 t) (iblk m c 7 t)).2.2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]; · iexists _; iexact H11
    isplitl [H12]; · iexists _; iexact H12
    isplitl [H13]; · iexists _; iexact H13
    isplitl [H14]; · iexists _; iexact H14
    isplitl [H15]; · iexists _; iexact H15
    isplitl [HS]; · iexists _; iexact HS
    iintro ⟨H2, H3, H4, H5, H6, H7, H8, H9, ⟨%e11, H11⟩, ⟨%e12, H12⟩, ⟨%e13, H13⟩, ⟨%e14, H14⟩, ⟨%e15, H15⟩, ⟨%e17, HS⟩⟩
    isplitl [HS Hg]
    · isplitl [HS]
      · unfold owns; iexists _; isplitr
        swap; · iexact HS
        ipureintro; exact left_A_17 c _ _ _ _ _ _ _ _ _ _ _ _ _ _ _ _ _ _ _ _ _ _ _ _ _ _ _ _ _ _ _ _ _ _ _ _ _ _ _ _ _ _ _ _ _
      iexact Hg
    isplitl [Ho]; · iexact Ho
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]
    · unfold owns; iexists _; isplitr
      swap; · iexact H11
      ipureintro; exact left_A_11 c _ _ _ _ _ _ _ _ _ _ _ _ _ _ _ _ _ _ _ _ _ _ _ _ _ _ _ _ _ _ _ _ _ _ _ _ _ _ _ _ _ _ _ _ _
    isplitl [H12]
    · unfold owns; iexists _; isplitr
      swap; · iexact H12
      ipureintro; exact left_A_12 c _ _ _ _ _ _ _ _ _ _ _ _ _ _ _ _ _ _ _ _ _ _ _ _ _ _ _ _ _ _ _ _ _ _ _ _ _ _ _ _ _ _ _ _ _
    isplitl [H13]
    · unfold owns; iexists _; isplitr
      swap; · iexact H13
      ipureintro; exact left_A_13 c _ _ _ _ _ _ _ _ _ _ _ _ _ _ _ _ _ _ _ _ _ _ _ _ _ _ _ _ _ _ _ _ _ _ _ _ _ _ _ _ _ _ _ _ _
    isplitl [H14]
    · unfold owns; iexists _; isplitr
      swap; · iexact H14
      ipureintro; exact left_A_14 c _ _ _ _ _ _ _ _ _ _ _ _ _ _ _ _ _ _ _ _ _ _ _ _ _ _ _ _ _ _ _ _ _ _ _ _ _ _ _ _ _ _ _ _ _
    isplitl [H15]
    · unfold owns; iexists _; isplitr
      swap; · iexact H15
      ipureintro; exact left_A_15 c _ _ _ _ _ _ _ _ _ _ _ _ _ _ _ _ _ _ _ _ _ _ _ _ _ _ _ _ _ _ _ _ _ _ _ _ _ _ _ _ _ _ _ _ _
    iexists _; iexact H16

set_option maxHeartbeats 6400000 in
/-- where it is the second and the rows are the first, -/
theorem sound_B (c : Dev nD) (t : Fin cfg0.N) (h : t.val % 2 = 1) (h2 : t.val < 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_13 m c t h, before0_9 m c t h]
  rw [show (dats m 0 c).owesAt () t.succ = (dats m 0 c).owesAt () t.castSucc from rfl,
    show (dats m 0 c).Φ t.succ = PhiS m c (t.val + 1) t.isLt from rfl, PhiS_succ]
  rw [leaves0_0, leaves0_1, leaves0_2, leaves0_3, leaves0_4, leaves0_5, leaves0_6, leaves0_7, leaves0_9, leaves0_10, leaves0_11, leaves0_12, leaves0_13, leaves0_8 m c t h, leaves0_14 m c t h]
  have e17 : scrPt m c ⟨t.val, t.isLt⟩ = dhPt m c t (scrPt m c (prev t)) := scr_odd m c t h
  have e10 : dxPt m c t = k0_pay7 (iblk m c 0 t) (dhPt m c t (scrPt m c (prev t))) (iblk m c 2 t) (iblk m c 1 t) := by unfold dxPt; rw [← e17]
  have e16 : dgnTo m c t.val t.isLt = k0_pay8 (iblk m c 0 t) (dhPt m c t (scrPt m c (prev t))) := (dgnTo_one m c t h h2).trans (by unfold dgnPt; rw [← e17])
  rw [e17, e10, e16]
  unfold dhPt aPt dgPt duPt
  rw [PhiS_castSucc m c t, PhiS_pos m c _ _ (by omega)]
  iintro ⟨⟨HS, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩⟩
  iapply ((run_B c (grid0.coords t) _ _ _ _ _ _ _ _ _ _ _ _ _ _ _ _ _ _ _ _ _ _ _ _ _ _ _ _ _ _ _ _ (fun e => by have := (hcond0_1 t).mp e; omega) ((hcond0_2 t).mpr h) ((hcond0_3 t).mpr h2) (fun e => by have := (hcond0_4 t).mp e; omega) (iblk m c 0 t) (iblk m c 1 t) (iblk m c 2 t) (iblk m c 3 t) (iblk m c 4 t) (iblk m c 5 t) (iblk m c 6 t) (iblk m c 7 t) (dyhPt m c t) (scrPt m c (prev t))).2.2.2.2.2.2 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H12]; · iexists _; iexact H12
  isplitl [H13]; · iexists _; iexact H13
  isplitl [H14]; · iexists _; iexact H14
  isplitl [H15]; · iexact H15
  isplitl [H16]; · iexists _; iexact H16
  isplitl [HS]; · iexact HS
  iintro ⟨H2, H3, H4, H5, H6, H7, H8, H9, ⟨%e10, H10⟩, ⟨%e12, H12⟩, ⟨%e13, H13⟩, ⟨%e14, H14⟩, H15, ⟨%e16, H16⟩, ⟨%e17, HS⟩⟩
  isplitl [HS Hg]
  · isplitl [HS]
    · unfold owns; iexists _; isplitr
      swap; · iexact HS
      ipureintro; exact left_B_17 c _ _ _ _ _ _ _ _ _ _ _ _ _ _ _ _ _ _ _ _ _ _ _ _ _ _ _ _ _ _ _ _ _ _ _ _ _ _ _ _ _ _ _ _ _ _ _ _ _
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact left_B_10 c _ _ _ _ _ _ _ _ _ _ _ _ _ _ _ _ _ _ _ _ _ _ _ _ _ _ _ _ _ _ _ _ _ _ _ _ _ _ _ _ _ _ _ _ _ _ _ _ _
  isplitl [H11]; · iexact H11
  isplitl [H12]
  · unfold owns; iexists _; isplitr
    swap; · iexact H12
    ipureintro; exact left_B_12 c _ _ _ _ _ _ _ _ _ _ _ _ _ _ _ _ _ _ _ _ _ _ _ _ _ _ _ _ _ _ _ _ _ _ _ _ _ _ _ _ _ _ _ _ _ _ _ _ _
  isplitl [H13]
  · unfold owns; iexists _; isplitr
    swap; · iexact H13
    ipureintro; exact left_B_13 c _ _ _ _ _ _ _ _ _ _ _ _ _ _ _ _ _ _ _ _ _ _ _ _ _ _ _ _ _ _ _ _ _ _ _ _ _ _ _ _ _ _ _ _ _ _ _ _ _
  isplitl [H14]
  · unfold owns; iexists _; isplitr
    swap; · iexact H14
    ipureintro; exact left_B_14 c _ _ _ _ _ _ _ _ _ _ _ _ _ _ _ _ _ _ _ _ _ _ _ _ _ _ _ _ _ _ _ _ _ _ _ _ _ _ _ _ _ _ _ _ _ _ _ _ _
  isplitl [H15]; · iexact H15
  unfold owns; iexists _; isplitr
  swap; · iexact H16
  ipureintro; exact left_B_16 c _ _ _ _ _ _ _ _ _ _ _ _ _ _ _ _ _ _ _ _ _ _ _ _ _ _ _ _ _ _ _ _ _ _ _ _ _ _ _ _ _ _ _ _ _ _ _ _ _

set_option maxHeartbeats 6400000 in
/-- and where it is the second and the rows are later ones. -/
theorem sound_C (c : Dev nD) (t : Fin cfg0.N) (h : t.val % 2 = 1) (h2 : ¬t.val < 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_13 m c t h, before0_9 m c t h, before0_14 m c t h2]
  rw [show (dats m 0 c).owesAt () t.succ = (dats m 0 c).owesAt () t.castSucc from rfl,
    show (dats m 0 c).Φ t.succ = PhiS m c (t.val + 1) t.isLt from rfl, PhiS_succ]
  rw [leaves0_0, leaves0_1, leaves0_2, leaves0_3, leaves0_4, leaves0_5, leaves0_6, leaves0_7, leaves0_9, leaves0_10, leaves0_11, leaves0_12, leaves0_13, leaves0_8 m c t h, leaves0_14 m c t h]
  have e17 : scrPt m c ⟨t.val, t.isLt⟩ = dhPt m c t (scrPt m c (prev t)) := scr_odd m c t h
  have e10 : dxPt m c t = k0_pay7 (iblk m c 0 t) (dhPt m c t (scrPt m c (prev t))) (iblk m c 2 t) (iblk m c 1 t) := by unfold dxPt; rw [← e17]
  have e16 : dgnTo m c t.val t.isLt = k0_pay4 (k0_pay8 (iblk m c 0 t) (dhPt m c t (scrPt m c (prev t)))) (dgnTo m c (prev t).val (prev t).isLt) := (dgnTo_odd m c t h h2).trans (by unfold dgnPt; rw [← e17])
  rw [e17, e10, e16]
  unfold dhPt aPt dgPt duPt
  rw [PhiS_castSucc m c t, PhiS_pos m c _ _ (by omega)]
  iintro ⟨⟨HS, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩⟩
  iapply ((run_C c (grid0.coords t) _ _ _ _ _ _ _ _ _ _ _ _ _ _ _ _ _ _ _ _ _ _ _ _ _ _ _ _ _ _ _ _ (fun e => by have := (hcond0_1 t).mp e; omega) ((hcond0_2 t).mpr h) (fun e => h2 ((hcond0_3 t).mp e)) ((hcond0_4 t).mpr (by omega)) (iblk m c 0 t) (iblk m c 1 t) (iblk m c 2 t) (iblk m c 3 t) (iblk m c 4 t) (iblk m c 5 t) (iblk m c 6 t) (iblk m c 7 t) (dyhPt m c t) (dgnTo m c (prev t).val (prev t).isLt) (scrPt m c (prev t))).2.2.2.2.2.2 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H12]; · iexists _; iexact H12
  isplitl [H13]; · iexists _; iexact H13
  isplitl [H14]; · iexists _; iexact H14
  isplitl [H15]; · iexact H15
  isplitl [H16]; · iexact H16
  isplitl [HS]; · iexact HS
  iintro ⟨H2, H3, H4, H5, H6, H7, H8, H9, ⟨%e10, H10⟩, ⟨%e12, H12⟩, ⟨%e13, H13⟩, ⟨%e14, H14⟩, H15, ⟨%e16, H16⟩, ⟨%e17, HS⟩⟩
  isplitl [HS Hg]
  · isplitl [HS]
    · unfold owns; iexists _; isplitr
      swap; · iexact HS
      ipureintro; exact left_C_17 c _ _ _ _ _ _ _ _ _ _ _ _ _ _ _ _ _ _ _ _ _ _ _ _ _ _ _ _ _ _ _ _ _ _ _ _ _ _ _ _ _ _ _ _ _ _ _ _ _ _
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact left_C_10 c _ _ _ _ _ _ _ _ _ _ _ _ _ _ _ _ _ _ _ _ _ _ _ _ _ _ _ _ _ _ _ _ _ _ _ _ _ _ _ _ _ _ _ _ _ _ _ _ _ _
  isplitl [H11]; · iexact H11
  isplitl [H12]
  · unfold owns; iexists _; isplitr
    swap; · iexact H12
    ipureintro; exact left_C_12 c _ _ _ _ _ _ _ _ _ _ _ _ _ _ _ _ _ _ _ _ _ _ _ _ _ _ _ _ _ _ _ _ _ _ _ _ _ _ _ _ _ _ _ _ _ _ _ _ _ _
  isplitl [H13]
  · unfold owns; iexists _; isplitr
    swap; · iexact H13
    ipureintro; exact left_C_13 c _ _ _ _ _ _ _ _ _ _ _ _ _ _ _ _ _ _ _ _ _ _ _ _ _ _ _ _ _ _ _ _ _ _ _ _ _ _ _ _ _ _ _ _ _ _ _ _ _ _
  isplitl [H14]
  · unfold owns; iexists _; isplitr
    swap; · iexact H14
    ipureintro; exact left_C_14 c _ _ _ _ _ _ _ _ _ _ _ _ _ _ _ _ _ _ _ _ _ _ _ _ _ _ _ _ _ _ _ _ _ _ _ _ _ _ _ _ _ _ _ _ _ _ _ _ _ _
  isplitl [H15]; · iexact H15
  unfold owns; iexists _; isplitr
  swap; · iexact H16
  ipureintro; exact left_C_16 c _ _ _ _ _ _ _ _ _ _ _ _ _ _ _ _ _ _ _ _ _ _ _ _ _ _ _ _ _ _ _ _ _ _ _ _ _ _ _ _ _ _ _ _ _ _ _ _ _ _

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 2 = 0
  · exact sound_A m c t h
  · by_cases h2 : t.val < 2
    · exact sound_B m c t (by omega) h2
    · exact sound_C m c t (by omega) h2

theorem defs₀_row (t : Fin cfg0.N) :
    defs₀ (F := F) .tc cfg0.body (cfg0.bodyArgs t (cfg0.slots t)) = bodyAt0 t := by
  unfold defs₀; rw [Defs.onTc_tc]

/-- The body leaves what `dats` says, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨HS, Hg⟩
  isplitl [HS]; · iexists _; iexact HS
  iexact Hg

/-! ## The run and the frame -/

set_option backward.isDefEq.respectTransparency.types false in
/-- Every run ends, with each array of the launch as `dats` says and every semaphore at zero, -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- the same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- The run with the rows' gradient named. -/
theorem run_block : θ_run defs (onTc (τ := τ) (main (F := F))) ⟨m, fun _ => 0, ρ⟩ fun r => ∀ c : Dev nD,
      r.2.mem ((c : Thread nD τ).loc main_v25_0) = (dats m 0 c).arrAt 8 cfg0.N :=
  (θ_run defs _ _).mono (fun r h c => (h c).1 8) (run_main m ρ)

end Cert.FeedGradIdeal.Back

end
-- ==== Proof.FeedGradReals.lean ====
/- The feed-forward layer's gradient by its input: the formula that the call computes, and the one that differentiating the layer gives. -/
module

public import proofs.«01_k».proof.Proof.Feed
public import proofs.«01_k».proof.Proof.Reals

@[expose] public section

noncomputable section

namespace Cert.LayerGrad

open Idealize.ShloMosaic Idealize.ShloMosaic.TcCoe Idealize.ShloMosaic.Tactic
open scoped BigOperators
open Cert.FeedIdeal (S16384x1024 S1024 S4x1024x5632 S4x2816x1024)
open Cert.FeedIdeal.Att (normal pre)

/-- An extended real that is a real number. -/
def Rl (a : EReal) : Prop := ∃ r : ℝ, a = (r : EReal)

theorem Rl.mul {a b : EReal} : Rl a → Rl b → Rl (a * b)
  | ⟨r, hr⟩, ⟨s, hs⟩ => ⟨r * s, by rw [hr, hs, EReal.coe_mul]⟩
theorem Rl.add {a b : EReal} : Rl a → Rl b → Rl (a + b)
  | ⟨r, hr⟩, ⟨s, hs⟩ => ⟨r + s, by rw [hr, hs, EReal.coe_add]⟩
theorem Rl.sub {a b : EReal} : Rl a → Rl b → Rl (a - b)
  | ⟨r, hr⟩, ⟨s, hs⟩ => ⟨r - s, by rw [hr, hs, EReal.coe_sub]⟩
theorem Rl.one : Rl 1 := ⟨1, EReal.coe_one.symm⟩
theorem Rl.logistic {a : EReal} : Rl a → Rl (Ideal.logistic a)
  | ⟨r, hr⟩ => ⟨_, by rw [hr, Ideal.logistic_coe]⟩
theorem Rl.sum {n : ℕ} {f : Fin n → EReal} (h : ∀ k, Rl (f k)) : Rl (∑ k, f k) := by
  choose q hq using h
  exact ⟨∑ k, q k, by rw [Cert.Reals.coe_sum]; exact Finset.sum_congr rfl fun k _ => hq k⟩

theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
/-- What is added to a row's mean square. -/
theorem ofBits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

section
variable (x : FVec Ideal S16384x1024 .f32) (g : FVec Ideal S1024 .f32) (w : FVec Ideal S4x1024x5632 .f32) (d : FVec Ideal S4x2816x1024 .f32)
  (y : FVec Ideal S16384x1024 .f32)

/-- A row's mean square with the small number added, and the inverse of its root. -/
def square (r : Fin 16384) : EReal :=
  (∑ k, x (ix2 r k) * x (ix2 r k)) * ((1 / 1024 : ℝ) : EReal) + Ideal.ofBits .f32 0x358637BD#32
def scale (r : Fin 16384) : EReal := Ideal.rsqrt (square x r)

/-- The gate's and the up's products. -/
def gate (r : Fin 16384) (j : Fin 2816) : EReal := pre x g w r ⟨j.val, by omega⟩
def up (r : Fin 16384) (j : Fin 2816) : EReal := pre x g w r ⟨j.val + 2816, by omega⟩

/-- The activations' gradient, -/
def da (r : Fin 16384) (j : Fin 2816) : EReal := ∑ p : Fin 1024, Ideal.ofBits .f32 0x3F000000#32 * y (ix2 r p) * d (ix3 0 j p)
/-- the gate's, as the call has it, -/
def dg (r : Fin 16384) (j : Fin 2816) : EReal :=
  da d y r j * up x g w r j * (Ideal.logistic (gate x g w r j) * (1 + gate x g w r j * (1 - Ideal.logistic (gate x g w r j))))
/-- the up's, -/
def du (r : Fin 16384) (j : Fin 2816) : EReal := da d y r j * (gate x g w r j * Ideal.logistic (gate x g w r j))
/-- the normalised rows', -/
def dh (r : Fin 16384) (p : Fin 1024) : EReal :=
  ∑ j : Fin 2816, dg x g w d y r j * w (ix3 0 p ⟨j.val, by omega⟩) + ∑ j : Fin 2816, du x g w d y r j * w (ix3 0 p ⟨j.val + 2816, by omega⟩)
/-- and the rows'. -/
def dx (r : Fin 16384) (p : Fin 1024) : EReal :=
  y (ix2 r p) + scale x r * (dh x g w d y r p * g (ix1 p)
    - x (ix2 r p) * scale x r * ((∑ k, dh x g w d y r k * g (ix1 k) * (x (ix2 r k) * scale x r)) * ((1 / 1024 : ℝ) : EReal)))

/-- The same by differentiating the layer: the gate's, -/
def dgBy (r : Fin 16384) (j : Fin 2816) : EReal :=
  da d y r j * up x g w r j * Ideal.logistic (gate x g w r j)
    + gate x g w r j * (da d y r j * up x g w r j) * (Ideal.logistic (gate x g w r j) * (1 - Ideal.logistic (gate x g w r j)))
/-- the up's, -/
def duBy (r : Fin 16384) (j : Fin 2816) : EReal := gate x g w r j * Ideal.logistic (gate x g w r j) * da d y r j
/-- the two side by side, -/
def dgu (r : Fin 16384) (j : Fin 5632) : EReal :=
  if h : j.val < 2816 then dgBy x g w d y r ⟨j.val, h⟩ else duBy x g w d y r ⟨j.val - 2816, by omega⟩
/-- the normalised rows', -/
def dhBy (r : Fin 16384) (p : Fin 1024) : EReal := ∑ j : Fin 5632, dgu x g w d y r j * w (ix3 0 p j)
/-- the mean square's, -/
def dsq (r : Fin 16384) : EReal :=
  (∑ k, x (ix2 r k) * (dhBy x g w d y r k * g (ix1 k))) * (Ideal.ofBits .f32 0xBF000000#32 * Ideal.div (scale x r) (square x r)) * ((1 / 1024 : ℝ) : EReal)
/-- and the rows'. -/
def dxBy (r : Fin 16384) (p : Fin 1024) : EReal :=
  y (ix2 r p) + dhBy x g w d y r p * g (ix1 p) * scale x r + x (ix2 r p) * dsq x g w d y r + dsq x g w d y r * x (ix2 r p)

theorem dhBy_halves (r : Fin 16384) (p : Fin 1024) :
    dhBy x g w d y r p = ∑ j : Fin 2816, dgBy x g w d y r j * w (ix3 0 p ⟨j.val, by omega⟩)
      + ∑ j : Fin 2816, duBy x g w d y r j * w (ix3 0 p ⟨j.val + 2816, by omega⟩) := by
  unfold dhBy
  refine (Fin.sum_univ_add (a := 2816) (b := 2816) (fun j : Fin 5632 => dgu x g w d y r j * w (ix3 0 p j))).trans ?_
  refine congrArg₂ (· + ·) (Finset.sum_congr rfl fun j _ => ?_) (Finset.sum_congr rfl fun j _ => ?_)
  · refine congrArg₂ (· * ·) ?_ rfl
    exact dif_pos (show j.val < 2816 from j.isLt)
  · refine congrArg₂ (· * ·) ?_ (congrArg (fun k => w (ix3 0 p k)) (Fin.ext (Nat.add_comm 2816 j.val)))
    refine (dif_neg (show ¬(2816 + j.val < 2816) by omega)).trans (congrArg (duBy x g w d y r) (Fin.ext ?_))
    show 2816 + j.val - 2816 = j.val
    omega

/-- Over real numbers the mean square is a positive number. -/
theorem square_real (r : Fin 16384) (hx : ∀ k, Rl (x (ix2 r k))) : ∃ v : ℝ, 0 < v ∧ square x r = (v : EReal) := by
  choose X hX using hx
  obtain ⟨e, he, h⟩ := ofBits_eps
  refine ⟨(∑ k, X k * X k) * (1 / 1024) + e, ?_, ?_⟩
  · have : 0 ≤ ∑ k, X k * X k := Finset.sum_nonneg fun k _ => mul_self_nonneg _
    positivity
  · unfold square
    rw [h, EReal.coe_add, EReal.coe_mul, Cert.Reals.coe_sum]
    simp only [hX, EReal.coe_mul]

/-- Otherwise it is infinite. -/
theorem square_top (r : Fin 16384) (hx : ¬∀ k, Rl (x (ix2 r k))) : square x r = ⊤ := by
  obtain ⟨k, hk⟩ := not_forall.mp hx
  have hs : ∀ a : EReal, 0 ≤ a * a := by
    intro a
    induction a using EReal.rec with
    | bot => simp
    | coe a => rw [← EReal.coe_mul]; exact_mod_cast mul_self_nonneg a
    | top => simp
  have hk' : x (ix2 r k) * x (ix2 r k) = ⊤ := by
    generalize x (ix2 r k) = a at hk
    induction a using EReal.rec with
    | bot => rfl
    | coe a => exact absurd ⟨a, rfl⟩ hk
    | top => rfl
  have ht : ∑ k, x (ix2 r k) * x (ix2 r k) = ⊤ :=
    top_le_iff.mp (hk'.symm.trans_le (Finset.single_le_sum (f := fun k => x (ix2 r k) * x (ix2 r k)) (fun k _ => hs _) (Finset.mem_univ k)))
  obtain ⟨e, he, h⟩ := ofBits_eps
  unfold square
  rw [ht, h, EReal.top_mul_coe_of_pos (by norm_num), EReal.top_add_coe]

theorem real_dx (Y s v N X T : ℝ) (hs : s * s * v = 1) :
    Y + s * (N - X * s * (s * T * (1 / 1024))) = Y + N * s + X * (T * (-(1 / 2) * (s * (1 / v))) * (1 / 1024)) + T * (-(1 / 2) * (s * (1 / v))) * (1 / 1024) * X := by
  have hv : v ≠ 0 := by rintro rfl; simp at hs
  have : 1 / v = s * s := by rw [div_eq_iff hv]; exact hs.symm
  rw [this]
  ring

variable (hg : ∀ p, Rl (g (ix1 p))) (hw : ∀ p j, Rl (w (ix3 0 p j))) (hd : ∀ j p, Rl (d (ix3 0 j p))) (hy : ∀ r p, Rl (y (ix2 r p)))
include hg hw hd hy

/-- The two formulas agree where the scales, the weights and the result's gradient are real numbers. -/
theorem dx_eq (r : Fin 16384) (p : Fin 1024) : dxBy x g w d y r p = dx x g w d y r p := by
  by_cases hx : ∀ k, Rl (x (ix2 r k))
  · obtain ⟨v, hv, hsq⟩ := square_real x r hx
    have hsc : scale x r = (((Real.sqrt v)⁻¹ : ℝ) : EReal) := by
      unfold scale
      rw [hsq, Ideal.rsqrt_coe, if_neg (not_lt.mpr hv.le), if_neg hv.ne']
    have hpre : ∀ j, Rl (pre x g w r j) := fun j => Rl.sum fun k => (((hx k).mul ⟨_, hsc⟩).mul (hg k)).mul (hw k j)
    have hgate : ∀ j, Rl (gate x g w r j) := fun j => hpre _
    have hup : ∀ j, Rl (up x g w r j) := fun j => hpre _
    have hda : ∀ j, Rl (da d y r j) := fun j => Rl.sum fun k => (Rl.mul ⟨_, ofBits_half⟩ (hy r k)).mul (hd j k)
    have hdg : ∀ j, dgBy x g w d y r j = dg x g w d y r j := by
      intro j
      unfold dgBy dg
      obtain ⟨a, ha⟩ := hda j
      obtain ⟨u, hu⟩ := hup j
      obtain ⟨b, hb⟩ := hgate j
      obtain ⟨s, hs⟩ := (hgate j).logistic
      rw [hs, ha, hu, hb, ← EReal.coe_one]
      simp only [← EReal.coe_mul, ← EReal.coe_add, ← EReal.coe_sub]
      exact congrArg _ (by ring)
    have hdu : ∀ j, duBy x g w d y r j = du x g w d y r j := fun j => mul_comm _ _
    have hdh : ∀ q, dhBy x g w d y r q = dh x g w d y r q := by
      intro q
      rw [dhBy_halves]
      simp only [hdg, hdu]
      rfl
    have hdhr : ∀ q, Rl (dh x g w d y r q) := fun q =>
      (Rl.sum fun j => (((hda j).mul (hup j)).mul ((hgate j).logistic.mul (Rl.one.add ((hgate j).mul (Rl.one.sub (hgate j).logistic))))).mul (hw q _)).add
        (Rl.sum fun j => ((hda j).mul ((hgate j).mul (hgate j).logistic)).mul (hw q _))
    have hN : ∀ q, Rl (dh x g w d y r q * g (ix1 q)) := fun q => (hdhr q).mul (hg q)
    choose N hN using hN
    choose X hX using hx
    obtain ⟨Y, hY⟩ := hy r p
    have hs : (Real.sqrt v)⁻¹ * (Real.sqrt v)⁻¹ * v = 1 := by
      rw [← mul_inv, Real.mul_self_sqrt hv.le, inv_mul_cancel₀ hv.ne']
    unfold dxBy dx dsq
    simp only [hdh, hN, hX, hY, hsc, hsq, ofBits_neg_half, Ideal.div_coe hv.ne']
    simp only [← EReal.coe_mul, ← Cert.Reals.coe_sum, ← EReal.coe_add, ← EReal.coe_sub]
    refine congrArg _ ?_
    rw [← real_dx Y (Real.sqrt v)⁻¹ v (N p) (X p) (∑ k, X k * N k) hs, Finset.mul_sum]
    simp only [show ∀ k, N k * (X k * (Real.sqrt v)⁻¹) = (Real.sqrt v)⁻¹ * (X k * N k) from fun k => by ring]
  · have hsq := square_top x r hx
    have hsc : scale x r = 0 := by unfold scale; rw [hsq, Ideal.rsqrt_top]
    have hdiv : Ideal.div 0 (⊤ : EReal) = 0 := by simp [Ideal.div]
    unfold dxBy dx dsq
    rw [hsc, hsq, hdiv]
    simp

end

end Cert.LayerGrad

end
-- ==== Proof.FeedGradValue.lean ====
/- The feed-forward gradient's value: the rows' gradient that the call leaves, entry by entry. -/
module

public import proofs.«01_k».proof.Proof.FeedGradLaunch
public import proofs.«01_k».proof.Proof.FeedGradReals
public import Idealize.ShloMosaic.Lib.Pointwise
public import Idealize.ShloMosaic.Lib.StableHlo.RunRead
public import Idealize.ShloMosaic.Lib.Pipeline.ValueKit
public import Idealize.ShloMosaic.Lib.Pipeline.ValueKit.Partial

@[expose] public section

set_option maxRecDepth 16384

noncomputable section

namespace Cert.FeedGradIdeal.Back

open Cert.FeedGradIdeal.Gen
open Idealize.ShloMosaic Idealize.ShloMosaic.TcCoe Idealize.ShloMosaic.Tactic
open Idealize.SL.Sem
open scoped BigOperators
open Cert.FeedIdeal.Att (normal pre gateArr upArr ofBits_1024th sum_halves)
open Cert.LayerGrad

/-! ## The body's payloads -/

theorem loG_apply (x : Vec Ideal S512x1408 .bf16) (k : Fin 256) (q : Fin 1408) : loG x (ix2 k q) = x (ix2 ⟨k.val, by omega⟩ q) := by
  unfold loG
  refine View.ld_unit_apply_of x _ _ _ _ _ fun a => ?_
  fin_cases a
  · exact (Nat.zero_add k.val).symm
  · exact (Nat.zero_add q.val).symm
theorem hiG_apply (x : Vec Ideal S512x1408 .bf16) (k : Fin 256) (q : Fin 1408) : hiG x (ix2 k q) = x (ix2 ⟨256 + k.val, by omega⟩ q) := by
  unfold hiG
  refine View.ld_unit_apply_of x _ _ _ _ _ fun a => ?_
  fin_cases a
  · rfl
  · exact (Nat.zero_add q.val).symm
theorem loD_apply {e : EltTy} (x : Vec Ideal S512x1024 e) (k : Fin 256) (p : Fin 1024) : loD x (ix2 k p) = x (ix2 ⟨k.val, by omega⟩ p) := by
  unfold loD
  refine View.ld_unit_apply_of x _ _ _ _ _ fun a => ?_
  fin_cases a
  · exact (Nat.zero_add k.val).symm
  · exact (Nat.zero_add p.val).symm
theorem hiD_apply {e : EltTy} (x : Vec Ideal S512x1024 e) (k : Fin 256) (p : Fin 1024) : hiD x (ix2 k p) = x (ix2 ⟨256 + k.val, by omega⟩ p) := by
  unfold hiD
  refine View.ld_unit_apply_of x _ _ _ _ _ fun a => ?_
  fin_cases a
  · rfl
  · exact (Nat.zero_add p.val).symm

/-- Two halves of rows, one over the other, have the entries of both. -/
theorem stackD_apply (lo hi : Vec Ideal S256x1024 .f32) (f : Fin 512 → Fin 1024 → EReal) (hlo : ∀ k p, lo (ix2 k p) = f ⟨k.val, by omega⟩ p)
    (hhi : ∀ k p, hi (ix2 k p) = f ⟨256 + k.val, by omega⟩ p) (k : Fin 512) (p : Fin 1024) : stackD lo hi (ix2 k p) = f k p := by
  unfold stackD
  refine View.canon_eq_of_allAt _ _ _ (View.cover_of_tiled_head _ _ _ (by rfl) _) ?_
  refine View.allAt_cons_unit _ _ _ _ _ (fun x hx => ?_) (View.allAt_cons_unit _ _ _ _ _ (fun x hx => ?_) (View.allAt_nil _ _))
  · obtain ⟨a, b, rfl⟩ : ∃ (a : Fin 256) (b : Fin 1024), x = ix2 a b := ⟨⟨(x 0).val, (x 0).isLt⟩, ⟨(x 1).val, (x 1).isLt⟩, by funext a; fin_cases a <;> rfl⟩
    have h0 : k.val = 256 + a.val := hx 0
    have h1 : p.val = 0 + b.val := hx 1
    rw [hhi]
    exact congrArg₂ f (Fin.ext h0.symm) (Fin.ext (by omega))
  · obtain ⟨a, b, rfl⟩ : ∃ (a : Fin 256) (b : Fin 1024), x = ix2 a b := ⟨⟨(x 0).val, (x 0).isLt⟩, ⟨(x 1).val, (x 1).isLt⟩, by funext a; fin_cases a <;> rfl⟩
    have h0 : k.val = 0 + a.val := hx 0
    have h1 : p.val = 0 + b.val := hx 1
    rw [hlo]
    exact congrArg₂ f (Fin.ext (by show a.val = k.val; omega)) (Fin.ext (by omega))

theorem pay10_apply (y : Vec Ideal S512x1024 .f32) (k : Fin 512) (p : Fin 1024) : k0_pay10 y (ix2 k p) = Ideal.ofBits .f32 0x3F000000#32 * y (ix2 k p) := by
  unfold k0_pay10
  pointwise
theorem pay11_apply (k : Fin 512) (p : Fin 1024) : (k0_pay11 (F := Ideal)) (ix2 k p) = 0 := by
  unfold k0_pay11
  pointwise
theorem pay17_apply (d : Vec Ideal S256x1024 .bf16) (w : Vec Ideal S1x1408x1024 .bf16) (k : Fin 256) (q : Fin 1408) :
    k0_pay17 d w (ix2 k q) = ∑ p : Fin 1024, d (ix2 k p) * w (ix3 0 q p) := by
  unfold k0_pay17
  pointwise
theorem pay26_apply (d : Vec Ideal S256x1024 .bf16) (w : Vec Ideal S1x1408x1024 .bf16) (k : Fin 256) (q : Fin 1408) :
    k0_pay26 d w (ix2 k q) = ∑ p : Fin 1024, d (ix2 k p) * w (ix3 0 q p) := by
  unfold k0_pay26
  pointwise
theorem pay12_apply (g : Vec Ideal S256x1408 .bf16) (k : Fin 256) (q : Fin 1408) : k0_pay12 g (ix2 k q) = g (ix2 k q) := by
  unfold k0_pay12
  pointwise
theorem pay13_apply (g : Vec Ideal S256x1408 .bf16) (k : Fin 256) (q : Fin 1408) : k0_pay13 g (ix2 k q) = g (ix2 k q) := by
  unfold k0_pay13
  pointwise
theorem pay21_apply (g : Vec Ideal S256x1408 .bf16) (k : Fin 256) (q : Fin 1408) : k0_pay21 g (ix2 k q) = g (ix2 k q) := by
  unfold k0_pay21
  pointwise
theorem pay22_apply (g : Vec Ideal S256x1408 .bf16) (k : Fin 256) (q : Fin 1408) : k0_pay22 g (ix2 k q) = g (ix2 k q) := by
  unfold k0_pay22
  pointwise
theorem pay14_apply (g : Vec Ideal S256x1408 .bf16) (k : Fin 256) (q : Fin 1408) : k0_pay14 g (ix2 k q) = Ideal.logistic (g (ix2 k q)) :=
  congrArg Ideal.logistic (pay12_apply g k q)
theorem pay23_apply (g : Vec Ideal S256x1408 .bf16) (k : Fin 256) (q : Fin 1408) : k0_pay23 g (ix2 k q) = Ideal.logistic (g (ix2 k q)) :=
  congrArg Ideal.logistic (pay21_apply g k q)
theorem pay15_apply (g : Vec Ideal S256x1408 .bf16) (k : Fin 256) (q : Fin 1408) : k0_pay15 g (ix2 k q) = g (ix2 k q) * Ideal.logistic (g (ix2 k q)) :=
  congrArg₂ (· * ·) (pay12_apply g k q) (pay14_apply g k q)
theorem pay24_apply (g : Vec Ideal S256x1408 .bf16) (k : Fin 256) (q : Fin 1408) : k0_pay24 g (ix2 k q) = g (ix2 k q) * Ideal.logistic (g (ix2 k q)) :=
  congrArg₂ (· * ·) (pay21_apply g k q) (pay23_apply g k q)
theorem pay28_apply (g : Vec Ideal S256x1408 .bf16) (k : Fin 256) (q : Fin 1408) :
    k0_pay28 g (ix2 k q) = g (ix2 k q) * (1 - Ideal.logistic (g (ix2 k q))) := by
  rw [← pay23_apply, ← pay21_apply g k q]
  unfold k0_pay28
  pointwise
theorem pay18_apply (g u : Vec Ideal S256x1408 .bf16) (d : Vec Ideal S256x1024 .bf16) (w : Vec Ideal S1x1408x1024 .bf16) (k : Fin 256) (q : Fin 1408) :
    k0_pay18 g u d w (ix2 k q) = (∑ p : Fin 1024, d (ix2 k p) * w (ix3 0 q p)) * u (ix2 k q)
      * (Ideal.logistic (g (ix2 k q)) * (1 + g (ix2 k q) * (1 - Ideal.logistic (g (ix2 k q))))) := by
  rw [← pay17_apply, ← pay14_apply, ← pay13_apply u, ← pay12_apply g]
  unfold k0_pay18
  pointwise
theorem pay19_apply (g : Vec Ideal S256x1408 .bf16) (d : Vec Ideal S256x1024 .bf16) (w : Vec Ideal S1x1408x1024 .bf16) (k : Fin 256) (q : Fin 1408) :
    k0_pay19 g d w (ix2 k q) = (∑ p : Fin 1024, d (ix2 k p) * w (ix3 0 q p)) * (g (ix2 k q) * Ideal.logistic (g (ix2 k q))) := by
  rw [← pay17_apply, ← pay15_apply]
  unfold k0_pay19
  pointwise
theorem pay27_apply (u : Vec Ideal S256x1408 .bf16) (d : Vec Ideal S256x1024 .bf16) (w : Vec Ideal S1x1408x1024 .bf16) (k : Fin 256) (q : Fin 1408) :
    k0_pay27 u d w (ix2 k q) = (∑ p : Fin 1024, d (ix2 k p) * w (ix3 0 q p)) * u (ix2 k q) :=
  congrArg₂ (· * ·) (pay26_apply d w k q) (pay22_apply u k q)
theorem pay20_apply (a b : FVec Ideal S256x1408 .bf16) (s : Vec Ideal S256x1024 .f32) (wg wu : Vec Ideal S1x1x1024x1408 .bf16) (k : Fin 256) (p : Fin 1024) :
    k0_pay20 a b s wg wu (ix2 k p) = s (ix2 k p) + (∑ q : Fin 1408, a (ix2 k q) * wg (ix4 0 0 p q) + ∑ q : Fin 1408, b (ix2 k q) * wu (ix4 0 0 p q)) := by
  unfold k0_pay20
  pointwise
theorem pay1_apply (s e c : FVec Ideal S256x1408 .f32) (k : Fin 256) (q : Fin 1408) :
    k0_pay1 s e c (Scalar.ofBits .f32 0x3F800000#32) (ix2 k q) = e (ix2 k q) * (s (ix2 k q) * (1 + c (ix2 k q))) := by
  unfold k0_pay1
  pointwise
theorem pay2_apply (a e : FVec Ideal S256x1408 .f32) (k : Fin 256) (q : Fin 1408) : k0_pay2 a e (ix2 k q) = e (ix2 k q) * a (ix2 k q) := by
  unfold k0_pay2
  pointwise
theorem pay3_apply (s a e f c : FVec Ideal S256x1408 .f32) (z : Vec Ideal S256x1024 .f32) (wg wu : Vec Ideal S1x1x1024x1408 .bf16) (k : Fin 256) (p : Fin 1024) :
    k0_pay3 s a e f c (Scalar.ofBits .f32 0x3F800000#32) z wg wu (ix2 k p)
      = z (ix2 k p) + (∑ q : Fin 1408, f (ix2 k q) * (s (ix2 k q) * (1 + c (ix2 k q))) * wg (ix4 0 0 p q)
        + ∑ q : Fin 1408, e (ix2 k q) * a (ix2 k q) * wu (ix4 0 0 p q)) := by
  simp only [← pay1_apply, ← pay2_apply]
  unfold k0_pay3
  pointwise

theorem pay5_apply (x : Vec Ideal S512x1024 .f32) (k : Fin 512) :
    k0_pay5 x (ix2 k 0) = Ideal.rsqrt ((∑ q, x (ix2 k q) * x (ix2 k q)) * ((1 / 1024 : ℝ) : EReal) + Ideal.ofBits .f32 0x358637BD#32) := by
  rw [← ofBits_1024th]
  unfold k0_pay5
  pointwise
theorem pay6_apply (x : Vec Ideal S512x1024 .f32) (k : Fin 512) (p : Fin 1024) : k0_pay6 x (ix2 k p) = x (ix2 k p) * k0_pay5 x (ix2 k 0) := by
  unfold k0_pay6
  pointwise
theorem pay7_apply (x s : Vec Ideal S512x1024 .f32) (g : Vec Ideal S1x1024 .f32) (y : Vec Ideal S512x1024 .f32) (k : Fin 512) (p : Fin 1024) :
    k0_pay7 x s g y (ix2 k p) = y (ix2 k p) + k0_pay5 x (ix2 k 0) * (s (ix2 k p) * g (ix2 0 p)
      - k0_pay6 x (ix2 k p) * ((∑ q, s (ix2 k q) * g (ix2 0 q) * k0_pay6 x (ix2 k q)) * ((1 / 1024 : ℝ) : EReal))) := by
  rw [← ofBits_1024th]
  unfold k0_pay7
  pointwise

/-- The normalised rows' gradient over one half of the features. -/
theorem dhOf_apply (g u : Vec Ideal S512x1408 .bf16) (d : Vec Ideal S512x1024 .bf16) (wd : Vec Ideal S1x1408x1024 .bf16) (wg wu : Vec Ideal S1x1x1024x1408 .bf16)
    (z : Vec Ideal S512x1024 .f32) (k : Fin 512) (p : Fin 1024) :
    dhOf g u d wd wg wu z (ix2 k p) = z (ix2 k p) + (∑ q : Fin 1408, (∑ n : Fin 1024, d (ix2 k n) * wd (ix3 0 q n)) * u (ix2 k q)
        * (Ideal.logistic (g (ix2 k q)) * (1 + g (ix2 k q) * (1 - Ideal.logistic (g (ix2 k q))))) * wg (ix4 0 0 p q)
      + ∑ q : Fin 1408, (∑ n : Fin 1024, d (ix2 k n) * wd (ix3 0 q n)) * (g (ix2 k q) * Ideal.logistic (g (ix2 k q))) * wu (ix4 0 0 p q)) := by
  unfold dhOf
  refine stackD_apply _ _ (fun k p => z (ix2 k p) + (∑ q : Fin 1408, (∑ n : Fin 1024, d (ix2 k n) * wd (ix3 0 q n)) * u (ix2 k q)
        * (Ideal.logistic (g (ix2 k q)) * (1 + g (ix2 k q) * (1 - Ideal.logistic (g (ix2 k q))))) * wg (ix4 0 0 p q)
      + ∑ q : Fin 1408, (∑ n : Fin 1024, d (ix2 k n) * wd (ix3 0 q n)) * (g (ix2 k q) * Ideal.logistic (g (ix2 k q))) * wu (ix4 0 0 p q)))
    (fun k p => ?_) (fun k p => ?_) k p
  · rw [pay20_apply]
    simp only [pay18_apply, pay19_apply, loG_apply, loD_apply]
  · rw [pay3_apply]
    simp only [pay23_apply, pay24_apply, pay26_apply, pay27_apply, pay28_apply, hiG_apply, hiD_apply]

/-! ## The blocks -/

theorem place0 : ∀ t : Fin cfg0.N, win0_0.index t 0 = t.val / 2 ∧ win0_0.index t 1 = 0 :=
  (by decide +kernel : ∀ t : Fin grid0.N, win0_0.index t 0 = t.val / 2 ∧ win0_0.index t 1 = 0)
theorem place1 : ∀ t : Fin cfg0.N, win0_1.index t 0 = t.val / 2 ∧ win0_1.index t 1 = 0 :=
  (by decide +kernel : ∀ t : Fin grid0.N, win0_1.index t 0 = t.val / 2 ∧ win0_1.index t 1 = 0)
theorem place2 : ∀ t : Fin cfg0.N, win0_2.index t 0 = 0 ∧ win0_2.index t 1 = 0 :=
  (by decide +kernel : ∀ t : Fin grid0.N, win0_2.index t 0 = 0 ∧ win0_2.index t 1 = 0)
theorem place3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)
theorem place4 : ∀ t : Fin cfg0.N, win0_4.index t 0 = t.val / 2 ∧ win0_4.index t 1 = t.val % 2 :=
  (by decide +kernel : ∀ t : Fin grid0.N, win0_4.index t 0 = t.val / 2 ∧ win0_4.index t 1 = t.val % 2)
theorem place5 : ∀ t : Fin cfg0.N, win0_5.index t 0 = t.val % 2 ∧ win0_5.index t 1 = 0 ∧ win0_5.index t 2 = 0 ∧ win0_5.index t 3 = 0 :=
  (by decide +kernel : ∀ t : Fin grid0.N, win0_5.index t 0 = t.val % 2 ∧ win0_5.index t 1 = 0 ∧ win0_5.index t 2 = 0 ∧ win0_5.index t 3 = 0)
theorem place6 : ∀ t : Fin cfg0.N, win0_6.index t 0 = t.val % 2 + 2 ∧ win0_6.index t 1 = 0 ∧ win0_6.index t 2 = 0 ∧ win0_6.index t 3 = 0 :=
  (by decide +kernel : ∀ t : Fin grid0.N, win0_6.index t 0 = t.val % 2 + 2 ∧ win0_6.index t 1 = 0 ∧ win0_6.index t 2 = 0 ∧ win0_6.index t 3 = 0)
theorem place7 : ∀ t : Fin cfg0.N, win0_7.index t 0 = 0 ∧ win0_7.index t 1 = t.val % 2 ∧ win0_7.index t 2 = 0 :=
  (by decide +kernel : ∀ t : Fin grid0.N, win0_7.index t 0 = 0 ∧ win0_7.index t 1 = t.val % 2 ∧ win0_7.index t 2 = 0)
theorem place8 : ∀ t : Fin cfg0.N, win0_8.index t 0 = t.val / 2 ∧ win0_8.index t 1 = 0 :=
  (by decide +kernel : ∀ t : Fin grid0.N, win0_8.index t 0 = t.val / 2 ∧ win0_8.index t 1 = 0)

theorem lt64 (t : Fin cfg0.N) : t.val < 64 := lt_of_lt_of_eq t.isLt N_0

/-- Row `k` of the point's block, column `q` of its half, and the columns of the gate's and the up's weights. -/
def row (t : Fin cfg0.N) (k : Fin 512) : Fin 16384 := ⟨t.val / 2 * 512 + k.val, by have := lt64 t; omega⟩
def col (t : Fin cfg0.N) (q : Fin 1408) : Fin 2816 := ⟨t.val % 2 * 1408 + q.val, by omega⟩

theorem read0 (t : Fin cfg0.N) (X : Vec Ideal S16384x1024 .f32) (k : Fin 512) (p : Fin 1024) :
    ((cfg0.win 0).blk t).view.read (Elt Ideal) X (ix2 k p) = X (ix2 (row t k) p) := by
  obtain ⟨e0, e1⟩ := place0 t
  unfold row
  blk_ext [e0, e1]
theorem read1 (t : Fin cfg0.N) (X : Vec Ideal S16384x1024 .f32) (k : Fin 512) (p : Fin 1024) :
    ((cfg0.win 1).blk t).view.read (Elt Ideal) X (ix2 k p) = X (ix2 (row t k) p) := by
  obtain ⟨e0, e1⟩ := place1 t
  unfold row
  blk_ext [e0, e1]
theorem read2 (t : Fin cfg0.N) (X : Vec Ideal S1x1024 .f32) (p : Fin 1024) :
    ((cfg0.win 2).blk t).view.read (Elt Ideal) X (ix2 0 p) = X (ix2 0 p) := by
  obtain ⟨e0, e1⟩ := place2 t
  blk_ext [e0, e1]
theorem read3 (t : Fin cfg0.N) (X : Vec Ideal S16384x2816 .bf16) (k : Fin 512) (q : Fin 1408) :
    ((cfg0.win 3).blk t).view.read (Elt Ideal) X (ix2 k q) = X (ix2 (row t k) (col t q)) := by
  obtain ⟨e0, e1⟩ := place3 t
  unfold row col
  blk_ext [e0, e1]
theorem read4 (t : Fin cfg0.N) (X : Vec Ideal S16384x2816 .bf16) (k : Fin 512) (q : Fin 1408) :
    ((cfg0.win 4).blk t).view.read (Elt Ideal) X (ix2 k q) = X (ix2 (row t k) (col t q)) := by
  obtain ⟨e0, e1⟩ := place4 t
  unfold row col
  blk_ext [e0, e1]
theorem read5 (t : Fin cfg0.N) (X : Vec Ideal S4x4x1024x1408 .bf16) (p : Fin 1024) (q : Fin 1408) :
    ((cfg0.win 5).blk t).view.read (Elt Ideal) X (ix4 0 0 p q) = X (ix4 ⟨t.val % 2, by omega⟩ 0 p q) := by
  obtain ⟨e0, e1, e2, e3⟩ := place5 t
  blk_ext [e0, e1, e2, e3]
theorem read6 (t : Fin cfg0.N) (X : Vec Ideal S4x4x1024x1408 .bf16) (p : Fin 1024) (q : Fin 1408) :
    ((cfg0.win 6).blk t).view.read (Elt Ideal) X (ix4 0 0 p q) = X (ix4 ⟨t.val % 2 + 2, by omega⟩ 0 p q) := by
  obtain ⟨e0, e1, e2, e3⟩ := place6 t
  blk_ext [e0, e1, e2, e3]
theorem read7 (t : Fin cfg0.N) (X : Vec Ideal S4x2816x1024 .bf16) (q : Fin 1408) (p : Fin 1024) :
    ((cfg0.win 7).blk t).view.read (Elt Ideal) X (ix3 0 q p) = X (ix3 0 (col t q) p) := by
  obtain ⟨e0, e1, e2⟩ := place7 t
  unfold col
  blk_ext [e0, e1, e2]

/-- The scales and the weights as the host lays them out. -/
def wide (g : FVec Ideal S1024 .f32) : FVec Ideal S1x1024 .f32 := broadcastInDim S1x1024 ![1] bcast_S1024_S1x1024_1 g
def tiles (w : FVec Ideal S4x1024x5632 .f32) : FVec Ideal S4x4x1024x1408 .bf16 :=
  truncf .bf16 (transpose S4x4x1024x1408 [2, 0, 1, 3] (shapeCast _ w shapeCasts_S4x1024x5632_S4x1024x4x1408 : FVec Ideal S4x1024x4x1408 .f32)
    transposes_S4x1024x4x1408_S4x4x1024x1408_2_0_1_3) bitsLt_bf16_f32
def down (d : FVec Ideal S4x2816x1024 .f32) : FVec Ideal S4x2816x1024 .bf16 := truncf .bf16 d bitsLt_bf16_f32

theorem wide_apply (g : FVec Ideal S1024 .f32) (p : Fin 1024) : wide g (ix2 0 p) = g (ix1 p) := by
  unfold wide
  pointwise
theorem tiles_apply (w : FVec Ideal S4x1024x5632 .f32) (k : Fin 4) (p : Fin 1024) (q : Fin 1408) :
    tiles w (ix4 k 0 p q) = w (ix3 0 p ⟨k.val * 1408 + q.val, by omega⟩) := by
  unfold tiles
  pointwise

section
variable (m : (ℓ : Loc nD τ sig) → Buf (Elt Ideal) ℓ) (c : Dev nD)

/-- The call's arguments, as arrays. -/
def X : FVec Ideal S16384x1024 .f32 := m ((c.tc : Thread nD τ).loc main_arg0)
def G : FVec Ideal S1024 .f32 := m ((c.tc : Thread nD τ).loc main_arg1)
def W : FVec Ideal S4x1024x5632 .f32 := m ((c.tc : Thread nD τ).loc main_arg2)
def D : FVec Ideal S4x2816x1024 .f32 := m ((c.tc : Thread nD τ).loc main_arg3)
def Y : FVec Ideal S16384x1024 .f32 := m ((c.tc : Thread nD τ).loc main_arg4)

theorem V_v20 : V m c main_v20 = wide (G m c) := by
  simp only [V, hostOps0]
  after_reads_simp
  rfl
theorem V_v23 : V m c main_v23 = tiles (W m c) := by
  simp only [V, hostOps0]
  after_reads_simp
  rfl
theorem V_v24 : V m c main_v24 = down (D m c) := by
  simp only [V, hostOps0]
  after_reads_simp
  rfl
theorem V_v17 : V m c main_v17 = gateArr (X m c) (G m c) (W m c) := by
  rw [← Cert.FeedReferenceIdeal.Att.gate_result]
  simp only [V, hostOps0]
  after_reads_simp
  rfl
theorem V_v19 : V m c main_v19 = upArr (X m c) (G m c) (W m c) := by
  rw [← Cert.FeedReferenceIdeal.Att.up_result]
  simp only [V, hostOps0]
  after_reads_simp
  rfl

/-- The point's blocks, as arrays, and their entries. -/
def block0 (t : Fin cfg0.N) : Vec Ideal S512x1024 .f32 := iblk m c 0 t
def block1 (t : Fin cfg0.N) : Vec Ideal S512x1024 .f32 := iblk m c 1 t
def block2 (t : Fin cfg0.N) : Vec Ideal S1x1024 .f32 := iblk m c 2 t
def block3 (t : Fin cfg0.N) : Vec Ideal S512x1408 .bf16 := iblk m c 3 t
def block4 (t : Fin cfg0.N) : Vec Ideal S512x1408 .bf16 := iblk m c 4 t
def block5 (t : Fin cfg0.N) : Vec Ideal S1x1x1024x1408 .bf16 := iblk m c 5 t
def block6 (t : Fin cfg0.N) : Vec Ideal S1x1x1024x1408 .bf16 := iblk m c 6 t
def block7 (t : Fin cfg0.N) : Vec Ideal S1x1408x1024 .bf16 := iblk m c 7 t

theorem block0_apply (t : Fin cfg0.N) (k : Fin 512) (p : Fin 1024) : block0 m c t (ix2 k p) = X m c (ix2 (row t k) p) :=
  (read0 t (V m c main_arg0) k p).trans (congrFun (V_main_arg0 m c) _)
theorem block1_apply (t : Fin cfg0.N) (k : Fin 512) (p : Fin 1024) : block1 m c t (ix2 k p) = Y m c (ix2 (row t k) p) :=
  (read1 t (V m c main_arg4) k p).trans (congrFun (V_main_arg4 m c) _)
theorem block2_apply (t : Fin cfg0.N) (p : Fin 1024) : block2 m c t (ix2 0 p) = G m c (ix1 p) :=
  (read2 t (V m c main_v20) p).trans ((congrFun (V_v20 m c) _).trans (wide_apply _ p))
theorem block3_apply (t : Fin cfg0.N) (k : Fin 512) (q : Fin 1408) :
    block3 m c t (ix2 k q) = gate (X m c) (G m c) (W m c) (row t k) (col t q) :=
  (read3 t (V m c main_v17) k q).trans (congrFun (V_v17 m c) _)
theorem block4_apply (t : Fin cfg0.N) (k : Fin 512) (q : Fin 1408) :
    block4 m c t (ix2 k q) = up (X m c) (G m c) (W m c) (row t k) (col t q) :=
  (read4 t (V m c main_v19) k q).trans (congrFun (V_v19 m c) _)
theorem block5_apply (t : Fin cfg0.N) (p : Fin 1024) (q : Fin 1408) :
    block5 m c t (ix4 0 0 p q) = W m c (ix3 0 p ⟨(col t q).val, by omega⟩) :=
  (read5 t (V m c main_v23) p q).trans ((congrFun (V_v23 m c) _).trans (tiles_apply _ ⟨t.val % 2, by omega⟩ p q))
theorem block6_apply (t : Fin cfg0.N) (p : Fin 1024) (q : Fin 1408) :
    block6 m c t (ix4 0 0 p q) = W m c (ix3 0 p ⟨(col t q).val + 2816, by omega⟩) :=
  (read6 t (V m c main_v23) p q).trans ((congrFun (V_v23 m c) _).trans ((tiles_apply _ ⟨t.val % 2 + 2, by omega⟩ p q).trans (congrArg (fun j => W m c (ix3 0 p j)) (Fin.ext (by
    show (t.val % 2 + 2) * 1408 + q.val = t.val % 2 * 1408 + q.val + 2816
    omega)))))
theorem block7_apply (t : Fin cfg0.N) (q : Fin 1408) (p : Fin 1024) : block7 m c t (ix3 0 q p) = D m c (ix3 0 (col t q) p) :=
  (read7 t (V m c main_v24) q p).trans (congrFun (V_v24 m c) _)

theorem row_prev (t : Fin cfg0.N) (h1 : t.val % 2 = 1) (k : Fin 512) : row (prev t) k = row t k := by
  refine Fin.ext ?_
  show (t.val - 1) / 2 * 512 + k.val = t.val / 2 * 512 + k.val
  omega
theorem row_first (t : Fin cfg0.N) (k : Fin 512) : row (first t) k = row t k := by
  rcases Nat.mod_two_eq_zero_or_one t.val with h0 | h1
  · rw [first_even t h0]
  · rw [first_odd t h1, row_prev t h1]

/-! ## What the points leave -/

/-- Half of the result's gradient, -/
theorem dyh_apply (t : Fin cfg0.N) (k : Fin 512) (p : Fin 1024) :
    dyhPt m c t (ix2 k p) = Ideal.ofBits .f32 0x3F000000#32 * Y m c (ix2 (row t k) p) := by
  unfold dyhPt
  rw [pay10_apply]
  refine congrArg _ ((block1_apply m c (first t) k p).trans ?_)
  rw [row_first]

/-- a half's sum for the normalised rows' gradient, -/
theorem dhPt_apply (t : Fin cfg0.N) (z : Vec Ideal S512x1024 .f32) (k : Fin 512) (p : Fin 1024) :
    dhPt m c t z (ix2 k p) = z (ix2 k p)
      + (∑ q : Fin 1408, dg (X m c) (G m c) (W m c) (D m c) (Y m c) (row t k) (col t q) * W m c (ix3 0 p ⟨(col t q).val, by omega⟩)
        + ∑ q : Fin 1408, du (X m c) (G m c) (W m c) (D m c) (Y m c) (row t k) (col t q) * W m c (ix3 0 p ⟨(col t q).val + 2816, by omega⟩)) := by
  refine (dhOf_apply (block3 m c t) (block4 m c t) (dyhPt m c t) (block7 m c t) (block5 m c t) (block6 m c t) z k p).trans ?_
  simp only [block3_apply, block4_apply, block5_apply, block6_apply, block7_apply, dyh_apply]
  rfl

/-- all of it, at an odd point, -/
theorem scr_apply (t : Fin cfg0.N) (h1 : t.val % 2 = 1) (k : Fin 512) (p : Fin 1024) :
    scrPt m c t (ix2 k p) = dh (X m c) (G m c) (W m c) (D m c) (Y m c) (row t k) p := by
  have e0 : ∀ q : Fin 1408, col (prev t) q = ⟨q.val, by omega⟩ := fun q => Fin.ext (by
    show (t.val - 1) % 2 * 1408 + q.val = q.val
    omega)
  have e1 : ∀ q : Fin 1408, col t q = ⟨1408 + q.val, by omega⟩ := fun q => Fin.ext (by
    show t.val % 2 * 1408 + q.val = 1408 + q.val
    omega)
  rw [scr_odd m c t h1, scr_even m c (prev t) (by show (t.val - 1) % 2 = 0; omega), dhPt_apply, dhPt_apply, pay11_apply, zero_add, row_prev t h1]
  unfold dh
  rw [sum_halves, sum_halves, add_add_add_comm]
  simp only [e0, e1]

/-- and the rows' gradient. -/
theorem dxPt_apply (t : Fin cfg0.N) (h1 : t.val % 2 = 1) (k : Fin 512) (p : Fin 1024) :
    dxPt m c t (ix2 k p) = dx (X m c) (G m c) (W m c) (D m c) (Y m c) (row t k) p := by
  refine (pay7_apply (block0 m c t) (scrPt m c t) (block2 m c t) (block1 m c t) k p).trans ?_
  simp only [pay6_apply, pay5_apply, block0_apply, block1_apply, block2_apply, scr_apply m c t h1]
  rfl

/-- The rows' gradient as an array. -/
def dxArr (x : FVec Ideal S16384x1024 .f32) (g : FVec Ideal S1024 .f32) (w : FVec Ideal S4x1024x5632 .f32) (d : FVec Ideal S4x2816x1024 .f32)
    (y : FVec Ideal S16384x1024 .f32) : FVec Ideal S16384x1024 .f32 :=
  fun i => dx x g w d y ⟨(i 0).val, (i 0).isLt⟩ ⟨(i 1).val, (i 1).isLt⟩

theorem dx_out : (dats m 0 c).arrAt 8 cfg0.N = dxArr (X m c) (G m c) (W m c) (D m c) (Y m c) := by
  unfold dxArr
  refine (dats m 0 c).arrAt_eq_of_covers 8 _ (by decide +kernel) fun t hf y => ?_
  obtain ⟨e0, e1⟩ := place8 t
  have h1 := (flush0_8 t).mp hf
  idx_bounds y
  blk_simp [e0, e1]
  rw [after0_8]
  obtain ⟨k, p, rfl⟩ : ∃ (k : Fin 512) (p : Fin 1024), y = ix2 k p := ⟨⟨(y 0).val, (y 0).isLt⟩, ⟨(y 1).val, (y 1).isLt⟩, by funext a; fin_cases a <;> rfl⟩
  refine (dxPt_apply m c t h1 k p).trans ?_
  exact congrArg₂ (dx (X m c) (G m c) (W m c) (D m c) (Y m c)) (Fin.ext rfl) (Fin.ext rfl)

end

end Cert.FeedGradIdeal.Back

end
-- ==== Proof.FeedGradRefValue.lean ====
/- The reference's value: the feed-forward layer's gradient by its input. -/
module

public import proofs.«01_k».proof.Proof.FeedGradReals
public import proofs.«01_k».proof.Proof.Gen.FeedGradReferenceIdeal.Run
public import Idealize.ShloMosaic.Lib.Quiescent
public import Idealize.ShloMosaic.Lib.Pointwise

@[expose] public section

noncomputable section

namespace Cert.FeedGradReferenceIdeal.Att

open Cert.FeedGradReferenceIdeal.Gen
open Idealize.ShloMosaic Idealize.ShloMosaic.TcCoe Idealize.ShloMosaic.Tactic
open Idealize.SL.Sem
open scoped BigOperators
open Cert.FeedIdeal.Att (normal pre)
open Cert.LayerGrad

/-- The mean squares, their roots' inverses, and the normalised rows; -/
def rSquare (x : FVec Ideal S16384x1024 .f32) : FVec Ideal S16384x1 .f32 :=
  addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))
def rScale (x : FVec Ideal S16384x1024 .f32) : FVec Ideal S16384x1 .f32 := Host.rsqrt (rSquare x)
def rAll (s : FVec Ideal S16384x1 .f32) : FVec Ideal S16384x1024 .f32 := broadcastInDim S16384x1024 ![0, 1] bcast_S16384x1_S16384x1024_0_1 s
def rGains (g : FVec Ideal S1024 .f32) : FVec Ideal S16384x1024 .f32 :=
  broadcastInDim S16384x1024 ![0, 1] bcast_S1x1024_S16384x1024_0_1 (broadcastInDim S1x1024 ![1] bcast_S1024_S1x1024_1 g)
def rNorm (x : FVec Ideal S16384x1024 .f32) (g : FVec Ideal S1024 .f32) : FVec Ideal S16384x1024 .f32 := mulf (mulf x (rAll (rScale x))) (rGains g)

/-- the layer's weights; -/
def rWide (w : FVec Ideal S4x1024x5632 .f32) : FVec Ideal S1024x5632 .f32 :=
  shapeCast _ (extractStridedSlice S1x1024x5632 ![0, 0, 0] w slices_S4x1024x5632_S1x1024x5632_0_0_0) shapeCasts_S1x1024x5632_S1024x5632
def rDown (d : FVec Ideal S4x2816x1024 .f32) : FVec Ideal S2816x1024 .f32 :=
  shapeCast _ (extractStridedSlice S1x2816x1024 ![0, 0, 0] d slices_S4x2816x1024_S1x2816x1024_0_0_0) shapeCasts_S1x2816x1024_S2816x1024

/-- the products with them, the gate's logistic and the activations' gradient; -/
def rPre (h : FVec Ideal S16384x1024 .f32) (w : FVec Ideal S1024x5632 .f32) : FVec Ideal S16384x5632 .f32 :=
  Host.dotGeneral dot_S16384x1024_S1024x5632_S16384x5632_1_0_0_1_n_n none h w
def rGate (z : FVec Ideal S16384x5632 .f32) : FVec Ideal S16384x2816 .f32 := extractStridedSlice S16384x2816 ![0, 0] z slices_S16384x5632_S16384x2816_0_0
def rUp (z : FVec Ideal S16384x5632 .f32) : FVec Ideal S16384x2816 .f32 := extractStridedSlice S16384x2816 ![0, 2816] z slices_S16384x5632_S16384x2816_0_2816
def rOnes : FVec Ideal S16384x2816 .f32 := broadcastInDim S16384x2816 ![] bcast_S_S16384x2816 (constant S_ .f32 0x3F800000#32)
def rSig (a : FVec Ideal S16384x2816 .f32) : FVec Ideal S16384x2816 .f32 := Host.divf rOnes (addf rOnes (Host.exp (Host.negf a)))
def rDa (y : FVec Ideal S16384x1024 .f32) (d : FVec Ideal S2816x1024 .f32) : FVec Ideal S16384x2816 .f32 :=
  Host.dotGeneral dot_S16384x1024_S2816x1024_S16384x2816_1_1_0_0_n_n none
    (mulf (broadcastInDim S16384x1024 ![] bcast_S_S16384x1024 (constant S_ .f32 0x3F000000#32)) (shapeCast _ y shapeCasts_S16384x1024_S16384x1024)) d

/-- the up's gradient, the gate's, and the two side by side; -/
def rDu (a s e : FVec Ideal S16384x2816 .f32) : FVec Ideal S16384x2816 .f32 := mulf (mulf a s) e
def rDg (a u s e : FVec Ideal S16384x2816 .f32) : FVec Ideal S16384x2816 .f32 :=
  addf (mulf (mulf e u) s) (mulf (mulf a (mulf e u)) (mulf s (subf rOnes s)))
def rDgu (dg du : FVec Ideal S16384x2816 .f32) : FVec Ideal S16384x5632 .f32 :=
  addf (pad S16384x5632 ![0, 2816] ![0, 0] ![0, 0] du (constant S_ .f32 0x00000000#32) pads_S16384x2816_S16384x5632_000_281600 h_S_)
    (pad S16384x5632 ![0, 0] ![0, 2816] ![0, 0] dg (constant S_ .f32 0x00000000#32) pads_S16384x2816_S16384x5632_000_028160 h_S_)

/-- and the normalised rows' gradient by the scales, the mean squares' and the rows'. -/
def rDn (z : FVec Ideal S16384x5632 .f32) (w : FVec Ideal S1024x5632 .f32) (g : FVec Ideal S1024 .f32) : FVec Ideal S16384x1024 .f32 :=
  mulf (Host.dotGeneral dot_S16384x5632_S1024x5632_S16384x1024_1_1_0_0_n_n none z w) (rGains g)
def rDsq (x n : FVec Ideal S16384x1024 .f32) : FVec Ideal S16384x1024 .f32 :=
  broadcastInDim S16384x1024 ![0] bcast_S16384_S16384x1024_0 (Host.reduceAdd (Host.divf (mulf (shapeCast _ (Host.reduceAdd (mulf x n) (constant S_ .f32 0x00000000#32) reducesTo_S16384x1024_S16384_d1 h_S_) shapeCasts_S16384_S16384x1) (mulf (broadcastInDim S16384x1 ![] bcast_S_S16384x1 (constant S_ .f32 0xBF000000#32)) (Host.divf (rScale x) (rSquare x)))) (broadcastInDim S16384x1 ![] bcast_S_S16384x1 (constant S_ .f32 0x44800000#32))) (constant S_ .f32 0x00000000#32) reducesTo_S16384x1_S16384_d1 h_S_)
def rDx (x n y : FVec Ideal S16384x1024 .f32) : FVec Ideal S16384x1024 .f32 :=
  addf (addf (addf y (mulf n (rAll (rScale x)))) (mulf x (rDsq x n))) (mulf (rDsq x n) x)

theorem rSquare_apply (x : FVec Ideal S16384x1024 .f32) (r : Fin 16384) : rSquare x (ix2 r 0) = square x r := by
  unfold rSquare square
  pointwise
  rw [Cert.FeedIdeal.Att.ofBits_1024, Ideal.div_coe (by norm_num)]
theorem rScale_apply (x : FVec Ideal S16384x1024 .f32) (r : Fin 16384) : rScale x (ix2 r 0) = scale x r :=
  congrArg Ideal.rsqrt (rSquare_apply x r)
theorem rAll_apply (s : FVec Ideal S16384x1 .f32) (r : Fin 16384) (p : Fin 1024) : rAll s (ix2 r p) = s (ix2 r 0) := by
  unfold rAll
  pointwise
theorem rGains_apply (g : FVec Ideal S1024 .f32) (r : Fin 16384) (p : Fin 1024) : rGains g (ix2 r p) = g (ix1 p) := by
  unfold rGains
  pointwise
theorem rNorm_apply (x : FVec Ideal S16384x1024 .f32) (g : FVec Ideal S1024 .f32) (r : Fin 16384) (p : Fin 1024) :
    rNorm x g (ix2 r p) = normal x g r p := by
  show x (ix2 r p) * rAll (rScale x) (ix2 r p) * rGains g (ix2 r p) = _
  rw [rAll_apply, rGains_apply, rScale_apply]
  rfl
theorem rWide_apply (w : FVec Ideal S4x1024x5632 .f32) (p : Fin 1024) (j : Fin 5632) : rWide w (ix2 p j) = w (ix3 0 p j) := by
  unfold rWide
  pointwise
theorem rDown_apply (d : FVec Ideal S4x2816x1024 .f32) (j : Fin 2816) (p : Fin 1024) : rDown d (ix2 j p) = d (ix3 0 j p) := by
  unfold rDown
  pointwise
theorem rPre_apply (h : FVec Ideal S16384x1024 .f32) (w : FVec Ideal S1024x5632 .f32) (r : Fin 16384) (j : Fin 5632) :
    rPre h w (ix2 r j) = ∑ p : Fin 1024, h (ix2 r p) * w (ix2 p j) := by
  unfold rPre
  pointwise
theorem rGate_apply (z : FVec Ideal S16384x5632 .f32) (r : Fin 16384) (j : Fin 2816) : rGate z (ix2 r j) = z (ix2 r ⟨j.val, by omega⟩) := by
  unfold rGate
  pointwise
theorem rUp_apply (z : FVec Ideal S16384x5632 .f32) (r : Fin 16384) (j : Fin 2816) : rUp z (ix2 r j) = z (ix2 r ⟨j.val + 2816, by omega⟩) := by
  unfold rUp
  pointwise
  exact congrArg (fun j => z (ix2 r j)) (Fin.ext (Nat.add_comm _ _))
theorem rSig_apply (a : FVec Ideal S16384x2816 .f32) (r : Fin 16384) (j : Fin 2816) : rSig a (ix2 r j) = Ideal.logistic (a (ix2 r j)) := by
  unfold rSig rOnes Ideal.logistic
  pointwise
theorem rDa_apply (y : FVec Ideal S16384x1024 .f32) (d : FVec Ideal S2816x1024 .f32) (r : Fin 16384) (j : Fin 2816) :
    rDa y d (ix2 r j) = ∑ p : Fin 1024, Ideal.ofBits .f32 0x3F000000#32 * y (ix2 r p) * d (ix2 j p) := by
  unfold rDa
  pointwise
theorem rDu_apply (a s e : FVec Ideal S16384x2816 .f32) (r : Fin 16384) (j : Fin 2816) :
    rDu a s e (ix2 r j) = a (ix2 r j) * s (ix2 r j) * e (ix2 r j) := rfl
theorem rDg_apply (a u s e : FVec Ideal S16384x2816 .f32) (r : Fin 16384) (j : Fin 2816) :
    rDg a u s e (ix2 r j) = e (ix2 r j) * u (ix2 r j) * s (ix2 r j) + a (ix2 r j) * (e (ix2 r j) * u (ix2 r j)) * (s (ix2 r j) * (1 - s (ix2 r j))) := by
  unfold rDg rOnes
  pointwise
theorem rDgu_apply (dg du : FVec Ideal S16384x2816 .f32) (r : Fin 16384) (j : Fin 5632) :
    rDgu dg du (ix2 r j) = if h : j.val < 2816 then dg (ix2 r ⟨j.val, h⟩) else du (ix2 r ⟨j.val - 2816, by omega⟩) := by
  unfold rDgu
  pointwise
  by_cases h : j.val < 2816
  · rw [dif_neg (by omega), dif_pos h, dif_pos h, zero_add]
  · rw [dif_pos (by omega), dif_neg h, dif_neg h, add_zero]
theorem rDn_apply (z : FVec Ideal S16384x5632 .f32) (w : FVec Ideal S1024x5632 .f32) (g : FVec Ideal S1024 .f32) (r : Fin 16384) (p : Fin 1024) :
    rDn z w g (ix2 r p) = (∑ j : Fin 5632, z (ix2 r j) * w (ix2 p j)) * g (ix1 p) := by
  unfold rDn rGains
  pointwise
theorem rDsq_apply (x n : FVec Ideal S16384x1024 .f32) (r : Fin 16384) (p : Fin 1024) :
    rDsq x n (ix2 r p) = (∑ k, x (ix2 r k) * n (ix2 r k)) * (Ideal.ofBits .f32 0xBF000000#32 * Ideal.div (scale x r) (square x r)) * ((1 / 1024 : ℝ) : EReal) := by
  rw [← rScale_apply, ← rSquare_apply]
  unfold rDsq
  pointwise
  rw [Fin.sum_univ_one, Cert.FeedIdeal.Att.ofBits_1024, Ideal.div_coe (by norm_num)]
theorem rDx_apply (x n y : FVec Ideal S16384x1024 .f32) (r : Fin 16384) (p : Fin 1024) :
    rDx x n y (ix2 r p) = y (ix2 r p) + n (ix2 r p) * scale x r + x (ix2 r p) * rDsq x n (ix2 r p) + rDsq x n (ix2 r p) * x (ix2 r p) := by
  show y (ix2 r p) + n (ix2 r p) * rAll (rScale x) (ix2 r p) + _ + _ = _
  rw [rAll_apply, rScale_apply]
  rfl

section
variable (x : FVec Ideal S16384x1024 .f32) (g : FVec Ideal S1024 .f32) (w : FVec Ideal S4x1024x5632 .f32) (d : FVec Ideal S4x2816x1024 .f32)
  (y : FVec Ideal S16384x1024 .f32)

/-- The stages, from the arguments. -/
def zPre : FVec Ideal S16384x5632 .f32 := rPre (rNorm x g) (rWide w)
def zDgu : FVec Ideal S16384x5632 .f32 :=
  rDgu (rDg (rGate (zPre x g w)) (rUp (zPre x g w)) (rSig (rGate (zPre x g w))) (rDa y (rDown d)))
    (rDu (rGate (zPre x g w)) (rSig (rGate (zPre x g w))) (rDa y (rDown d)))
def zDn : FVec Ideal S16384x1024 .f32 := rDn (zDgu x g w d y) (rWide w) g

theorem zPre_apply (r : Fin 16384) (j : Fin 5632) : zPre x g w (ix2 r j) = pre x g w r j := by
  unfold zPre
  rw [rPre_apply]
  simp only [rNorm_apply, rWide_apply]
  rfl
theorem zDa_apply (r : Fin 16384) (j : Fin 2816) : rDa y (rDown d) (ix2 r j) = da d y r j := by
  rw [rDa_apply]
  simp only [rDown_apply]
  rfl
theorem zDgu_apply (r : Fin 16384) (j : Fin 5632) : zDgu x g w d y (ix2 r j) = dgu x g w d y r j := by
  unfold zDgu
  rw [rDgu_apply]
  simp only [rDg_apply, rDu_apply, rSig_apply, rGate_apply, rUp_apply, zPre_apply, zDa_apply]
  rfl
theorem zDn_apply (r : Fin 16384) (p : Fin 1024) : zDn x g w d y (ix2 r p) = dhBy x g w d y r p * g (ix1 p) := by
  unfold zDn
  rw [rDn_apply]
  simp only [zDgu_apply, rWide_apply]
  rfl

/-- The rows' gradient, entry by entry. -/
theorem grad_apply (r : Fin 16384) (p : Fin 1024) : rDx x (zDn x g w d y) y (ix2 r p) = dxBy x g w d y r p := by
  rw [rDx_apply, rDsq_apply]
  simp only [zDn_apply]
  rfl

end

/-- The reference's result is these stages'. -/
theorem result (m : (ℓ : Loc nD τ sig) → Buf (Elt Ideal) ℓ) (c : Dev nD) :
    Cert.FeedGradReferenceIdeal.Value.res_out0 m c
      = rDx (m ((c.tc : Thread nD τ).loc main_arg0)) (zDn (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)))
          (m ((c.tc : Thread nD τ).loc main_arg4)) := rfl

end Cert.FeedGradReferenceIdeal.Att

end
-- ==== Proof.FeedGradClaim.lean ====
/- The feed-forward gradient's claims: the call's runs, and the rows' gradient that it leaves is the reference's. -/
module

public import proofs.«01_k».proof.Defs
public import proofs.«01_k».proof.Proof.FeedGradValue
public import proofs.«01_k».proof.Proof.FeedGradRefValue
public import proofs.«01_k».proof.Proof.Finite
public import proofs.«01_k».proof.Proof.Gen.FeedGrad
public import Idealize.ShloMosaic.Lib.Quiescent

@[expose] public section

noncomputable section

namespace Cert.Proof.LayerBack

open Idealize.ShloMosaic Idealize.SL.Sem Idealize.ShloMosaic.Tactic
open Cert.LayerGrad (Rl)

/-- The precondition's side conditions. -/
theorem finite_facts : Cert.Pre_finite_layer.Facts :=
  ⟨by decide, by decide, by decide, by decide, by decide, by decide, by decide, by decide⟩

section
set_option maxHeartbeats 8000000

/-- The programs over the machine's numbers and over the ideal ones have the same text: the bodies, -/
theorem bodies_eq : Cert.FeedGrad.defs₀ (F := Bits) = Cert.FeedGradIdeal.defs₀ (F := Bits) := by
  refine congrArg Defs.onTc ?_
  funext l x
  match l, x with
  | 0, (t, s) => rfl

/-- the table of bodies, -/
theorem defs_eq : Cert.FeedGrad.defs (F := Bits) = Cert.FeedGradIdeal.defs (F := Bits) := congrArg (Pipeline.defs Cert.FeedGrad.pcfgs) bodies_eq

/-- and the host code. -/
theorem main_eq : Cert.FeedGrad.main (F := Bits) = Cert.FeedGradIdeal.main (F := Bits) := by
  funext c
  rfl

end

/-- The call at the machine's numbers leaves its arguments alone, and every semaphore at zero. -/
theorem frame_kernel (m : (ℓ : Loc Cert.FeedGrad.nD Cert.FeedGrad.τ Cert.FeedGrad.sig) → Buf (Elt Bits) ℓ) (ρ : Dev Cert.FeedGrad.nD → PrngReg) :
    θ_run (Cert.FeedGrad.defs (F := Bits)) (onTc (τ := Cert.FeedGrad.τ) (Cert.FeedGrad.main (F := Bits)))
      ⟨m, fun _ => 0, ρ⟩ (fun r => (∀ c : Dev Cert.FeedGrad.nD,
       r.2.mem ((c.tc : Thread Cert.FeedGrad.nD Cert.FeedGrad.τ).loc Cert.FeedGrad.main_arg0) = m ((c.tc : Thread Cert.FeedGrad.nD Cert.FeedGrad.τ).loc Cert.FeedGrad.main_arg0)
      ∧ r.2.mem ((c.tc : Thread Cert.FeedGrad.nD Cert.FeedGrad.τ).loc Cert.FeedGrad.main_arg1) = m ((c.tc : Thread Cert.FeedGrad.nD Cert.FeedGrad.τ).loc Cert.FeedGrad.main_arg1)
      ∧ r.2.mem ((c.tc : Thread Cert.FeedGrad.nD Cert.FeedGrad.τ).loc Cert.FeedGrad.main_arg2) = m ((c.tc : Thread Cert.FeedGrad.nD Cert.FeedGrad.τ).loc Cert.FeedGrad.main_arg2)
      ∧ r.2.mem ((c.tc : Thread Cert.FeedGrad.nD Cert.FeedGrad.τ).loc Cert.FeedGrad.main_arg3) = m ((c.tc : Thread Cert.FeedGrad.nD Cert.FeedGrad.τ).loc Cert.FeedGrad.main_arg3)
      ∧ r.2.mem ((c.tc : Thread Cert.FeedGrad.nD Cert.FeedGrad.τ).loc Cert.FeedGrad.main_arg4) = m ((c.tc : Thread Cert.FeedGrad.nD Cert.FeedGrad.τ).loc Cert.FeedGrad.main_arg4))
      ∧ r.2.sem = fun _ => 0) :=
  (congrArg (fun d => θ_run d (onTc (τ := Cert.FeedGrad.τ) (Cert.FeedGrad.main (F := Bits))) ⟨m, fun _ => 0, ρ⟩ _) defs_eq).mpr
    ((congrArg (fun p => θ_run (Cert.FeedGradIdeal.defs (F := Bits)) (onTc (τ := Cert.FeedGrad.τ) p) ⟨m, fun _ => 0, ρ⟩ _) main_eq).mpr
      (Cert.FeedGradIdeal.Back.frame (F := Bits) m ρ))

/-- The reference leaves its arguments alone, and it has no semaphores. -/
theorem frame_reference (m : (ℓ : Loc Cert.FeedGradReferenceIdeal.nD Cert.FeedGradReferenceIdeal.τ Cert.FeedGradReferenceIdeal.sig) → Buf (Elt Ideal) ℓ)
    (ρ : Dev Cert.FeedGradReferenceIdeal.nD → PrngReg) :
    θ_run (Cert.FeedGradReferenceIdeal.defs (F := Ideal)) (onTc (τ := Cert.FeedGradReferenceIdeal.τ) (Cert.FeedGradReferenceIdeal.main (F := Ideal)))
      ⟨m, fun _ => 0, ρ⟩ (fun r => (∀ c : Dev Cert.FeedGradReferenceIdeal.nD,
       r.2.mem ((c.tc : Thread Cert.FeedGradReferenceIdeal.nD Cert.FeedGradReferenceIdeal.τ).loc Cert.FeedGradReferenceIdeal.main_arg0)
        = m ((c.tc : Thread Cert.FeedGradReferenceIdeal.nD Cert.FeedGradReferenceIdeal.τ).loc Cert.FeedGradReferenceIdeal.main_arg0)
      ∧ r.2.mem ((c.tc : Thread Cert.FeedGradReferenceIdeal.nD Cert.FeedGradReferenceIdeal.τ).loc Cert.FeedGradReferenceIdeal.main_arg1)
        = m ((c.tc : Thread Cert.FeedGradReferenceIdeal.nD Cert.FeedGradReferenceIdeal.τ).loc Cert.FeedGradReferenceIdeal.main_arg1)
      ∧ r.2.mem ((c.tc : Thread Cert.FeedGradReferenceIdeal.nD Cert.FeedGradReferenceIdeal.τ).loc Cert.FeedGradReferenceIdeal.main_arg2)
        = m ((c.tc : Thread Cert.FeedGradReferenceIdeal.nD Cert.FeedGradReferenceIdeal.τ).loc Cert.FeedGradReferenceIdeal.main_arg2)
      ∧ r.2.mem ((c.tc : Thread Cert.FeedGradReferenceIdeal.nD Cert.FeedGradReferenceIdeal.τ).loc Cert.FeedGradReferenceIdeal.main_arg3)
        = m ((c.tc : Thread Cert.FeedGradReferenceIdeal.nD Cert.FeedGradReferenceIdeal.τ).loc Cert.FeedGradReferenceIdeal.main_arg3)
      ∧ r.2.mem ((c.tc : Thread Cert.FeedGradReferenceIdeal.nD Cert.FeedGradReferenceIdeal.τ).loc Cert.FeedGradReferenceIdeal.main_arg4)
        = m ((c.tc : Thread Cert.FeedGradReferenceIdeal.nD Cert.FeedGradReferenceIdeal.τ).loc Cert.FeedGradReferenceIdeal.main_arg4))
      ∧ r.2.sem = fun _ => 0) :=
  (θ_run Cert.FeedGradReferenceIdeal.defs _ _).mono (fun r h => ⟨fun c => (h c).2, Idealize.ShloMosaic.sem_eq_zero_of_no_sems (by decide) r.2⟩)
    (Cert.FeedGradReferenceIdeal.Value.run (F := Ideal) m ρ)

section
open Cert.FeedGradIdeal.Back (X G W D Y)
variable (m : (ℓ : Loc Cert.FeedGradIdeal.nD Cert.FeedGradIdeal.τ Cert.FeedGradIdeal.sig) → Buf (Elt Ideal) ℓ) (c : Dev Cert.FeedGradIdeal.nD)
  (hp : Cert.Pre_FeedGradIdeal_finite_layer (hPre_finite_layer := finite_facts) m)
include hp

/-- The precondition, read: the scales, the layer's weights and the result's gradient are real numbers. -/
theorem real_scales (p : Fin 1024) : Rl (G m c (ix1 p)) := ⟨_, (Cert.Pre_finite.Att.real_entry _ _ (hp c).1 (ix1 p)).symm⟩
theorem real_wide (p : Fin 1024) (j : Fin 5632) : Rl (W m c (ix3 0 p j)) := by
  have h := (Cert.Pre_finite.Att.real_entry _ _ (hp c).2.1 (ix2 p j)).symm
  have e := Cert.FeedGradReferenceIdeal.Att.rWide_apply (W m c) p j
  exact ⟨_, e.symm.trans h⟩
theorem real_down (j : Fin 2816) (p : Fin 1024) : Rl (D m c (ix3 0 j p)) := by
  have h := (Cert.Pre_finite.Att.real_entry _ _ (hp c).2.2.1 (ix2 j p)).symm
  have e := Cert.FeedGradReferenceIdeal.Att.rDown_apply (D m c) j p
  exact ⟨_, e.symm.trans h⟩
theorem real_grad (r : Fin 16384) (p : Fin 1024) : Rl (Y m c (ix2 r p)) := ⟨_, (Cert.Pre_finite.Att.real_entry _ _ (hp c).2.2.2 (ix2 r p)).symm⟩

/-- The reference's rows' gradient is the call's. -/
theorem same : Cert.FeedGradReferenceIdeal.Att.rDx (X m c) (Cert.FeedGradReferenceIdeal.Att.zDn (X m c) (G m c) (W m c) (D m c) (Y m c)) (Y m c)
    = (Cert.FeedGradIdeal.Back.dats m 0 c).arrAt 8 Cert.FeedGradIdeal.cfg0.N := by
  rw [Cert.FeedGradIdeal.Back.dx_out]
  funext i
  obtain ⟨r, p, rfl⟩ : ∃ (r : Fin 16384) (p : Fin 1024), i = ix2 r p :=
    ⟨⟨(i 0).val, (i 0).isLt⟩, ⟨(i 1).val, (i 1).isLt⟩, by funext a; fin_cases a <;> rfl⟩
  rw [Cert.FeedGradReferenceIdeal.Att.grad_apply]
  exact Cert.LayerGrad.dx_eq _ _ _ _ _ (real_scales m c hp) (real_wide m c hp) (real_down m c hp) (real_grad m c hp) r p

end

/-- The call's rows' gradient is the reference's. -/
theorem algebraic : Cert.algebraic_FeedGradIdeal_FeedGradReferenceIdeal_pre_finite_layer (hFeedGradIdeal := Cert.FeedGradIdeal.Gen.facts)
    (hFeedGradReferenceIdeal := Cert.FeedGradReferenceIdeal.Gen.facts) (hPre_finite_layer := finite_facts) := by
  intro m g m' g' hp hargs
  refine ⟨fun c => (Cert.FeedGradIdeal.Back.dats m 0 c).arrAt 8 Cert.FeedGradIdeal.cfg0.N, ?_, ?_⟩
  · exact (θ_run Cert.FeedGradIdeal.defs _ _).mono (fun r h c => ⟨h.1 c, h.2 c⟩)
      (θ_run_and (Cert.FeedGradIdeal.Back.run_block m g) (Cert.FeedGradIdeal.Back.unchanged m g))
  · refine (θ_run Cert.FeedGradReferenceIdeal.defs _ _).mono (fun r h c => ⟨(h c).1.trans ?_, (h c).2⟩)
      (Cert.FeedGradReferenceIdeal.Value.run (F := Ideal) m' g')
    obtain ⟨e0, e1, e2, e3, e4⟩ := hargs c
    refine (Cert.FeedGradReferenceIdeal.Att.result m' c).trans ?_
    rw [e0, e1, e2, e3, e4]
    exact same m c hp

end Cert.Proof.LayerBack

end
-- ==== Proof.UpGrad.lean ====
/- The gradient of the up weights: the call's output is the reference's. -/
module

public import proofs.«01_k».proof.Defs
public import proofs.«01_k».proof.Proof.Gen.UpGradIdeal.Value
public import proofs.«01_k».proof.Proof.Gen.UpGrad.Frame
public import proofs.«01_k».proof.Proof.Gen.UpGradReferenceIdeal.Run
public import Idealize.ShloMosaic.Lib.Quiescent
public import Idealize.ShloMosaic.Lib.Pointwise
public import Idealize.ShloMosaic.Lib.StableHlo.RunRead
public import Idealize.ShloMosaic.Lib.Pipeline.ValueKit
public import Idealize.ShloMosaic.Lib.Pipeline.ValueKit.Partial

@[expose] public section

noncomputable section

namespace Cert.UpGradIdeal.Att

open Cert.UpGradIdeal.Gen
open Idealize.ShloMosaic Idealize.ShloMosaic.TcCoe Idealize.ShloMosaic.Tactic
open Idealize.SL.Sem
open scoped BigOperators

section
variable {F : FTy → Type} [FloatOps F]

/-- What the first block of rows leaves in the accumulator, -/
theorem scratch_A (c : Dev nD) (i : grid0.Coords) (arg2 : Memref sig .tc .vmem S2048x1024 .bf16) (harg2 : arg2.IsWhole) (arg3 : Memref sig .tc .vmem S2048x1408 .bf16) (harg3 : arg3.IsWhole) (arg5 : Memref sig .tc .vmem S1x1x1024x1408 .f32) (harg5 : arg5.IsWhole) (arg6 : Memref sig .tc .vmem S1024x1408 .f32) (harg6 : arg6.IsWhole) (hc0 : cond0_0 i) (hc1 : ¬cond0_1 i)
    (x0 : Vec F S2048x1024 .bf16) (x1 : Vec F S2048x1408 .bf16) :
    sout0_A_0 c i arg2 harg2 arg3 harg3 arg5 harg5 arg6 harg6 hc0 hc1 x0 x1 = k0_pay2 k0_pay1 x0 x1 := by
  unfold sout0_A_0
  rw [View.read_writes_eq_canon _ _ _ (scover0_A_0 c i arg2 harg2 arg3 harg3 arg5 harg5 arg6 harg6 hc0 hc1 x0 x1)]
  frame_out

/-- what a later one leaves, -/
theorem scratch_B (c : Dev nD) (i : grid0.Coords) (arg2 : Memref sig .tc .vmem S2048x1024 .bf16) (harg2 : arg2.IsWhole) (arg3 : Memref sig .tc .vmem S2048x1408 .bf16) (harg3 : arg3.IsWhole) (arg5 : Memref sig .tc .vmem S1x1x1024x1408 .f32) (harg5 : arg5.IsWhole) (arg6 : Memref sig .tc .vmem S1024x1408 .f32) (harg6 : arg6.IsWhole) (hc0 : ¬cond0_0 i) (hc1 : ¬cond0_1 i)
    (x0 : Vec F S2048x1024 .bf16) (x1 : Vec F S2048x1408 .bf16) (xs0 : Vec F S1024x1408 .f32) :
    sout0_B_0 c i arg2 harg2 arg3 harg3 arg5 harg5 arg6 harg6 hc0 hc1 x0 x1 xs0 = k0_pay2 xs0 x0 x1 := by
  unfold sout0_B_0
  rw [View.read_writes_eq_canon _ _ _ (scover0_B_0 c i arg2 harg2 arg3 harg3 arg5 harg5 arg6 harg6 hc0 hc1 x0 x1 xs0)]
  frame_out

/-- what the last one leaves, -/
theorem scratch_C (c : Dev nD) (i : grid0.Coords) (arg2 : Memref sig .tc .vmem S2048x1024 .bf16) (harg2 : arg2.IsWhole) (arg3 : Memref sig .tc .vmem S2048x1408 .bf16) (harg3 : arg3.IsWhole) (arg5 : Memref sig .tc .vmem S1x1x1024x1408 .f32) (harg5 : arg5.IsWhole) (arg6 : Memref sig .tc .vmem S1024x1408 .f32) (harg6 : arg6.IsWhole) (hc0 : ¬cond0_0 i) (hc1 : cond0_1 i)
    (x0 : Vec F S2048x1024 .bf16) (x1 : Vec F S2048x1408 .bf16) (xs0 : Vec F S1024x1408 .f32) :
    sout0_C_0 c i arg2 harg2 arg3 harg3 arg5 harg5 arg6 harg6 hc0 hc1 x0 x1 xs0 = k0_pay2 xs0 x0 x1 := by
  unfold sout0_C_0
  rw [View.read_writes_eq_canon _ _ _ (scover0_C_0 c i arg2 harg2 arg3 harg3 arg5 harg5 arg6 harg6 hc0 hc1 x0 x1 xs0)]
  frame_out

/-- and the block of the output that the last one writes. -/
theorem out_C (c : Dev nD) (i : grid0.Coords) (arg2 : Memref sig .tc .vmem S2048x1024 .bf16) (harg2 : arg2.IsWhole) (arg3 : Memref sig .tc .vmem S2048x1408 .bf16) (harg3 : arg3.IsWhole) (arg5 : Memref sig .tc .vmem S1x1x1024x1408 .f32) (harg5 : arg5.IsWhole) (arg6 : Memref sig .tc .vmem S1024x1408 .f32) (harg6 : arg6.IsWhole) (hc0 : ¬cond0_0 i) (hc1 : cond0_1 i)
    (x0 : Vec F S2048x1024 .bf16) (x1 : Vec F S2048x1408 .bf16) (xs0 : Vec F S1024x1408 .f32) :
    out0_C_2 c i arg2 harg2 arg3 harg3 arg5 harg5 arg6 harg6 hc0 hc1 x0 x1 xs0 = k0_pay3 (k0_pay2 xs0 x0 x1) := by
  unfold out0_C_2
  rw [View.read_writes_eq_canon _ _ _ (cover0_C_2 c i arg2 harg2 arg3 harg3 arg5 harg5 arg6 harg6 hc0 hc1 x0 x1 xs0)]
  frame_out

end

/-! ## Values -/

theorem zero_apply (p : Fin 1024) (q : Fin 1408) : (k0_pay1 (F := Ideal)) (ix2 p q) = 0 := by
  unfold k0_pay1
  pointwise

theorem add_apply (x : Vec Ideal S1024x1408 .f32) (y : Vec Ideal S2048x1024 .bf16) (z : Vec Ideal S2048x1408 .bf16) (p : Fin 1024) (q : Fin 1408) :
    k0_pay2 x y z (ix2 p q) = x (ix2 p q) + ∑ k : Fin 2048, y (ix2 k p) * z (ix2 k q) := by
  unfold k0_pay2
  pointwise

theorem write_apply (x : Vec Ideal S1024x1408 .f32) (p : Fin 1024) (q : Fin 1408) : k0_pay3 x (ix4 0 0 p q) = x (ix2 p q) := by
  unfold k0_pay3
  pointwise

/-- Row `r`'s product at weight `p`, `j`; no row is left out of range. -/
def prod (a : FVec Ideal S16384x1024 .bf16) (b : FVec Ideal S16384x2816 .bf16) (p : Fin 1024) (j : Fin 2816) (r : ℕ) : EReal :=
  if h : r < 16384 then a (ix2 ⟨r, h⟩ p) * b (ix2 ⟨r, h⟩ j) else 0

section

theorem place0 : ∀ t : Fin cfg0.N, win0_0.index t 0 = t.val % 8 ∧ win0_0.index t 1 = 0 :=
  (by decide +kernel : ∀ t : Fin grid0.N, win0_0.index t 0 = t.val % 8 ∧ win0_0.index t 1 = 0)
theorem place1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
theorem place2 : ∀ t : Fin cfg0.N, win0_2.index t 0 = 0 ∧ win0_2.index t 1 = t.val / 8 + 2 ∧ win0_2.index t 2 = 0 ∧ win0_2.index t 3 = 0 :=
  (by decide +kernel : ∀ t : Fin grid0.N, win0_2.index t 0 = 0 ∧ win0_2.index t 1 = t.val / 8 + 2 ∧ win0_2.index t 2 = 0 ∧ win0_2.index t 3 = 0)

theorem lt16 (t : Fin cfg0.N) : t.val < 16 := lt_of_lt_of_eq t.isLt N_0

/-- Row `k` of the point's block, and column `q`. -/
def row (t : Fin cfg0.N) (k : Fin 2048) : Fin 16384 := ⟨t.val % 8 * 2048 + k.val, by omega⟩
def col (t : Fin cfg0.N) (q : Fin 1408) : Fin 2816 := ⟨t.val / 8 * 1408 + q.val, by have := lt16 t; omega⟩

theorem read0 (t : Fin cfg0.N) (X : Vec Ideal S16384x1024 .bf16) (k : Fin 2048) (p : Fin 1024) :
    ((cfg0.win 0).blk t).view.read (Elt Ideal) X (ix2 k p) = X (ix2 (row t k) p) := by
  obtain ⟨e0, e1⟩ := place0 t
  unfold row
  blk_ext [e0, e1]
theorem read1 (t : Fin cfg0.N) (X : Vec Ideal S16384x2816 .bf16) (k : Fin 2048) (q : Fin 1408) :
    ((cfg0.win 1).blk t).view.read (Elt Ideal) X (ix2 k q) = X (ix2 (row t k) (col t q)) := by
  obtain ⟨e0, e1⟩ := place1 t
  unfold row col
  blk_ext [e0, e1]

end

section
variable (m : (ℓ : Loc nD τ sig) → Buf (Elt Ideal) ℓ) (c : Dev nD)

/-- The call's three arguments, as arrays. -/
def arg0 : FVec Ideal S16384x1024 .bf16 := m ((c.tc : Thread nD τ).loc main_arg0)
def arg1 : FVec Ideal S16384x2816 .bf16 := m ((c.tc : Thread nD τ).loc main_arg1)
def arg2 : FVec Ideal S4x4x1024x1408 .f32 := m ((c.tc : Thread nD τ).loc main_arg2)

theorem V_v0 : V m c main_v0 = arg2 m c := by
  simp only [V, hostOps0]
  after_reads_simp
  rfl

theorem block0 (t : Fin cfg0.N) (k : Fin 2048) (p : Fin 1024) : iblk m c 0 t (ix2 k p) = arg0 m c (ix2 (row t k) p) :=
  (read0 t (V m c main_arg0) k p).trans (congrFun (V_main_arg0 m c) _)
theorem block1 (t : Fin cfg0.N) (k : Fin 2048) (q : Fin 1408) : iblk m c 1 t (ix2 k q) = arg1 m c (ix2 (row t k) (col t q)) :=
  (read1 t (V m c main_arg1) k q).trans (congrFun (V_main_arg1 m c) _)

/-- The point's blocks, as arrays. -/
def blockA (t : Fin cfg0.N) : FVec Ideal S2048x1024 .bf16 := iblk m c 0 t
def blockB (t : Fin cfg0.N) : FVec Ideal S2048x1408 .bf16 := iblk m c 1 t

/-- A block's products, added to what there was, are the rows' from the block's first. -/
theorem step (x : Vec Ideal S1024x1408 .f32) (t : Fin cfg0.N) (p : Fin 1024) (q : Fin 1408) :
    k0_pay2 x (blockA m c t) (blockB m c t) (ix2 p q)
      = x (ix2 p q) + ∑ k ∈ Finset.range 2048, prod (arg0 m c) (arg1 m c) p (col t q) (t.val % 8 * 2048 + k) := by
  rw [add_apply, Finset.sum_range]
  refine congrArg (x (ix2 p q) + ·) (Finset.sum_congr rfl fun k _ => ?_)
  rw [show blockA m c t (ix2 k p) = _ from block0 m c t k p, show blockB m c t (ix2 k q) = _ from block1 m c t k q]
  unfold prod
  rw [dif_pos (show t.val % 8 * 2048 + k.val < 16384 by omega)]
  rfl

/-- After a point the accumulator holds the products of the rows so far. -/
theorem scratch (n : ℕ) : ∀ (hn : n < cfg0.N) (p : Fin 1024) (q : Fin 1408), (outsAt0 m c n hn).2 (ix2 p q)
    = ∑ r ∈ Finset.range (n % 8 * 2048 + 2048), prod (arg0 m c) (arg1 m c) p (col ⟨n, hn⟩ q) r := by
  induction n with
  | zero =>
    intro hn p q
    rw [outsAt0_A m c ⟨0, hn⟩ rfl (by dsimp only; omega)]
    dsimp only
    rw [scratch_A]
    refine (step m c _ ⟨0, hn⟩ p q).trans ?_
    rw [zero_apply, Finset.sum_range_add]
    simp
  | succ n ih =>
    intro hn p q
    have hN : n + 1 < 16 := lt_of_lt_of_eq hn N_0
    rw [Finset.sum_range_add]
    by_cases h0 : (n + 1) % 8 = 0
    · rw [outsAt0_A m c ⟨n + 1, hn⟩ h0 (by dsimp only; omega)]
      dsimp only
      rw [scratch_A]
      refine (step m c _ ⟨n + 1, hn⟩ p q).trans ?_
      rw [zero_apply]
      simp [h0]
    · have hc : col ⟨n, by omega⟩ q = col ⟨n + 1, hn⟩ q := Fin.ext (by show n / 8 * 1408 + q.val = (n + 1) / 8 * 1408 + q.val; omega)
      have hk : (n + 1) % 8 * 2048 = n % 8 * 2048 + 2048 := by omega
      have hp := ih (by omega) p q
      rw [hc, ← hk] at hp
      by_cases h1 : (n + 1) % 8 = 7
      · rw [outsAt0_C m c ⟨n + 1, hn⟩ h0 h1]
        dsimp only
        rw [scratch_C]
        exact (step m c _ ⟨n + 1, hn⟩ p q).trans (congrArg (· + _) hp)
      · rw [outsAt0_B m c ⟨n + 1, hn⟩ h0 h1]
        dsimp only
        rw [scratch_B]
        exact (step m c _ ⟨n + 1, hn⟩ p q).trans (congrArg (· + _) hp)

/-- The weights' gradient in its block of the output. -/
def grad (a : FVec Ideal S16384x1024 .bf16) (b : FVec Ideal S16384x2816 .bf16) (p : Fin 1024) (j : Fin 2816) : EReal :=
  ∑ r : Fin 16384, a (ix2 r p) * b (ix2 r j)

theorem grad_eq (a : FVec Ideal S16384x1024 .bf16) (b : FVec Ideal S16384x2816 .bf16) (p : Fin 1024) (j : Fin 2816) :
    ∑ r ∈ Finset.range 16384, prod a b p j r = grad a b p j := by
  rw [Finset.sum_range]
  exact Finset.sum_congr rfl fun r _ => dif_pos r.isLt

theorem after_last (t : Fin cfg0.N) (h1 : t.val % 8 = 7) (p : Fin 1024) (q : Fin 1408) :
    (outsAt0 m c t.val t.isLt).1 (ix4 0 0 p q) = grad (arg0 m c) (arg1 m c) p (col t q) := by
  have hs := scratch m c t.val t.isLt p q
  rw [outsAt0_C m c t (by omega) h1] at hs ⊢
  dsimp only at hs ⊢
  rw [scratch_C] at hs
  rw [out_C, write_apply, hs, h1]
  exact grad_eq _ _ _ _

/-- The weights' gradient in its blocks, over what the array held. -/
def placed (a : FVec Ideal S16384x1024 .bf16) (b : FVec Ideal S16384x2816 .bf16) (x : FVec Ideal S4x4x1024x1408 .f32) : FVec Ideal S4x4x1024x1408 .f32 :=
  fun i => if (i 0).val < 1 ∧ 2 ≤ (i 1).val
    then grad a b ⟨(i 2).val, (i 2).isLt⟩ ⟨(i 1).val % 2 * 1408 + (i 3).val, by have h1 : (i 3).val < 1408 := (i 3).isLt; omega⟩
    else x i

theorem grad_place {a : FVec Ideal S16384x1024 .bf16} {b : FVec Ideal S16384x2816 .bf16} {p p' : Fin 1024} {j j' : Fin 2816}
    (hp : p.val = p'.val) (hj : j.val = j'.val) : grad a b p j = grad a b p' j' := by
  rw [Fin.ext hp, Fin.ext hj]

theorem flush_last : ∀ t : Fin cfg0.N, (cfg0.win 2).flush t = true → t.val % 8 = 7 :=
  (by decide +kernel : ∀ t : Fin grid0.N, win0_2.flush t = true → t.val % 8 = 7)

theorem out : (dats m 0 c).arrAt 2 cfg0.N = placed (arg0 m c) (arg1 m c) (arg2 m c) := by
  refine ((dats m 0 c).arrAt_eq_of_coversWhere 2 (P := fun i => (i 0).val < 1 ∧ 2 ≤ (i 1).val)
    (fun i => grad (arg0 m c) (arg1 m c) ⟨(i 2).val, (i 2).isLt⟩
      ⟨(i 1).val % 2 * 1408 + (i 3).val, by have h1 : (i 3).val < 1408 := (i 3).isLt; omega⟩)
    (fun β => β (0 : Fin 4) < 1 ∧ 2 ≤ β (1 : Fin 4)) (by decide +kernel) (fun t hf y => ?_)
    (fun j => by blk_simp [Pipeline.Window.cell_apply, Nat.div_one])).trans ?_
  · obtain ⟨e0, e1, e2, e3⟩ := place2 t
    have h7 := flush_last t hf
    have ht := lt16 t
    idx_bounds y
    blk_simp [e0, e1, e2, e3]
    rw [after0_2]
    obtain ⟨p, q, rfl⟩ : ∃ (p : Fin 1024) (q : Fin 1408), y = ix4 0 0 p q := ⟨⟨(y 2).val, (y 2).isLt⟩, ⟨(y 3).val, (y 3).isLt⟩, by
      funext a; fin_cases a <;> first | rfl | exact Subsingleton.elim (α := Fin 1) _ _⟩
    refine (after_last m c t h7 p q).trans (grad_place ?_ ?_)
    · rfl
    · show t.val / 8 * 1408 + q.val = (t.val / 8 + 2) % 2 * 1408 + q.val
      omega
  · funext i
    unfold placed
    rw [A_eq]
    rw [show V m c (Pipeline.arrRef spec0 2) = arg2 m c from V_v0 m c]

end

end Cert.UpGradIdeal.Att

namespace Cert.UpGradReferenceIdeal.Att

open Cert.UpGradReferenceIdeal.Gen
open Idealize.ShloMosaic Idealize.ShloMosaic.TcCoe Idealize.ShloMosaic.Tactic
open Idealize.SL.Sem
open scoped BigOperators
open Cert.UpGradIdeal.Att (grad placed)

/-- The product's gradient, as the reference takes it. -/
def rGrad (a : FVec Ideal S16384x1024 .bf16) (b : FVec Ideal S16384x2816 .bf16) : FVec Ideal S2816x1024 .f32 :=
  Host.dotGeneral dot_S16384x2816_S16384x1024_S2816x1024_0_0_1_1_n_n none (extf .f32 b bitsLt_bf16_f32) (extf .f32 a bitsLt_bf16_f32)

/-- Two blocks of columns, first. -/
def rBlocks (x : FVec Ideal S2816x1024 .f32) : FVec Ideal S1x2x1024x1408 .f32 :=
  broadcastInDim S1x2x1024x1408 ![1, 2, 3] bcast_S2x1024x1408_S1x2x1024x1408_1_2_3
    (transpose S2x1024x1408 [1, 0, 2] (shapeCast _ (transpose S1024x2816 [1, 0] x transposes_S2816x1024_S1024x2816_1_0)
      shapeCasts_S1024x2816_S1024x2x1408) transposes_S1024x2x1408_S2x1024x1408_1_0_2)

theorem rGrad_apply (a : FVec Ideal S16384x1024 .bf16) (b : FVec Ideal S16384x2816 .bf16) (j : Fin 2816) (p : Fin 1024) :
    rGrad a b (ix2 j p) = grad a b p j := by
  unfold rGrad grad
  pointwise
  exact Finset.sum_congr rfl fun r _ => mul_comm _ _

theorem rBlocks_apply (x : FVec Ideal S2816x1024 .f32) (b : Fin 2) (p : Fin 1024) (q : Fin 1408) :
    rBlocks x (ix4 0 b p q) = x (ix2 ⟨b.val * 1408 + q.val, by omega⟩ p) := by
  unfold rBlocks
  pointwise

/-- Where the update starts: at the third block of columns. -/
def starts : Fin 4 → Int := fun k => (((![constantI S_ 32 0#32, constantI S_ 32 2#32, constantI S_ 32 0#32, constantI S_ 32 0#32] :
    Fin 4 → S_.Idx → BitVec 32) k) (Shape.Idx.first h_S_)).toInt

theorem starts_eq (h : S1x2x1024x1408.rank = S4x4x1024x1408.rank) (a : Fin 4) :
    Host.clampedStart S4x4x1024x1408 S1x2x1024x1408 h starts a = if a = 1 then 2 else 0 := by
  fin_cases a <;> rfl

/-- The reference's update of the array. -/
def rPlaced (x : FVec Ideal S4x4x1024x1408 .f32) (u : FVec Ideal S1x2x1024x1408 .f32) : FVec Ideal S4x4x1024x1408 .f32 :=
  Host.dynamicUpdateSlice x u starts updateFits_S4x4x1024x1408_S1x2x1024x1408

theorem rPlaced_apply (x : FVec Ideal S4x4x1024x1408 .f32) (u : FVec Ideal S1x2x1024x1408 .f32) (l b : Fin 4) (p : Fin 1024) (q : Fin 1408) :
    rPlaced x u (ix4 l b p q) = if h : l.val < 1 ∧ 2 ≤ b.val then u (ix4 0 ⟨b.val - 2, by omega⟩ p q) else x (ix4 l b p q) := by
  unfold rPlaced
  pointwise
  simp only [starts_eq, show (0 : Fin 4) ≠ 1 by decide, show (2 : Fin 4) ≠ 1 by decide, show (3 : Fin 4) ≠ 1 by decide, if_true, if_false]
  by_cases h : l.val < 1 ∧ 2 ≤ b.val
  · rw [dif_pos h, dif_pos (by omega)]
    refine congrArg u ?_
    funext a
    fin_cases a <;> first | rfl | exact Subsingleton.elim (α := Fin 1) _ _
  · rw [dif_neg h, dif_neg (by omega)]

/-- The reference's result. -/
theorem result (a : FVec Ideal S16384x1024 .bf16) (b : FVec Ideal S16384x2816 .bf16) (x : FVec Ideal S4x4x1024x1408 .f32) :
    rPlaced x (rBlocks (rGrad a b)) = placed a b x := by
  funext i
  obtain ⟨l, k, p, q, rfl⟩ : ∃ (l k : Fin 4) (p : Fin 1024) (q : Fin 1408), i = ix4 l k p q :=
    ⟨⟨(i 0).val, (i 0).isLt⟩, ⟨(i 1).val, (i 1).isLt⟩, ⟨(i 2).val, (i 2).isLt⟩, ⟨(i 3).val, (i 3).isLt⟩, by funext a; fin_cases a <;> rfl⟩
  rw [rPlaced_apply]
  unfold placed
  by_cases h : l.val < 1 ∧ 2 ≤ k.val
  · rw [dif_pos h, rBlocks_apply, rGrad_apply]
    refine Eq.trans ?_ (if_pos h).symm
    refine Cert.UpGradIdeal.Att.grad_place rfl ?_
    show (k.val - 2) * 1408 + q.val = k.val % 2 * 1408 + q.val
    omega
  · rw [dif_neg h]
    exact (if_neg h).symm

end Cert.UpGradReferenceIdeal.Att

namespace Cert.Proof.Up

open Idealize.ShloMosaic Idealize.SL.Sem

/-- The reference leaves its arguments alone, and it has no semaphores. -/
theorem frame_reference (m : (ℓ : Loc Cert.UpGradReferenceIdeal.nD Cert.UpGradReferenceIdeal.τ Cert.UpGradReferenceIdeal.sig) → Buf (Elt Ideal) ℓ)
    (ρ : Dev Cert.UpGradReferenceIdeal.nD → PrngReg) :
    θ_run (Cert.UpGradReferenceIdeal.defs (F := Ideal)) (onTc (τ := Cert.UpGradReferenceIdeal.τ) (Cert.UpGradReferenceIdeal.main (F := Ideal)))
      ⟨m, fun _ => 0, ρ⟩ (fun r => (∀ c : Dev Cert.UpGradReferenceIdeal.nD,
       r.2.mem ((c.tc : Thread Cert.UpGradReferenceIdeal.nD Cert.UpGradReferenceIdeal.τ).loc Cert.UpGradReferenceIdeal.main_arg0)
        = m ((c.tc : Thread Cert.UpGradReferenceIdeal.nD Cert.UpGradReferenceIdeal.τ).loc Cert.UpGradReferenceIdeal.main_arg0)
      ∧ r.2.mem ((c.tc : Thread Cert.UpGradReferenceIdeal.nD Cert.UpGradReferenceIdeal.τ).loc Cert.UpGradReferenceIdeal.main_arg1)
        = m ((c.tc : Thread Cert.UpGradReferenceIdeal.nD Cert.UpGradReferenceIdeal.τ).loc Cert.UpGradReferenceIdeal.main_arg1)
      ∧ r.2.mem ((c.tc : Thread Cert.UpGradReferenceIdeal.nD Cert.UpGradReferenceIdeal.τ).loc Cert.UpGradReferenceIdeal.main_arg2)
        = m ((c.tc : Thread Cert.UpGradReferenceIdeal.nD Cert.UpGradReferenceIdeal.τ).loc Cert.UpGradReferenceIdeal.main_arg2))
      ∧ r.2.sem = fun _ => 0) :=
  (θ_run Cert.UpGradReferenceIdeal.defs _ _).mono (fun r h => ⟨fun c => (h c).2, Idealize.ShloMosaic.sem_eq_zero_of_no_sems (by decide) r.2⟩)
    (Cert.UpGradReferenceIdeal.Value.run (F := Ideal) m ρ)

/-- The call's result is the reference's. -/
theorem algebraic : Cert.algebraic_UpGradIdeal_UpGradReferenceIdeal (hUpGradIdeal := Cert.UpGradIdeal.Gen.facts)
    (hUpGradReferenceIdeal := Cert.UpGradReferenceIdeal.Gen.facts) := by
  intro m g m' g' hp hargs
  refine ⟨fun c => (Cert.UpGradIdeal.Gen.dats m 0 c).arrAt 2 Cert.UpGradIdeal.cfg0.N, Cert.UpGradIdeal.Value.run_blocks m g, ?_⟩
  refine (θ_run Cert.UpGradReferenceIdeal.defs _ _).mono (fun r h c => ⟨(h c).1.trans ?_, (h c).2⟩)
    (Cert.UpGradReferenceIdeal.Value.run (F := Ideal) m' g')
  obtain ⟨e0, e1, e2⟩ := hargs c
  rw [e0, e1, e2]
  exact (Cert.UpGradReferenceIdeal.Att.result _ _ _).trans (Cert.UpGradIdeal.Att.out m c).symm

end Cert.Proof.Up

end
-- ==== Proof.DownGrad.lean ====
/- The gradient of the down weights: the call's output is the reference's. -/
module

public import proofs.«01_k».proof.Defs
public import proofs.«01_k».proof.Proof.Gen.DownGradIdeal.Value
public import proofs.«01_k».proof.Proof.Gen.DownGrad.Frame
public import proofs.«01_k».proof.Proof.Gen.DownGradReferenceIdeal.Run
public import Idealize.ShloMosaic.Lib.Quiescent
public import Idealize.ShloMosaic.Lib.Pointwise
public import Idealize.ShloMosaic.Lib.StableHlo.RunRead
public import Idealize.ShloMosaic.Lib.Pipeline.ValueKit
public import Idealize.ShloMosaic.Lib.Pipeline.ValueKit.Partial

@[expose] public section

noncomputable section

namespace Cert.DownGradIdeal.Att

open Cert.DownGradIdeal.Gen
open Idealize.ShloMosaic Idealize.ShloMosaic.TcCoe Idealize.ShloMosaic.Tactic
open Idealize.SL.Sem
open scoped BigOperators

section
variable {F : FTy → Type} [FloatOps F]

/-- What the first block of rows leaves in the accumulator, -/
theorem scratch_A (c : Dev nD) (i : grid0.Coords) (arg2 : Memref sig .tc .vmem S1024x2816 .bf16) (harg2 : arg2.IsWhole) (arg3 : Memref sig .tc .vmem S1024x1024 .bf16) (harg3 : arg3.IsWhole) (arg5 : Memref sig .tc .vmem S1x2816x1024 .f32) (harg5 : arg5.IsWhole) (arg6 : Memref sig .tc .vmem S2816x1024 .f32) (harg6 : arg6.IsWhole) (hc0 : cond0_0 i) (hc1 : ¬cond0_1 i)
    (x0 : Vec F S1024x2816 .bf16) (x1 : Vec F S1024x1024 .bf16) :
    sout0_A_0 c i arg2 harg2 arg3 harg3 arg5 harg5 arg6 harg6 hc0 hc1 x0 x1 = k0_pay2 k0_pay1 x0 x1 := by
  unfold sout0_A_0
  rw [View.read_writes_eq_canon _ _ _ (scover0_A_0 c i arg2 harg2 arg3 harg3 arg5 harg5 arg6 harg6 hc0 hc1 x0 x1)]
  frame_out

/-- what a later one leaves, -/
theorem scratch_B (c : Dev nD) (i : grid0.Coords) (arg2 : Memref sig .tc .vmem S1024x2816 .bf16) (harg2 : arg2.IsWhole) (arg3 : Memref sig .tc .vmem S1024x1024 .bf16) (harg3 : arg3.IsWhole) (arg5 : Memref sig .tc .vmem S1x2816x1024 .f32) (harg5 : arg5.IsWhole) (arg6 : Memref sig .tc .vmem S2816x1024 .f32) (harg6 : arg6.IsWhole) (hc0 : ¬cond0_0 i) (hc1 : ¬cond0_1 i)
    (x0 : Vec F S1024x2816 .bf16) (x1 : Vec F S1024x1024 .bf16) (xs0 : Vec F S2816x1024 .f32) :
    sout0_B_0 c i arg2 harg2 arg3 harg3 arg5 harg5 arg6 harg6 hc0 hc1 x0 x1 xs0 = k0_pay2 xs0 x0 x1 := by
  unfold sout0_B_0
  rw [View.read_writes_eq_canon _ _ _ (scover0_B_0 c i arg2 harg2 arg3 harg3 arg5 harg5 arg6 harg6 hc0 hc1 x0 x1 xs0)]
  frame_out

/-- what the last one leaves, -/
theorem scratch_C (c : Dev nD) (i : grid0.Coords) (arg2 : Memref sig .tc .vmem S1024x2816 .bf16) (harg2 : arg2.IsWhole) (arg3 : Memref sig .tc .vmem S1024x1024 .bf16) (harg3 : arg3.IsWhole) (arg5 : Memref sig .tc .vmem S1x2816x1024 .f32) (harg5 : arg5.IsWhole) (arg6 : Memref sig .tc .vmem S2816x1024 .f32) (harg6 : arg6.IsWhole) (hc0 : ¬cond0_0 i) (hc1 : cond0_1 i)
    (x0 : Vec F S1024x2816 .bf16) (x1 : Vec F S1024x1024 .bf16) (xs0 : Vec F S2816x1024 .f32) :
    sout0_C_0 c i arg2 harg2 arg3 harg3 arg5 harg5 arg6 harg6 hc0 hc1 x0 x1 xs0 = k0_pay2 xs0 x0 x1 := by
  unfold sout0_C_0
  rw [View.read_writes_eq_canon _ _ _ (scover0_C_0 c i arg2 harg2 arg3 harg3 arg5 harg5 arg6 harg6 hc0 hc1 x0 x1 xs0)]
  frame_out

/-- and the block of the output that the last one writes. -/
theorem out_C (c : Dev nD) (i : grid0.Coords) (arg2 : Memref sig .tc .vmem S1024x2816 .bf16) (harg2 : arg2.IsWhole) (arg3 : Memref sig .tc .vmem S1024x1024 .bf16) (harg3 : arg3.IsWhole) (arg5 : Memref sig .tc .vmem S1x2816x1024 .f32) (harg5 : arg5.IsWhole) (arg6 : Memref sig .tc .vmem S2816x1024 .f32) (harg6 : arg6.IsWhole) (hc0 : ¬cond0_0 i) (hc1 : cond0_1 i)
    (x0 : Vec F S1024x2816 .bf16) (x1 : Vec F S1024x1024 .bf16) (xs0 : Vec F S2816x1024 .f32) :
    out0_C_2 c i arg2 harg2 arg3 harg3 arg5 harg5 arg6 harg6 hc0 hc1 x0 x1 xs0 = k0_pay3 (k0_pay2 xs0 x0 x1) := by
  unfold out0_C_2
  rw [View.read_writes_eq_canon _ _ _ (cover0_C_2 c i arg2 harg2 arg3 harg3 arg5 harg5 arg6 harg6 hc0 hc1 x0 x1 xs0)]
  frame_out

end

/-! ## Values -/

theorem zero_apply (p : Fin 2816) (q : Fin 1024) : (k0_pay1 (F := Ideal)) (ix2 p q) = 0 := by
  unfold k0_pay1
  pointwise

theorem add_apply (x : Vec Ideal S2816x1024 .f32) (y : Vec Ideal S1024x2816 .bf16) (z : Vec Ideal S1024x1024 .bf16) (p : Fin 2816) (q : Fin 1024) :
    k0_pay2 x y z (ix2 p q) = x (ix2 p q) + ∑ k : Fin 1024, y (ix2 k p) * z (ix2 k q) := by
  unfold k0_pay2
  pointwise

theorem write_apply (x : Vec Ideal S2816x1024 .f32) (p : Fin 2816) (q : Fin 1024) : k0_pay3 x (ix3 0 p q) = x (ix2 p q) := by
  unfold k0_pay3
  pointwise

/-- Row `r`'s product at weight `p`, `j`; no row is left out of range. -/
def prod (a : FVec Ideal S16384x2816 .bf16) (b : FVec Ideal S16384x1024 .bf16) (p : Fin 2816) (j : Fin 1024) (r : ℕ) : EReal :=
  if h : r < 16384 then a (ix2 ⟨r, h⟩ p) * b (ix2 ⟨r, h⟩ j) else 0

section

theorem place0 : ∀ t : Fin cfg0.N, win0_0.index t 0 = t.val % 16 ∧ win0_0.index t 1 = 0 :=
  (by decide +kernel : ∀ t : Fin grid0.N, win0_0.index t 0 = t.val % 16 ∧ win0_0.index t 1 = 0)
theorem place1 : ∀ t : Fin cfg0.N, win0_1.index t 0 = t.val % 16 ∧ win0_1.index t 1 = 0 :=
  (by decide +kernel : ∀ t : Fin grid0.N, win0_1.index t 0 = t.val % 16 ∧ win0_1.index t 1 = 0)
theorem place2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

theorem lt16 (t : Fin cfg0.N) : t.val < 16 := lt_of_lt_of_eq t.isLt N_0

/-- Row `k` of the point's block. -/
def row (t : Fin cfg0.N) (k : Fin 1024) : Fin 16384 := ⟨t.val % 16 * 1024 + k.val, by omega⟩

theorem read0 (t : Fin cfg0.N) (X : Vec Ideal S16384x2816 .bf16) (k : Fin 1024) (p : Fin 2816) :
    ((cfg0.win 0).blk t).view.read (Elt Ideal) X (ix2 k p) = X (ix2 (row t k) p) := by
  obtain ⟨e0, e1⟩ := place0 t
  unfold row
  blk_ext [e0, e1]
theorem read1 (t : Fin cfg0.N) (X : Vec Ideal S16384x1024 .bf16) (k : Fin 1024) (q : Fin 1024) :
    ((cfg0.win 1).blk t).view.read (Elt Ideal) X (ix2 k q) = X (ix2 (row t k) q) := by
  obtain ⟨e0, e1⟩ := place1 t
  unfold row
  blk_ext [e0, e1]

end

section
variable (m : (ℓ : Loc nD τ sig) → Buf (Elt Ideal) ℓ) (c : Dev nD)

/-- The call's three arguments, as arrays. -/
def arg0 : FVec Ideal S16384x2816 .bf16 := m ((c.tc : Thread nD τ).loc main_arg0)
def arg1 : FVec Ideal S16384x1024 .bf16 := m ((c.tc : Thread nD τ).loc main_arg1)
def arg2 : FVec Ideal S4x2816x1024 .f32 := m ((c.tc : Thread nD τ).loc main_arg2)

theorem V_v0 : V m c main_v0 = arg2 m c := by
  simp only [V, hostOps0]
  after_reads_simp
  rfl

theorem block0 (t : Fin cfg0.N) (k : Fin 1024) (p : Fin 2816) : iblk m c 0 t (ix2 k p) = arg0 m c (ix2 (row t k) p) :=
  (read0 t (V m c main_arg0) k p).trans (congrFun (V_main_arg0 m c) _)
theorem block1 (t : Fin cfg0.N) (k : Fin 1024) (q : Fin 1024) : iblk m c 1 t (ix2 k q) = arg1 m c (ix2 (row t k) q) :=
  (read1 t (V m c main_arg1) k q).trans (congrFun (V_main_arg1 m c) _)

/-- The point's blocks, as arrays. -/
def blockA (t : Fin cfg0.N) : FVec Ideal S1024x2816 .bf16 := iblk m c 0 t
def blockB (t : Fin cfg0.N) : FVec Ideal S1024x1024 .bf16 := iblk m c 1 t

/-- A block's products, added to what there was, are the rows' from the block's first. -/
theorem step (x : Vec Ideal S2816x1024 .f32) (t : Fin cfg0.N) (p : Fin 2816) (q : Fin 1024) :
    k0_pay2 x (blockA m c t) (blockB m c t) (ix2 p q)
      = x (ix2 p q) + ∑ k ∈ Finset.range 1024, prod (arg0 m c) (arg1 m c) p q (t.val % 16 * 1024 + k) := by
  rw [add_apply, Finset.sum_range]
  refine congrArg (x (ix2 p q) + ·) (Finset.sum_congr rfl fun k _ => ?_)
  rw [show blockA m c t (ix2 k p) = _ from block0 m c t k p, show blockB m c t (ix2 k q) = _ from block1 m c t k q]
  unfold prod
  rw [dif_pos (show t.val % 16 * 1024 + k.val < 16384 by omega)]
  rfl

/-- After a point the accumulator holds the products of the rows so far. -/
theorem scratch (n : ℕ) : ∀ (hn : n < cfg0.N) (p : Fin 2816) (q : Fin 1024), (outsAt0 m c n hn).2 (ix2 p q)
    = ∑ r ∈ Finset.range (n % 16 * 1024 + 1024), prod (arg0 m c) (arg1 m c) p q r := by
  induction n with
  | zero =>
    intro hn p q
    rw [outsAt0_A m c ⟨0, hn⟩ rfl (by dsimp only; omega)]
    dsimp only
    rw [scratch_A]
    refine (step m c _ ⟨0, hn⟩ p q).trans ?_
    rw [zero_apply, Finset.sum_range_add]
    simp
  | succ n ih =>
    intro hn p q
    have hN : n + 1 < 16 := lt_of_lt_of_eq hn N_0
    rw [Finset.sum_range_add]
    by_cases h0 : (n + 1) % 16 = 0
    · rw [outsAt0_A m c ⟨n + 1, hn⟩ h0 (by dsimp only; omega)]
      dsimp only
      rw [scratch_A]
      refine (step m c _ ⟨n + 1, hn⟩ p q).trans ?_
      rw [zero_apply]
      simp [h0]
    · have hk : (n + 1) % 16 * 1024 = n % 16 * 1024 + 1024 := by omega
      have hp := ih (by omega) p q
      rw [← hk] at hp
      by_cases h1 : (n + 1) % 16 = 15
      · rw [outsAt0_C m c ⟨n + 1, hn⟩ h0 h1]
        dsimp only
        rw [scratch_C]
        exact (step m c _ ⟨n + 1, hn⟩ p q).trans (congrArg (· + _) hp)
      · rw [outsAt0_B m c ⟨n + 1, hn⟩ h0 h1]
        dsimp only
        rw [scratch_B]
        exact (step m c _ ⟨n + 1, hn⟩ p q).trans (congrArg (· + _) hp)

/-- The weights' gradient in its block of the output. -/
def grad (a : FVec Ideal S16384x2816 .bf16) (b : FVec Ideal S16384x1024 .bf16) (p : Fin 2816) (j : Fin 1024) : EReal :=
  ∑ r : Fin 16384, a (ix2 r p) * b (ix2 r j)

theorem grad_eq (a : FVec Ideal S16384x2816 .bf16) (b : FVec Ideal S16384x1024 .bf16) (p : Fin 2816) (j : Fin 1024) :
    ∑ r ∈ Finset.range 16384, prod a b p j r = grad a b p j := by
  rw [Finset.sum_range]
  exact Finset.sum_congr rfl fun r _ => dif_pos r.isLt

theorem after_last (t : Fin cfg0.N) (h1 : t.val % 16 = 15) (p : Fin 2816) (q : Fin 1024) :
    (outsAt0 m c t.val t.isLt).1 (ix3 0 p q) = grad (arg0 m c) (arg1 m c) p q := by
  have hs := scratch m c t.val t.isLt p q
  rw [outsAt0_C m c t (by omega) h1] at hs ⊢
  dsimp only at hs ⊢
  rw [scratch_C] at hs
  rw [out_C, write_apply, hs, h1]
  exact grad_eq _ _ _ _

/-- The weights' gradient in its block, over what the array held. -/
def placed (a : FVec Ideal S16384x2816 .bf16) (b : FVec Ideal S16384x1024 .bf16) (x : FVec Ideal S4x2816x1024 .f32) : FVec Ideal S4x2816x1024 .f32 :=
  fun i => if (i 0).val < 1 then grad a b ⟨(i 1).val, (i 1).isLt⟩ ⟨(i 2).val, (i 2).isLt⟩ else x i

theorem grad_place {a : FVec Ideal S16384x2816 .bf16} {b : FVec Ideal S16384x1024 .bf16} {p p' : Fin 2816} {j j' : Fin 1024}
    (hp : p.val = p'.val) (hj : j.val = j'.val) : grad a b p j = grad a b p' j' := by
  rw [Fin.ext hp, Fin.ext hj]

theorem flush_last : ∀ t : Fin cfg0.N, (cfg0.win 2).flush t = true → t.val % 16 = 15 :=
  (by decide +kernel : ∀ t : Fin grid0.N, win0_2.flush t = true → t.val % 16 = 15)

theorem out : (dats m 0 c).arrAt 2 cfg0.N = placed (arg0 m c) (arg1 m c) (arg2 m c) := by
  refine ((dats m 0 c).arrAt_eq_of_coversWhere 2 (P := fun i => (i 0).val < 1)
    (fun i => grad (arg0 m c) (arg1 m c) ⟨(i 1).val, (i 1).isLt⟩ ⟨(i 2).val, (i 2).isLt⟩)
    (fun β => β (0 : Fin 3) < 1) (by decide +kernel) (fun t hf y => ?_)
    (fun j => by blk_simp [Pipeline.Window.cell_apply, Nat.div_one])).trans ?_
  · obtain ⟨e0, e1, e2⟩ := place2 t
    have h7 := flush_last t hf
    have ht := lt16 t
    idx_bounds y
    blk_simp [e0, e1, e2]
    rw [after0_2]
    obtain ⟨p, q, rfl⟩ : ∃ (p : Fin 2816) (q : Fin 1024), y = ix3 0 p q := ⟨⟨(y 1).val, (y 1).isLt⟩, ⟨(y 2).val, (y 2).isLt⟩, by
      funext a; fin_cases a <;> first | rfl | exact Subsingleton.elim (α := Fin 1) _ _⟩
    exact (after_last m c t h7 p q).trans (grad_place rfl rfl)
  · funext i
    unfold placed
    rw [A_eq]
    rw [show V m c (Pipeline.arrRef spec0 2) = arg2 m c from V_v0 m c]

end

end Cert.DownGradIdeal.Att

namespace Cert.DownGradReferenceIdeal.Att

open Cert.DownGradReferenceIdeal.Gen
open Idealize.ShloMosaic Idealize.ShloMosaic.TcCoe Idealize.ShloMosaic.Tactic
open Idealize.SL.Sem
open scoped BigOperators
open Cert.DownGradIdeal.Att (grad placed)

/-- The product's gradient, as the reference takes it, -/
def rGrad (a : FVec Ideal S16384x2816 .bf16) (b : FVec Ideal S16384x1024 .bf16) : FVec Ideal S1024x2816 .f32 :=
  Host.dotGeneral dot_S16384x1024_S16384x2816_S1024x2816_0_0_1_1_n_n none (extf .f32 b bitsLt_bf16_f32) (extf .f32 a bitsLt_bf16_f32)

/-- and turned. -/
def rBlocks (x : FVec Ideal S1024x2816 .f32) : FVec Ideal S1x2816x1024 .f32 :=
  broadcastInDim S1x2816x1024 ![1, 2] bcast_S2816x1024_S1x2816x1024_1_2 (transpose S2816x1024 [1, 0] x transposes_S1024x2816_S2816x1024_1_0)

theorem rGrad_apply (a : FVec Ideal S16384x2816 .bf16) (b : FVec Ideal S16384x1024 .bf16) (j : Fin 1024) (p : Fin 2816) :
    rGrad a b (ix2 j p) = grad a b p j := by
  unfold rGrad grad
  pointwise
  exact Finset.sum_congr rfl fun r _ => mul_comm _ _

theorem rBlocks_apply (x : FVec Ideal S1024x2816 .f32) (p : Fin 2816) (q : Fin 1024) :
    rBlocks x (ix3 0 p q) = x (ix2 q p) := by
  unfold rBlocks
  pointwise

/-- Where the update starts: at the array's first entry. -/
def starts : Fin 3 → Int := fun k => (((![constantI S_ 32 0#32, constantI S_ 32 0#32, constantI S_ 32 0#32] :
    Fin 3 → S_.Idx → BitVec 32) k) (Shape.Idx.first h_S_)).toInt

theorem starts_zero (h : S1x2816x1024.rank = S4x2816x1024.rank) (a : Fin 3) :
    Host.clampedStart S4x2816x1024 S1x2816x1024 h starts a = 0 := by
  fin_cases a <;> rfl

/-- The reference's update of the array. -/
def rPlaced (x : FVec Ideal S4x2816x1024 .f32) (u : FVec Ideal S1x2816x1024 .f32) : FVec Ideal S4x2816x1024 .f32 :=
  Host.dynamicUpdateSlice x u starts updateFits_S4x2816x1024_S1x2816x1024

theorem rPlaced_apply (x : FVec Ideal S4x2816x1024 .f32) (u : FVec Ideal S1x2816x1024 .f32) (l : Fin 4) (p : Fin 2816) (q : Fin 1024) :
    rPlaced x u (ix3 l p q) = if l.val < 1 then u (ix3 0 p q) else x (ix3 l p q) := by
  unfold rPlaced
  pointwise
  simp only [starts_zero]
  by_cases h : l.val < 1
  · rw [if_pos h, dif_pos (by omega)]
    refine congrArg u ?_
    funext a
    fin_cases a <;> first | rfl | exact Subsingleton.elim (α := Fin 1) _ _
  · rw [if_neg h, dif_neg (by omega)]

/-- The reference's result. -/
theorem result (a : FVec Ideal S16384x2816 .bf16) (b : FVec Ideal S16384x1024 .bf16) (x : FVec Ideal S4x2816x1024 .f32) :
    rPlaced x (rBlocks (rGrad a b)) = placed a b x := by
  funext i
  obtain ⟨l, p, q, rfl⟩ : ∃ (l : Fin 4) (p : Fin 2816) (q : Fin 1024), i = ix3 l p q :=
    ⟨⟨(i 0).val, (i 0).isLt⟩, ⟨(i 1).val, (i 1).isLt⟩, ⟨(i 2).val, (i 2).isLt⟩, by funext a; fin_cases a <;> rfl⟩
  rw [rPlaced_apply]
  unfold placed
  by_cases h : l.val < 1
  · rw [if_pos h, rBlocks_apply, rGrad_apply]
    refine Eq.trans ?_ (if_pos h).symm
    exact Cert.DownGradIdeal.Att.grad_place rfl rfl
  · rw [if_neg h]
    exact (if_neg h).symm

end Cert.DownGradReferenceIdeal.Att

namespace Cert.Proof.Down

open Idealize.ShloMosaic Idealize.SL.Sem

/-- The reference leaves its arguments alone, and it has no semaphores. -/
theorem frame_reference (m : (ℓ : Loc Cert.DownGradReferenceIdeal.nD Cert.DownGradReferenceIdeal.τ Cert.DownGradReferenceIdeal.sig) → Buf (Elt Ideal) ℓ)
    (ρ : Dev Cert.DownGradReferenceIdeal.nD → PrngReg) :
    θ_run (Cert.DownGradReferenceIdeal.defs (F := Ideal)) (onTc (τ := Cert.DownGradReferenceIdeal.τ) (Cert.DownGradReferenceIdeal.main (F := Ideal)))
      ⟨m, fun _ => 0, ρ⟩ (fun r => (∀ c : Dev Cert.DownGradReferenceIdeal.nD,
       r.2.mem ((c.tc : Thread Cert.DownGradReferenceIdeal.nD Cert.DownGradReferenceIdeal.τ).loc Cert.DownGradReferenceIdeal.main_arg0)
        = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1)
        = m ((c.tc : Thread Cert.DownGradReferenceIdeal.nD Cert.DownGradReferenceIdeal.τ).loc Cert.DownGradReferenceIdeal.main_arg1)
      ∧ r.2.mem ((c.tc : Thread Cert.DownGradReferenceIdeal.nD Cert.DownGradReferenceIdeal.τ).loc Cert.DownGradReferenceIdeal.main_arg2)
        = m ((c.tc : Thread Cert.DownGradReferenceIdeal.nD Cert.DownGradReferenceIdeal.τ).loc Cert.DownGradReferenceIdeal.main_arg2))
      ∧ r.2.sem = fun _ => 0) :=
  (θ_run Cert.DownGradReferenceIdeal.defs _ _).mono (fun r h => ⟨fun c => (h c).2, Idealize.ShloMosaic.sem_eq_zero_of_no_sems (by decide) r.2⟩)
    (Cert.DownGradReferenceIdeal.Value.run (F := Ideal) m ρ)

/-- The call's result is the reference's. -/
theorem algebraic : Cert.algebraic_DownGradIdeal_DownGradReferenceIdeal (hDownGradIdeal := Cert.DownGradIdeal.Gen.facts)
    (hDownGradReferenceIdeal := Cert.DownGradReferenceIdeal.Gen.facts) := by
  intro m g m' g' hp hargs
  refine ⟨fun c => (Cert.DownGradIdeal.Gen.dats m 0 c).arrAt 2 Cert.DownGradIdeal.cfg0.N, Cert.DownGradIdeal.Value.run_blocks m g, ?_⟩
  refine (θ_run Cert.DownGradReferenceIdeal.defs _ _).mono (fun r h c => ⟨(h c).1.trans ?_, (h c).2⟩)
    (Cert.DownGradReferenceIdeal.Value.run (F := Ideal) m' g')
  obtain ⟨e0, e1, e2⟩ := hargs c
  rw [e0, e1, e2]
  exact (Cert.DownGradReferenceIdeal.Att.result _ _ _).trans (Cert.DownGradIdeal.Att.out m c).symm

end Cert.Proof.Down

end
-- ==== Proof.lean ====
/- The proof of the claim: the frames, the named constants, and the equality of the attention's gradients, of the forward call's results, of the feed-forward layer's and its rows' gradient, and of the weights' gradients. -/
module

public import proofs.«01_k».proof.Defs
public import proofs.«01_k».proof.Proof.MachineLaunch
public import proofs.«01_k».proof.Proof.KernelValue
public import proofs.«01_k».proof.Proof.Result
public import proofs.«01_k».proof.Proof.Finite
public import proofs.«01_k».proof.Proof.ForwardClaim
public import proofs.«01_k».proof.Proof.GateGrad
public import proofs.«01_k».proof.Proof.Feed
public import proofs.«01_k».proof.Proof.FeedGradClaim
public import proofs.«01_k».proof.Proof.UpGrad
public import proofs.«01_k».proof.Proof.DownGrad
public import Idealize.ShloMosaic.Lib.Quiescent

@[expose] public section

noncomputable section

namespace Cert.Proof

open Idealize.ShloMosaic Idealize.SL.Sem

/-- The reference leaves its arguments alone, and it has no semaphores. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
       r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
        = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3)
        = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The contents of the kernel's memory. -/
abbrev KernelMemory := (ℓ : Loc Cert.KernelIdeal.nD Cert.KernelIdeal.τ Cert.KernelIdeal.sig) → Buf (Elt Ideal) ℓ

section

variable (m : KernelMemory) (c : Dev Cert.KernelIdeal.nD)

/-- The kernel's four arguments, as arrays. -/
def arg0 : FVec Ideal Cert.KernelIdeal.S16384x8x96 .f32 := m ((c.tc : Thread Cert.KernelIdeal.nD Cert.KernelIdeal.τ).loc Cert.KernelIdeal.main_arg0)
def arg1 : FVec Ideal Cert.KernelIdeal.S16384x8x96 .f32 := m ((c.tc : Thread Cert.KernelIdeal.nD Cert.KernelIdeal.τ).loc Cert.KernelIdeal.main_arg1)
def arg2 : FVec Ideal Cert.KernelIdeal.S16384x8x64 .f32 := m ((c.tc : Thread Cert.KernelIdeal.nD Cert.KernelIdeal.τ).loc Cert.KernelIdeal.main_arg2)
def arg3 : FVec Ideal Cert.KernelIdeal.S16384x8x64 .f32 := m ((c.tc : Thread Cert.KernelIdeal.nD Cert.KernelIdeal.τ).loc Cert.KernelIdeal.main_arg3)

theorem real0 (hp : Cert.Pre_KernelIdeal_finite (hPre_finite := Cert.Pre_finite.Att.facts) m) (q : Fin 16384) (h : Fin 8) (d : Fin 96) :
    arg0 m c (ix3 q h d) = ((arg0 m c (ix3 q h d)).toReal : EReal) := (Cert.Pre_finite.Att.real_entry _ _ (hp c).1 (ix3 q h d)).symm
theorem real1 (hp : Cert.Pre_KernelIdeal_finite (hPre_finite := Cert.Pre_finite.Att.facts) m) (q : Fin 16384) (h : Fin 8) (d : Fin 96) :
    arg1 m c (ix3 q h d) = ((arg1 m c (ix3 q h d)).toReal : EReal) := (Cert.Pre_finite.Att.real_entry _ _ (hp c).2.1 (ix3 q h d)).symm
theorem real2 (hp : Cert.Pre_KernelIdeal_finite (hPre_finite := Cert.Pre_finite.Att.facts) m) (q : Fin 16384) (h : Fin 8) (d : Fin 64) :
    arg2 m c (ix3 q h d) = ((arg2 m c (ix3 q h d)).toReal : EReal) := (Cert.Pre_finite.Att.real_entry _ _ (hp c).2.2.1 (ix3 q h d)).symm
theorem real3 (hp : Cert.Pre_KernelIdeal_finite (hPre_finite := Cert.Pre_finite.Att.facts) m) (q : Fin 16384) (h : Fin 8) (d : Fin 64) :
    arg3 m c (ix3 q h d) = ((arg3 m c (ix3 q h d)).toReal : EReal) := (Cert.Pre_finite.Att.real_entry _ _ (hp c).2.2.2 (ix3 q h d)).symm

end

section

variable {m : KernelMemory} {c : Dev Cert.KernelIdeal.nD} {Q K : Fin 16384 → Fin 8 → Fin 96 → ℝ} {U G : Fin 16384 → Fin 8 → Fin 64 → ℝ}
  (h0 : ∀ q h d, arg0 m c (ix3 q h d) = (Q q h d : EReal)) (h1 : ∀ q h d, arg1 m c (ix3 q h d) = (K q h d : EReal))
  (h2 : ∀ q h d, arg2 m c (ix3 q h d) = (U q h d : EReal)) (h3 : ∀ q h d, arg3 m c (ix3 q h d) = (G q h d : EReal))

section
include h0 h1 h2 h3

/-- The queries' gradient: the reference's array is the kernel's. -/
theorem same0 : transpose Cert.ReferenceIdeal.S1024x16384 [1, 0] (Cert.ReferenceIdeal.Att.rWide96
      (Cert.ReferenceIdeal.Att.rDq (arg0 m c) (arg1 m c) (arg2 m c) (arg3 m c))) Cert.ReferenceIdeal.Gen.transposes_S16384x1024_S1024x16384_1_0
    = (Cert.KernelIdeal.Att.dats m 0 c).arrAt 6 Cert.KernelIdeal.cfg0.N :=
  (Cert.ReferenceIdeal.Att.result0 h0 h1 h2 h3).trans (Cert.KernelIdeal.Att.out0 m c h0 h1 h2 h3).symm

/-- The keys' gradient. -/
theorem same1 : Cert.ReferenceIdeal.Att.rWide96 (Cert.ReferenceIdeal.Att.rDk (arg0 m c) (arg1 m c) (arg2 m c) (arg3 m c))
    = (Cert.KernelIdeal.Att.dats m 0 c).arrAt 7 Cert.KernelIdeal.cfg0.N :=
  (Cert.ReferenceIdeal.Att.result1 h0 h1 h2 h3).trans (Cert.KernelIdeal.Att.out1 m c h0 h1 h2 h3).symm

/-- The values' gradient. -/
theorem same2 : Cert.ReferenceIdeal.Att.rWide64 (Cert.ReferenceIdeal.Att.rDv (arg0 m c) (arg1 m c) (arg3 m c))
    = (Cert.KernelIdeal.Att.dats m 0 c).arrAt 8 Cert.KernelIdeal.cfg0.N :=
  (Cert.ReferenceIdeal.Att.result2 h0 h1 h3).trans (Cert.KernelIdeal.Att.out2 m c h0 h1 h2 h3).symm

end

end

/-- The kernel's three gradients are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Att.facts) := by
  intro m g m' g' hp hargs
  refine ⟨fun c => (Cert.KernelIdeal.Att.dats m 0 c).arrAt 6 Cert.KernelIdeal.cfg0.N,
    fun c => (Cert.KernelIdeal.Att.dats m 0 c).arrAt 7 Cert.KernelIdeal.cfg0.N,
    fun c => (Cert.KernelIdeal.Att.dats m 0 c).arrAt 8 Cert.KernelIdeal.cfg0.N, ?_, ?_⟩
  · exact (θ_run Cert.KernelIdeal.defs _ _).mono (fun r h c => ⟨(h.1 c).1, (h.1 c).2.1, (h.1 c).2.2, h.2 c⟩)
      (θ_run_and (Cert.KernelIdeal.Att.run_blocks m g) (Cert.KernelIdeal.Att.unchanged m g))
  · refine (θ_run Cert.ReferenceIdeal.defs _ _).mono (fun r h c => ⟨(h c).1.trans ?_, (h c).2.1.trans ?_, (h c).2.2.1.trans ?_, (h c).2.2.2⟩)
      (Cert.ReferenceIdeal.Att.run m' g')
    all_goals
      obtain ⟨e0, e1, e2, e3⟩ := hargs c
      rw [e0, e1]
      try rw [e2]
      rw [e3]
    · exact same0 (real0 m c hp) (real1 m c hp) (real2 m c hp) (real3 m c hp)
    · exact same1 (real0 m c hp) (real1 m c hp) (real2 m c hp) (real3 m c hp)
    · exact same2 (real0 m c hp) (real1 m c hp) (real2 m c hp) (real3 m c hp)

theorem claim : Cert.Claim :=
  ⟨Cert.Kernel.Gen.facts, Cert.KernelIdeal.Gen.facts, Cert.ReferenceIdeal.Gen.facts, Cert.Forward.Gen.facts, Cert.ForwardIdeal.Gen.facts,
    Cert.ForwardReferenceIdeal.Gen.facts,
    Cert.GateGrad.Gen.facts, Cert.GateGradIdeal.Gen.facts, Cert.GateGradReferenceIdeal.Gen.facts,
    Cert.UpGrad.Gen.facts, Cert.UpGradIdeal.Gen.facts, Cert.UpGradReferenceIdeal.Gen.facts,
    Cert.DownGrad.Gen.facts, Cert.DownGradIdeal.Gen.facts, Cert.DownGradReferenceIdeal.Gen.facts,
    Cert.Feed.Gen.facts, Cert.FeedIdeal.Gen.facts, Cert.FeedReferenceIdeal.Gen.facts,
    Cert.FeedGrad.Gen.facts, Cert.FeedGradIdeal.Gen.facts, Cert.FeedGradReferenceIdeal.Gen.facts,
    Cert.Pre_finite.Att.facts, Fwd.finite_facts, LayerBack.finite_facts,
    fun m g _ => Cert.Kernel.Att.frame m g,
    fun m g _ => Cert.KernelIdeal.Att.frame m g,
    fun m g _ => Cert.KernelIdeal.Att.frame m g,
    fun m g _ => frame_reference m g,
    fun m g _ => frame_reference m g,
    fun m g _ => Cert.Forward.Gen.frame m g,
    fun m g _ => Cert.ForwardIdeal.Gen.frame m g,
    fun m g _ => Cert.ForwardIdeal.Gen.frame m g,
    fun m g _ => Fwd.frame_reference m g,
    fun m g _ => Fwd.frame_reference m g,
    fun m g _ => Cert.GateGrad.Gen.frame m g,
    fun m g _ => Cert.GateGradIdeal.Gen.frame m g,
    fun m g _ => Gate.frame_reference m g,
    fun m g _ => Cert.UpGrad.Gen.frame m g,
    fun m g _ => Cert.UpGradIdeal.Gen.frame m g,
    fun m g _ => Up.frame_reference m g,
    fun m g _ => Cert.DownGrad.Gen.frame m g,
    fun m g _ => Cert.DownGradIdeal.Gen.frame m g,
    fun m g _ => Down.frame_reference m g,
    fun m g _ => Cert.Feed.Gen.frame m g,
    fun m g _ => Cert.FeedIdeal.Gen.frame m g,
    fun m g _ => Layer.frame_reference m g,
    fun m g _ => LayerBack.frame_kernel m g,
    fun m g _ => Cert.FeedGradIdeal.Back.frame m g,
    fun m g _ => Cert.FeedGradIdeal.Back.frame m g,
    fun m g _ => LayerBack.frame_reference m g,
    fun m g _ => LayerBack.frame_reference m g,
    IdealRules.named_const.statement Cert.KernelIdeal.κ "ln2" .f32 0x3F317218#32 ((Real.log 2 : ℝ) : EReal) rfl,
    algebraic,
    IdealRules.named_const.statement Cert.ForwardIdeal.κ "log2e" .f32 0x3FB8AA3B#32 (((Real.log 2)⁻¹ : ℝ) : EReal) rfl,
    Fwd.algebraic,
    trivial, Gate.algebraic, trivial, Up.algebraic, trivial, Down.algebraic, trivial, Layer.algebraic, trivial, LayerBack.algebraic⟩

end Cert.Proof

end
